-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v8_0)) (v1 : (c : Dev Cert.QkvIdeal.nD) → Buf (Elt Ideal) ((c.tc : Thread Cert.QkvIdeal.nD Cert.QkvIdeal.τ).loc Cert.QkvIdeal.main_v8_1)) (v2 : (c : Dev Cert.QkvIdeal.nD) → Buf (Elt Ideal) ((c.tc : Thread Cert.QkvIdeal.nD Cert.QkvIdeal.τ).loc Cert.QkvIdeal.main_v8_2)) (v3 : (c : Dev Cert.QkvIdeal.nD) → Buf (Elt Ideal) ((c.tc : Thread Cert.QkvIdeal.nD Cert.QkvIdeal.τ).loc Cert.QkvIdeal.main_v8_3)) (v4 : (c : Dev Cert.QkvIdeal.nD) → Buf (Elt Ideal) ((c.tc : Thread Cert.QkvIdeal.nD Cert.QkvIdeal.τ).loc Cert.QkvIdeal.main_v8_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8_0) = v0 c
          ∧ r.2.mem ((c.tc : Thread Cert.QkvIdeal.nD Cert.QkvIdeal.τ).loc Cert.QkvIdeal.main_v8_1) = v1 c
          ∧ r.2.mem ((c.tc : Thread Cert.QkvIdeal.nD Cert.QkvIdeal.τ).loc Cert.QkvIdeal.main_v8_2) = v2 c
          ∧ r.2.mem ((c.tc : Thread Cert.QkvIdeal.nD Cert.QkvIdeal.τ).loc Cert.QkvIdeal.main_v8_3) = v3 c
          ∧ r.2.mem ((c.tc : Thread Cert.QkvIdeal.nD Cert.QkvIdeal.τ).loc Cert.QkvIdeal.main_v8_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== GateUp.lean ====
abbrev S15360x4608 : Shape := ⟨2, ![15360, 4608]⟩
abbrev S15360 : Shape := ⟨1, ![15360]⟩
abbrev S4608x9216 : Shape := ⟨2, ![4608, 9216]⟩
abbrev S9216 : Shape := ⟨1, ![9216]⟩
abbrev S30x1x512 : Shape := ⟨3, ![30, 1, 512]⟩
abbrev S1x9216 : Shape := ⟨2, ![1, 9216]⟩
abbrev S15360x9216 : Shape := ⟨2, ![15360, 9216]⟩
abbrev S512x4608 : Shape := ⟨2, ![512, 4608]⟩
abbrev S1x1x512 : Shape := ⟨3, ![1, 1, 512]⟩
abbrev S4608x768 : Shape := ⟨2, ![4608, 768]⟩
abbrev S1x768 : Shape := ⟨2, ![1, 768]⟩
abbrev S512x9216 : Shape := ⟨2, ![512, 9216]⟩
abbrev S512x128 : Shape := ⟨2, ![512, 128]⟩
abbrev S12x512x768 : Shape := ⟨3, ![12, 512, 768]⟩
abbrev S1x512 : Shape := ⟨2, ![1, 512]⟩
abbrev S128x512 : Shape := ⟨2, ![128, 512]⟩
abbrev S512x1 : Shape := ⟨2, ![512, 1]⟩
abbrev S512x768 : Shape := ⟨2, ![512, 768]⟩
abbrev S1x512x768 : Shape := ⟨3, ![1, 512, 768]⟩
abbrev S512 : Shape := ⟨1, ![512]⟩

abbrev nBuf : Space → Nat
  | .hbm => 11
  | .vmem => 20
  | .smem => 0
  | _ => 0

abbrev bufTy : (tb : Table) → Fin (tcTables nBuf tb) → BufTy
  | .hbm, ⟨0, _⟩ => ⟨S15360x4608, .i8⟩
  | .hbm, ⟨1, _⟩ => ⟨S15360, .f32⟩
  | .hbm, ⟨2, _⟩ => ⟨S4608x9216, .i8⟩
  | .hbm, ⟨3, _⟩ => ⟨S9216, .f32⟩
  | .hbm, ⟨4, _⟩ => ⟨S4608x9216, .i8⟩
  | .hbm, ⟨5, _⟩ => ⟨S9216, .f32⟩
  | .hbm, ⟨6, _⟩ => ⟨S30x1x512, .f32⟩
  | .hbm, ⟨7, _⟩ => ⟨S1x9216, .f32⟩
  | .hbm, ⟨8, _⟩ => ⟨S1x9216, .f32⟩
  | .hbm, ⟨9, _⟩ => ⟨S15360x9216, .i8⟩
  | .hbm, ⟨10, _⟩ => ⟨S30x1x512, .f32⟩
  | .local _ .vmem, ⟨0, _⟩ => ⟨S512x4608, .i8⟩
  | .local _ .vmem, ⟨1, _⟩ => ⟨S512x4608, .i8⟩
  | .local _ .vmem, ⟨2, _⟩ => ⟨S1x1x512, .f32⟩
  | .local _ .vmem, ⟨3, _⟩ => ⟨S1x1x512, .f32⟩
  | .local _ .vmem, ⟨4, _⟩ => ⟨S4608x768, .i8⟩
  | .local _ .vmem, ⟨5, _⟩ => ⟨S4608x768, .i8⟩
  | .local _ .vmem, ⟨6, _⟩ => ⟨S4608x768, .i8⟩
  | .local _ .vmem, ⟨7, _⟩ => ⟨S4608x768, .i8⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S512x9216, .i8⟩
  | .local _ .vmem, ⟨13, _⟩ => ⟨S512x9216, .i8⟩
  | .local _ .vmem, ⟨14, _⟩ => ⟨S1x1x512, .f32⟩
  | .local _ .vmem, ⟨15, _⟩ => ⟨S1x1x512, .f32⟩
  | .local _ .vmem, ⟨16, _⟩ => ⟨S512x4608, .bf16⟩
  | .local _ .vmem, ⟨17, _⟩ => ⟨S512x128, .f32⟩
  | .local _ .vmem, ⟨18, _⟩ => ⟨S512x128, .f32⟩
  | .local _ .vmem, ⟨19, _⟩ => ⟨S12x512x768, .f32⟩
  | _, _ => ⟨S15360x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![30, 12], ![false, false]⟩

def k0_off1 (i : grid0.Coords) : Fin 3 → Nat :=
  let arg1 : BitVec 32 := BitVec.ofNat 32 (i 1).val
  let v38 : Index := Scalar.indexCast arg1
  let c0_19 : Index := 0#32
  let c0_20 : Index := 0#32
  ![v38.toNat, 0, 0]
def k0_cond2 (i : grid0.Coords) : BitVec 1 :=
  let arg1 : BitVec 32 := BitVec.ofNat 32 (i 1).val
  let c11_i32 : BitVec 32 := 11#32
  let v64 : BitVec 1 := Scalar.cmpi .eq arg1 c11_i32
  let v65 : BitVec 32 := Scalar.extui v64
  let c0_i32_25 : BitVec 32 := 0#32
  let v66 : BitVec 1 := Scalar.cmpi .ne v65 c0_i32_25
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4608 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4608x768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x9216 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S15360x4608 : Shape := ⟨2, ![15360, 4608]⟩
abbrev S15360 : Shape := ⟨1, ![15360]⟩
abbrev S4608x9216 : Shape := ⟨2, ![4608, 9216]⟩
abbrev S9216 : Shape := ⟨1, ![9216]⟩
abbrev S15360x9216 : Shape := ⟨2, ![15360, 9216]⟩
abbrev S30x1x512 : Shape := ⟨3, ![30, 1, 512]⟩
abbrev S15360x1 : Shape := ⟨2, ![15360, 1]⟩
abbrev S1x9216 : Shape := ⟨2, ![1, 9216]⟩

abbrev nBuf : Space → Nat
  | .hbm => 8
  | .vmem => 8
  | .smem => 0
  | _ => 0

abbrev bufTy : (tb : Table) → Fin (tcTables nBuf tb) → BufTy
  | .hbm, ⟨0, _⟩ => ⟨S15360x4608, .i8⟩
  | .hbm, ⟨1, _⟩ => ⟨S15360, .f32⟩
  | .hbm, ⟨2, _⟩ => ⟨S4608x9216, .i8⟩
  | .hbm, ⟨3, _⟩ => ⟨S9216, .f32⟩
  | .hbm, ⟨4, _⟩ => ⟨S4608x9216, .i8⟩
  | .hbm, ⟨5, _⟩ => ⟨S9216, .f32⟩
  | .hbm, ⟨6, _⟩ => ⟨S15360x9216, .i8⟩
  | .hbm, ⟨7, _⟩ => ⟨S30x1x512, .f32⟩
  | .local _ .vmem, ⟨0, _⟩ => ⟨S15360x4608, .i8⟩
  | .local _ .vmem, ⟨1, _⟩ => ⟨S15360, .f32⟩
  | .local _ .vmem, ⟨2, _⟩ => ⟨S4608x9216, .i8⟩
  | .local _ .vmem, ⟨3, _⟩ => ⟨S9216, .f32⟩
  | .local _ .vmem, ⟨4, _⟩ => ⟨S4608x9216, .i8⟩
  | .local _ .vmem, ⟨5, _⟩ => ⟨S9216, .f32⟩
  | .local _ .vmem, ⟨6, _⟩ => ⟨S15360x9216, .i8⟩
  | .local _ .vmem, ⟨7, _⟩ => ⟨S30x1x512, .f32⟩
  | _, _ => ⟨S15360x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S15360x4608 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x9216 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x9216 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S30x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S15360x9216 : Shape := ⟨2, ![15360, 9216]⟩
abbrev S15360 : Shape := ⟨1, ![15360]⟩
abbrev S9216x4608 : Shape := ⟨2, ![9216, 4608]⟩
abbrev S4608 : Shape := ⟨1, ![4608]⟩
abbrev S15360x4608 : Shape := ⟨2, ![15360, 4608]⟩
abbrev S40x1x384 : Shape := ⟨3, ![40, 1, 384]⟩
abbrev S1x4608 : Shape := ⟨2, ![1, 4608]⟩
abbrev S384x9216 : Shape := ⟨2, ![384, 9216]⟩
abbrev S1x1x384 : Shape := ⟨3, ![1, 1, 384]⟩
abbrev S9216x512 : Shape := ⟨2, ![9216, 512]⟩
abbrev S1x512 : Shape := ⟨2, ![1, 512]⟩
abbrev S384x4608 : Shape := ⟨2, ![384, 4608]⟩
abbrev S384x128 : Shape := ⟨2, ![384, 128]⟩
abbrev S9x384x512 : Shape := ⟨3, ![9, 384, 512]⟩
abbrev S1x384 : Shape := ⟨2, ![1, 384]⟩
abbrev S128x384 : Shape := ⟨2, ![128, 384]⟩
abbrev S384x512 : Shape := ⟨2, ![384, 512]⟩
abbrev S384x1 : Shape := ⟨2, ![384, 1]⟩
abbrev S1x384x512 : Shape := ⟨3, ![1, 384, 512]⟩
abbrev S384 : Shape := ⟨1, ![384]⟩

abbrev nBuf : Space → Nat
  | .hbm => 10
  | .vmem => 16
  | .smem => 0
  | _ => 0

abbrev bufTy : (tb : Table) → Fin (tcTables nBuf tb) → BufTy
  | .hbm, ⟨0, _⟩ => ⟨S15360x9216, .i8⟩
  | .hbm, ⟨1, _⟩ => ⟨S15360, .f32⟩
  | .hbm, ⟨2, _⟩ => ⟨S9216x4608, .i8⟩
  | .hbm, ⟨3, _⟩ => ⟨S4608, .f32⟩
  | .hbm, ⟨4, _⟩ => ⟨S15360x4608, .f32⟩
  | .hbm, ⟨5, _⟩ => ⟨S4608, .f32⟩
  | .hbm, ⟨6, _⟩ => ⟨S40x1x384, .f32⟩
  | .hbm, ⟨7, _⟩ => ⟨S1x4608, .f32⟩
  | .hbm, ⟨8, _⟩ => ⟨S1x4608, .f32⟩
  | .hbm, ⟨9, _⟩ => ⟨S15360x4608, .bf16⟩
  | .local _ .vmem, ⟨0, _⟩ => ⟨S384x9216, .i8⟩
  | .local _ .vmem, ⟨1, _⟩ => ⟨S384x9216, .i8⟩
  | .local _ .vmem, ⟨2, _⟩ => ⟨S1x1x384, .f32⟩
  | .local _ .vmem, ⟨3, _⟩ => ⟨S1x1x384, .f32⟩
  | .local _ .vmem, ⟨4, _⟩ => ⟨S9216x512, .i8⟩
  | .local _ .vmem, ⟨5, _⟩ => ⟨S9216x512, .i8⟩
  | .local _ .vmem, ⟨6, _⟩ => ⟨S1x512, .f32⟩
  | .local _ .vmem, ⟨7, _⟩ => ⟨S1x512, .f32⟩
  | .local _ .vmem, ⟨8, _⟩ => ⟨S384x4608, .f32⟩
  | .local _ .vmem, ⟨9, _⟩ => ⟨S384x4608, .f32⟩
  | .local _ .vmem, ⟨10, _⟩ => ⟨S1x4608, .f32⟩
  | .local _ .vmem, ⟨11, _⟩ => ⟨S384x4608, .bf16⟩
  | .local _ .vmem, ⟨12, _⟩ => ⟨S384x4608, .bf16⟩
  | .local _ .vmem, ⟨13, _⟩ => ⟨S384x9216, .bf16⟩
  | .local _ .vmem, ⟨14, _⟩ => ⟨S384x128, .f32⟩
  | .local _ .vmem, ⟨15, _⟩ => ⟨S9x384x512, .f32⟩
  | _, _ => ⟨S15360x9216, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![40, 9], ![false, false]⟩

def k0_off1 (i : grid0.Coords) : Fin 3 → Nat :=
  let arg1 : BitVec 32 := BitVec.ofNat 32 (i 1).val
  let v14 : Index := Scalar.indexCast arg1
  let c0_8 : Index := 0#32
  let c0_9 : Index := 0#32
  ![v14.toNat, 0, 0]
def k0_cond2 (i : grid0.Coords) : BitVec 1 :=
  let arg1 : BitVec 32 := BitVec.ofNat 32 (i 1).val
  let c8_i32 : BitVec 32 := 8#32
  let v18 : BitVec 1 := Scalar.cmpi .eq arg1 c8_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x9216 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9216x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S15360x9216 : Shape := ⟨2, ![15360, 9216]⟩
abbrev S15360 : Shape := ⟨1, ![15360]⟩
abbrev S9216x4608 : Shape := ⟨2, ![9216, 4608]⟩
abbrev S4608 : Shape := ⟨1, ![4608]⟩
abbrev S15360x4608 : Shape := ⟨2, ![15360, 4608]⟩
abbrev S15360x1 : Shape := ⟨2, ![15360, 1]⟩
abbrev S1x4608 : Shape := ⟨2, ![1, 4608]⟩

abbrev nBuf : Space → Nat
  | .hbm => 7
  | .vmem => 7
  | .smem => 0
  | _ => 0

abbrev bufTy : (tb : Table) → Fin (tcTables nBuf tb) → BufTy
  | .hbm, ⟨0, _⟩ => ⟨S15360x9216, .i8⟩
  | .hbm, ⟨1, _⟩ => ⟨S15360, .f32⟩
  | .hbm, ⟨2, _⟩ => ⟨S9216x4608, .i8⟩
  | .hbm, ⟨3, _⟩ => ⟨S4608, .f32⟩
  | .hbm, ⟨4, _⟩ => ⟨S15360x4608, .f32⟩
  | .hbm, ⟨5, _⟩ => ⟨S4608, .f32⟩
  | .hbm, ⟨6, _⟩ => ⟨S15360x4608, .bf16⟩
  | .local _ .vmem, ⟨0, _⟩ => ⟨S15360x9216, .i8⟩
  | .local _ .vmem, ⟨1, _⟩ => ⟨S15360, .f32⟩
  | .local _ .vmem, ⟨2, _⟩ => ⟨S9216x4608, .i8⟩
  | .local _ .vmem, ⟨3, _⟩ => ⟨S4608, .f32⟩
  | .local _ .vmem, ⟨4, _⟩ => ⟨S15360x4608, .f32⟩
  | .local _ .vmem, ⟨5, _⟩ => ⟨S4608, .f32⟩
  | .local _ .vmem, ⟨6, _⟩ => ⟨S15360x4608, .bf16⟩
  | _, _ => ⟨S15360x9216, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S15360x9216 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x4608 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Oproj.lean ====
abbrev S15360x1024 : Shape := ⟨2, ![15360, 1024]⟩
abbrev S15360 : Shape := ⟨1, ![15360]⟩
abbrev S1024x4608 : Shape := ⟨2, ![1024, 4608]⟩
abbrev S4608 : Shape := ⟨1, ![4608]⟩
abbrev S15360x4608 : Shape := ⟨2, ![15360, 4608]⟩
abbrev S60x1x256 : Shape := ⟨3, ![60, 1, 256]⟩
abbrev S1x4608 : Shape := ⟨2, ![1, 4608]⟩
abbrev S256x1024 : Shape := ⟨2, ![256, 1024]⟩
abbrev S1x1x256 : Shape := ⟨3, ![1, 1, 256]⟩
abbrev S256x4608 : Shape := ⟨2, ![256, 4608]⟩
abbrev S256x128 : Shape := ⟨2, ![256, 128]⟩
abbrev S1x256 : Shape := ⟨2, ![1, 256]⟩
abbrev S128x256 : Shape := ⟨2, ![128, 256]⟩
abbrev S16x4608 : Shape := ⟨2, ![16, 4608]⟩
abbrev S16x1 : Shape := ⟨2, ![16, 1]⟩
abbrev S16 : Shape := ⟨1, ![16]⟩
abbrev S16x128 : Shape := ⟨2, ![16, 128]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S15360x1024, .i8⟩
  | .hbm, ⟨1, _⟩ => ⟨S15360, .f32⟩
  | .hbm, ⟨2, _⟩ => ⟨S1024x4608, .i8⟩
  | .hbm, ⟨3, _⟩ => ⟨S4608, .f32⟩
  | .hbm, ⟨4, _⟩ => ⟨S15360x4608, .bf16⟩
  | .hbm, ⟨5, _⟩ => ⟨S4608, .f32⟩
  | .hbm, ⟨6, _⟩ => ⟨S4608, .f32⟩
  | .hbm, ⟨7, _⟩ => ⟨S60x1x256, .f32⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S15360x4608, .f32⟩
  | .hbm, ⟨12, _⟩ => ⟨S15360x4608, .i8⟩
  | .hbm, ⟨13, _⟩ => ⟨S60x1x256, .f32⟩
  | .local _ .vmem, ⟨0, _⟩ => ⟨S256x1024, .i8⟩
  | .local _ .vmem, ⟨1, _⟩ => ⟨S256x1024, .i8⟩
  | .local _ .vmem, ⟨2, _⟩ => ⟨S1x1x256, .f32⟩
  | .local _ .vmem, ⟨3, _⟩ => ⟨S1x1x256, .f32⟩
  | .local _ .vmem, ⟨4, _⟩ => ⟨S1024x4608, .i8⟩
  | .local _ .vmem, ⟨5, _⟩ => ⟨S1x4608, .f32⟩
  | .local _ .vmem, ⟨6, _⟩ => ⟨S256x4608, .bf16⟩
  | .local _ .vmem, ⟨7, _⟩ => ⟨S256x4608, .bf16⟩
  | .local _ .vmem, ⟨8, _⟩ => ⟨S1x4608, .f32⟩
  | .local _ .vmem, ⟨9, _⟩ => ⟨S1x4608, .f32⟩
  | .local _ .vmem, ⟨10, _⟩ => ⟨S256x4608, .f32⟩
  | .local _ .vmem, ⟨11, _⟩ => ⟨S256x4608, .f32⟩
  | .local _ .vmem, ⟨12, _⟩ => ⟨S256x4608, .i8⟩
  | .local _ .vmem, ⟨13, _⟩ => ⟨S256x4608, .i8⟩
  | .local _ .vmem, ⟨14, _⟩ => ⟨S1x1x256, .f32⟩
  | .local _ .vmem, ⟨15, _⟩ => ⟨S1x1x256, .f32⟩
  | .local _ .vmem, ⟨16, _⟩ => ⟨S1024x4608, .bf16⟩
  | .local _ .vmem, ⟨17, _⟩ => ⟨S256x4608, .f32⟩
  | .local _ .vmem, ⟨18, _⟩ => ⟨S256x128, .f32⟩
  | _, _ => ⟨S15360x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![60], ![false]⟩

@[reducible] def k0_t1_loop : Scf.Loop 32 :=
  let c0_i32_11 : BitVec 32 := 0#32
  let c16_i32 : BitVec 32 := 16#32
  let v18 : BitVec 32 := Scalar.addi c0_i32_11 c16_i32
  let c1_i32 : BitVec 32 := 1#32
  ⟨c0_i32_11, v18, c1_i32⟩
def k0_mult1 (k0_t1 : Fin k0_t1_loop.trips) : BitVec 32 :=
  let c0_i32_23 : BitVec 32 := 0#32
  let c0_i32_11 : BitVec 32 := 0#32
  let c1_i32 : BitVec 32 := 1#32
  let arg14 : BitVec 32 := Scf.iv c0_i32_11 c1_i32 k0_t1
  let c1_i32_22 : BitVec 32 := 1#32
  let v30 : BitVec 32 := Scalar.muli arg14 c1_i32_22
  let v31 : BitVec 32 := Scalar.addi c0_i32_23 v30
  let c16_i32_24 : BitVec 32 := 16#32
  let v32 : BitVec 32 := Scalar.muli v31 c16_i32_24
  v32
def k0_off1 (k0_t1 : Fin k0_t1_loop.trips) : Fin 2 → Nat :=
  let c0_i32_23 : BitVec 32 := 0#32
  let c0_i32_11 : BitVec 32 := 0#32
  let c1_i32 : BitVec 32 := 1#32
  let arg14 : BitVec 32 := Scf.iv c0_i32_11 c1_i32 k0_t1
  let c1_i32_22 : BitVec 32 := 1#32
  let v30 : BitVec 32 := Scalar.muli arg14 c1_i32_22
  let v31 : BitVec 32 := Scalar.addi c0_i32_23 v30
  let c16_i32_24 : BitVec 32 := 16#32
  let v32 : BitVec 32 := Scalar.muli v31 c16_i32_24
  let v33 : BitVec 32 := v32
  let v34 : Index := Scalar.indexCast v33
  let c0_25 : Index := 0#32
  ![v34.toNat, 0]
def k0_off2 (k0_t1 : Fin k0_t1_loop.trips) : Fin 2 → Nat :=
  let c0_i32_23 : BitVec 32 := 0#32
  let c0_i32_11 : BitVec 32 := 0#32
  let c1_i32 : BitVec 32 := 1#32
  let arg14 : BitVec 32 := Scf.iv c0_i32_11 c1_i32 k0_t1
  let c1_i32_22 : BitVec 32 := 1#32
  let v30 : BitVec 32 := Scalar.muli arg14 c1_i32_22
  let v31 : BitVec 32 := Scalar.addi c0_i32_23 v30
  let c16_i32_24 : BitVec 32 := 16#32
  let v32 : BitVec 32 := Scalar.muli v31 c16_i32_24
  let v33 : BitVec 32 := v32
  let v36 : Index := Scalar.indexCast v33
  let c0_26 : Index := 0#32
  ![v36.toNat, 0]
def k0_off3 (k0_t1 : Fin k0_t1_loop.trips) : Fin 2 → Nat :=
  let c0_i32_23 : BitVec 32 := 0#32
  let c0_i32_11 : BitVec 32 := 0#32
  let c1_i32 : BitVec 32 := 1#32
  let arg14 : BitVec 32 := Scf.iv c0_i32_11 c1_i32 k0_t1
  let c1_i32_22 : BitVec 32 := 1#32
  let v30 : BitVec 32 := Scalar.muli arg14 c1_i32_22
  let v31 : BitVec 32 := Scalar.addi c0_i32_23 v30
  let c16_i32_24 : BitVec 32 := 16#32
  let v32 : BitVec 32 := Scalar.muli v31 c16_i32_24
  let v33 : BitVec 32 := v32
  let v110 : Index := Scalar.indexCast v33
  let c0_53 : Index := 0#32
  ![v110.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4608 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojRefIdeal.lean ====
abbrev S15360x1024 : Shape := ⟨2, ![15360, 1024]⟩
abbrev S15360 : Shape := ⟨1, ![15360]⟩
abbrev S1024x4608 : Shape := ⟨2, ![1024, 4608]⟩
abbrev S4608 : Shape := ⟨1, ![4608]⟩
abbrev S15360x4608 : Shape := ⟨2, ![15360, 4608]⟩
abbrev S60x1x256 : Shape := ⟨3, ![60, 1, 256]⟩
abbrev S15360x1 : Shape := ⟨2, ![15360, 1]⟩
abbrev S1x4608 : Shape := ⟨2, ![1, 4608]⟩

abbrev nBuf : Space → Nat
  | .hbm => 10
  | .vmem => 10
  | .smem => 0
  | _ => 0

abbrev bufTy : (tb : Table) → Fin (tcTables nBuf tb) → BufTy
  | .hbm, ⟨0, _⟩ => ⟨S15360x1024, .i8⟩
  | .hbm, ⟨1, _⟩ => ⟨S15360, .f32⟩
  | .hbm, ⟨2, _⟩ => ⟨S1024x4608, .i8⟩
  | .hbm, ⟨3, _⟩ => ⟨S4608, .f32⟩
  | .hbm, ⟨4, _⟩ => ⟨S15360x4608, .bf16⟩
  | .hbm, ⟨5, _⟩ => ⟨S4608, .f32⟩
  | .hbm, ⟨6, _⟩ => ⟨S4608, .f32⟩
  | .hbm, ⟨7, _⟩ => ⟨S15360x4608, .f32⟩
  | .hbm, ⟨8, _⟩ => ⟨S15360x4608, .i8⟩
  | .hbm, ⟨9, _⟩ => ⟨S60x1x256, .f32⟩
  | .local _ .vmem, ⟨0, _⟩ => ⟨S15360x1024, .i8⟩
  | .local _ .vmem, ⟨1, _⟩ => ⟨S15360, .f32⟩
  | .local _ .vmem, ⟨2, _⟩ => ⟨S1024x4608, .i8⟩
  | .local _ .vmem, ⟨3, _⟩ => ⟨S4608, .f32⟩
  | .local _ .vmem, ⟨4, _⟩ => ⟨S15360x4608, .bf16⟩
  | .local _ .vmem, ⟨5, _⟩ => ⟨S4608, .f32⟩
  | .local _ .vmem, ⟨6, _⟩ => ⟨S4608, .f32⟩
  | .local _ .vmem, ⟨7, _⟩ => ⟨S15360x4608, .f32⟩
  | .local _ .vmem, ⟨8, _⟩ => ⟨S15360x4608, .i8⟩
  | .local _ .vmem, ⟨9, _⟩ => ⟨S60x1x256, .f32⟩
  | _, _ => ⟨S15360x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S15360x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x4608 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S60x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S15360x4608 : Shape := ⟨2, ![15360, 4608]⟩
abbrev S4608 : Shape := ⟨1, ![4608]⟩
abbrev S4608x2048 : Shape := ⟨2, ![4608, 2048]⟩
abbrev S2048 : Shape := ⟨1, ![2048]⟩
abbrev S15360x64 : Shape := ⟨2, ![15360, 64]⟩
abbrev S4 : Shape := ⟨1, ![4]⟩
abbrev S1x4608 : Shape := ⟨2, ![1, 4608]⟩
abbrev S1x2048 : Shape := ⟨2, ![1, 2048]⟩
abbrev S4x128 : Shape := ⟨2, ![4, 128]⟩
abbrev S512 : Shape := ⟨1, ![512]⟩
abbrev S1x512 : Shape := ⟨2, ![1, 512]⟩
abbrev S30x1x512 : Shape := ⟨3, ![30, 1, 512]⟩
abbrev S15360x1024 : Shape := ⟨2, ![15360, 1024]⟩
abbrev S15360x512 : Shape := ⟨2, ![15360, 512]⟩
abbrev S512x4608 : Shape := ⟨2, ![512, 4608]⟩
abbrev S512x64 : Shape := ⟨2, ![512, 64]⟩
abbrev S1x1x512 : Shape := ⟨3, ![1, 1, 512]⟩
abbrev S512x1024 : Shape := ⟨2, ![512, 1024]⟩
abbrev S512x512 : Shape := ⟨2, ![512, 512]⟩
abbrev S512x128 : Shape := ⟨2, ![512, 128]⟩
abbrev S256x2048 : Shape := ⟨2, ![256, 2048]⟩
abbrev S16x4608 : Shape := ⟨2, ![16, 4608]⟩
abbrev S16 : Shape := ⟨1, ![16]⟩
abbrev S16x1 : Shape := ⟨2, ![16, 1]⟩
abbrev S16x128 : Shape := ⟨2, ![16, 128]⟩
abbrev S512x1 : Shape := ⟨2, ![512, 1]⟩
abbrev S128x512 : Shape := ⟨2, ![128, 512]⟩
abbrev S4608x512 : Shape := ⟨2, ![4608, 512]⟩
abbrev S1x128 : Shape := ⟨2, ![1, 128]⟩

abbrev nBuf : Space → Nat
  | .hbm => 21
  | .vmem => 24
  | .smem => 0
  | _ => 0

abbrev bufTy : (tb : Table) → Fin (tcTables nBuf tb) → BufTy
  | .hbm, ⟨0, _⟩ => ⟨S15360x4608, .bf16⟩
  | .hbm, ⟨1, _⟩ => ⟨S4608, .f32⟩
  | .hbm, ⟨2, _⟩ => ⟨S4608x2048, .i8⟩
  | .hbm, ⟨3, _⟩ => ⟨S2048, .f32⟩
  | .hbm, ⟨4, _⟩ => ⟨S15360x64, .f32⟩
  | .hbm, ⟨5, _⟩ => ⟨S15360x64, .f32⟩
  | .hbm, ⟨6, _⟩ => ⟨S4, .f32⟩
  | .hbm, ⟨7, _⟩ => ⟨S4, .f32⟩
  | .hbm, ⟨8, _⟩ => ⟨S1x4608, .f32⟩
  | .hbm, ⟨9, _⟩ => ⟨S1x2048, .f32⟩
  | .hbm, ⟨10, _⟩ => ⟨S4x128, .f32⟩
  | .hbm, ⟨11, _⟩ => ⟨S512, .f32⟩
  | .hbm, ⟨12, _⟩ => ⟨S1x512, .f32⟩
  | .hbm, ⟨13, _⟩ => ⟨S4x128, .f32⟩
  | .hbm, ⟨14, _⟩ => ⟨S512, .f32⟩
  | .hbm, ⟨15, _⟩ => ⟨S1x512, .f32⟩
  | .hbm, ⟨16, _⟩ => ⟨S15360x4608, .i8⟩
  | .hbm, ⟨17, _⟩ => ⟨S30x1x512, .f32⟩
  | .hbm, ⟨18, _⟩ => ⟨S15360x1024, .bf16⟩
  | .hbm, ⟨19, _⟩ => ⟨S15360x512, .fp8e4m3⟩
  | .hbm, ⟨20, _⟩ => ⟨S15360x512, .fp8e4m3⟩
  | .local _ .vmem, ⟨0, _⟩ => ⟨S512x4608, .bf16⟩
  | .local _ .vmem, ⟨1, _⟩ => ⟨S512x4608, .bf16⟩
  | .local _ .vmem, ⟨2, _⟩ => ⟨S1x4608, .f32⟩
  | .local _ .vmem, ⟨3, _⟩ => ⟨S4608x2048, .i8⟩
  | .local _ .vmem, ⟨4, _⟩ => ⟨S1x2048, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S1x512, .f32⟩
  | .local _ .vmem, ⟨10, _⟩ => ⟨S1x512, .f32⟩
  | .local _ .vmem, ⟨11, _⟩ => ⟨S512x4608, .i8⟩
  | .local _ .vmem, ⟨12, _⟩ => ⟨S512x4608, .i8⟩
  | .local _ .vmem, ⟨13, _⟩ => ⟨S1x1x512, .f32⟩
  | .local _ .vmem, ⟨14, _⟩ => ⟨S1x1x512, .f32⟩
  | .local _ .vmem, ⟨15, _⟩ => ⟨S512x1024, .bf16⟩
  | .local _ .vmem, ⟨16, _⟩ => ⟨S512x1024, .bf16⟩
  | .local _ .vmem, ⟨17, _⟩ => ⟨S512x512, .fp8e4m3⟩
  | .local _ .vmem, ⟨18, _⟩ => ⟨S512x512, .fp8e4m3⟩
  | .local _ .vmem, ⟨19, _⟩ => ⟨S512x512, .fp8e4m3⟩
  | .local _ .vmem, ⟨20, _⟩ => ⟨S512x512, .fp8e4m3⟩
  | .local _ .vmem, ⟨21, _⟩ => ⟨S4608x2048, .bf16⟩
  | .local _ .vmem, ⟨22, _⟩ => ⟨S512x4608, .bf16⟩
  | .local _ .vmem, ⟨23, _⟩ => ⟨S512x128, .f32⟩
  | _, _ => ⟨S15360x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_137 : BitVec 32 := 0#32
  let c18_i32 : BitVec 32 := 18#32
  let v306 : BitVec 32 := Scalar.addi c0_i32_137 c18_i32
  let c1_i32_138 : BitVec 32 := 1#32
  ⟨c0_i32_137, v306, c1_i32_138⟩
def k0_mult1 (k0_t1 : Fin k0_t1_loop.trips) : BitVec 32 :=
  let c0_i32_141 : BitVec 32 := 0#32
  let c0_i32_137 : BitVec 32 := 0#32
  let c1_i32_138 : BitVec 32 := 1#32
  let arg17 : BitVec 32 := Scf.iv c0_i32_137 c1_i32_138 k0_t1
  let c1_i32_140 : BitVec 32 := 1#32
  let v307 : BitVec 32 := Scalar.muli arg17 c1_i32_140
  let v308 : BitVec 32 := Scalar.addi c0_i32_141 v307
  let c256_i32 : BitVec 32 := 256#32
  let v309 : BitVec 32 := Scalar.muli v308 c256_i32
  v309
def k0_off1 (k0_t1 : Fin k0_t1_loop.trips) : Fin 2 → Nat :=
  let c0_i32_141 : BitVec 32 := 0#32
  let c0_i32_137 : BitVec 32 := 0#32
  let c1_i32_138 : BitVec 32 := 1#32
  let arg17 : BitVec 32 := Scf.iv c0_i32_137 c1_i32_138 k0_t1
  let c1_i32_140 : BitVec 32 := 1#32
  let v307 : BitVec 32 := Scalar.muli arg17 c1_i32_140
  let v308 : BitVec 32 := Scalar.addi c0_i32_141 v307
  let c256_i32 : BitVec 32 := 256#32
  let v309 : BitVec 32 := Scalar.muli v308 c256_i32
  let v310 : BitVec 32 := v309
  let v311 : Index := Scalar.indexCast v310
  let c0_142 : Index := 0#32
  ![v311.toNat, 0]
@[reducible] def k0_t2_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult2 (k0_t2 : Fin k0_t2_loop.trips) : BitVec 32 :=
  let c0_i32_138 : BitVec 32 := 0#32
  let c0_i32_1 : BitVec 32 := 0#32
  let c1_i32 : BitVec 32 := 1#32
  let arg17 : BitVec 32 := Scf.iv c0_i32_1 c1_i32 k0_t2
  let c1_i32_137 : BitVec 32 := 1#32
  let v306 : BitVec 32 := Scalar.muli arg17 c1_i32_137
  let v307 : BitVec 32 := Scalar.addi c0_i32_138 v306
  let c16_i32 : BitVec 32 := 16#32
  let v308 : BitVec 32 := Scalar.muli v307 c16_i32
  v308
def k0_off2 (k0_t2 : Fin k0_t2_loop.trips) : Fin 2 → Nat :=
  let c0_i32_138 : BitVec 32 := 0#32
  let c0_i32_1 : BitVec 32 := 0#32
  let c1_i32 : BitVec 32 := 1#32
  let arg17 : BitVec 32 := Scf.iv c0_i32_1 c1_i32 k0_t2
  let c1_i32_137 : BitVec 32 := 1#32
  let v306 : BitVec 32 := Scalar.muli arg17 c1_i32_137
  let v307 : BitVec 32 := Scalar.addi c0_i32_138 v306
  let c16_i32 : BitVec 32 := 16#32
  let v308 : BitVec 32 := Scalar.muli v307 c16_i32
  let v309 : BitVec 32 := v308
  let v310 : Index := Scalar.indexCast v309
  let c0_139 : Index := 0#32
  ![v310.toNat, 0]
def k0_off3 (k0_t2 : Fin k0_t2_loop.trips) : Fin 2 → Nat :=
  let c0_i32_138 : BitVec 32 := 0#32
  let c0_i32_1 : BitVec 32 := 0#32
  let c1_i32 : BitVec 32 := 1#32
  let arg17 : BitVec 32 := Scf.iv c0_i32_1 c1_i32 k0_t2
  let c1_i32_137 : BitVec 32 := 1#32
  let v306 : BitVec 32 := Scalar.muli arg17 c1_i32_137
  let v307 : BitVec 32 := Scalar.addi c0_i32_138 v306
  let c16_i32 : BitVec 32 := 16#32
  let v308 : BitVec 32 := Scalar.muli v307 c16_i32
  let v309 : BitVec 32 := v308
  let v356 : Index := Scalar.indexCast v309
  let c0_155 : Index := 0#32
  ![v356.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4608 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S15360x4608 : Shape := ⟨2, ![15360, 4608]⟩
abbrev S4608 : Shape := ⟨1, ![4608]⟩
abbrev S4608x2048 : Shape := ⟨2, ![4608, 2048]⟩
abbrev S2048 : Shape := ⟨1, ![2048]⟩
abbrev S15360x64 : Shape := ⟨2, ![15360, 64]⟩
abbrev S4 : Shape := ⟨1, ![4]⟩
abbrev S30x1x512 : Shape := ⟨3, ![30, 1, 512]⟩
abbrev S15360x1024 : Shape := ⟨2, ![15360, 1024]⟩
abbrev S15360x512 : Shape := ⟨2, ![15360, 512]⟩
abbrev S15360 : Shape := ⟨1, ![15360]⟩
abbrev S15360x1 : Shape := ⟨2, ![15360, 1]⟩
abbrev S1x4608 : Shape := ⟨2, ![1, 4608]⟩
abbrev S15360x2048 : Shape := ⟨2, ![15360, 2048]⟩
abbrev S1x2048 : Shape := ⟨2, ![1, 2048]⟩
abbrev S15360x8x128 : Shape := ⟨3, ![15360, 8, 128]⟩
abbrev S15360x4x128 : Shape := ⟨3, ![15360, 4, 128]⟩
abbrev S15360x8x64 : Shape := ⟨3, ![15360, 8, 64]⟩
abbrev S15360x1x64 : Shape := ⟨3, ![15360, 1, 64]⟩
abbrev S15360x4x64 : Shape := ⟨3, ![15360, 4, 64]⟩
abbrev S1x4x1 : Shape := ⟨3, ![1, 4, 1]⟩

abbrev nBuf : Space → Nat
  | .hbm => 13
  | .vmem => 13
  | .smem => 0
  | _ => 0

abbrev bufTy : (tb : Table) → Fin (tcTables nBuf tb) → BufTy
  | .hbm, ⟨0, _⟩ => ⟨S15360x4608, .bf16⟩
  | .hbm, ⟨1, _⟩ => ⟨S4608, .f32⟩
  | .hbm, ⟨2, _⟩ => ⟨S4608x2048, .i8⟩
  | .hbm, ⟨3, _⟩ => ⟨S2048, .f32⟩
  | .hbm, ⟨4, _⟩ => ⟨S15360x64, .f32⟩
  | .hbm, ⟨5, _⟩ => ⟨S15360x64, .f32⟩
  | .hbm, ⟨6, _⟩ => ⟨S4, .f32⟩
  | .hbm, ⟨7, _⟩ => ⟨S4, .f32⟩
  | .hbm, ⟨8, _⟩ => ⟨S15360x4608, .i8⟩
  | .hbm, ⟨9, _⟩ => ⟨S30x1x512, .f32⟩
  | .hbm, ⟨10, _⟩ => ⟨S15360x1024, .bf16⟩
  | .hbm, ⟨11, _⟩ => ⟨S15360x512, .fp8e4m3⟩
  | .hbm, ⟨12, _⟩ => ⟨S15360x512, .fp8e4m3⟩
  | .local _ .vmem, ⟨0, _⟩ => ⟨S15360x4608, .bf16⟩
  | .local _ .vmem, ⟨1, _⟩ => ⟨S4608, .f32⟩
  | .local _ .vmem, ⟨2, _⟩ => ⟨S4608x2048, .i8⟩
  | .local _ .vmem, ⟨3, _⟩ => ⟨S2048, .f32⟩
  | .local _ .vmem, ⟨4, _⟩ => ⟨S15360x64, .f32⟩
  | .local _ .vmem, ⟨5, _⟩ => ⟨S15360x64, .f32⟩
  | .local _ .vmem, ⟨6, _⟩ => ⟨S4, .f32⟩
  | .local _ .vmem, ⟨7, _⟩ => ⟨S4, .f32⟩
  | .local _ .vmem, ⟨8, _⟩ => ⟨S15360x4608, .i8⟩
  | .local _ .vmem, ⟨9, _⟩ => ⟨S30x1x512, .f32⟩
  | .local _ .vmem, ⟨10, _⟩ => ⟨S15360x1024, .bf16⟩
  | .local _ .vmem, ⟨11, _⟩ => ⟨S15360x512, .fp8e4m3⟩
  | .local _ .vmem, ⟨12, _⟩ => ⟨S15360x512, .fp8e4m3⟩
  | _, _ => ⟨S15360x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S15360x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x4608 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S30x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S15360x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S15360x512 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S15360x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.DownRuns.lean ====
/-
  What the runs of the down kernel share: its branch conditions in closed form, its memrefs, and names for what one grid point computes.
-/
module

public import proofs.«01_k».proof.Proof.Gen.DownIdeal.Frame
public import proofs.«01_k».proof.Proof.Gen.DownIdeal.Skeleton
public import Idealize.ShloMosaic.Lib.Pipeline.FrameBody
public import Idealize.ShloMosaic.Lib.Pipeline.DatRel
public import Idealize.ShloMosaic.Lib.Pipeline.Value
public import Idealize.ShloMosaic.Lib.VecWindow
public import Idealize.ShloMosaic.Lib.ValueIdx
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_0 : ∀ t : Fin cfg0.N, cond0_0 (grid0.coords t) ↔ t.val % 9 = 0 :=
  (fun t => by
    have ht : t.val < 360 := Nat.lt_of_lt_of_eq t.isLt N_0
    have e0 : (grid0.coords t 0).val = t.val / 9 % 40 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points ≡ 8 (mod 9) — by arithmetic of the point. -/
theorem hcond0_1 : ∀ t : Fin cfg0.N, cond0_1 (grid0.coords t) ↔ t.val % 9 = 8 :=
  (fun t => by
    have ht : t.val < 360 := Nat.lt_of_lt_of_eq t.isLt N_0
    have e0 : (grid0.coords t 0).val = t.val / 9 % 40 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 8)

/-! ## The memrefs -/
/-- Each window's current staging memref at point `t`, spelled as the pipeline passes it (`bodyAt0`), and its wholeness. -/
abbrev ms0_0 (t : Fin cfg0.N) : Memref sig .tc .vmem S384x9216 .i8 := win0_0.stage (cfg0.slots t 0)
/-- The current buffer of window 0 is a whole buffer. -/
abbrev hs0_0 (t : Fin cfg0.N) : (ms0_0 t).IsWhole := hstage0_0 ((cfg0.slots t 0).cast nbuf0_0)
/-- The current buffer of window 1. -/
abbrev ms0_1 (t : Fin cfg0.N) : Memref sig .tc .vmem S1x1x384 .f32 := win0_1.stage (cfg0.slots t 1)
/-- The current buffer of window 1 is a whole buffer. -/
abbrev hs0_1 (t : Fin cfg0.N) : (ms0_1 t).IsWhole := hstage0_1 ((cfg0.slots t 1).cast nbuf0_1)
/-- The current buffer of window 2. -/
abbrev ms0_2 (t : Fin cfg0.N) : Memref sig .tc .vmem S9216x512 .i8 := win0_2.stage (cfg0.slots t 2)
/-- The current buffer of window 2 is a whole buffer. -/
abbrev hs0_2 (t : Fin cfg0.N) : (ms0_2 t).IsWhole := hstage0_2 ((cfg0.slots t 2).cast nbuf0_2)
/-- The current buffer of window 3. -/
abbrev ms0_3 (t : Fin cfg0.N) : Memref sig .tc .vmem S1x512 .f32 := win0_3.stage (cfg0.slots t 3)
/-- The current buffer of window 3 is a whole buffer. -/
abbrev hs0_3 (t : Fin cfg0.N) : (ms0_3 t).IsWhole := hstage0_3 ((cfg0.slots t 3).cast nbuf0_3)
/-- The current buffer of window 4. -/
abbrev ms0_4 (t : Fin cfg0.N) : Memref sig .tc .vmem S384x4608 .f32 := win0_4.stage (cfg0.slots t 4)
/-- The current buffer of window 4 is a whole buffer. -/
abbrev hs0_4 (t : Fin cfg0.N) : (ms0_4 t).IsWhole := hstage0_4 ((cfg0.slots t 4).cast nbuf0_4)
/-- The current buffer of window 5. -/
abbrev ms0_5 (t : Fin cfg0.N) : Memref sig .tc .vmem S1x4608 .f32 := win0_5.stage (cfg0.slots t 5)
/-- The current buffer of window 5 is a whole buffer. -/
abbrev hs0_5 (t : Fin cfg0.N) : (ms0_5 t).IsWhole := hstage0_5 ((cfg0.slots t 5).cast nbuf0_5)
/-- The current buffer of window 6. -/
abbrev ms0_6 (t : Fin cfg0.N) : Memref sig .tc .vmem S384x4608 .bf16 := win0_6.stage (cfg0.slots t 6)
/-- The current buffer of window 6 is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S384x9216 .bf16 := Memref.whole cc0_scratch0
/-- Scratch buffer 1, whole. -/
abbrev scM0_1 : Memref sig .tc .vmem S384x128 .f32 := Memref.whole cc0_scratch1
/-- Scratch buffer 2, whole. -/
abbrev scM0_2 : Memref sig .tc .vmem S9x384x512 .f32 := Memref.whole cc0_scratch2
/-- The scratch `arg9` the kernel carries between points, as a view: what it holds is stated through it. -/
abbrev VS0_0 : View sig .tc .vmem S384x9216 .bf16 := scM0_0.view
/-- The scratch `arg10` the kernel carries between points, as a view: what it holds is stated through it. -/
abbrev VS0_1 : View sig .tc .vmem S384x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What one grid point computes -/

/-- The row scales: column 0 of the broadcast scratch. -/
def col0 (sc : Vec F S384x128 .f32) : Vec F S384x1 .f32 := VecWindow.window sc ![0, 0] S384x1.size inb_S384x128_S384x1_0_0

/-- The dequantised product of one point, under a leading axis of length one, as it is stored. -/
def fTile (cbf : Vec F S384x9216 .bf16) (sc : Vec F S384x128 .f32) (w : Vec F S9216x512 .i8) (ws : Vec F S1x512 .f32) : FVec F S1x384x512 .f32 :=
  k0_pay3 cbf w (col0 sc) ws

/-- The product scratch after a point stores its slice. -/
def accPut (i : grid0.Coords) (acc : Vec F S9x384x512 .f32) (a : FVec F S1x384x512 .f32) : Vec F S9x384x512 .f32 :=
  VecWindow.put acc (k0_off1 i) S1x384x512.size a

/-- Slice `k` of the product scratch lies inside it. -/
theorem slice_inb (k : Fin 9) (a : Fin 3) : (![k.val, 0, 0] : Fin 3 → ℕ) a + S1x384x512.size a ≤ S9x384x512.size a := by
  have := k.isLt
  fin_cases a <;> simp [S9x384x512, S1x384x512] <;> omega

/-- Slice `k` of the product scratch. -/
def accSlice (acc : Vec F S9x384x512 .f32) (k : Fin 9) : Vec F S1x384x512 .f32 :=
  VecWindow.window acc ![k.val, 0, 0] S1x384x512.size (slice_inb k)

/-- Column block `k` of the residual lies inside it. -/
theorem hcols_inb (k : Fin 9) (a : Fin 2) : (![0, 512 * k.val] : Fin 2 → ℕ) a + S384x512.size a ≤ S384x4608.size a := by
  have := k.isLt
  fin_cases a <;> simp [S384x512, S384x4608] <;> omega

/-- Column block `k` of the residual. -/
def hCols (h : Vec F S384x4608 .f32) (k : Fin 9) : Vec F S384x512 .f32 :=
  VecWindow.window h ![0, 512 * k.val] S384x512.size (hcols_inb k)

/-- Column block `k` of the gain lies inside it. -/
theorem gcols_inb (k : Fin 9) (a : Fin 2) : (![0, 512 * k.val] : Fin 2 → ℕ) a + S1x512.size a ≤ S1x4608.size a := by
  have := k.isLt
  fin_cases a <;> simp [S1x512, S1x4608] <;> omega

/-- Column block `k` of the gain. -/
def gCols (g : Vec F S1x4608 .f32) (k : Fin 9) : Vec F S1x512 .f32 :=
  VecWindow.window g ![0, 512 * k.val] S1x512.size (gcols_inb k)

/-- The inverse root mean square of every row of the products. -/
def invOf (acc : Vec F S9x384x512 .f32) : FVec F S384x1 .f32 :=
  k0_pay7 (k0_pay5 (accSlice acc 0) (accSlice acc 1) (accSlice acc 2) (accSlice acc 3) (accSlice acc 4)) (k0_pay6 (accSlice acc 5))
    (accSlice acc 6) (accSlice acc 7) (accSlice acc 8)

/-- Column block `k` of the result of a whole row block. -/
def outBlk (h : Vec F S384x4608 .f32) (g : Vec F S1x4608 .f32) (acc : Vec F S9x384x512 .f32) (k : Fin 9) : FVec F S384x512 .bf16 :=
  k0_pay4 (invOf acc) (hCols h k) (accSlice acc k) (gCols g k)

/-- The result of a whole row block, from the residual, the gain and the product scratch. -/
def outAll (h : Vec F S384x4608 .f32) (g : Vec F S1x4608 .f32) (acc : Vec F S9x384x512 .f32) : Vec F S384x4608 .bf16 := fun y =>
  outBlk h g acc ⟨(y 1).val / 512, by have := (y 1).isLt; simp [S384x4608] at this; omega⟩
    (ix2 (y 0) ⟨(y 1).val % 512, Nat.mod_lt _ (by decide)⟩)

/-! ## What whole loads read -/

section Loads
variable {sp : Space}

/-- A load of the whole of a view of this shape reads what the view holds. -/
theorem ld_384x9216 {e : EltTy} (v : View sig .tc sp S384x9216 e) (f : v.ty.Contents (Elt F)) (inb) :
    v.readAt (Elt F) (Rect.unit (s := S384x9216) ![0, 0] ![384, 9216] inb).toLoadRect f = v.read (Elt F) f := View.readAt_full v f inb

/-- A load of the whole of a view of this shape, after a store of the whole, reads the stored value. -/
theorem ldst_384x9216 {e : EltTy} (v : View sig .tc sp S384x9216 e) (inb inb') (w : S384x9216.Idx → Elt F e) (L : List (View.Piece (Elt F) S384x9216 e)) :
    v.readCov (⟨Rect.unit (s := S384x9216) ![0, 0] ![384, 9216] inb', w⟩ :: L) (Rect.unit (s := S384x9216) ![0, 0] ![384, 9216] inb).toLoadRect = w := View.readCov_full v inb inb' w L

/-- A load of the whole of a view of this shape reads what the view holds. -/
theorem ld_1x1x384 {e : EltTy} (v : View sig .tc sp S1x1x384 e) (f : v.ty.Contents (Elt F)) (inb) :
    v.readAt (Elt F) (Rect.unit (s := S1x1x384) ![0, 0, 0] ![1, 1, 384] inb).toLoadRect f = v.read (Elt F) f := View.readAt_full v f inb

/-- A load of the whole of a view of this shape reads what the view holds. -/
theorem ld_9216x512 {e : EltTy} (v : View sig .tc sp S9216x512 e) (f : v.ty.Contents (Elt F)) (inb) :
    v.readAt (Elt F) (Rect.unit (s := S9216x512) ![0, 0] ![9216, 512] inb).toLoadRect f = v.read (Elt F) f := View.readAt_full v f inb

/-- A load of the whole of a view of this shape reads what the view holds. -/
theorem ld_1x512 {e : EltTy} (v : View sig .tc sp S1x512 e) (f : v.ty.Contents (Elt F)) (inb) :
    v.readAt (Elt F) (Rect.unit (s := S1x512) ![0, 0] ![1, 512] inb).toLoadRect f = v.read (Elt F) f := View.readAt_full v f inb

/-- A load of the whole of a view of this shape reads what the view holds. -/
theorem ld_384x128 {e : EltTy} (v : View sig .tc sp S384x128 e) (f : v.ty.Contents (Elt F)) (inb) :
    v.readAt (Elt F) (Rect.unit (s := S384x128) ![0, 0] ![384, 128] inb).toLoadRect f = v.read (Elt F) f := View.readAt_full v f inb

/-- A load of the whole of a view of this shape, after a store of the whole, reads the stored value. -/
theorem ldst_384x128 {e : EltTy} (v : View sig .tc sp S384x128 e) (inb inb') (w : S384x128.Idx → Elt F e) (L : List (View.Piece (Elt F) S384x128 e)) :
    v.readCov (⟨Rect.unit (s := S384x128) ![0, 0] ![384, 128] inb', w⟩ :: L) (Rect.unit (s := S384x128) ![0, 0] ![384, 128] inb).toLoadRect = w := View.readCov_full v inb inb' w L

/-- A load of column 0 of the broadcast scratch. -/
theorem ld_col0 (v : View sig .tc sp S384x128 .f32) (f : v.ty.Contents (Elt F)) (inb) :
    v.readAt (Elt F) (Rect.unit (s := S384x128) ![0, 0] ![384, 1] inb).toLoadRect f = col0 (v.read (Elt F) f) := rfl

/-- A load of column 0 of the broadcast scratch after a store of the whole. -/
theorem ldst_col0 (v : View sig .tc sp S384x128 .f32) (inb inb') (w : S384x128.Idx → Elt F .f32) (L : List (View.Piece (Elt F) S384x128 .f32)) :
    v.readCov (⟨Rect.unit (s := S384x128) ![0, 0] ![384, 128] inb', w⟩ :: L) (Rect.unit (s := S384x128) ![0, 0] ![384, 1] inb).toLoadRect = col0 w := by
  have h := View.read_writes_full v v.junk inb' w L
  exact congrArg col0 h

/-- A load of one column block of the residual. -/
theorem ld_h (v : View sig .tc sp S384x4608 .f32) (f : v.ty.Contents (Elt F)) (k : Fin 9) (off : Fin 2 → ℕ) (ho : off = ![0, 512 * k.val]) (inb') :
    v.readAt (Elt F) (Rect.unit (s := S384x4608) off ![384, 512] inb').toLoadRect f = hCols (v.read (Elt F) f) k :=
  View.readAt_unit v f inb' ho (hcols_inb k)

/-- A load of one column block of the gain. -/
theorem ld_g (v : View sig .tc sp S1x4608 .f32) (f : v.ty.Contents (Elt F)) (k : Fin 9) (off : Fin 2 → ℕ) (ho : off = ![0, 512 * k.val]) (inb') :
    v.readAt (Elt F) (Rect.unit (s := S1x4608) off ![1, 512] inb').toLoadRect f = gCols (v.read (Elt F) f) k :=
  View.readAt_unit v f inb' ho (gcols_inb k)

/-- A load of one slice of the product scratch, after a point stored its own slice. -/
theorem ld_slice (v : View sig .tc sp S9x384x512 .f32) (f : v.ty.Contents (Elt F)) (i : grid0.Coords) (w : FVec F S1x384x512 .f32) (inb) (k : Fin 9)
    (off : Fin 3 → ℕ) (ho : off = ![k.val, 0, 0]) (inb') :
    v.readAt (Elt F) (Rect.unit (s := S9x384x512) off ![1, 384, 512] inb').toLoadRect
        (v.writes (Elt F) f [⟨Rect.unit (s := S9x384x512) (k0_off1 i) ![1, 384, 512] inb, w⟩])
      = accSlice (accPut i (v.read (Elt F) f) w) k := by
  have h : v.read (Elt F) (v.writes (Elt F) f [⟨Rect.unit (s := S9x384x512) (k0_off1 i) ![1, 384, 512] inb, w⟩]) = accPut i (v.read (Elt F) f) w :=
    View.read_writes_cons_put v f inb w [] rfl
  have h2 := View.readAt_unit v (v.writes (Elt F) f [⟨Rect.unit (s := S9x384x512) (k0_off1 i) ![1, 384, 512] inb, w⟩]) inb' ho (slice_inb k)
  rw [h] at h2
  exact h2

/-- One stored block of the result is the block of `outAll` that its rectangle covers. -/
theorem out_piece (h : Vec F S384x4608 .f32) (g : Vec F S1x4608 .f32) (acc : Vec F S9x384x512 .f32) (k : Fin 9) (off : Fin 2 → ℕ) (ho : off = ![0, 512 * k.val]) (inb)
    (w : S384x512.Idx → Elt F .bf16) (hw : w = outBlk h g acc k) (x : S384x512.Idx) :
    w x = outAll h g acc ((Rect.unit (s := S384x4608) off ![384, 512] inb).emb x) := by
  subst hw
  have h1 : (x 1).val < 512 := (x 1).isLt
  have e1 : (((Rect.unit (s := S384x4608) off ![384, 512] inb).emb x) 1).val = off 1 + 1 * (x 1).val := rfl
  have e0 : (((Rect.unit (s := S384x4608) off ![384, 512] inb).emb x) 0).val = off 0 + 1 * (x 0).val := rfl
  replace e1 : (((Rect.unit (s := S384x4608) off ![384, 512] inb).emb x) 1).val = 512 * k.val + (x 1).val := by
    rw [e1, ho, Nat.one_mul]; rfl
  replace e0 : (((Rect.unit (s := S384x4608) off ![384, 512] inb).emb x) 0).val = (x 0).val := by
    rw [e0, ho, Nat.one_mul]; exact Nat.zero_add _
  generalize (Rect.unit (s := S384x4608) off ![384, 512] inb).emb x = z at e0 e1 ⊢
  have ek : (⟨(z 1).val / 512, by have := (z 1).isLt; simp [S384x4608] at this; omega⟩ : Fin 9) = k := Fin.ext (by simp only [e1]; omega)
  have ej : (ix2 (z 0) ⟨(z 1).val % 512, Nat.mod_lt _ (by decide)⟩ : S384x512.Idx) = x := Shape.idx_ext₂ e0 (by
    show (z 1).val % 512 = _
    rw [e1]; omega)
  unfold outAll
  rw [ek, ej]

/-- The nine stored blocks make up `outAll`. -/
theorem out_read (v : View sig .tc sp S384x4608 .bf16) (f : v.ty.Contents (Elt F)) (h : Vec F S384x4608 .f32) (g : Vec F S1x4608 .f32) (acc : Vec F S9x384x512 .f32)
    (w0 w1 w2 w3 w4 w5 w6 w7 w8 : S384x512.Idx → Elt F .bf16)
    (h0 : w0 = outBlk h g acc 0) (h1 : w1 = outBlk h g acc 1) (h2 : w2 = outBlk h g acc 2) (h3 : w3 = outBlk h g acc 3) (h4 : w4 = outBlk h g acc 4) (h5 : w5 = outBlk h g acc 5) (h6 : w6 = outBlk h g acc 6) (h7 : w7 = outBlk h g acc 7) (h8 : w8 = outBlk h g acc 8) :
    v.read (Elt F) (v.writes (Elt F) f [⟨Rect.unit (s := S384x4608) ![0, 4096] ![384, 512] inb_S384x4608_S384x512_0_4096, w8⟩, ⟨Rect.unit (s := S384x4608) ![0, 3584] ![384, 512] inb_S384x4608_S384x512_0_3584, w7⟩, ⟨Rect.unit (s := S384x4608) ![0, 3072] ![384, 512] inb_S384x4608_S384x512_0_3072, w6⟩, ⟨Rect.unit (s := S384x4608) ![0, 2560] ![384, 512] inb_S384x4608_S384x512_0_2560, w5⟩, ⟨Rect.unit (s := S384x4608) ![0, 2048] ![384, 512] inb_S384x4608_S384x512_0_2048, w4⟩, ⟨Rect.unit (s := S384x4608) ![0, 1536] ![384, 512] inb_S384x4608_S384x512_0_1536, w3⟩, ⟨Rect.unit (s := S384x4608) ![0, 1024] ![384, 512] inb_S384x4608_S384x512_0_1024, w2⟩, ⟨Rect.unit (s := S384x4608) ![0, 512] ![384, 512] inb_S384x4608_S384x512_0_512, w1⟩, ⟨Rect.unit (s := S384x4608) ![0, 0] ![384, 512] inb_S384x4608_S384x512_0_0, w0⟩]) = outAll h g acc := by
  funext y
  refine View.read_writes_apply_of_pieces v f (outAll h g acc) _ ?_ y (View.cover_of_tiledL _ ![384, 512] (by sl_kernel_rfl) y)
  intro p hp
  simp only [List.mem_cons, List.not_mem_nil, _root_.or_false] at hp
  rcases hp with rfl | rfl | rfl | rfl | rfl | rfl | rfl | rfl | rfl
  · exact fun x => out_piece h g acc 8 ![0, 4096] rfl inb_S384x4608_S384x512_0_4096 w8 h8 x
  · exact fun x => out_piece h g acc 7 ![0, 3584] rfl inb_S384x4608_S384x512_0_3584 w7 h7 x
  · exact fun x => out_piece h g acc 6 ![0, 3072] rfl inb_S384x4608_S384x512_0_3072 w6 h6 x
  · exact fun x => out_piece h g acc 5 ![0, 2560] rfl inb_S384x4608_S384x512_0_2560 w5 h5 x
  · exact fun x => out_piece h g acc 4 ![0, 2048] rfl inb_S384x4608_S384x512_0_2048 w4 h4 x
  · exact fun x => out_piece h g acc 3 ![0, 1536] rfl inb_S384x4608_S384x512_0_1536 w3 h3 x
  · exact fun x => out_piece h g acc 2 ![0, 1024] rfl inb_S384x4608_S384x512_0_1024 w2 h2 x
  · exact fun x => out_piece h g acc 1 ![0, 512] rfl inb_S384x4608_S384x512_0_512 w1 h1 x
  · exact fun x => out_piece h g acc 0 ![0, 0] rfl inb_S384x4608_S384x512_0_0 w0 h0 x

end Loads

end Cert.DownIdeal.Gen

end
-- ==== Proof.DownVals.lean ====
/-
  What the down kernel's scratch buffers hold after each grid point and what its result array holds at the end, as functions of the arrays its windows stage.
-/
module

public import proofs.«01_k».proof.Proof.DownRuns

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-! ## The blocks -/

/-- Rows `384 b` to `384 b + 383` of the codes. -/
def bX0 (A : Vec F S15360x9216 .i8) (b : ℕ) : Vec F S384x9216 .i8 := fun y => A (ix2 ⟨(384 * b + (y 0).val) % 15360, Nat.mod_lt _ (by decide)⟩ (y 1))

/-- The row scales of row block `b`. -/
def bX1 (A : Vec F S40x1x384 .f32) (b : ℕ) : Vec F S1x1x384 .f32 := fun y => A (ix3 ⟨b % 40, Nat.mod_lt _ (by decide)⟩ (y 1) (y 2))

/-- Columns `512 j` to `512 j + 511` of the weight. -/
def bW (A : Vec F S9216x4608 .i8) (j : ℕ) : Vec F S9216x512 .i8 := fun y => A (ix2 (y 0) ⟨(512 * j + (y 1).val) % 4608, Nat.mod_lt _ (by decide)⟩)

/-- The same columns of the weight's scales. -/
def bS (A : Vec F S1x4608 .f32) (j : ℕ) : Vec F S1x512 .f32 := fun y => A (ix2 (y 0) ⟨(512 * j + (y 1).val) % 4608, Nat.mod_lt _ (by decide)⟩)

/-- Rows `384 b` to `384 b + 383` of the residual. -/
def bH (A : Vec F S15360x4608 .f32) (b : ℕ) : Vec F S384x4608 .f32 := fun y => A (ix2 ⟨(384 * b + (y 0).val) % 15360, Nat.mod_lt _ (by decide)⟩ (y 1))

/-! ## What the scratch holds -/

section Scratch
variable (A0 : Vec F S15360x9216 .i8) (A1 : Vec F S40x1x384 .f32) (A2 : Vec F S9216x4608 .i8) (A3 : Vec F S1x4608 .f32)

/-- The codes of row block `b` as the matmul reads them. -/
def cbfV (b : ℕ) : Vec F S384x9216 .bf16 := k0_pay1 (bX0 A0 b)

/-- The row scales of row block `b`, broadcast over the lanes. -/
def scV (b : ℕ) : Vec F S384x128 .f32 := k0_pay2 (bX1 A1 b)

/-- The product tile of row block `b` and column block `j`. -/
def tileV (b j : ℕ) : FVec F S1x384x512 .f32 := fTile (cbfV A0 b) (scV A1 b) (bW A2 j) (bS A3 j)

/-- The products of row block `b`: slice `j` is the tile of column block `j`. -/
def accV (b : ℕ) : Vec F S9x384x512 .f32 := fun y => tileV A0 A1 A2 A3 b (y 0).val (ix3 (0 : Fin 1) (y 1) (y 2))

/-- What the three scratch buffers hold after column block `j` of row block `b`: of the products, the slices up to `j`. -/
def Inv (b j : ℕ) (d0 : Vec F S384x9216 .bf16) (d1 : Vec F S384x128 .f32) (d2 : Vec F S9x384x512 .f32) : Prop :=
  d0 = cbfV A0 b ∧ d1 = scV A1 b ∧ ∀ y : S9x384x512.Idx, (y 0).val ≤ j → d2 y = accV A0 A1 A2 A3 b y

end Scratch

/-- The result the kernel ends with. -/
def G0 (A0 : Vec F S15360x9216 .i8) (A1 : Vec F S40x1x384 .f32) (A2 : Vec F S9216x4608 .i8) (A3 : Vec F S1x4608 .f32)
    (A4 : Vec F S15360x4608 .f32) (A5 : Vec F S1x4608 .f32) : Vec F S15360x4608 .bf16 := fun y =>
  outAll (bH A4 ((y 0).val / 384)) A5 (accV A0 A1 A2 A3 ((y 0).val / 384)) (ix2 ⟨(y 0).val % 384, Nat.mod_lt _ (by decide)⟩ (y 1))

/-- The slice a point stores starts at its column block. -/
theorem off1_slice (i : grid0.Coords) : k0_off1 i = ![(i 1).val, 0, 0] := by
  have h : (i 1).val < 9 := (i 1).isLt
  funext a
  fin_cases a
  · show (Scalar.indexCast (BitVec.ofNat 32 (i 1).val)).toNat = (i 1).val
    simp only [Scalar.indexCast]
    first
      | (rw [BitVec.toNat_ofNat]; exact Nat.mod_eq_of_lt (by omega))
      | (simp; omega)
  · rfl
  · rfl

/-- A point's store into the products, inside its slice. -/
theorem accPut_in (i : grid0.Coords) (d : Vec F S9x384x512 .f32) (w : FVec F S1x384x512 .f32) (y : S9x384x512.Idx) (h : (y 0).val = (i 1).val) :
    accPut i d w y = w (ix3 (0 : Fin 1) (y 1) (y 2)) := by
  have h1 : (y 1).val < 384 := (y 1).isLt
  have h2 : (y 2).val < 512 := (y 2).isLt
  have hc : ∀ a, k0_off1 i a ≤ (y a).val ∧ (y a).val < k0_off1 i a + S1x384x512.size a := by
    rw [off1_slice]
    intro a
    fin_cases a
    · show (i 1).val ≤ (y 0).val ∧ (y 0).val < (i 1).val + 1
      omega
    · show 0 ≤ (y 1).val ∧ (y 1).val < 0 + 384
      omega
    · show 0 ≤ (y 2).val ∧ (y 2).val < 0 + 512
      omega
  unfold accPut VecWindow.put
  rw [dif_pos hc]
  congr 1
  funext a
  apply Fin.ext
  fin_cases a
  · show (y 0).val - k0_off1 i 0 = 0
    rw [off1_slice]; show (y 0).val - (i 1).val = 0; omega
  · show (y 1).val - k0_off1 i 1 = (y 1).val
    rw [off1_slice]; rfl
  · show (y 2).val - k0_off1 i 2 = (y 2).val
    rw [off1_slice]; rfl

/-- A point's store into the products, outside its slice. -/
theorem accPut_out (i : grid0.Coords) (d : Vec F S9x384x512 .f32) (w : FVec F S1x384x512 .f32) (y : S9x384x512.Idx) (h : (y 0).val ≠ (i 1).val) :
    accPut i d w y = d y := by
  unfold accPut VecWindow.put
  rw [dif_neg]
  intro hc
  have := hc 0
  rw [off1_slice] at this
  have h' : (i 1).val ≤ (y 0).val ∧ (y 0).val < (i 1).val + 1 := this
  omega

section Steps
variable (A0 : Vec F S15360x9216 .i8) (A1 : Vec F S40x1x384 .f32) (A2 : Vec F S9216x4608 .i8) (A3 : Vec F S1x4608 .f32)

/-- The first column block of a row block establishes the invariant, whatever the scratch held. -/
theorem inv_first (b : ℕ) (i : grid0.Coords) (hi : (i 1).val = 0) (d2 : Vec F S9x384x512 .f32) :
    Inv A0 A1 A2 A3 b 0 (k0_pay1 (bX0 A0 b)) (k0_pay2 (bX1 A1 b))
      (accPut i d2 (fTile (k0_pay1 (bX0 A0 b)) (k0_pay2 (bX1 A1 b)) (bW A2 0) (bS A3 0))) := by
  refine ⟨rfl, rfl, fun y hy => ?_⟩
  have hy0 : (y 0).val = 0 := by omega
  rw [accPut_in _ _ _ _ (by omega)]
  unfold accV; rw [hy0]; rfl

/-- Every later column block keeps it. -/
theorem inv_step (b j : ℕ) (i : grid0.Coords) (hi : (i 1).val = j + 1) {d0 : Vec F S384x9216 .bf16} {d1 : Vec F S384x128 .f32} {d2 : Vec F S9x384x512 .f32}
    (h : Inv A0 A1 A2 A3 b j d0 d1 d2) :
    Inv A0 A1 A2 A3 b (j + 1) d0 d1 (accPut i d2 (fTile d0 d1 (bW A2 (j + 1)) (bS A3 (j + 1)))) := by
  obtain ⟨rfl, rfl, h3⟩ := h
  refine ⟨rfl, rfl, fun y hy => ?_⟩
  by_cases e : (y 0).val = j + 1
  · rw [accPut_in _ _ _ _ (by omega)]
    unfold accV; rw [e]; rfl
  · rw [accPut_out _ _ _ _ (by omega)]
    exact h3 y (by omega)

/-- After the last column block every slice is known. -/
theorem Inv.acc_eq {b : ℕ} {d0 : Vec F S384x9216 .bf16} {d1 : Vec F S384x128 .f32} {d2 : Vec F S9x384x512 .f32}
    (h : Inv A0 A1 A2 A3 b 8 d0 d1 d2) : d2 = accV A0 A1 A2 A3 b :=
  funext fun y => h.2.2 y (by have : (y 0).val < 9 := (y 0).isLt; omega)

end Steps

end Cert.DownIdeal.Gen

end
-- ==== Proof.DownRunA.lean ====
/-
  The down kernel's body at a point of case A.
-/
module

public import proofs.«01_k».proof.Proof.DownRuns

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first column block of a row block: from the blocks of the inputs it leaves the scratch buffers at the
    stated values and returns the inputs as they were. -/
theorem kernelRun_A (c : Dev nD) (i : grid0.Coords) (arg2 : Memref sig .tc .vmem S384x9216 .i8) (harg2 : arg2.IsWhole) (arg3 : Memref sig .tc .vmem S1x1x384 .f32) (harg3 : arg3.IsWhole) (arg4 : Memref sig .tc .vmem S9216x512 .i8) (harg4 : arg4.IsWhole) (arg5 : Memref sig .tc .vmem S1x512 .f32) (harg5 : arg5.IsWhole) (arg6 : Memref sig .tc .vmem S384x4608 .f32) (harg6 : arg6.IsWhole) (arg7 : Memref sig .tc .vmem S1x4608 .f32) (harg7 : arg7.IsWhole) (arg8 : Memref sig .tc .vmem S384x4608 .bf16) (harg8 : arg8.IsWhole) (arg9 : Memref sig .tc .vmem S384x9216 .bf16) (harg9 : arg9.IsWhole) (arg10 : Memref sig .tc .vmem S384x128 .f32) (harg10 : arg10.IsWhole) (arg11 : Memref sig .tc .vmem S9x384x512 .f32) (harg11 : arg11.IsWhole) (hc0 : cond0_0 i) (hc1 : ¬cond0_1 i)
    (x0 : Vec F S384x9216 .i8) (x1 : Vec F S1x1x384 .f32) (x2 : Vec F S9216x512 .i8) (x3 : Vec F S1x512 .f32) (x4 : Vec F S384x4608 .f32) (x5 : Vec F S1x4608 .f32) (xs2 : Vec F S9x384x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (k0_pay1 x0) ∗ owns (c : Thread nD τ) arg10 fullShare (k0_pay2 x1) ∗ owns (c : Thread nD τ) arg11 fullShare (accPut i xs2 (fTile (k0_pay1 x0) (k0_pay2 x1) x2 x3))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]; unfold cc0_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; swap; · iexact HS0
    ipureintro; sl_unfold_run_names
    refine (View.read_writes_full _ _ _ _ _).trans ?_
    simp only [ld_384x9216, ld_1x1x384, ld_9216x512, ld_1x512, ld_384x128, ldst_384x9216, ldst_384x128, ld_col0, ldst_col0, hf0, hf1, hf2, hf3, hf4, hf5]
    first | done | rfl | (rw [View.writes_nil, hfs2]; rfl)
  isplitl [HS1]
  · iexists _; isplitr; swap; · iexact HS1
    ipureintro; sl_unfold_run_names
    refine (View.read_writes_full _ _ _ _ _).trans ?_
    simp only [ld_384x9216, ld_1x1x384, ld_9216x512, ld_1x512, ld_384x128, ldst_384x9216, ldst_384x128, ld_col0, ldst_col0, hf0, hf1, hf2, hf3, hf4, hf5]
    first | done | rfl | (rw [View.writes_nil, hfs2]; rfl)
  · iexists _; isplitr; swap; · iexact HS2
    ipureintro; sl_unfold_run_names
    refine (View.read_writes_cons_put _ _ _ _ _ rfl).trans ?_
    simp only [ld_384x9216, ld_1x1x384, ld_9216x512, ld_1x512, ld_384x128, ldst_384x9216, ldst_384x128, ld_col0, ldst_col0, hf0, hf1, hf2, hf3, hf4, hf5]
    first | done | rfl | (rw [View.writes_nil, hfs2]; rfl)

end Cert.DownIdeal.Gen

end
-- ==== Proof.DownRunB.lean ====
/-
  The down kernel's body at a point of case B.
-/
module

public import proofs.«01_k».proof.Proof.DownRuns

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a column block that is neither the first nor the last: it carries the scratch buffers one block on. -/
theorem kernelRun_B (c : Dev nD) (i : grid0.Coords) (arg2 : Memref sig .tc .vmem S384x9216 .i8) (harg2 : arg2.IsWhole) (arg3 : Memref sig .tc .vmem S1x1x384 .f32) (harg3 : arg3.IsWhole) (arg4 : Memref sig .tc .vmem S9216x512 .i8) (harg4 : arg4.IsWhole) (arg5 : Memref sig .tc .vmem S1x512 .f32) (harg5 : arg5.IsWhole) (arg6 : Memref sig .tc .vmem S384x4608 .f32) (harg6 : arg6.IsWhole) (arg7 : Memref sig .tc .vmem S1x4608 .f32) (harg7 : arg7.IsWhole) (arg8 : Memref sig .tc .vmem S384x4608 .bf16) (harg8 : arg8.IsWhole) (arg9 : Memref sig .tc .vmem S384x9216 .bf16) (harg9 : arg9.IsWhole) (arg10 : Memref sig .tc .vmem S384x128 .f32) (harg10 : arg10.IsWhole) (arg11 : Memref sig .tc .vmem S9x384x512 .f32) (harg11 : arg11.IsWhole) (hc0 : ¬cond0_0 i) (hc1 : ¬cond0_1 i)
    (x0 : Vec F S384x9216 .i8) (x1 : Vec F S1x1x384 .f32) (x2 : Vec F S9216x512 .i8) (x3 : Vec F S1x512 .f32) (x4 : Vec F S384x4608 .f32) (x5 : Vec F S1x4608 .f32) (xs0 : Vec F S384x9216 .bf16) (xs1 : Vec F S384x128 .f32) (xs2 : Vec F S9x384x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare (accPut i xs2 (fTile xs0 xs1 x2 x3))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]; unfold cc0_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; · ipureintro; exact harg9.read_unread _
    iexact HS0
  isplitl [HS1]
  · iexists _; isplitr; · ipureintro; exact harg10.read_unread _
    iexact HS1
  · iexists _; isplitr; swap; · iexact HS2
    ipureintro; sl_unfold_run_names
    refine (View.read_writes_cons_put _ _ _ _ _ rfl).trans ?_
    simp only [ld_384x9216, ld_1x1x384, ld_9216x512, ld_1x512, ld_384x128, ldst_384x9216, ldst_384x128, ld_col0, ldst_col0, hf0, hf1, hf2, hf3, hf4, hf5, hfs0, hfs1, hfs2]
    first | done | rfl | (rw [View.writes_nil, hfs2]; rfl)

end Cert.DownIdeal.Gen

end
-- ==== Proof.DownRunC.lean ====
/-
  The down kernel's body at a point of case C.
-/
module

public import proofs.«01_k».proof.Proof.DownRuns

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last column block of a row block: it carries the scratch buffers one block on and writes the output. -/
theorem kernelRun_C (c : Dev nD) (i : grid0.Coords) (arg2 : Memref sig .tc .vmem S384x9216 .i8) (harg2 : arg2.IsWhole) (arg3 : Memref sig .tc .vmem S1x1x384 .f32) (harg3 : arg3.IsWhole) (arg4 : Memref sig .tc .vmem S9216x512 .i8) (harg4 : arg4.IsWhole) (arg5 : Memref sig .tc .vmem S1x512 .f32) (harg5 : arg5.IsWhole) (arg6 : Memref sig .tc .vmem S384x4608 .f32) (harg6 : arg6.IsWhole) (arg7 : Memref sig .tc .vmem S1x4608 .f32) (harg7 : arg7.IsWhole) (arg8 : Memref sig .tc .vmem S384x4608 .bf16) (harg8 : arg8.IsWhole) (arg9 : Memref sig .tc .vmem S384x9216 .bf16) (harg9 : arg9.IsWhole) (arg10 : Memref sig .tc .vmem S384x128 .f32) (harg10 : arg10.IsWhole) (arg11 : Memref sig .tc .vmem S9x384x512 .f32) (harg11 : arg11.IsWhole) (hc0 : ¬cond0_0 i) (hc1 : cond0_1 i)
    (x0 : Vec F S384x9216 .i8) (x1 : Vec F S1x1x384 .f32) (x2 : Vec F S9216x512 .i8) (x3 : Vec F S1x512 .f32) (x4 : Vec F S384x4608 .f32) (x5 : Vec F S1x4608 .f32) (xs0 : Vec F S384x9216 .bf16) (xs1 : Vec F S384x128 .f32) (xs2 : Vec F S9x384x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outAll x4 x5 (accPut i xs2 (fTile xs0 xs1 x2 x3))) ∗ owns (c : Thread nD τ) arg9 fullShare xs0 ∗ owns (c : Thread nD τ) arg10 fullShare xs1 ∗ owns (c : Thread nD τ) arg11 fullShare (accPut i xs2 (fTile xs0 xs1 x2 x3))) -∗ K ⟨⟩))
      ⊢ wp frame (wpE (defs₀ (F := F)) Variants.none c none) E (cc0_down i arg2 harg2 arg3 harg3 arg4 harg4 arg5 harg5 arg6 harg6 arg7 harg7 arg8 harg8 arg9 harg9 arg10 harg10 arg11 harg11) K := by
  simp only [cc0_down_eq_skeleton]; unfold cc0_down_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine out_read _ _ _ _ _ _ _ _ _ _ _ _ _ _ ?_ ?_ ?_ ?_ ?_ ?_ ?_ ?_ ?_
    all_goals
      sl_unfold_run_names
      simp only [ld_slice _ _ _ _ _ 0 ![0, 0, 0] rfl, ld_slice _ _ _ _ _ 1 ![1, 0, 0] rfl, ld_slice _ _ _ _ _ 2 ![2, 0, 0] rfl, ld_slice _ _ _ _ _ 3 ![3, 0, 0] rfl, ld_slice _ _ _ _ _ 4 ![4, 0, 0] rfl, ld_slice _ _ _ _ _ 5 ![5, 0, 0] rfl, ld_slice _ _ _ _ _ 6 ![6, 0, 0] rfl, ld_slice _ _ _ _ _ 7 ![7, 0, 0] rfl, ld_slice _ _ _ _ _ 8 ![8, 0, 0] rfl,
        ld_h _ _ 0 ![0, 0] rfl, ld_h _ _ 1 ![0, 512] rfl, ld_h _ _ 2 ![0, 1024] rfl, ld_h _ _ 3 ![0, 1536] rfl, ld_h _ _ 4 ![0, 2048] rfl, ld_h _ _ 5 ![0, 2560] rfl, ld_h _ _ 6 ![0, 3072] rfl, ld_h _ _ 7 ![0, 3584] rfl, ld_h _ _ 8 ![0, 4096] rfl,
        ld_g _ _ 0 ![0, 0] rfl, ld_g _ _ 1 ![0, 512] rfl, ld_g _ _ 2 ![0, 1024] rfl, ld_g _ _ 3 ![0, 1536] rfl, ld_g _ _ 4 ![0, 2048] rfl, ld_g _ _ 5 ![0, 2560] rfl, ld_g _ _ 6 ![0, 3072] rfl, ld_g _ _ 7 ![0, 3584] rfl, ld_g _ _ 8 ![0, 4096] rfl, ld_384x9216, ld_1x1x384, ld_9216x512, ld_1x512, ld_384x128, ldst_384x9216, ldst_384x128, ld_col0, ldst_col0, hf0, hf1, hf2, hf3, hf4, hf5, hfs0, hfs1, hfs2]
      rfl
  isplitl [HS0]
  · iexists _; isplitr; · ipureintro; exact harg9.read_unread _
    iexact HS0
  isplitl [HS1]
  · iexists _; isplitr; · ipureintro; exact harg10.read_unread _
    iexact HS1
  · iexists _; isplitr; swap; · iexact HS2
    ipureintro; sl_unfold_run_names
    refine (View.read_writes_cons_put _ _ _ _ _ rfl).trans ?_
    simp only [ld_384x9216, ld_1x1x384, ld_9216x512, ld_1x512, ld_384x128, ldst_384x9216, ldst_384x128, ld_col0, ldst_col0, hf0, hf1, hf2, hf3, hf4, hf5, hfs0, hfs1, hfs2]
    first | done | rfl | (rw [View.writes_nil, hfs2]; rfl)

end Cert.DownIdeal.Gen

end
-- ==== Proof.RelRun.lean ====
/-
  The run of a pipeline at exact proof data of which some output windows are held to a predicate, stated once at variable data.
-/
module

public import Idealize.ShloMosaic.Lib.Pipeline.Frame
public import Idealize.ShloMosaic.Lib.Pipeline.DatRel
public import Idealize.ShloMosaic.Lib.Pipeline.ArrRel
public import Idealize.ShloMosaic.Lib.Pipeline.Value

@[expose] public section

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA

namespace Pipeline

open TcCoe

variable {nD : Nat} {τ : Topo} {sig : RefSig} {Val : EltTy → Type} [∀ e, Nonempty (Val e)] {Λ₀ : SL.Sem.Labels} {P : Type} [Fintype P] [DecidableEq P]
variable (cfgs : P → Cfg sig Λ₀)
  (dats : (p : P) → (c : Dev nD) → Dat τ Val Unit ℕ (UR sig nD τ) ℕ (cfgs p) c) (p : P) (kit : LaunchFacts (nD := nD) (τ := τ) cfgs p)
  (defs₀ : Defs nD τ sig Val Λ₀) (𝒱₀ : Variants)

include kit in
/-- A launch whose body obligation holds the windows that `fgt` marks to the predicate `Rl`: every execution terminates, the arrays end as
    the relational data say, and every semaphore counter ends at zero. -/
theorem θ_run_frame_track_rel (fgt : Fin (cfgs p).W → Bool)
    (Rl : (c : Dev nD) → (w : Fin (cfgs p).W) → Fin (cfgs p).N → (((cfgs p).win w).block.Idx → Val ((cfgs p).win w).elt) → Prop)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationRel (dats p c) defs₀ 𝒱₀ () Set.univ fgt (Rl c))
    (hshare : ∀ c w, (dats p c).share w = fullShare) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (fun r => RDat.FramePost (cfgs p) (fun c => (dats p c).toRRel fgt (Rl c)) V r ∧ r.2.sem = fun _ => 0) :=
  RDat.θ_run_frame_track cfgs p kit defs₀ 𝒱₀ (fun c => (dats p c).toRRel fgt (Rl c)) m g main (fun c => (hbody c).toRRel)
    hshare howed V hmain hA hin hout _ (fun _ h => h)

omit [Fintype P] [DecidableEq P] in
/-- What such a run leaves in the array of a marked window: the contents `G`, if every value that `Rl` admits at a point that writes the
    window back is that point's block of `G`, and these blocks cover the array. -/
theorem RDat.FramePost.out_eq {cfg : Cfg sig Λ₀} {dat : (c : Dev nD) → Dat τ Val Unit ℕ (UR sig nD τ) ℕ cfg c} {fgt : Fin cfg.W → Bool}
    {Rl : (c : Dev nD) → (w : Fin cfg.W) → Fin cfg.N → ((cfg.win w).block.Idx → Val (cfg.win w).elt) → Prop}
    {V : (c : Dev nD) → (b : Ref sig .tc) → Buf Val ((c.tc : Thread nD τ).loc b)} {r : PUnit × MemSt nD τ sig Val}
    (h : RDat.FramePost cfg (fun c => (dat c).toRRel fgt (Rl c)) V r) (c : Dev nD) (w : Fin cfg.W) (hw : fgt w = true)
    (G : Buf Val ((cfg.win w).arr.view.loc (c.tc : Thread nD τ)))
    (hG : ∀ t, (cfg.win w).flush t = true → ∀ X, Rl c w t X → (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set) :
    r.2.mem ((cfg.spec w).arr.view.loc (c.tc : Thread nD τ)) = G := by
  obtain ⟨after, hL, hM⟩ := h.exists_exact c
  rw [hM w]
  exact Dat.arrAt_eq_of_cover _ w G (fun t ht => hG t ht _ ((dat c).toRRel_leaves hw (hL w t ht))) hcover

end Pipeline

end Idealize.ShloMosaic
-- ==== Proof.DownFrame.lean ====
/-
  The down kernel over the whole grid: the proof data, the body obligation and the run.
-/
module

public import proofs.«01_k».proof.Proof.DownVals
public import proofs.«01_k».proof.Proof.DownRunA
public import proofs.«01_k».proof.Proof.DownRunB
public import proofs.«01_k».proof.Proof.DownRunC
public import proofs.«01_k».proof.Proof.RelRun
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks lie -/

/-- Window 0's block index at a point. -/
theorem idx0 : ∀ t : Fin cfg0.N, win0_0.index t (0 : Fin 2) = t.val / 9 ∧ win0_0.index t (1 : Fin 2) = 0 :=
  (by decide +kernel : ∀ t : Fin grid0.N, _)
/-- Window 0's block at a point, read off its array. -/
theorem iblk0 (c : Dev nD) (t : Fin cfg0.N) : iblk m c 0 t = bX0 (V m c main_arg0) (t.val / 9) := by
  have hN : t.val < 360 := lt_of_lt_of_eq t.isLt (show cfg0.N = 360 from N_0)
  obtain ⟨e0, e1⟩ := idx0 t
  funext y
  have h0 : (y 0).val < 384 := (y 0).isLt
  have h1 : (y 1).val < 9216 := (y 1).isLt
  show V m c main_arg0 (((cfg0.win 0).blk t).view.emb y) = V m c main_arg0 _
  congr 1
  funext a; apply Fin.ext
  match a with
  | ⟨0, _⟩ => show win0_0.index t (0 : Fin 2) * 384 + 1 * (y 0).val = (384 * (t.val / 9) + (y 0).val) % 15360; omega
  | ⟨1, _⟩ => show win0_0.index t (1 : Fin 2) * 9216 + 1 * (y 1).val = (y 1).val; omega

/-- Window 1's block index at a point. -/
theorem idx1 : ∀ t : Fin cfg0.N, win0_1.index t (0 : Fin 3) = t.val / 9 ∧ win0_1.index t (1 : Fin 3) = 0 ∧ win0_1.index t (2 : Fin 3) = 0 :=
  (by decide +kernel : ∀ t : Fin grid0.N, _)
/-- Window 1's block at a point, read off its array. -/
theorem iblk1 (c : Dev nD) (t : Fin cfg0.N) : iblk m c 1 t = bX1 (V m c main_v0) (t.val / 9) := by
  have hN : t.val < 360 := lt_of_lt_of_eq t.isLt (show cfg0.N = 360 from N_0)
  obtain ⟨e0, e1, e2⟩ := idx1 t
  funext y
  have h0 : (y 0).val < 1 := (y 0).isLt
  have h1 : (y 1).val < 1 := (y 1).isLt
  have h2 : (y 2).val < 384 := (y 2).isLt
  show V m c main_v0 (((cfg0.win 1).blk t).view.emb y) = V m c main_v0 _
  congr 1
  funext a; apply Fin.ext
  match a with
  | ⟨0, _⟩ => show win0_1.index t (0 : Fin 3) * 1 + 1 * (y 0).val = (t.val / 9) % 40; omega
  | ⟨1, _⟩ => show win0_1.index t (1 : Fin 3) * 1 + 1 * (y 1).val = (y 1).val; omega
  | ⟨2, _⟩ => show win0_1.index t (2 : Fin 3) * 384 + 1 * (y 2).val = (y 2).val; omega

/-- Window 2's block index at a point. -/
theorem idx2 : ∀ t : Fin cfg0.N, win0_2.index t (0 : Fin 2) = 0 ∧ win0_2.index t (1 : Fin 2) = t.val % 9 :=
  (by decide +kernel : ∀ t : Fin grid0.N, _)
/-- Window 2's block at a point, read off its array. -/
theorem iblk2 (c : Dev nD) (t : Fin cfg0.N) : iblk m c 2 t = bW (V m c main_arg2) (t.val % 9) := by
  have hN : t.val < 360 := lt_of_lt_of_eq t.isLt (show cfg0.N = 360 from N_0)
  obtain ⟨e0, e1⟩ := idx2 t
  funext y
  have h0 : (y 0).val < 9216 := (y 0).isLt
  have h1 : (y 1).val < 512 := (y 1).isLt
  show V m c main_arg2 (((cfg0.win 2).blk t).view.emb y) = V m c main_arg2 _
  congr 1
  funext a; apply Fin.ext
  match a with
  | ⟨0, _⟩ => show win0_2.index t (0 : Fin 2) * 9216 + 1 * (y 0).val = (y 0).val; omega
  | ⟨1, _⟩ => show win0_2.index t (1 : Fin 2) * 512 + 1 * (y 1).val = (512 * (t.val % 9) + (y 1).val) % 4608; omega

/-- Window 3's block index at a point. -/
theorem idx3 : ∀ t : Fin cfg0.N, win0_3.index t (0 : Fin 2) = 0 ∧ win0_3.index t (1 : Fin 2) = t.val % 9 :=
  (by decide +kernel : ∀ t : Fin grid0.N, _)
/-- Window 3's block at a point, read off its array. -/
theorem iblk3 (c : Dev nD) (t : Fin cfg0.N) : iblk m c 3 t = bS (V m c main_v1) (t.val % 9) := by
  have hN : t.val < 360 := lt_of_lt_of_eq t.isLt (show cfg0.N = 360 from N_0)
  obtain ⟨e0, e1⟩ := idx3 t
  funext y
  have h0 : (y 0).val < 1 := (y 0).isLt
  have h1 : (y 1).val < 512 := (y 1).isLt
  show V m c main_v1 (((cfg0.win 3).blk t).view.emb y) = V m c main_v1 _
  congr 1
  funext a; apply Fin.ext
  match a with
  | ⟨0, _⟩ => show win0_3.index t (0 : Fin 2) * 1 + 1 * (y 0).val = (y 0).val; omega
  | ⟨1, _⟩ => show win0_3.index t (1 : Fin 2) * 512 + 1 * (y 1).val = (512 * (t.val % 9) + (y 1).val) % 4608; omega

/-- Window 4's block index at a point. -/
theorem idx4 : ∀ t : Fin cfg0.N, win0_4.index t (0 : Fin 2) = t.val / 9 ∧ win0_4.index t (1 : Fin 2) = 0 :=
  (by decide +kernel : ∀ t : Fin grid0.N, _)
/-- Window 4's block at a point, read off its array. -/
theorem iblk4 (c : Dev nD) (t : Fin cfg0.N) : iblk m c 4 t = bH (V m c main_arg4) (t.val / 9) := by
  have hN : t.val < 360 := lt_of_lt_of_eq t.isLt (show cfg0.N = 360 from N_0)
  obtain ⟨e0, e1⟩ := idx4 t
  funext y
  have h0 : (y 0).val < 384 := (y 0).isLt
  have h1 : (y 1).val < 4608 := (y 1).isLt
  show V m c main_arg4 (((cfg0.win 4).blk t).view.emb y) = V m c main_arg4 _
  congr 1
  funext a; apply Fin.ext
  match a with
  | ⟨0, _⟩ => show win0_4.index t (0 : Fin 2) * 384 + 1 * (y 0).val = (384 * (t.val / 9) + (y 0).val) % 15360; omega
  | ⟨1, _⟩ => show win0_4.index t (1 : Fin 2) * 4608 + 1 * (y 1).val = (y 1).val; omega

/-- Window 5's block index at a point. -/
theorem idx5 : ∀ t : Fin cfg0.N, win0_5.index t (0 : Fin 2) = 0 ∧ win0_5.index t (1 : Fin 2) = 0 :=
  (by decide +kernel : ∀ t : Fin grid0.N, _)
/-- Window 5's block at a point, read off its array. -/
theorem iblk5 (c : Dev nD) (t : Fin cfg0.N) : iblk m c 5 t = V m c main_v2 := by
  have hN : t.val < 360 := lt_of_lt_of_eq t.isLt (show cfg0.N = 360 from N_0)
  obtain ⟨e0, e1⟩ := idx5 t
  funext y
  have h0 : (y 0).val < 1 := (y 0).isLt
  have h1 : (y 1).val < 4608 := (y 1).isLt
  show V m c main_v2 (((cfg0.win 5).blk t).view.emb y) = V m c main_v2 _
  congr 1
  funext a; apply Fin.ext
  match a with
  | ⟨0, _⟩ => show win0_5.index t (0 : Fin 2) * 1 + 1 * (y 0).val = (y 0).val; omega
  | ⟨1, _⟩ => show win0_5.index t (1 : Fin 2) * 4608 + 1 * (y 1).val = (y 1).val; omega

/-- Window 6's block index at a point. -/
theorem idx6 : ∀ t : Fin cfg0.N, win0_6.index t (0 : Fin 2) = t.val / 9 ∧ win0_6.index t (1 : Fin 2) = 0 :=
  (by decide +kernel : ∀ t : Fin grid0.N, _)

/-! ## The proof data -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl

/-- The invariant between points: before the first, every scratch at anything; afterwards the scratch as `Inv` says. -/
def PhiS (c : Dev nD) : ℕ → sProp 𝕄
  | 0 => Pipeline.ΦA spec0 c
  | n + 1 => iprop(iprop(∃ d0, ∃ d1, ∃ d2, ⌜Inv (V m c main_arg0) (V m c main_v0) (V m c main_arg2) (V m c main_v1) (n / 9) (n % 9) d0 d1 d2⌝ ∗ owns (c : Thread nD τ) scM0_0 fullShare d0 ∗ owns (c : Thread nD τ) scM0_1 fullShare d1 ∗ owns (c : Thread nD τ) scM0_2 fullShare d2) ∗ (∃ r, prngReg c r))

/-- The invariant before any point gives every scratch at something. -/
theorem PhiS_weaken (c : Dev nD) (n : ℕ) : PhiS m c n ⊢ Pipeline.ΦA spec0 c := by
  cases n with
  | zero => exact Idealize.SL.BI.Entails.refl _
  | succ n =>
    rw [PhiA0_eq]
    unfold PhiS
    iintro ⟨⟨%d0, %d1, %d2, -, HS0, HS1, HS2⟩, Hg⟩
    isplitl [HS0 HS1 HS2]
    · isplitl [HS0]; · iexists _; iexact HS0
      isplitl [HS1]; · iexists _; iexact HS1
      iexists _; iexact HS2
    iexact Hg

/-- The window of which only a predicate is kept: the output. -/
def marked0 : Fin 7 → Bool := fun w => w.val == 6

/-- What the output's staging buffer holds after a point that writes it back. -/
def Rl (c : Dev nD) (w : Fin cfg0.W) (t : Fin cfg0.N) : (((cfg0.win w).block).Idx → Elt F (cfg0.win w).elt) → Prop :=
  match w with
  | ⟨6, _⟩ => fun X => t.val % 9 = 8 → X = outAll (bH (V m c main_arg4) (t.val / 9)) (V m c main_v2) (accV (V m c main_arg0) (V m c main_v0) (V m c main_arg2) (V m c main_v1) (t.val / 9))
  | _ => fun _ => True

/-- The proof data: each input's buffer at its block; the output held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val
  q _ := fullShare
  owed _ := 0

/-- The arrays of the proof data are those the region finds. -/
theorem A_eq (c : Dev nD) (w : Fin cfg0.W) : (dats m 0 c).A w = V m c (Pipeline.arrRef spec0 w) := by
  dsimp only [dats]

/-- Window 0's buffer after a point is its block. -/
theorem after0_0 (c : Dev nD) (t : Fin cfg0.N) : (dats m 0 c).after 0 t = iblk m c 0 t := by dsimp only [dats]
/-- Window 0's buffer before a point is its block. -/
theorem before0_0 (c : Dev nD) (t : Fin cfg0.N) (d) : (dats m 0 c).before 0 t d = iblk m c 0 t :=
  before0_0_of m (dats m 0 c) (A_eq m c 0) (after0_0 m c) t d
/-- Window 1's buffer after a point is its block. -/
theorem after0_1 (c : Dev nD) (t : Fin cfg0.N) : (dats m 0 c).after 1 t = iblk m c 1 t := by dsimp only [dats]
/-- Window 1's buffer before a point is its block. -/
theorem before0_1 (c : Dev nD) (t : Fin cfg0.N) (d) : (dats m 0 c).before 1 t d = iblk m c 1 t :=
  before0_1_of m (dats m 0 c) (A_eq m c 1) (after0_1 m c) t d
/-- Window 2's buffer after a point is its block. -/
theorem after0_2 (c : Dev nD) (t : Fin cfg0.N) : (dats m 0 c).after 2 t = iblk m c 2 t := by dsimp only [dats]
/-- Window 2's buffer before a point is its block. -/
theorem before0_2 (c : Dev nD) (t : Fin cfg0.N) (d) : (dats m 0 c).before 2 t d = iblk m c 2 t :=
  before0_2_of m (dats m 0 c) (A_eq m c 2) (after0_2 m c) t d
/-- Window 3's buffer after a point is its block. -/
theorem after0_3 (c : Dev nD) (t : Fin cfg0.N) : (dats m 0 c).after 3 t = iblk m c 3 t := by dsimp only [dats]
/-- Window 3's buffer before a point is its block. -/
theorem before0_3 (c : Dev nD) (t : Fin cfg0.N) (d) : (dats m 0 c).before 3 t d = iblk m c 3 t :=
  before0_3_of m (dats m 0 c) (A_eq m c 3) (after0_3 m c) t d
/-- Window 4's buffer after a point is its block. -/
theorem after0_4 (c : Dev nD) (t : Fin cfg0.N) : (dats m 0 c).after 4 t = iblk m c 4 t := by dsimp only [dats]
/-- Window 4's buffer before a point is its block. -/
theorem before0_4 (c : Dev nD) (t : Fin cfg0.N) (d) : (dats m 0 c).before 4 t d = iblk m c 4 t :=
  before0_4_of m (dats m 0 c) (A_eq m c 4) (after0_4 m c) t d
/-- Window 5's buffer after a point is its block. -/
theorem after0_5 (c : Dev nD) (t : Fin cfg0.N) : (dats m 0 c).after 5 t = iblk m c 5 t := by dsimp only [dats]
/-- Window 5's buffer before a point is its block. -/
theorem before0_5 (c : Dev nD) (t : Fin cfg0.N) (d) : (dats m 0 c).before 5 t d = iblk m c 5 t :=
  before0_5_of m (dats m 0 c) (A_eq m c 5) (after0_5 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Rl m c 6 t X⌝ ∗ owns (c : Thread nD τ) (ms0_6 t) fullShare X))

/-- A window that is not idle leaves its buffer at what the proof data say. -/
theorem leaves_in (c : Dev nD) (w : Fin cfg0.W) (t : Fin cfg0.N) (h : cfg0.idle w (grid0.coords t) = false) :
    (dats m 0 c).leaves w t = owns (c : Thread nD τ) ((cfg0.win w).stage (cfg0.slots t w)) fullShare ((dats m 0 c).after w t) := by
  unfold Dat.leaves; rw [h]

set_option maxHeartbeats 2400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [leaves_in m c 0 t (liveAt0_0 t), leaves_in m c 1 t (liveAt0_1 t), leaves_in m c 2 t (liveAt0_2 t), leaves_in m c 3 t (liveAt0_3 t), leaves_in m c 4 t (liveAt0_4 t), leaves_in m c 5 t (liveAt0_5 t)]
  rw [after0_0, after0_1, after0_2, after0_3, after0_4, after0_5]
  rw [show (dats m 0 c).owesAt () t.succ = (dats m 0 c).owesAt () t.castSucc from rfl]
  rw [show (dats m 0 c).Φ t.succ = iprop(iprop(∃ d0, ∃ d1, ∃ d2, ⌜Inv (V m c main_arg0) (V m c main_v0) (V m c main_arg2) (V m c main_v1) (t.val / 9) (t.val % 9) d0 d1 d2⌝ ∗ owns (c : Thread nD τ) scM0_0 fullShare d0 ∗ owns (c : Thread nD τ) scM0_1 fullShare d1 ∗ owns (c : Thread nD τ) scM0_2 fullShare d2) ∗ (∃ r, prngReg c r)) from rfl]
  have hN : t.val < 360 := lt_of_lt_of_eq t.isLt (show cfg0.N = 360 from N_0)
  have hi : (grid0.coords t 1).val = t.val / 1 % 9 := Pipeline.Grid.coords_val t 1 (by decide) rfl
  rw [Nat.div_one] at hi
  by_cases h0 : t.val % 9 = 0
  · have h1 : ¬t.val % 9 = 8 := by omega
    refine (BIClass.sep_mono (show (dats m 0 c).Φ t.castSucc ⊢ Pipeline.ΦA spec0 c from PhiS_weaken m c t.val) (Idealize.SL.BI.Entails.refl _)).trans ?_
    rw [PhiA0_eq]
    iintro ⟨⟨⟨HS0, HS1, ⟨%xs2, HS2⟩⟩, Hg⟩, Ho, ⟨%d0, H0⟩, ⟨%d1, H1⟩, ⟨%d2, H2⟩, ⟨%d3, H3⟩, ⟨%d4, H4⟩, ⟨%d5, H5⟩, ⟨%d6, H6⟩⟩
    have hI := inv_first (V m c main_arg0) (V m c main_v0) (V m c main_arg2) (V m c main_v1) (t.val / 9) (grid0.coords t) (by omega) xs2
    iapply (kernelRun_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) xs2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, HS0, HS1, HS2⟩
    isplitl [HS0 HS1 HS2 Hg]
    · isplitl [HS0 HS1 HS2]
      · iexists _, _, _
        isplitr; swap
        · isplitl [HS0]; · iexact HS0
          isplitl [HS1]; · iexact HS1
          iexact HS2
        ipureintro
        simp only [iblk0, iblk1, iblk2, iblk3, iblk4, iblk5]
        rw [h0]; exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; intro h; exact absurd h h1
  by_cases h1 : t.val % 9 = 8
  · rw [show (dats m 0 c).Φ t.castSucc = PhiS m c (t.val - 1 + 1) from congrArg (PhiS m c) (show t.val = t.val - 1 + 1 by omega)]
    unfold PhiS
    iintro ⟨⟨⟨%xs0, %xs1, %xs2, %hI0, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    have hI := inv_step (V m c main_arg0) (V m c main_v0) (V m c main_arg2) (V m c main_v1) ((t.val - 1) / 9) ((t.val - 1) % 9) (grid0.coords t) (by omega) hI0
    rw [show (t.val - 1) / 9 = t.val / 9 by omega, show (t.val - 1) % 9 + 1 = t.val % 9 by omega] at hI
    iapply (kernelRun_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) xs0 xs1 xs2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr; swap
        · isplitl [HS0]; · iexact HS0
          isplitl [HS1]; · iexact HS1
          iexact HS2
        ipureintro
        simp only [iblk0, iblk1, iblk2, iblk3, iblk4, iblk5]
        exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [h1] at hI
    iexists _; isplitr; swap; · iexact H6
    ipureintro; intro _; simp only [iblk0, iblk1, iblk2, iblk3, iblk4, iblk5, h1]
    rw [← hI.acc_eq]
  · rw [show (dats m 0 c).Φ t.castSucc = PhiS m c (t.val - 1 + 1) from congrArg (PhiS m c) (show t.val = t.val - 1 + 1 by omega)]
    unfold PhiS
    iintro ⟨⟨⟨%xs0, %xs1, %xs2, %hI0, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    have hI := inv_step (V m c main_arg0) (V m c main_v0) (V m c main_arg2) (V m c main_v1) ((t.val - 1) / 9) ((t.val - 1) % 9) (grid0.coords t) (by omega) hI0
    rw [show (t.val - 1) / 9 = t.val / 9 by omega, show (t.val - 1) % 9 + 1 = t.val % 9 by omega] at hI
    iapply (kernelRun_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) xs0 xs1 xs2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, HS0, HS1, HS2⟩
    isplitl [HS0 HS1 HS2 Hg]
    · isplitl [HS0 HS1 HS2]
      · iexists _, _, _
        isplitr; swap
        · isplitl [HS0]; · iexact HS0
          isplitl [HS1]; · iexact HS1
          iexact HS2
        ipureintro
        simp only [iblk0, iblk1, iblk2, iblk3, iblk4, iblk5]
        exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr; swap; · iexact H6
    ipureintro; intro h; exact absurd h h1

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation with the output held to `Rl`. -/
theorem body_obligation (c : Dev nD) : BodyObligationRel (dats (F := F) m 0 c) (defs₀ (F := F)) Variants.none () Set.univ marked0 (Rl m c) := fun t => by
  rw [bigSep_W0, bigSep_W0, defs₀_row]
  refine triple_restated (sound_body m c t) rfl ?_ fun _ => .rfl
  unfold bodyPre
  refine BIClass.sep_mono .rfl (BIClass.sep_mono .rfl (BIClass.sep_mono .rfl (BIClass.sep_mono .rfl (BIClass.sep_mono .rfl (BIClass.sep_mono .rfl (BIClass.sep_mono .rfl (BIClass.sep_mono .rfl ?_)))))))
  show iprop(∃ Y, ⌜((dats m 0 c).toRRel marked0 (Rl m c)).Finds 6 t Y⌝ ∗ owns (c : Thread nD τ) (ms0_6 t) fullShare Y) ⊢ _
  iintro ⟨%Y, -, H⟩; iexists _; iexact H

/-- The proof data's invariant before the first point is the scratch at anything. -/
theorem hin (c : Dev nD) : Pipeline.ΦA spec0 c ⊢ (dats m 0 c).Φ 0 := by
  rw [show (dats m 0 c).Φ 0 = Pipeline.ΦA spec0 c from rfl]

/-- After the last point the scratch is given back at anything. -/
theorem hout (c : Dev nD) : (dats m 0 c).Φ (Fin.last cfg0.N) ⊢ Pipeline.ΦA spec0 c := PhiS_weaken m c (Fin.last cfg0.N).val

set_option backward.isDefEq.respectTransparency.types false in
/-- The launch: the arrays end as the proof data say, and every semaphore counter at zero. -/
theorem run_main_quiescent : θ_run defs (onTc (τ := τ) (main (F := F))) (s₀ m ρ)
    (fun r => Pipeline.RDat.FramePost (cfgs 0) (fun c => (dats m 0 c).toRRel marked0 (Rl m c)) (V m) r ∧ r.2.sem = fun _ => 0) :=
  Pipeline.θ_run_frame_track_rel cfgs (dats m) (0 : Fin 1) launch0 defs₀ Variants.none marked0 (Rl m) m ρ main
    (hbody := body_obligation m) (hshare := fun c => (dats m 0 c).share_full fun _ => rfl)
    (howed := fun _ _ => rfl) (V := V m) (hmain := hmain m Variants.none) (hA := A_eq m) (hin := hin m) (hout := hout m)

end Cert.DownIdeal.Gen

end
-- ==== Proof.DownResult.lean ====
/-
  What the down kernel's result array holds after the run, as a function of the argument arrays, and the frame.
-/
module

public import proofs.«01_k».proof.Proof.DownFrame

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

variable (m : (ℓ : Loc nD τ sig) → Buf (Elt F) ℓ) (ρ : Dev nD → PrngReg)

/-! ## The arrays the host reshapes -/

/-- The row scales, reshaped to row blocks. -/
theorem V_main_v0 (c : Dev nD) : V m c main_v0 = shapeCast S40x1x384 (m ((c : Thread nD τ).loc main_arg1)) shapeCasts_S15360_S40x1x384 := by
  show StableHlo.after hostOps0 _ (Proc.devRef .tc main_v0) = _
  after_results
  rfl

/-- The weight scales, reshaped to one row. -/
theorem V_main_v1 (c : Dev nD) : V m c main_v1 = shapeCast S1x4608 (m ((c : Thread nD τ).loc main_arg3)) shapeCasts_S4608_S1x4608 := by
  show StableHlo.after hostOps0 _ (Proc.devRef .tc main_v1) = _
  after_results
  rfl

/-- The gain, reshaped to one row. -/
theorem V_main_v2 (c : Dev nD) : V m c main_v2 = shapeCast S1x4608 (m ((c : Thread nD τ).loc main_arg5)) shapeCasts_S4608_S1x4608 := by
  show StableHlo.after hostOps0 _ (Proc.devRef .tc main_v2) = _
  after_results
  rfl

/-! ## The result -/

/-- A place of the result's block is this place of the result's array. -/
theorem emb6 (t : Fin cfg0.N) (j : S384x4608.Idx) (i : S15360x4608.Idx) (h0 : (i 0).val = 384 * (t.val / 9) + (j 0).val) (h1 : (i 1).val = (j 1).val) :
    ((cfg0.win 6).blk t).view.emb j = i := by
  obtain ⟨e0, e1⟩ := idx6 t
  funext a; apply Fin.ext
  match a with
  | ⟨0, _⟩ => show win0_6.index t (0 : Fin 2) * 384 + 1 * (j 0).val = (i 0).val; omega
  | ⟨1, _⟩ => show win0_6.index t (1 : Fin 2) * 4608 + 1 * (j 1).val = (i 1).val; omega

/-- Every place of the result's array is in a block that is written back. -/
theorem cover6 (i : S15360x4608.Idx) : ∃ t : Fin cfg0.N, (cfg0.win 6).flush t = true ∧ i ∈ ((cfg0.win 6).blk t).view.set := by
  have h0 : (i 0).val < 15360 := (i 0).isLt
  have ht : 9 * ((i 0).val / 384) + 8 < cfg0.N := by rw [show cfg0.N = 360 from N_0]; omega
  generalize htt : (⟨9 * ((i 0).val / 384) + 8, ht⟩ : Fin cfg0.N) = t
  have htv : t.val = 9 * ((i 0).val / 384) + 8 := by rw [← htt]
  refine ⟨t, (flush0_6 _).mpr (by omega), ?_⟩
  have h := ((cfg0.win 6).blk t).view.emb_mem_set (ix2 ⟨(i 0).val % 384, Nat.mod_lt _ (by decide)⟩ (i 1) : S384x4608.Idx)
  rwa [emb6 t _ i (by show (i 0).val = 384 * (t.val / 9) + (i 0).val % 384; omega) rfl] at h

section Post
variable {m} {r : PUnit × MemSt nD τ sig (Elt F)}

/-- The result's array after the run. -/
theorem post_out (h : Pipeline.RDat.FramePost (cfgs 0) (fun c => (dats m 0 c).toRRel marked0 (Rl m c)) (V m) r) (c : Dev nD) :
    r.2.mem ((c : Thread nD τ).loc main_v3) = G0 (V m c main_arg0) (V m c main_v0) (V m c main_arg2) (V m c main_v1) (V m c main_arg4) (V m c main_v2) := by
  refine h.out_eq c 6 rfl (G0 (V m c main_arg0) (V m c main_v0) (V m c main_arg2) (V m c main_v1) (V m c main_arg4) (V m c main_v2)) ?_ cover6
  intro t ht X hX
  have h8 : t.val % 9 = 8 := (flush0_6 t).mp ht
  have hN : t.val < 360 := lt_of_lt_of_eq t.isLt (show cfg0.N = 360 from N_0)
  rw [show X = outAll (bH (V m c main_arg4) (t.val / 9)) (V m c main_v2) (accV (V m c main_arg0) (V m c main_v0) (V m c main_arg2) (V m c main_v1) (t.val / 9)) from hX h8]
  funext j
  have h0 : (j 0).val < 384 := (j 0).isLt
  show outAll (bH (V m c main_arg4) (t.val / 9)) (V m c main_v2) (accV (V m c main_arg0) (V m c main_v0) (V m c main_arg2) (V m c main_v1) (t.val / 9)) j = G0 (V m c main_arg0) (V m c main_v0) (V m c main_arg2) (V m c main_v1) (V m c main_arg4) (V m c main_v2) (((cfg0.win 6).blk t).view.emb j)
  rw [emb6 t j (ix2 ⟨384 * (t.val / 9) + (j 0).val, by omega⟩ (j 1)) rfl rfl]
  unfold G0
  rw [show ((ix2 ⟨384 * (t.val / 9) + (j 0).val, by omega⟩ (j 1) : S15360x4608.Idx) 0).val / 384 = t.val / 9 from by
    show (384 * (t.val / 9) + (j 0).val) / 384 = _; omega]
  congr 1
  funext a; apply Fin.ext
  match a with
  | ⟨0, _⟩ => show (j 0).val = (384 * (t.val / 9) + (j 0).val) % 384; omega
  | ⟨1, _⟩ => rfl

end Post

/-- The argument arrays end unchanged, from any relational proof data whose arrays are those the region finds. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRRel marked0 (Rl m c)) (A_eq m) ((θ_run defs _ _).mono (fun _ h => h.1) (run_main_quiescent m ρ))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with the result array as a function of the arrays the kernel stages. -/
theorem run_values : θ_run defs (onTc (τ := τ) (main (F := F))) ⟨m, fun _ => 0, ρ⟩ (fun r => ∀ c : Dev nD,
      r.2.mem ((c : Thread nD τ).loc main_v3) = G0 (V m c main_arg0) (V m c main_v0) (V m c main_arg2) (V m c main_v1) (V m c main_arg4) (V m c main_v2)) :=
  (θ_run defs _ _).mono (fun _ h c => post_out h.1 c) (run_main_quiescent m ρ)

end Cert.DownIdeal.Gen

end
-- ==== Proof.DownBits.lean ====
/-
  The frame of the down kernel over machine words, from the frame that is proved of its text at every float instance.
-/
module

public import proofs.«01_k».proof.Defs
public import proofs.«01_k».proof.Proof.Gen.Down
public import proofs.«01_k».proof.Proof.DownResult

@[expose] public section

noncomputable section

namespace Cert.Down

open Idealize.ShloMosaic Idealize.ShloMosaic.TcCoe Idealize.SL.Sem

variable {F : FTy → Type} [FloatOps F]

/-- The two printings of the kernel's body are one function. -/
theorem body_eq : cc0_down (F := F) = Cert.DownIdeal.cc0_down (F := F) := rfl

/-- The two printings' tables of bodies are one table. -/
theorem defs₀_eq : defs₀ (F := F) = Cert.DownIdeal.defs₀ (F := F) := by
  unfold defs₀ Cert.DownIdeal.defs₀
  congr 1
  funext l x
  match l, x with
  | ⟨0, _⟩, (t, s) => rfl
  | ⟨_ + 1, h⟩, _ => exact absurd h (Nat.not_lt.2 (Nat.le_add_left _ _))

/-- The two printings' host programs are one program. -/
theorem main_eq : main (F := F) = Cert.DownIdeal.main (F := F) := rfl

/-- The two printings' tables of labels are one table. -/
theorem defs_eq : defs (F := F) = Cert.DownIdeal.defs (F := F) := by
  show Pipeline.defs pcfgs defs₀ = Pipeline.defs Cert.DownIdeal.pcfgs Cert.DownIdeal.defs₀
  rw [defs₀_eq]; rfl

/-- The frame over machine words: the program is, word for word, the one whose frame is proved at every float instance. -/
theorem quiescent : Cert.quiescent_Down (hDown := Cert.Down.Gen.facts) := by
  intro m g _
  have h := Cert.DownIdeal.Gen.frame (F := Bits) m g
  rw [← defs_eq, ← main_eq] at h
  exact h

end Cert.Down

end
-- ==== Proof.DownRefResult.lean ====
/-
  What the reference of the down call computes: its result array as a function of its arguments.
-/
module

public import proofs.«01_k».proof.Proof.Gen.DownRefIdeal.Frame
public import Idealize.ShloMosaic.Lib.Claim
public import Idealize.ShloMosaic.Lib.Pipeline.Value

@[expose] public section

set_option maxRecDepth 16384

noncomputable section

namespace Cert.DownRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The results as functions of the arguments -/

/-- The reference's result. -/
def R0 (x0 : Vec F S15360x9216 .i8) (x1 : Vec F S15360 .f32) (x2 : Vec F S9216x4608 .i8) (x3 : Vec F S4608 .f32) (x4 : Vec F S15360x4608 .f32) (x5 : Vec F S4608 .f32) : Vec F S15360x4608 .bf16 :=
  k0_pay1 x0 x1 x2 x3 x4 x5

/-- One zero offset, as a function. -/
theorem hz1 : (![0] : Fin 1 → Nat) = fun _ => 0 := funext fun a => by fin_cases a <;> rfl
/-- Two zero offsets, as a function. -/
theorem hz2 : (![0, 0] : Fin 2 → Nat) = fun _ => 0 := funext fun a => by fin_cases a <;> rfl
/-- Three zero offsets, as a function. -/
theorem hz3 : (![0, 0, 0] : Fin 3 → Nat) = fun _ => 0 := funext fun a => by fin_cases a <;> rfl

/-- The body's store into window 6: one store of the whole array, of loads of whole arrays. -/
theorem out6_eq (x0 : Vec F S15360x9216 .i8) (x1 : Vec F S15360 .f32) (x2 : Vec F S9216x4608 .i8) (x3 : Vec F S4608 .f32) (x4 : Vec F S15360x4608 .f32) (x5 : Vec F S4608 .f32) : out0_6 x0 x1 x2 x3 x4 x5 = R0 x0 x1 x2 x3 x4 x5 := by
  unfold out0_6
  rw [View.canon_unit_zero hz2]
  simp only [View.ld_unit_zero (S := S4608) hz1, View.ld_unit_zero (S := S9216x4608) hz2, View.ld_unit_zero (S := S15360) hz1, View.ld_unit_zero (S := S15360x4608) hz2, View.ld_unit_zero (S := S15360x9216) hz2]
  rfl

variable (m : (ℓ : Loc nD τ sig) → Buf (Elt F) ℓ) (ρ : Dev nD → PrngReg)

/-! ## Every window's block is its whole array -/

/-- Window 0: its block index is zero on every axis. -/
theorem idx_zero0 : ∀ t : Fin cfg0.N, win0_0.index t (0 : Fin 2) = 0 ∧ win0_0.index t (1 : Fin 2) = 0 := (by decide +kernel : ∀ t : Fin grid0.N, _)

/-- Window 0: an index of its block is the same index of its array. -/
theorem emb0 (t : Fin cfg0.N) (j : S15360x9216.Idx) : ((cfg0.win 0).blk t).view.emb j = j := by
  obtain ⟨e0, e1⟩ := idx_zero0 t
  funext a; apply Fin.ext
  match a with
  | ⟨0, _⟩ => show win0_0.index t (0 : Fin 2) * 15360 + 1 * (j 0).val = (j 0).val; omega
  | ⟨1, _⟩ => show win0_0.index t (1 : Fin 2) * 9216 + 1 * (j 1).val = (j 1).val; omega

/-- Window 0: its block is its array. -/
theorem iblk0_eq (c : Dev nD) (t : Fin cfg0.N) : iblk m c 0 t = V m c main_arg0 := by
  funext j; show V m c main_arg0 (((cfg0.win 0).blk t).view.emb j) = V m c main_arg0 j; rw [emb0]

/-- Window 1: its block index is zero on every axis. -/
theorem idx_zero1 : ∀ t : Fin cfg0.N, win0_1.index t (0 : Fin 1) = 0 := (by decide +kernel : ∀ t : Fin grid0.N, _)

/-- Window 1: an index of its block is the same index of its array. -/
theorem emb1 (t : Fin cfg0.N) (j : S15360.Idx) : ((cfg0.win 1).blk t).view.emb j = j := by
  obtain e0 := idx_zero1 t
  funext a; apply Fin.ext
  match a with
  | ⟨0, _⟩ => show win0_1.index t (0 : Fin 1) * 15360 + 1 * (j 0).val = (j 0).val; omega

/-- Window 1: its block is its array. -/
theorem iblk1_eq (c : Dev nD) (t : Fin cfg0.N) : iblk m c 1 t = V m c main_arg1 := by
  funext j; show V m c main_arg1 (((cfg0.win 1).blk t).view.emb j) = V m c main_arg1 j; rw [emb1]

/-- Window 2: its block index is zero on every axis. -/
theorem idx_zero2 : ∀ t : Fin cfg0.N, win0_2.index t (0 : Fin 2) = 0 ∧ win0_2.index t (1 : Fin 2) = 0 := (by decide +kernel : ∀ t : Fin grid0.N, _)

/-- Window 2: an index of its block is the same index of its array. -/
theorem emb2 (t : Fin cfg0.N) (j : S9216x4608.Idx) : ((cfg0.win 2).blk t).view.emb j = j := by
  obtain ⟨e0, e1⟩ := idx_zero2 t
  funext a; apply Fin.ext
  match a with
  | ⟨0, _⟩ => show win0_2.index t (0 : Fin 2) * 9216 + 1 * (j 0).val = (j 0).val; omega
  | ⟨1, _⟩ => show win0_2.index t (1 : Fin 2) * 4608 + 1 * (j 1).val = (j 1).val; omega

/-- Window 2: its block is its array. -/
theorem iblk2_eq (c : Dev nD) (t : Fin cfg0.N) : iblk m c 2 t = V m c main_arg2 := by
  funext j; show V m c main_arg2 (((cfg0.win 2).blk t).view.emb j) = V m c main_arg2 j; rw [emb2]

/-- Window 3: its block index is zero on every axis. -/
theorem idx_zero3 : ∀ t : Fin cfg0.N, win0_3.index t (0 : Fin 1) = 0 := (by decide +kernel : ∀ t : Fin grid0.N, _)

/-- Window 3: an index of its block is the same index of its array. -/
theorem emb3 (t : Fin cfg0.N) (j : S4608.Idx) : ((cfg0.win 3).blk t).view.emb j = j := by
  obtain e0 := idx_zero3 t
  funext a; apply Fin.ext
  match a with
  | ⟨0, _⟩ => show win0_3.index t (0 : Fin 1) * 4608 + 1 * (j 0).val = (j 0).val; omega

/-- Window 3: its block is its array. -/
theorem iblk3_eq (c : Dev nD) (t : Fin cfg0.N) : iblk m c 3 t = V m c main_arg3 := by
  funext j; show V m c main_arg3 (((cfg0.win 3).blk t).view.emb j) = V m c main_arg3 j; rw [emb3]

/-- Window 4: its block index is zero on every axis. -/
theorem idx_zero4 : ∀ t : Fin cfg0.N, win0_4.index t (0 : Fin 2) = 0 ∧ win0_4.index t (1 : Fin 2) = 0 := (by decide +kernel : ∀ t : Fin grid0.N, _)

/-- Window 4: an index of its block is the same index of its array. -/
theorem emb4 (t : Fin cfg0.N) (j : S15360x4608.Idx) : ((cfg0.win 4).blk t).view.emb j = j := by
  obtain ⟨e0, e1⟩ := idx_zero4 t
  funext a; apply Fin.ext
  match a with
  | ⟨0, _⟩ => show win0_4.index t (0 : Fin 2) * 15360 + 1 * (j 0).val = (j 0).val; omega
  | ⟨1, _⟩ => show win0_4.index t (1 : Fin 2) * 4608 + 1 * (j 1).val = (j 1).val; omega

/-- Window 4: its block is its array. -/
theorem iblk4_eq (c : Dev nD) (t : Fin cfg0.N) : iblk m c 4 t = V m c main_arg4 := by
  funext j; show V m c main_arg4 (((cfg0.win 4).blk t).view.emb j) = V m c main_arg4 j; rw [emb4]

/-- Window 5: its block index is zero on every axis. -/
theorem idx_zero5 : ∀ t : Fin cfg0.N, win0_5.index t (0 : Fin 1) = 0 := (by decide +kernel : ∀ t : Fin grid0.N, _)

/-- Window 5: an index of its block is the same index of its array. -/
theorem emb5 (t : Fin cfg0.N) (j : S4608.Idx) : ((cfg0.win 5).blk t).view.emb j = j := by
  obtain e0 := idx_zero5 t
  funext a; apply Fin.ext
  match a with
  | ⟨0, _⟩ => show win0_5.index t (0 : Fin 1) * 4608 + 1 * (j 0).val = (j 0).val; omega

/-- Window 5: its block is its array. -/
theorem iblk5_eq (c : Dev nD) (t : Fin cfg0.N) : iblk m c 5 t = V m c main_arg5 := by
  funext j; show V m c main_arg5 (((cfg0.win 5).blk t).view.emb j) = V m c main_arg5 j; rw [emb5]

/-- Window 6: its block index is zero on every axis. -/
theorem idx_zero6 : ∀ t : Fin cfg0.N, win0_6.index t (0 : Fin 2) = 0 ∧ win0_6.index t (1 : Fin 2) = 0 := (by decide +kernel : ∀ t : Fin grid0.N, _)

/-- Window 6: an index of its block is the same index of its array. -/
theorem emb6 (t : Fin cfg0.N) (j : S15360x4608.Idx) : ((cfg0.win 6).blk t).view.emb j = j := by
  obtain ⟨e0, e1⟩ := idx_zero6 t
  funext a; apply Fin.ext
  match a with
  | ⟨0, _⟩ => show win0_6.index t (0 : Fin 2) * 15360 + 1 * (j 0).val = (j 0).val; omega
  | ⟨1, _⟩ => show win0_6.index t (1 : Fin 2) * 4608 + 1 * (j 1).val = (j 1).val; omega

/-- Result array 0 after the run. -/
theorem final6 (c : Dev nD) : (dats m 0 c).arrAt 6 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (R0 (V m c main_arg0) (V m c main_arg1) (V m c main_arg2) (V m c main_arg3) (V m c main_arg4) (V m c main_arg5))
    (fun t _ => by
      show (cfg0.win 6).cut (grid0.coords t) ((dats m 0 c).after 6 t) = _
      rw [after0_6, out6_eq, iblk0_eq, iblk1_eq, iblk2_eq, iblk3_eq, iblk4_eq, iblk5_eq]
      funext j
      show R0 (V m c main_arg0) (V m c main_arg1) (V m c main_arg2) (V m c main_arg3) (V m c main_arg4) (V m c main_arg5) j = R0 (V m c main_arg0) (V m c main_arg1) (V m c main_arg2) (V m c main_arg3) (V m c main_arg4) (V m c main_arg5) (((cfg0.win 6).blk t).view.emb j)
      rw [emb6])
    (fun i => ⟨(⟨0, by decide⟩ : Fin cfg0.N), flush0_6 _, by
      have h := ((cfg0.win 6).blk (⟨0, by decide⟩ : Fin cfg0.N)).view.emb_mem_set i; rwa [emb6] at h⟩)).trans
    (by rw [V_main_arg0, V_main_arg1, V_main_arg2, V_main_arg3, V_main_arg4, V_main_arg5])

/-- Every run ends with the result arrays at these functions of the arguments. -/
theorem run_values : θ_run defs (onTc (τ := τ) (main (F := F))) ⟨m, fun _ => 0, ρ⟩ fun r => ∀ c : Dev nD,
      r.2.mem ((c : Thread nD τ).loc main_v0) = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (θ_run defs _ _).mono (fun _ h c => ((h c).1 6).trans (final6 m c)) (run_main m ρ)

end Cert.DownRefIdeal.Gen

end
-- ==== Proof.QuantMath.lean ====
/-
  The scalar mathematics the two programs share: the symmetric eight-bit quantiser (scale, rounding, clipping), the two
  spellings of the tanh form of gelu, and what a row maximum is. Definitions are stated over any float instance; the
  equalities between the two spellings are at the extended reals.
-/
module

public import Idealize.ShloMosaic.Lib.Pointwise

@[expose] public section

noncomputable section

namespace Cert.Math

open Idealize.ShloMosaic

section Scalars
variable {F : FTy → Type} [FloatOps F]

/-- The quantiser's scale of a row with absolute maximum `a`: one for a zero row, else `a / 127`. -/
def scaleOf (a : F .f32) : F .f32 :=
  Scalar.select (FloatOps.cmpf .oeq a (FloatOps.ofBits .f32 0x00000000#32)) (FloatOps.ofBits .f32 0x3F800000#32)
    (FloatOps.divf a (FloatOps.ofBits .f32 0x42FE0000#32))

/-- Round to the nearest integer, clip to `[-127, 127]`, convert to eight bits. -/
def toCode (x : F .f32) : BitVec 8 :=
  FloatOps.fptosi 8 (FloatOps.minimumf (FloatOps.ofBits .f32 0x42FE0000#32)
    (FloatOps.maximumf (FloatOps.ofBits .f32 0xC2FE0000#32) (FloatOps.roundeven x)))

/-- The code of `y` at scale `s`, by the reciprocal of the scale. -/
def codeMul (y s : F .f32) : BitVec 8 := toCode (FloatOps.mulf y (FloatOps.divf (FloatOps.ofBits .f32 0x3F800000#32) s))

/-- The code of `y` at scale `s`, by division. -/
def codeDiv (y s : F .f32) : BitVec 8 := toCode (FloatOps.divf y s)

/-- A product of codes brought back to a value: times the row's scale and the column's. -/
def dequant (acc s w : F .f32) : F .f32 := FloatOps.mulf acc (FloatOps.mulf s w)

/-- `0.5 * (1 + tanh (c * (g + 0.044715 * g3)))`, for `g3` the cube of `g`. -/
def gate (g g3 : F .f32) : F .f32 :=
  FloatOps.mulf (FloatOps.ofBits .f32 0x3F000000#32) (FloatOps.addf (FloatOps.ofBits .f32 0x3F800000#32)
    (FloatOps.tanh (FloatOps.mulf (FloatOps.ofBits .f32 0x3F4C422A#32)
      (FloatOps.addf g (FloatOps.mulf (FloatOps.ofBits .f32 0x3D372713#32) g3)))))

/-- `gelu(g) * u` with the cube as `(g * g) * g`. -/
def actL (g u : F .f32) : F .f32 := FloatOps.mulf (FloatOps.mulf g (gate g (FloatOps.mulf (FloatOps.mulf g g) g))) u

/-- `gelu(g) * u` with the cube as `g * (g * g)`. -/
def actR (g u : F .f32) : F .f32 := FloatOps.mulf (FloatOps.mulf g (gate g (FloatOps.mulf g (FloatOps.mulf g g)))) u

end Scalars

/-- The two cubes are one over the extended reals. -/
theorem actL_eq (g u : Ideal .f32) : actL (F := Ideal) g u = actR g u := by
  have h : FloatOps.mulf (F := Ideal) (φ := .f32) (FloatOps.mulf g g) g = FloatOps.mulf g (FloatOps.mulf g g) := mul_comm (G := EReal) _ _
  unfold actL actR
  rw [h]

/-- The word `0x42FE0000` is `127`. -/
theorem ofBits_127 : Ideal.ofBits .f32 0x42FE0000#32 = ((127 : ℝ) : EReal) := by
  simp [Ideal.ofBits, Ideal.ieee, -EReal.coe_mul]; norm_num

/-- The word `0xFF800000` is minus infinity. -/
theorem ofBits_bot : Ideal.ofBits .f32 0xFF800000#32 = (⊥ : EReal) := by
  simp [Ideal.ofBits, Ideal.ieee]

/-- A scale is never zero. -/
theorem scaleOf_ne_zero (a : Ideal .f32) : (scaleOf (F := Ideal) a : EReal) ≠ 0 := by
  have h : (scaleOf (F := Ideal) a : EReal) = if (a : EReal) = 0 then 1 else Ideal.div a ((127 : ℝ) : EReal) := by
    rw [← ofBits_127, ← Ideal.ofBits_one_f32]
    show Scalar.select (Ideal.cmp .oeq a (Ideal.ofBits .f32 0x00000000#32)) _ _ = _
    rw [Ideal.ofBits_zero_f32]
    unfold Scalar.select Ideal.cmp
    by_cases h : (a : EReal) = 0
    · simp [h]
    · simp [h]
  rw [h]
  split
  · exact one_ne_zero
  · rename_i ha
    have h127 : ((127 : ℝ) : EReal) ≠ 0 := by norm_cast
    unfold Ideal.div
    rw [if_neg h127]
    refine mul_ne_zero ha ?_
    rw [← EReal.coe_inv]
    norm_cast
    norm_num

/-- Multiplying by the reciprocal of a nonzero scale is dividing by it, also at the infinities. -/
theorem codeMul_eq (y s : Ideal .f32) (hs : (s : EReal) ≠ 0) : codeMul (F := Ideal) y s = codeDiv y s := by
  have h : FloatOps.mulf (F := Ideal) (φ := .f32) y (FloatOps.divf (FloatOps.ofBits .f32 0x3F800000#32) s) = FloatOps.divf y s := by
    show (y : EReal) * Ideal.div (Ideal.ofBits .f32 0x3F800000#32) s = Ideal.div y s
    rw [Ideal.ofBits_one_f32]
    unfold Ideal.div
    rw [if_neg hs, if_neg hs, one_mul]
  unfold codeMul codeDiv
  rw [h]

/-- A row maximum from minus infinity, read at a row: it is the fold of `max` over the row. -/
theorem rowMax_apply {n0 n1 : Nat} (v : FVec Ideal ⟨2, ![n0, n1]⟩ .f32) (h : (⟨2, ![n0, n1]⟩ : Shape).Reduces [1] ⟨1, ![n0]⟩)
    (hφ) (hacc) (t : Fin n0) :
    multiReduction (F := Ideal) .maximumf [1] (⟨1, ![n0]⟩ : Shape) v 0xFF800000#32 h hφ hacc (ix1 t)
      = Finset.univ.fold max (⊥ : EReal) (fun x => (v (ix2 t x) : EReal)) := by
  rw [← ofBits_bot]
  pointwise

/-- A row maximum is at most `z` exactly when every element of the row is. -/
theorem rowMax_le {n0 n1 : Nat} (v : FVec Ideal ⟨2, ![n0, n1]⟩ .f32) (h : (⟨2, ![n0, n1]⟩ : Shape).Reduces [1] ⟨1, ![n0]⟩)
    (hφ) (hacc) (t : Fin n0) (z : EReal) :
    (multiReduction (F := Ideal) .maximumf [1] (⟨1, ![n0]⟩ : Shape) v 0xFF800000#32 h hφ hacc (ix1 t) : EReal) ≤ z
      ↔ ∀ x, (v (ix2 t x) : EReal) ≤ z := by
  rw [rowMax_apply, Finset.fold_max_le]
  simp

/-- An absolute value is at least zero. -/
theorem absf_nonneg (x : Ideal .f32) : (0 : EReal) ≤ FloatOps.absf (F := Ideal) x := by
  show (0 : EReal) ≤ max (x : EReal) (-x)
  rcases le_total (0 : EReal) x with h | h
  · exact le_max_of_le_left h
  · exact le_max_of_le_right (by simpa using EReal.neg_le_neg_iff.mpr h)

end Cert.Math

end
-- ==== Proof.NormMath.lean ====
/-
  The scalar mathematics of the normalised residual sum: the two spellings of the root-mean-square normalisation (times the
  reciprocal of the root, or divided by it), row sums, and sums by blocks of columns.
-/
module

public import Idealize.ShloMosaic.Lib.Pointwise

@[expose] public section

noncomputable section

namespace Cert.Math

open Idealize.ShloMosaic

section Scalars
variable {F : FTy → Type} [FloatOps F]

/-- The root mean square of a row of 4608 elements whose squares sum to `s`, with the usual small constant under the root. -/
def rms (s : F .f32) : F .f32 :=
  FloatOps.sqrt (FloatOps.addf (FloatOps.divf s (FloatOps.ofBits .f32 0x45900000#32)) (FloatOps.ofBits .f32 0x358637BD#32))

/-- The residual `h` plus the normalised `f` times one plus the gain, by the reciprocal of the root mean square. -/
def normMul (h f s g : F .f32) : F .bf16 :=
  FloatOps.truncf .bf16 (by decide) (FloatOps.addf h (FloatOps.mulf
    (FloatOps.mulf f (FloatOps.divf (FloatOps.ofBits .f32 0x3F800000#32) (rms s))) (FloatOps.addf (FloatOps.ofBits .f32 0x3F800000#32) g)))

/-- The same by division. -/
def normDiv (h f s g : F .f32) : F .bf16 :=
  FloatOps.truncf .bf16 (by decide) (FloatOps.addf h (FloatOps.mulf
    (FloatOps.divf f (rms s)) (FloatOps.addf (FloatOps.ofBits .f32 0x3F800000#32) g)))

end Scalars

/-- The word `0x45900000` is `4608`. -/
theorem ofBits_4608 : Ideal.ofBits .f32 0x45900000#32 = ((4608 : ℝ) : EReal) := by
  simp [Ideal.ofBits, Ideal.ieee, -EReal.coe_mul]; norm_num

/-- The small constant is positive. -/
theorem ofBits_eps_pos : ∃ e : ℝ, 0 < e ∧ Ideal.ofBits .f32 0x358637BD#32 = ((e : ℝ) : EReal) := by
  refine ⟨_, ?_, by simp [Ideal.ofBits, Ideal.ieee, -EReal.coe_mul]; rfl⟩
  positivity

/-- The root of something positive is not zero. -/
theorem sqrt_ne_zero (x : EReal) (h : 0 < x) : Ideal.sqrt x ≠ 0 := by
  induction x with
  | bot => exact absurd h (by simp)
  | top => simp
  | coe r =>
    have hr : 0 < r := by exact_mod_cast h
    rw [Ideal.sqrt_coe, if_neg (not_lt.2 hr.le)]
    exact_mod_cast (Real.sqrt_pos.2 hr).ne'

/-- A root mean square is not zero when the sum of squares is at least zero. -/
theorem rms_ne_zero (s : Ideal .f32) (hs : (0 : EReal) ≤ s) : (rms (F := Ideal) s : EReal) ≠ 0 := by
  obtain ⟨e, he, hE⟩ := ofBits_eps_pos
  refine sqrt_ne_zero _ ?_
  show (0 : EReal) < Ideal.div s (Ideal.ofBits .f32 0x45900000#32) + Ideal.ofBits .f32 0x358637BD#32
  rw [hE, ofBits_4608]
  have h1 : (0 : EReal) ≤ Ideal.div s ((4608 : ℝ) : EReal) := by
    unfold Ideal.div
    rw [if_neg (by norm_cast)]
    refine mul_nonneg hs ?_
    rw [← EReal.coe_inv]
    exact_mod_cast (by norm_num : (0 : ℝ) ≤ (4608 : ℝ)⁻¹)
  have h2 : (0 : EReal) < (e : EReal) := by exact_mod_cast he
  exact lt_of_lt_of_le h2 (le_add_of_nonneg_left h1)

/-- The two spellings agree when the sum of squares is at least zero, also at the infinities. -/
theorem normMul_eq (h f s g : Ideal .f32) (hs : (0 : EReal) ≤ s) : normMul (F := Ideal) h f s g = normDiv h f s g := by
  have e : FloatOps.mulf (F := Ideal) (φ := .f32) f (FloatOps.divf (FloatOps.ofBits .f32 0x3F800000#32) (rms s)) = FloatOps.divf f (rms s) := by
    show (f : EReal) * Ideal.div (Ideal.ofBits .f32 0x3F800000#32) (rms s) = Ideal.div f (rms s)
    rw [Ideal.ofBits_one_f32]
    unfold Ideal.div
    rw [if_neg (rms_ne_zero s hs), if_neg (rms_ne_zero s hs), one_mul]
  unfold normMul normDiv
  rw [e]

/-- A row sum from zero, read at a row. -/
theorem rowSum_apply {n0 n1 : Nat} (v : FVec Ideal ⟨2, ![n0, n1]⟩ .f32) (h : (⟨2, ![n0, n1]⟩ : Shape).Reduces [1] ⟨1, ![n0]⟩)
    (hφ) (hacc) (t : Fin n0) :
    multiReduction (F := Ideal) .add [1] (⟨1, ![n0]⟩ : Shape) v 0x00000000#32 h hφ hacc (ix1 t)
      = ∑ x : Fin n1, (v (ix2 t x) : EReal) := by
  pointwise

/-- A sum over `m * n` columns is the sum over `m` blocks of `n`. -/
theorem sum_blocks {m n N : ℕ} (hN : m * n = N) (f : Fin N → EReal) :
    ∑ j : Fin m, ∑ x : Fin n, f ⟨n * j.val + x.val, by
      have := Nat.mul_le_mul_left n (show j.val + 1 ≤ m from j.isLt); rw [← hN, Nat.mul_comm m]; rw [Nat.mul_add] at this; omega⟩ = ∑ k, f k := by
  subst hN
  rw [← Fintype.sum_prod_type']
  refine Fintype.sum_equiv finProdFinEquiv _ _ fun p => ?_
  congr 1
  apply Fin.ext
  show n * p.1.val + p.2.val = p.2.val + n * p.1.val
  omega

/-- A square is at least zero. -/
theorem sq_nonneg (x : EReal) : 0 ≤ x * x := by
  rcases le_total (0 : EReal) x with h | h
  · exact mul_nonneg h h
  · rw [← neg_mul_neg]
    have h' : (0 : EReal) ≤ -x := by simpa using EReal.neg_le_neg_iff.mpr h
    exact mul_nonneg h' h'

end Cert.Math

end
-- ==== Proof.DownRead.lean ====
/-
  What the down kernel's payloads are at an index, over any float instance.
-/
module

public import proofs.«01_k».proof.Proof.QuantMath
public import proofs.«01_k».proof.Proof.NormMath
public import proofs.«01_k».proof.Proof.DownVals
public import Idealize.ShloMosaic.Lib.Pointwise

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

variable {F : FTy → Type} [FloatOps F]

/-- A value per row, read along the row of a tile. -/
theorem col_apply {α : Type} (s : S384x1.Idx → α) (r : Fin 384) (n : Fin 512) :
    broadcastTo S384x512 s broadcasts_S384x1_S384x512 (ix2 r n) = s (ix2 r 0) := by
  pointwise

/-- A value per column, read down the column of a tile. -/
theorem row_apply {α : Type} (s : S1x512.Idx → α) (r : Fin 384) (n : Fin 512) :
    broadcastTo S384x512 s broadcasts_S1x512_S384x512 (ix2 r n) = s (ix2 0 n) := by
  pointwise

/-- A tile without its leading axis. -/
theorem squeeze_apply {α : Type} (v : S1x384x512.Idx → α) (r : Fin 384) (n : Fin 512) :
    shapeCast S384x512 v shapeCasts_S1x384x512_S384x512 (ix2 r n) = v (ix3 0 r n) := by
  pointwise

/-- The first lane of the broadcast row scales. -/
theorem col0_apply (sc : Vec F S384x128 .f32) (r : Fin 384) : col0 sc (ix2 r 0) = sc (ix2 r 0) := by
  unfold col0 VecWindow.window
  congr 1
  funext a
  apply Fin.ext
  fin_cases a
  · show 0 + 1 * r.val = r.val
    omega
  · rfl

/-- The row scales of block `b`, in every lane. -/
theorem sc_apply (A1 : Vec F S40x1x384 .f32) (b : ℕ) (hb : b < 40) (r : Fin 384) (l : Fin 128) :
    scV A1 b (ix2 r l) = A1 (ix3 ⟨b, hb⟩ 0 r) := by
  have e : bX1 A1 b (ix3 0 0 r) = A1 (ix3 ⟨b, hb⟩ 0 r) := by
    show A1 (ix3 ⟨b % 40, _⟩ 0 r) = _
    congr 2
    exact Fin.ext (Nat.mod_eq_of_lt hb)
  rw [← e]
  unfold scV k0_pay2
  generalize bX1 A1 b = v
  pointwise

/-- A product tile brought back to values. -/
theorem tile_apply (cbf : Vec F S384x9216 .bf16) (sc : Vec F S384x128 .f32) (w : Vec F S9216x512 .i8) (ws : Vec F S1x512 .f32) (r : Fin 384) (n : Fin 512) :
    fTile cbf sc w ws (ix3 0 r n) = dequant (matmul dot_S384x9216_S9216x512_S384x512_1_0_0_1_n_n none cbf (sitofp .bf16 w)
      (constant S384x512 .f32 0x00000000#32) (ix2 r n)) (sc (ix2 r 0)) (ws (ix2 0 n)) := by
  have e : ∀ v : FVec F S384x512 .f32, shapeCast S1x384x512 v shapeCasts_S384x512_S1x384x512 (ix3 0 r n) = v (ix2 r n) := fun v => by pointwise
  rw [← col0_apply sc r, ← col_apply (col0 sc) r n, ← row_apply ws r n]
  unfold fTile k0_pay3
  refine (e _).trans ?_
  rw [shapeCast_self]
  rfl

/-- A slice of the product scratch, read at an index. -/
theorem accSlice_apply (acc : Vec F S9x384x512 .f32) (k : Fin 9) (r : Fin 384) (n : Fin 512) :
    accSlice acc k (ix3 0 r n) = acc (ix3 k r n) := by
  unfold accSlice VecWindow.window
  congr 1
  funext a
  apply Fin.ext
  fin_cases a
  · show k.val + 1 * 0 = k.val
    omega
  · show 0 + 1 * r.val = r.val
    omega
  · show 0 + 1 * n.val = n.val
    omega

/-- Column `n` of block `k`. -/
def colOf (k : Fin 9) (n : Fin 512) : Fin 4608 := ⟨512 * k.val + n.val, by omega⟩

/-- A column block of the residual, read at an index. -/
theorem hCols_apply (h : Vec F S384x4608 .f32) (k : Fin 9) (r : Fin 384) (n : Fin 512) : hCols h k (ix2 r n) = h (ix2 r (colOf k n)) := by
  unfold hCols VecWindow.window
  congr 1
  funext a
  apply Fin.ext
  fin_cases a
  · show 0 + 1 * r.val = r.val
    omega
  · show 512 * k.val + 1 * n.val = 512 * k.val + n.val
    omega

/-- A column block of the gain, read at an index. -/
theorem gCols_apply (g : Vec F S1x4608 .f32) (k : Fin 9) (n : Fin 512) : gCols g k (ix2 0 n) = g (ix2 0 (colOf k n)) := by
  unfold gCols VecWindow.window
  congr 1
  funext a
  apply Fin.ext
  fin_cases a
  · rfl
  · show 512 * k.val + 1 * n.val = 512 * k.val + n.val
    omega

/-- The sums of squares of a tile's rows. -/
def tileSq (v : Vec F S1x384x512 .f32) : FVec F S384 .f32 :=
  multiReduction .add [1] S384 (mulf (shapeCast S384x512 v shapeCasts_S1x384x512_S384x512) (shapeCast S384x512 v shapeCasts_S1x384x512_S384x512))
    0x00000000#32 reduces_S384x512_S384 (.inl rfl) rfl

/-- The same as a column. -/
def tileSqCol (v : Vec F S1x384x512 .f32) : FVec F S384x1 .f32 := shapeCast S384x1 (tileSq v) shapeCasts_S384_S384x1

/-- The column at a row. -/
theorem tileSqCol_apply (v : Vec F S1x384x512 .f32) (r : Fin 384) : tileSqCol v (ix2 r 0) = tileSq v (ix1 r) := by
  unfold tileSqCol
  generalize tileSq v = s
  pointwise

/-- The running sum over the first `k` slices, from zero. -/
def sumSq (acc : Vec F S9x384x512 .f32) (r : Fin 384) : ℕ → F .f32
  | 0 => FloatOps.ofBits .f32 0x00000000#32
  | k + 1 => FloatOps.addf (sumSq acc r k) (tileSq (accSlice acc ⟨k % 9, Nat.mod_lt _ (by decide)⟩) (ix1 r))

/-- The inverse root mean square of row `r`. -/
theorem invOf_apply (acc : Vec F S9x384x512 .f32) (r : Fin 384) :
    invOf acc (ix2 r 0) = FloatOps.divf (FloatOps.ofBits .f32 0x3F800000#32) (rms (sumSq acc r 9)) := by
  simp only [sumSq, ← tileSqCol_apply]
  rfl

/-- An element of a block of the result. -/
theorem outBlk_apply (h : Vec F S384x4608 .f32) (g : Vec F S1x4608 .f32) (acc : Vec F S9x384x512 .f32) (k : Fin 9) (r : Fin 384) (n : Fin 512) :
    outBlk h g acc k (ix2 r n) = normMul (h (ix2 r (colOf k n))) (acc (ix3 k r n)) (sumSq acc r 9) (g (ix2 0 (colOf k n))) := by
  have e1 := (col_apply (invOf acc) r n).trans (invOf_apply acc r)
  have e2 := (squeeze_apply (accSlice acc k) r n).trans (accSlice_apply acc k r n)
  have e3 : broadcastTo S384x512 (addf (broadcast S1x512 (Scalar.ofBits .f32 0x3F800000#32)) (gCols g k)) broadcasts_S1x512_S384x512 (ix2 r n)
      = FloatOps.addf (FloatOps.ofBits .f32 0x3F800000#32) (g (ix2 0 (colOf k n))) :=
    (row_apply _ r n).trans (congrArg (FloatOps.addf (FloatOps.ofBits .f32 0x3F800000#32)) (gCols_apply g k n))
  unfold outBlk k0_pay4
  rw [shapeCast_self]
  rw [← hCols_apply h k r n]
  unfold normMul
  rw [← e1, ← e2, ← e3]
  rfl

/-- The product scratch at slice `j`, row `r`, column `n`. -/
theorem acc_apply (A0 : Vec F S15360x9216 .i8) (A1 : Vec F S40x1x384 .f32) (A2 : Vec F S9216x4608 .i8) (A3 : Vec F S1x4608 .f32)
    (b : ℕ) (j : Fin 9) (r : Fin 384) (n : Fin 512) :
    accV A0 A1 A2 A3 b (ix3 j r n) = fTile (cbfV A0 b) (scV A1 b) (bW A2 j.val) (bS A3 j.val) (ix3 0 r n) := rfl

/-- An element of the whole row block of the result. -/
theorem outAll_apply (h : Vec F S384x4608 .f32) (g : Vec F S1x4608 .f32) (acc : Vec F S9x384x512 .f32) (r : Fin 384) (k : Fin 9) (n : Fin 512) :
    outAll h g acc (ix2 r (colOf k n)) = outBlk h g acc k (ix2 r n) := by
  have hn := n.isLt
  have ek : (⟨(colOf k n).val / 512, by have := (colOf k n).isLt; omega⟩ : Fin 9) = k := Fin.ext (by show (512 * k.val + n.val) / 512 = k.val; omega)
  have en : (⟨(colOf k n).val % 512, Nat.mod_lt _ (by decide)⟩ : Fin 512) = n := Fin.ext (by show (512 * k.val + n.val) % 512 = n.val; omega)
  show outBlk h g acc (⟨(colOf k n).val / 512, _⟩ : Fin 9) (ix2 r (⟨(colOf k n).val % 512, _⟩ : Fin 512)) = _
  rw [ek, en]

end Cert.DownIdeal.Gen

end
-- ==== Proof.DownRefRead.lean ====
/-
  What the reference's payload is at an index, over any float instance.
-/
module

public import proofs.«01_k».proof.Proof.QuantMath
public import proofs.«01_k».proof.Proof.NormMath
public import proofs.«01_k».proof.Proof.Gen.DownRefIdeal.Frame
public import Idealize.ShloMosaic.Lib.Pointwise

@[expose] public section

set_option maxRecDepth 16384

noncomputable section

namespace Cert.DownRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math

variable {F : FTy → Type} [FloatOps F]

/-- A value per row, read along the row. -/
theorem col_apply {α : Type} (s : S15360x1.Idx → α) (t : Fin 15360) (n : Fin 4608) :
    broadcastTo S15360x4608 s broadcasts_S15360x1_S15360x4608 (ix2 t n) = s (ix2 t 0) := by
  pointwise

/-- A vector with a value per row, as a column. -/
theorem cast_apply {α : Type} (s : S15360.Idx → α) (t : Fin 15360) :
    shapeCast S15360x1 s shapeCasts_S15360_S15360x1 (ix2 t 0) = s (ix1 t) := by
  pointwise

/-- A value per column, read down the column. -/
theorem row_apply {α : Type} (s : S4608.Idx → α) (t : Fin 15360) (n : Fin 4608) :
    broadcastTo S15360x4608 (shapeCast S1x4608 s shapeCasts_S4608_S1x4608) broadcasts_S1x4608_S15360x4608 (ix2 t n) = s (ix1 n) := by
  pointwise

/-- The product brought back to values. -/
def prod (v0 : Vec F S15360x9216 .i8) (v1 : Vec F S15360 .f32) (v2 : Vec F S9216x4608 .i8) (v3 : Vec F S4608 .f32) : FVec F S15360x4608 .f32 :=
  mulf (matmul dot_S15360x9216_S9216x4608_S15360x4608_1_0_0_1_n_n none (sitofp .bf16 v0) (sitofp .bf16 v2) (constant S15360x4608 .f32 0x00000000#32))
    (mulf (broadcastTo S15360x4608 (shapeCast S15360x1 v1 shapeCasts_S15360_S15360x1) broadcasts_S15360x1_S15360x4608)
      (broadcastTo S15360x4608 (shapeCast S1x4608 v3 shapeCasts_S4608_S1x4608) broadcasts_S1x4608_S15360x4608))

/-- It at row `t` and column `n`. -/
theorem prod_apply (v0 : Vec F S15360x9216 .i8) (v1 : Vec F S15360 .f32) (v2 : Vec F S9216x4608 .i8) (v3 : Vec F S4608 .f32) (t : Fin 15360) (n : Fin 4608) :
    prod v0 v1 v2 v3 (ix2 t n) = dequant (matmul dot_S15360x9216_S9216x4608_S15360x4608_1_0_0_1_n_n none (sitofp .bf16 v0) (sitofp .bf16 v2)
      (constant S15360x4608 .f32 0x00000000#32) (ix2 t n)) (v1 (ix1 t)) (v3 (ix1 n)) := by
  rw [← cast_apply v1 t, ← col_apply (shapeCast S15360x1 v1 shapeCasts_S15360_S15360x1) t n, ← row_apply v3 t n]
  rfl

/-- The root mean squares of the rows, as a column. -/
def rmsCol (f : FVec F S15360x4608 .f32) : FVec F S15360x1 .f32 :=
  sqrt (addf (divf (shapeCast S15360x1 (multiReduction .add [1] S15360 (mulf f f) 0x00000000#32 reduces_S15360x4608_S15360 (.inl rfl) rfl)
    shapeCasts_S15360_S15360x1) (broadcast S15360x1 (Scalar.ofBits .f32 0x45900000#32))) (broadcast S15360x1 (Scalar.ofBits .f32 0x358637BD#32)))

/-- The root mean square of row `t`. -/
theorem rmsCol_apply (f : FVec F S15360x4608 .f32) (t : Fin 15360) :
    rmsCol f (ix2 t 0) = rms (multiReduction .add [1] S15360 (mulf f f) 0x00000000#32 reduces_S15360x4608_S15360 (.inl rfl) rfl (ix1 t)) := by
  rw [← cast_apply (multiReduction .add [1] S15360 (mulf f f) 0x00000000#32 reduces_S15360x4608_S15360 (.inl rfl) rfl) t]
  rfl

/-- The reference's result at row `t` and column `n`. -/
theorem out_apply (v0 : Vec F S15360x9216 .i8) (v1 : Vec F S15360 .f32) (v2 : Vec F S9216x4608 .i8) (v3 : Vec F S4608 .f32)
    (v13 : Vec F S15360x4608 .f32) (v14 : Vec F S4608 .f32) (t : Fin 15360) (n : Fin 4608) :
    k0_pay1 v0 v1 v2 v3 v13 v14 (ix2 t n)
      = normDiv (v13 (ix2 t n)) (prod v0 v1 v2 v3 (ix2 t n))
          (multiReduction .add [1] S15360 (mulf (prod v0 v1 v2 v3) (prod v0 v1 v2 v3)) 0x00000000#32 reduces_S15360x4608_S15360 (.inl rfl) rfl (ix1 t))
          (v14 (ix1 n)) := by
  have e1 := rmsCol_apply (prod v0 v1 v2 v3) t
  have e2 := col_apply (rmsCol (prod v0 v1 v2 v3)) t n
  have e3 := row_apply (addf (broadcast S4608 (Scalar.ofBits .f32 0x3F800000#32)) v14) t n
  refine (congrArg₂ (fun a b => FloatOps.truncf .bf16 bitsLt_bf16_f32 (FloatOps.addf (v13 (ix2 t n)) (FloatOps.mulf (FloatOps.divf (prod v0 v1 v2 v3 (ix2 t n)) a) b)))
    (e2.trans e1) e3 : _)

end Cert.DownRefIdeal.Gen

end
-- ==== Proof.DownMath.lean ====
/-
  The down call and its reference are one function over the extended reals: the products, the sums of squares and the
  normalised residual sum agree index by index.
-/
module

public import proofs.«01_k».proof.Proof.DownRead
public import proofs.«01_k».proof.Proof.DownRefRead
public import proofs.«01_k».proof.Proof.DownRefResult
public import Idealize.ShloMosaic.Lib.Pointwise

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

/-! ## The products -/

/-- The product of the codes at row `t` with the weight's codes at column `n`. -/
def dotAt (X : Vec Ideal S15360x9216 .i8) (W : Vec Ideal S9216x4608 .i8) (t : Fin 15360) (n : Fin 4608) : EReal :=
  ∑ k : Fin 9216, (FloatOps.sitofp (F := Ideal) .bf16 (X (ix2 t k)) : EReal) * FloatOps.sitofp (F := Ideal) .bf16 (W (ix2 k n))

/-- The reference's product. -/
theorem ref_dot (X : Vec Ideal S15360x9216 .i8) (W : Vec Ideal S9216x4608 .i8) (t : Fin 15360) (n : Fin 4608) :
    matmul Cert.DownRefIdeal.dot_S15360x9216_S9216x4608_S15360x4608_1_0_0_1_n_n none (sitofp (F := Ideal) .bf16 X) (sitofp (F := Ideal) .bf16 W)
      (constant S15360x4608 .f32 0x00000000#32) (ix2 t n) = dotAt X W t n := by
  unfold dotAt
  pointwise

/-- The kernel's product of a block, as a sum. -/
theorem block_dot (x : FVec Ideal S384x9216 .bf16) (w : Vec Ideal S9216x512 .i8) (r : Fin 384) (n : Fin 512) :
    matmul dot_S384x9216_S9216x512_S384x512_1_0_0_1_n_n none x (sitofp (F := Ideal) .bf16 w) (constant S384x512 .f32 0x00000000#32) (ix2 r n)
      = ∑ k : Fin 9216, (x (ix2 r k) : EReal) * FloatOps.sitofp (F := Ideal) .bf16 (w (ix2 k n)) := by
  pointwise

/-- Row `r` of block `b`. -/
def rowOf (b : Fin 40) (r : Fin 384) : Fin 15360 := ⟨b.val * 384 + r.val, by omega⟩

/-- A row of a block, as the windows compute it, is that row. -/
theorem rowOf_eq (b : Fin 40) (r : Fin 384) : (⟨(384 * b.val + r.val) % 15360, Nat.mod_lt _ (by decide)⟩ : Fin 15360) = rowOf b r :=
  Fin.ext (by show (384 * b.val + r.val) % 15360 = b.val * 384 + r.val; omega)

/-- A column of a tile, as the windows compute it, is that column. -/
theorem colOf_eq (j : Fin 9) (n : Fin 512) : (⟨(512 * j.val + n.val) % 4608, Nat.mod_lt _ (by decide)⟩ : Fin 4608) = colOf j n :=
  Fin.ext (by show (512 * j.val + n.val) % 4608 = 512 * j.val + n.val; omega)

/-- An element of a block of the codes. -/
theorem bX0_apply (A : Vec Ideal S15360x9216 .i8) (b : Fin 40) (r : Fin 384) (k : Fin 9216) : bX0 A b.val (ix2 r k) = A (ix2 (rowOf b r) k) := by
  rw [← rowOf_eq]; rfl

/-- An element of a block of the residual. -/
theorem bH_apply (A : Vec Ideal S15360x4608 .f32) (b : Fin 40) (r : Fin 384) (k : Fin 4608) : bH A b.val (ix2 r k) = A (ix2 (rowOf b r) k) := by
  rw [← rowOf_eq]; rfl

/-- An element of a tile of the weight. -/
theorem bW_apply (A : Vec Ideal S9216x4608 .i8) (j : Fin 9) (k : Fin 9216) (n : Fin 512) : bW A j.val (ix2 k n) = A (ix2 k (colOf j n)) := by
  rw [← colOf_eq]; rfl

/-- An element of a tile of the weight's scales. -/
theorem bS_apply (A : Vec Ideal S1x4608 .f32) (j : Fin 9) (n : Fin 512) : bS A j.val (ix2 0 n) = A (ix2 0 (colOf j n)) := by
  rw [← colOf_eq]; rfl

/-- The kernel's product of a block is the product at the block's rows and columns. -/
theorem ker_dot (X : Vec Ideal S15360x9216 .i8) (W : Vec Ideal S9216x4608 .i8) (b : Fin 40) (j : Fin 9) (r : Fin 384) (n : Fin 512) :
    matmul dot_S384x9216_S9216x512_S384x512_1_0_0_1_n_n none (cbfV X b.val) (sitofp (F := Ideal) .bf16 (bW W j.val))
      (constant S384x512 .f32 0x00000000#32) (ix2 r n) = dotAt X W (rowOf b r) (colOf j n) := by
  rw [block_dot]
  refine Finset.sum_congr rfl fun k _ => ?_
  rw [bW_apply, ← bX0_apply X b r k]
  unfold cbfV k0_pay1
  rw [shapeCast_self]
  rfl

/-! ## The normalised residual sum -/

section Values
variable (X : Vec Ideal S15360x9216 .i8) (xs : Vec Ideal S15360 .f32) (W : Vec Ideal S9216x4608 .i8) (ws : Vec Ideal S4608 .f32)
  (H : Vec Ideal S15360x4608 .f32) (g : Vec Ideal S4608 .f32)

/-- The product brought back to values, at row `t` and column `n`. -/
def valAt (t : Fin 15360) (n : Fin 4608) : Ideal .f32 := dequant (F := Ideal) (dotAt X W t n) (xs (ix1 t)) (ws (ix1 n))

/-- The reference's values. -/
theorem ref_val (t : Fin 15360) (n : Fin 4608) : Cert.DownRefIdeal.Gen.prod (F := Ideal) X xs W ws (ix2 t n) = valAt X xs W ws t n := by
  rw [Cert.DownRefIdeal.Gen.prod_apply, ref_dot]
  rfl

/-- The row scales as the kernel reads them, by blocks of rows. -/
abbrev xsB : Vec Ideal S40x1x384 .f32 := shapeCast S40x1x384 xs shapeCasts_S15360_S40x1x384

/-- A row of 4608 values as the kernel reads it. -/
abbrev rowB (s : Vec Ideal S4608 .f32) : Vec Ideal S1x4608 .f32 := shapeCast S1x4608 s shapeCasts_S4608_S1x4608

/-- The row scale at row `r` of block `b`. -/
theorem xsB_apply (b : Fin 40) (r : Fin 384) : xsB xs (ix3 b 0 r) = xs (ix1 (rowOf b r)) := by
  unfold xsB rowOf
  pointwise

/-- A row's value at column `n`. -/
theorem rowB_apply (s : Vec Ideal S4608 .f32) (n : Fin 4608) : rowB s (ix2 0 n) = s (ix1 n) := by
  unfold rowB
  pointwise

/-- The kernel's product scratch after a row block. -/
def accB (b : ℕ) : Vec Ideal S9x384x512 .f32 := accV X (xsB xs) W (rowB ws) b

/-- It holds the values at the block's rows and the slice's columns. -/
theorem ker_val (b : Fin 40) (j : Fin 9) (r : Fin 384) (n : Fin 512) :
    accB X xs W ws b.val (ix3 j r n) = valAt X xs W ws (rowOf b r) (colOf j n) := by
  unfold accB
  rw [acc_apply, tile_apply, ker_dot, sc_apply _ b.val b.isLt, bS_apply, xsB_apply, rowB_apply]
  rfl

/-- The sum of squares of row `t`. -/
def sqAt (t : Fin 15360) : EReal := ∑ n : Fin 4608, (valAt X xs W ws t n : EReal) * valAt X xs W ws t n

/-- It is at least zero. -/
theorem sqAt_nonneg (t : Fin 15360) : 0 ≤ sqAt X xs W ws t := Finset.sum_nonneg fun n _ => sq_nonneg _

/-- The reference's sum of squares. -/
theorem ref_sq (t : Fin 15360) :
    multiReduction (F := Ideal) .add [1] Cert.DownRefIdeal.S15360 (mulf (Cert.DownRefIdeal.Gen.prod (F := Ideal) X xs W ws) (Cert.DownRefIdeal.Gen.prod (F := Ideal) X xs W ws))
      0x00000000#32 Cert.DownRefIdeal.Gen.reduces_S15360x4608_S15360 (.inl rfl) rfl (ix1 t) = sqAt X xs W ws t := by
  refine (rowSum_apply (mulf (Cert.DownRefIdeal.Gen.prod (F := Ideal) X xs W ws) (Cert.DownRefIdeal.Gen.prod (F := Ideal) X xs W ws)) _ _ _ t).trans ?_
  refine Finset.sum_congr rfl fun n _ => ?_
  exact congrArg₂ (fun a b : EReal => a * b) (ref_val X xs W ws t n) (ref_val X xs W ws t n)

/-- The sum of squares of a tile's row. -/
theorem tile_sq (b : Fin 40) (j : Fin 9) (r : Fin 384) :
    (tileSq (F := Ideal) (accSlice (accB X xs W ws b.val) j) (ix1 r) : EReal)
      = ∑ n : Fin 512, (valAt X xs W ws (rowOf b r) (colOf j n) : EReal) * valAt X xs W ws (rowOf b r) (colOf j n) := by
  unfold tileSq
  refine (rowSum_apply (mulf (shapeCast S384x512 (accSlice (accB X xs W ws b.val) j) shapeCasts_S1x384x512_S384x512)
    (shapeCast S384x512 (accSlice (accB X xs W ws b.val) j) shapeCasts_S1x384x512_S384x512)) _ _ _ r).trans ?_
  refine Finset.sum_congr rfl fun n _ => ?_
  have e : shapeCast S384x512 (accSlice (accB X xs W ws b.val) j) shapeCasts_S1x384x512_S384x512 (ix2 r n) = valAt X xs W ws (rowOf b r) (colOf j n) := by
    rw [squeeze_apply, accSlice_apply, ker_val]
  exact congrArg₂ (fun a b : EReal => a * b) e e

/-- The kernel's running sum over the first `k` tiles. -/
theorem sumSq_eq (acc : Vec Ideal S9x384x512 .f32) (r : Fin 384) (k : ℕ) :
    (sumSq (F := Ideal) acc r k : EReal) = ∑ i ∈ Finset.range k, (tileSq (F := Ideal) (accSlice acc ⟨i % 9, Nat.mod_lt _ (by decide)⟩) (ix1 r) : EReal) := by
  induction k with
  | zero => exact Ideal.ofBits_zero_f32
  | succ k ih =>
    rw [Finset.sum_range_succ, ← ih]
    rfl

/-- The kernel's sum of squares, tile by tile, is the row's. -/
theorem ker_sq (b : Fin 40) (r : Fin 384) : (sumSq (F := Ideal) (accB X xs W ws b.val) r 9 : EReal) = sqAt X xs W ws (rowOf b r) := by
  rw [sumSq_eq, Finset.sum_range]
  unfold sqAt
  refine Eq.trans ?_ (sum_blocks (m := 9) (n := 512) (N := 4608) (by norm_num)
    (fun n : Fin 4608 => (valAt X xs W ws (rowOf b r) n : EReal) * valAt X xs W ws (rowOf b r) n))
  refine Finset.sum_congr rfl fun j _ => ?_
  rw [show (⟨j.val % 9, Nat.mod_lt _ (by decide)⟩ : Fin 9) = j from Fin.ext (Nat.mod_eq_of_lt j.isLt), tile_sq]
  rfl

/-- The kernel's result is the reference's. -/
theorem G0_eq : G0 X (xsB xs) W (rowB ws) H (rowB g) = Cert.DownRefIdeal.Gen.R0 (F := Ideal) X xs W ws H g := by
  funext y
  obtain ⟨t, n, rfl⟩ : ∃ (t : Fin 15360) (n : Fin 4608), y = ix2 t n := ⟨y 0, y 1, (ix2_eta y).symm⟩
  have ht := t.isLt
  have hn := n.isLt
  have et : rowOf ⟨t.val / 384, by omega⟩ ⟨t.val % 384, Nat.mod_lt _ (by decide)⟩ = t :=
    Fin.ext (by show t.val / 384 * 384 + t.val % 384 = t.val; omega)
  have en : colOf ⟨n.val / 512, by omega⟩ ⟨n.val % 512, Nat.mod_lt _ (by decide)⟩ = n :=
    Fin.ext (by show 512 * (n.val / 512) + n.val % 512 = n.val; omega)
  unfold Cert.DownRefIdeal.Gen.R0
  rw [Cert.DownRefIdeal.Gen.out_apply, ref_val, ref_sq]
  show outAll (bH H (t.val / 384)) (rowB g) (accB X xs W ws (t.val / 384)) (ix2 (⟨t.val % 384, Nat.mod_lt _ (by decide)⟩ : Fin 384) n) = _
  have key : outAll (bH H (t.val / 384)) (rowB g) (accB X xs W ws (t.val / 384)) (ix2 (⟨t.val % 384, Nat.mod_lt _ (by decide)⟩ : Fin 384)
      (colOf ⟨n.val / 512, by omega⟩ ⟨n.val % 512, Nat.mod_lt _ (by decide)⟩)) = _ := outAll_apply _ _ _ _ _ _
  have hb := bH_apply H ⟨t.val / 384, by omega⟩ ⟨t.val % 384, Nat.mod_lt _ (by decide)⟩ n
  have hv := ker_val X xs W ws ⟨t.val / 384, by omega⟩ ⟨n.val / 512, by omega⟩ ⟨t.val % 384, Nat.mod_lt _ (by decide)⟩ ⟨n.val % 512, Nat.mod_lt _ (by decide)⟩
  have hs := ker_sq X xs W ws ⟨t.val / 384, by omega⟩ ⟨t.val % 384, Nat.mod_lt _ (by decide)⟩
  rw [outBlk_apply] at key
  rw [en] at key hv
  rw [et] at hb hv hs
  refine key.trans ?_
  rw [rowB_apply]
  refine (normMul_eq _ _ _ _ (by rw [hs]; exact sqAt_nonneg X xs W ws t)).trans ?_
  rw [hb, hv, hs]

end Values

end Cert.DownIdeal.Gen

end
-- ==== Proof.DownClaim.lean ====
/-
  The algebraic claim of the down call.
-/
module

public import proofs.«01_k».proof.Defs
public import proofs.«01_k».proof.Proof.DownResult
public import proofs.«01_k».proof.Proof.DownRefResult
public import proofs.«01_k».proof.Proof.DownMath

@[expose] public section

noncomputable section

namespace Cert.DownIdeal

open Idealize.ShloMosaic Idealize.SL.Sem

/-- From any memories that agree on the arguments, the kernel and its reference run, leave their arguments unchanged, and
    end with equal results. -/
theorem algebraic : Cert.algebraic_DownIdeal_DownRefIdeal (hDownIdeal := Cert.DownIdeal.Gen.facts) (hDownRefIdeal := Cert.DownRefIdeal.Gen.facts) := by
  intro m g m' g' _ hargs
  refine ⟨fun c => Cert.DownRefIdeal.Gen.R0 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)), ?_, ?_⟩
  · refine (θ_run (Cert.DownIdeal.defs (F := Ideal)) _ _).mono (fun r h c => ?_) (θ_run_and (Cert.DownIdeal.Gen.run_values (F := Ideal) m g) (Cert.DownIdeal.Gen.unchanged (F := Ideal) m g))
    refine ⟨(h.1 c).trans ?_, h.2 c⟩
    rw [Cert.DownIdeal.Gen.V_main_arg0, Cert.DownIdeal.Gen.V_main_v0, Cert.DownIdeal.Gen.V_main_arg2, Cert.DownIdeal.Gen.V_main_v1, Cert.DownIdeal.Gen.V_main_arg4, Cert.DownIdeal.Gen.V_main_v2]
    exact Cert.DownIdeal.Gen.G0_eq _ _ _ _ _ _
  · refine (θ_run (Cert.DownRefIdeal.defs (F := Ideal)) _ _).mono (fun r h c => ?_) (θ_run_and (Cert.DownRefIdeal.Gen.run_values (F := Ideal) m' g') (Cert.DownRefIdeal.Gen.unchanged (F := Ideal) m' g'))
    refine ⟨(h.1 c).trans ?_, h.2 c⟩
    obtain ⟨h0, h1, h2, h3, h4, h5⟩ := hargs c
    rw [h0, h1, h2, h3, h4, h5]

end Cert.DownIdeal

end
-- ==== Proof.GateUpRuns.lean ====
/-
  What the runs of the gate/up kernel share: its branch conditions in closed form, its memrefs, and names for what one grid point computes.
-/
module

public import proofs.«01_k».proof.Proof.Gen.GateUpIdeal.Frame
public import proofs.«01_k».proof.Proof.Gen.GateUpIdeal.Skeleton
public import Idealize.ShloMosaic.Lib.Pipeline.FrameBody
public import Idealize.ShloMosaic.Lib.Pipeline.DatRel
public import Idealize.ShloMosaic.Lib.Pipeline.Value
public import Idealize.ShloMosaic.Lib.VecWindow
public import Idealize.ShloMosaic.Lib.ValueIdx
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 360 := Nat.lt_of_lt_of_eq t.isLt N_0
    have e0 : (grid0.coords t 0).val = t.val / 12 % 30 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points ≡ 11 (mod 12) — by arithmetic of the point. -/
theorem hcond0_1 : ∀ t : Fin cfg0.N, cond0_1 (grid0.coords t) ↔ t.val % 12 = 11 :=
  (fun t => by
    have ht : t.val < 360 := Nat.lt_of_lt_of_eq t.isLt N_0
    have e0 : (grid0.coords t 0).val = t.val / 12 % 30 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 11)

/-! ## The memrefs -/
/-- Each window's current staging memref at point `t`, spelled as the pipeline passes it (`bodyAt0`), and its wholeness. -/
abbrev ms0_0 (t : Fin cfg0.N) : Memref sig .tc .vmem S512x4608 .i8 := win0_0.stage (cfg0.slots t 0)
/-- The current buffer of window 0 is a whole buffer. -/
abbrev hs0_0 (t : Fin cfg0.N) : (ms0_0 t).IsWhole := hstage0_0 ((cfg0.slots t 0).cast nbuf0_0)
/-- The current buffer of window 1. -/
abbrev ms0_1 (t : Fin cfg0.N) : Memref sig .tc .vmem S1x1x512 .f32 := win0_1.stage (cfg0.slots t 1)
/-- The current buffer of window 1 is a whole buffer. -/
abbrev hs0_1 (t : Fin cfg0.N) : (ms0_1 t).IsWhole := hstage0_1 ((cfg0.slots t 1).cast nbuf0_1)
/-- The current buffer of window 2. -/
abbrev ms0_2 (t : Fin cfg0.N) : Memref sig .tc .vmem S4608x768 .i8 := win0_2.stage (cfg0.slots t 2)
/-- The current buffer of window 2 is a whole buffer. -/
abbrev hs0_2 (t : Fin cfg0.N) : (ms0_2 t).IsWhole := hstage0_2 ((cfg0.slots t 2).cast nbuf0_2)
/-- The current buffer of window 3. -/
abbrev ms0_3 (t : Fin cfg0.N) : Memref sig .tc .vmem S4608x768 .i8 := win0_3.stage (cfg0.slots t 3)
/-- The current buffer of window 3 is a whole buffer. -/
abbrev hs0_3 (t : Fin cfg0.N) : (ms0_3 t).IsWhole := hstage0_3 ((cfg0.slots t 3).cast nbuf0_3)
/-- The current buffer of window 4. -/
abbrev ms0_4 (t : Fin cfg0.N) : Memref sig .tc .vmem S1x768 .f32 := win0_4.stage (cfg0.slots t 4)
/-- The current buffer of window 4 is a whole buffer. -/
abbrev hs0_4 (t : Fin cfg0.N) : (ms0_4 t).IsWhole := hstage0_4 ((cfg0.slots t 4).cast nbuf0_4)
/-- The current buffer of window 5. -/
abbrev ms0_5 (t : Fin cfg0.N) : Memref sig .tc .vmem S1x768 .f32 := win0_5.stage (cfg0.slots t 5)
/-- The current buffer of window 5 is a whole buffer. -/
abbrev hs0_5 (t : Fin cfg0.N) : (ms0_5 t).IsWhole := hstage0_5 ((cfg0.slots t 5).cast nbuf0_5)
/-- The current buffer of window 6. -/
abbrev ms0_6 (t : Fin cfg0.N) : Memref sig .tc .vmem S512x9216 .i8 := win0_6.stage (cfg0.slots t 6)
/-- The current buffer of window 6 is a whole buffer. -/
abbrev hs0_6 (t : Fin cfg0.N) : (ms0_6 t).IsWhole := hstage0_6 ((cfg0.slots t 6).cast nbuf0_6)
/-- The current buffer of window 7. -/
abbrev ms0_7 (t : Fin cfg0.N) : Memref sig .tc .vmem S1x1x512 .f32 := win0_7.stage (cfg0.slots t 7)
/-- The current buffer of window 7 is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x4608 .bf16 := Memref.whole cc0_scratch0
/-- Scratch buffer 1, whole. -/
abbrev scM0_1 : Memref sig .tc .vmem S512x128 .f32 := Memref.whole cc0_scratch1
/-- Scratch buffer 2, whole. -/
abbrev scM0_2 : Memref sig .tc .vmem S512x128 .f32 := Memref.whole cc0_scratch2
/-- Scratch buffer 3, whole. -/
abbrev scM0_3 : Memref sig .tc .vmem S12x512x768 .f32 := Memref.whole cc0_scratch3
/-- The scratch `arg10` the kernel carries between points, as a view: what it holds is stated through it. -/
abbrev VS0_0 : View sig .tc .vmem S512x4608 .bf16 := scM0_0.view
/-- The scratch `arg11` the kernel carries between points, as a view: what it holds is stated through it. -/
abbrev VS0_1 : View sig .tc .vmem S512x128 .f32 := scM0_1.view
/-- The scratch `arg12` the kernel carries between points, as a view: what it holds is stated through it. -/
abbrev VS0_2 : View sig .tc .vmem S512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What one grid point computes -/

/-- The row scales: column 0 of the broadcast scratch. -/
def col0 (sc : Vec F S512x128 .f32) : Vec F S512x1 .f32 := VecWindow.window sc ![0, 0] S512x1.size inb_S512x128_S512x1_0_0

section Tile
variable (cbf : Vec F S512x4608 .bf16) (sc : Vec F S512x128 .f32) (wg wu : Vec F S4608x768 .i8) (sg su : Vec F S1x768 .f32)

/-- The activation tile of one point: `gelu(gate) * up` of the dequantised products. -/
def aTile : FVec F S512x768 .f32 :=
  k0_pay1 (k0_pay25 (col0 sc) cbf wg sg) (k0_pay26 (col0 sc) cbf wu su) (k0_pay27 (col0 sc) cbf wg sg) k0_pay28

/-- The same tile under a leading axis of length one, as it is stored. -/
def aTile3 : FVec F S1x512x768 .f32 :=
  k0_pay2 (k0_pay25 (col0 sc) cbf wg sg) (k0_pay26 (col0 sc) cbf wu su) (k0_pay27 (col0 sc) cbf wg sg) k0_pay28

/-- The running maximum of absolute values after one point, lane by lane. -/
def aMax (am : Vec F S512x128 .f32) : FVec F S512x128 .f32 :=
  k0_pay3 (k0_pay25 (col0 sc) cbf wg sg) (k0_pay26 (col0 sc) cbf wu su) (k0_pay27 (col0 sc) cbf wg sg) k0_pay28 am

end Tile

/-- The activation scratch after a point stores its slice. -/
def actPut (i : grid0.Coords) (act : Vec F S12x512x768 .f32) (a : FVec F S1x512x768 .f32) : Vec F S12x512x768 .f32 :=
  VecWindow.put act (k0_off1 i) S1x512x768.size a

/-- Slice `k` of the activation scratch lies inside it. -/
theorem slice_inb (k : Fin 12) (a : Fin 3) : (![k.val, 0, 0] : Fin 3 → ℕ) a + S1x512x768.size a ≤ S12x512x768.size a := by
  have := k.isLt
  fin_cases a <;> simp [S12x512x768, S1x512x768] <;> omega

/-- Slice `k` of the activation scratch. -/
def actSlice (act : Vec F S12x512x768 .f32) (k : Fin 12) : Vec F S1x512x768 .f32 :=
  VecWindow.window act ![k.val, 0, 0] S1x512x768.size (slice_inb k)

/-- The codes of a whole row block, from the maxima and the activation scratch. -/
def codesOut (am : Vec F S512x128 .f32) (act : Vec F S12x512x768 .f32) : Vec F S512x9216 .i8 := fun y =>
  k0_pay12 (k0_pay7 am) (actSlice act ⟨(y 1).val / 768, by have := (y 1).isLt; simp [S512x9216] at this; omega⟩)
    (ix2 (y 0) ⟨(y 1).val % 768, Nat.mod_lt _ (by decide)⟩)

/-! ## What whole loads read -/

section Loads
variable {sp : Space}

/-- A load of the whole of a view of this shape reads what the view holds. -/
theorem ld_512x4608 {e : EltTy} (v : View sig .tc sp S512x4608 e) (f : v.ty.Contents (Elt F)) (inb) :
    v.readAt (Elt F) (Rect.unit (s := S512x4608) ![0, 0] ![512, 4608] inb).toLoadRect f = v.read (Elt F) f := View.readAt_full v f inb

/-- A load of the whole of a view of this shape reads what the view holds. -/
theorem ld_1x1x512 {e : EltTy} (v : View sig .tc sp S1x1x512 e) (f : v.ty.Contents (Elt F)) (inb) :
    v.readAt (Elt F) (Rect.unit (s := S1x1x512) ![0, 0, 0] ![1, 1, 512] inb).toLoadRect f = v.read (Elt F) f := View.readAt_full v f inb

/-- A load of the whole of a view of this shape reads what the view holds. -/
theorem ld_4608x768 {e : EltTy} (v : View sig .tc sp S4608x768 e) (f : v.ty.Contents (Elt F)) (inb) :
    v.readAt (Elt F) (Rect.unit (s := S4608x768) ![0, 0] ![4608, 768] inb).toLoadRect f = v.read (Elt F) f := View.readAt_full v f inb

/-- A load of the whole of a view of this shape reads what the view holds. -/
theorem ld_1x768 {e : EltTy} (v : View sig .tc sp S1x768 e) (f : v.ty.Contents (Elt F)) (inb) :
    v.readAt (Elt F) (Rect.unit (s := S1x768) ![0, 0] ![1, 768] inb).toLoadRect f = v.read (Elt F) f := View.readAt_full v f inb

/-- A load of the whole of a view of this shape reads what the view holds. -/
theorem ld_512x128 {e : EltTy} (v : View sig .tc sp S512x128 e) (f : v.ty.Contents (Elt F)) (inb) :
    v.readAt (Elt F) (Rect.unit (s := S512x128) ![0, 0] ![512, 128] inb).toLoadRect f = v.read (Elt F) f := View.readAt_full v f inb

/-- A load of the whole of a view of this shape, after a store of the whole, reads the stored value. -/
theorem ldst_512x4608 {e : EltTy} (v : View sig .tc sp S512x4608 e) (inb inb') (w : S512x4608.Idx → Elt F e) (L : List (View.Piece (Elt F) S512x4608 e)) :
    v.readCov (⟨Rect.unit (s := S512x4608) ![0, 0] ![512, 4608] inb', w⟩ :: L) (Rect.unit (s := S512x4608) ![0, 0] ![512, 4608] inb).toLoadRect = w := View.readCov_full v inb inb' w L

/-- A load of the whole of a view of this shape, after a store of the whole, reads the stored value. -/
theorem ldst_512x128 {e : EltTy} (v : View sig .tc sp S512x128 e) (inb inb') (w : S512x128.Idx → Elt F e) (L : List (View.Piece (Elt F) S512x128 e)) :
    v.readCov (⟨Rect.unit (s := S512x128) ![0, 0] ![512, 128] inb', w⟩ :: L) (Rect.unit (s := S512x128) ![0, 0] ![512, 128] inb).toLoadRect = w := View.readCov_full v inb inb' w L

/-- A load of column 0 of the broadcast scratch. -/
theorem ld_col0 (v : View sig .tc sp S512x128 .f32) (f : v.ty.Contents (Elt F)) (inb) :
    v.readAt (Elt F) (Rect.unit (s := S512x128) ![0, 0] ![512, 1] inb).toLoadRect f = col0 (v.read (Elt F) f) := rfl

/-- A load of column 0 of the broadcast scratch after a store of the whole. -/
theorem ldst_col0 (v : View sig .tc sp S512x128 .f32) (inb inb') (w : S512x128.Idx → Elt F .f32) (L : List (View.Piece (Elt F) S512x128 .f32)) :
    v.readCov (⟨Rect.unit (s := S512x128) ![0, 0] ![512, 128] inb', w⟩ :: L) (Rect.unit (s := S512x128) ![0, 0] ![512, 1] inb).toLoadRect = col0 w := by
  have h := View.read_writes_full v v.junk inb' w L
  exact congrArg col0 h

/-- A load of one slice of the activation scratch, after a point stored its own slice. -/
theorem ld_slice (v : View sig .tc sp S12x512x768 .f32) (f : v.ty.Contents (Elt F)) (i : grid0.Coords) (w : FVec F S1x512x768 .f32) (inb) (k : Fin 12)
    (off : Fin 3 → ℕ) (ho : off = ![k.val, 0, 0]) (inb') :
    v.readAt (Elt F) (Rect.unit (s := S12x512x768) off ![1, 512, 768] inb').toLoadRect
        (v.writes (Elt F) f [⟨Rect.unit (s := S12x512x768) (k0_off1 i) ![1, 512, 768] inb, w⟩])
      = actSlice (actPut i (v.read (Elt F) f) w) k := by
  have h : v.read (Elt F) (v.writes (Elt F) f [⟨Rect.unit (s := S12x512x768) (k0_off1 i) ![1, 512, 768] inb, w⟩]) = actPut i (v.read (Elt F) f) w :=
    View.read_writes_cons_put v f inb w [] rfl
  have h2 := View.readAt_unit v (v.writes (Elt F) f [⟨Rect.unit (s := S12x512x768) (k0_off1 i) ![1, 512, 768] inb, w⟩]) inb' ho (slice_inb k)
  rw [h] at h2
  exact h2

/-- One stored block of codes is the block of `codesOut` that its rectangle covers. -/
theorem codes_piece (am : Vec F S512x128 .f32) (act : Vec F S12x512x768 .f32) (k : Fin 12) (off : Fin 2 → ℕ) (ho : off = ![0, 768 * k.val]) (inb)
    (w : S512x768.Idx → Elt F .i8) (hw : w = k0_pay12 (k0_pay7 am) (actSlice act k)) (x : S512x768.Idx) :
    w x = codesOut am act ((Rect.unit (s := S512x9216) off ![512, 768] inb).emb x) := by
  subst hw
  have h1 : (x 1).val < 768 := (x 1).isLt
  have e1 : (((Rect.unit (s := S512x9216) off ![512, 768] inb).emb x) 1).val = off 1 + 1 * (x 1).val := rfl
  have e0 : (((Rect.unit (s := S512x9216) off ![512, 768] inb).emb x) 0).val = off 0 + 1 * (x 0).val := rfl
  replace e1 : (((Rect.unit (s := S512x9216) off ![512, 768] inb).emb x) 1).val = 768 * k.val + (x 1).val := by
    rw [e1, ho, Nat.one_mul]; rfl
  replace e0 : (((Rect.unit (s := S512x9216) off ![512, 768] inb).emb x) 0).val = (x 0).val := by
    rw [e0, ho, Nat.one_mul]; exact Nat.zero_add _
  generalize (Rect.unit (s := S512x9216) off ![512, 768] inb).emb x = z at e0 e1 ⊢
  have ek : (⟨(z 1).val / 768, by have := (z 1).isLt; simp [S512x9216] at this; omega⟩ : Fin 12) = k := Fin.ext (by simp only [e1]; omega)
  have ej : (ix2 (z 0) ⟨(z 1).val % 768, Nat.mod_lt _ (by decide)⟩ : S512x768.Idx) = x := Shape.idx_ext₂ e0 (by
    show (z 1).val % 768 = _
    rw [e1]; omega)
  unfold codesOut
  rw [ek, ej]

/-- The twelve stored blocks of codes make up `codesOut`. -/
theorem codes_read (v : View sig .tc sp S512x9216 .i8) (f : v.ty.Contents (Elt F)) (am : Vec F S512x128 .f32) (act : Vec F S12x512x768 .f32)
    (w0 w1 w2 w3 w4 w5 w6 w7 w8 w9 w10 w11 : S512x768.Idx → Elt F .i8)
    (h0 : w0 = k0_pay12 (k0_pay7 am) (actSlice act 0)) (h1 : w1 = k0_pay12 (k0_pay7 am) (actSlice act 1)) (h2 : w2 = k0_pay12 (k0_pay7 am) (actSlice act 2)) (h3 : w3 = k0_pay12 (k0_pay7 am) (actSlice act 3)) (h4 : w4 = k0_pay12 (k0_pay7 am) (actSlice act 4)) (h5 : w5 = k0_pay12 (k0_pay7 am) (actSlice act 5)) (h6 : w6 = k0_pay12 (k0_pay7 am) (actSlice act 6)) (h7 : w7 = k0_pay12 (k0_pay7 am) (actSlice act 7)) (h8 : w8 = k0_pay12 (k0_pay7 am) (actSlice act 8)) (h9 : w9 = k0_pay12 (k0_pay7 am) (actSlice act 9)) (h10 : w10 = k0_pay12 (k0_pay7 am) (actSlice act 10)) (h11 : w11 = k0_pay12 (k0_pay7 am) (actSlice act 11)) :
    v.read (Elt F) (v.writes (Elt F) f [⟨Rect.unit (s := S512x9216) ![0, 8448] ![512, 768] inb_S512x9216_S512x768_0_8448, w11⟩, ⟨Rect.unit (s := S512x9216) ![0, 7680] ![512, 768] inb_S512x9216_S512x768_0_7680, w10⟩, ⟨Rect.unit (s := S512x9216) ![0, 6912] ![512, 768] inb_S512x9216_S512x768_0_6912, w9⟩, ⟨Rect.unit (s := S512x9216) ![0, 6144] ![512, 768] inb_S512x9216_S512x768_0_6144, w8⟩, ⟨Rect.unit (s := S512x9216) ![0, 5376] ![512, 768] inb_S512x9216_S512x768_0_5376, w7⟩, ⟨Rect.unit (s := S512x9216) ![0, 4608] ![512, 768] inb_S512x9216_S512x768_0_4608, w6⟩, ⟨Rect.unit (s := S512x9216) ![0, 3840] ![512, 768] inb_S512x9216_S512x768_0_3840, w5⟩, ⟨Rect.unit (s := S512x9216) ![0, 3072] ![512, 768] inb_S512x9216_S512x768_0_3072, w4⟩, ⟨Rect.unit (s := S512x9216) ![0, 2304] ![512, 768] inb_S512x9216_S512x768_0_2304, w3⟩, ⟨Rect.unit (s := S512x9216) ![0, 1536] ![512, 768] inb_S512x9216_S512x768_0_1536, w2⟩, ⟨Rect.unit (s := S512x9216) ![0, 768] ![512, 768] inb_S512x9216_S512x768_0_768, w1⟩, ⟨Rect.unit (s := S512x9216) ![0, 0] ![512, 768] inb_S512x9216_S512x768_0_0, w0⟩]) = codesOut am act := by
  funext y
  refine View.read_writes_apply_of_pieces v f (codesOut am act) _ ?_ y (View.cover_of_tiledL _ ![512, 768] (by sl_kernel_rfl) y)
  intro p hp
  simp only [List.mem_cons, List.not_mem_nil, _root_.or_false] at hp
  rcases hp with rfl | rfl | rfl | rfl | rfl | rfl | rfl | rfl | rfl | rfl | rfl | rfl
  · exact fun x => codes_piece am act 11 _ rfl (inb_S512x9216_S512x768_0_8448) w11 h11 x
  · exact fun x => codes_piece am act 10 _ rfl (inb_S512x9216_S512x768_0_7680) w10 h10 x
  · exact fun x => codes_piece am act 9 _ rfl (inb_S512x9216_S512x768_0_6912) w9 h9 x
  · exact fun x => codes_piece am act 8 _ rfl (inb_S512x9216_S512x768_0_6144) w8 h8 x
  · exact fun x => codes_piece am act 7 _ rfl (inb_S512x9216_S512x768_0_5376) w7 h7 x
  · exact fun x => codes_piece am act 6 _ rfl (inb_S512x9216_S512x768_0_4608) w6 h6 x
  · exact fun x => codes_piece am act 5 _ rfl (inb_S512x9216_S512x768_0_3840) w5 h5 x
  · exact fun x => codes_piece am act 4 _ rfl (inb_S512x9216_S512x768_0_3072) w4 h4 x
  · exact fun x => codes_piece am act 3 _ rfl (inb_S512x9216_S512x768_0_2304) w3 h3 x
  · exact fun x => codes_piece am act 2 _ rfl (inb_S512x9216_S512x768_0_1536) w2 h2 x
  · exact fun x => codes_piece am act 1 _ rfl (inb_S512x9216_S512x768_0_768) w1 h1 x
  · exact fun x => codes_piece am act 0 _ rfl (inb_S512x9216_S512x768_0_0) w0 h0 x

end Loads

end Cert.GateUpIdeal.Gen

end
-- ==== Proof.GateUpVals.lean ====
/-
  What the gate/up kernel's scratch buffers hold after each grid point and what its result arrays hold at the end, as functions of the arrays its windows stage.
-/
module

public import proofs.«01_k».proof.Proof.GateUpRuns

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-! ## The blocks -/

/-- Rows `512 b` to `512 b + 511` of the codes. -/
def bX0 (A : Vec F S15360x4608 .i8) (b : ℕ) : Vec F S512x4608 .i8 := fun y => A (ix2 ⟨(512 * b + (y 0).val) % 15360, Nat.mod_lt _ (by decide)⟩ (y 1))

/-- The row scales of row block `b`. -/
def bX1 (A : Vec F S30x1x512 .f32) (b : ℕ) : Vec F S1x1x512 .f32 := fun y => A (ix3 ⟨b % 30, Nat.mod_lt _ (by decide)⟩ (y 1) (y 2))

/-- Columns `768 j` to `768 j + 767` of a weight. -/
def bW (A : Vec F S4608x9216 .i8) (j : ℕ) : Vec F S4608x768 .i8 := fun y => A (ix2 (y 0) ⟨(768 * j + (y 1).val) % 9216, Nat.mod_lt _ (by decide)⟩)

/-- The same columns of a weight's scales. -/
def bS (A : Vec F S1x9216 .f32) (j : ℕ) : Vec F S1x768 .f32 := fun y => A (ix2 (y 0) ⟨(768 * j + (y 1).val) % 9216, Nat.mod_lt _ (by decide)⟩)

/-! ## What the scratch holds -/

section Scratch
variable (A0 : Vec F S15360x4608 .i8) (A1 : Vec F S30x1x512 .f32) (A2 A3 : Vec F S4608x9216 .i8) (A4 A5 : Vec F S1x9216 .f32)

/-- The codes of row block `b` as the matmul reads them. -/
def cbfV (b : ℕ) : Vec F S512x4608 .bf16 := k0_pay22 (bX0 A0 b)

/-- The row scales of row block `b`, broadcast over the lanes. -/
def scV (b : ℕ) : Vec F S512x128 .f32 := k0_pay23 (bX1 A1 b)

/-- The activation tile of row block `b` and column block `j`. -/
def tileV (b j : ℕ) : FVec F S1x512x768 .f32 := aTile3 (cbfV A0 b) (scV A1 b) (bW A2 j) (bW A3 j) (bS A4 j) (bS A5 j)

/-- The running maximum after column block `j`. -/
def amV (b : ℕ) : ℕ → Vec F S512x128 .f32
  | 0 => aMax (cbfV A0 b) (scV A1 b) (bW A2 0) (bW A3 0) (bS A4 0) (bS A5 0) k0_pay24
  | j + 1 => aMax (cbfV A0 b) (scV A1 b) (bW A2 (j + 1)) (bW A3 (j + 1)) (bS A4 (j + 1)) (bS A5 (j + 1)) (amV b j)

/-- The activations of row block `b`: slice `j` is the tile of column block `j`. -/
def actV (b : ℕ) : Vec F S12x512x768 .f32 := fun y => tileV A0 A1 A2 A3 A4 A5 b (y 0).val (ix3 (0 : Fin 1) (y 1) (y 2))

/-- The codes the kernel ends with. -/
def G0 : Vec F S15360x9216 .i8 := fun y =>
  codesOut (amV A0 A1 A2 A3 A4 A5 ((y 0).val / 512) 11) (actV A0 A1 A2 A3 A4 A5 ((y 0).val / 512)) (ix2 ⟨(y 0).val % 512, Nat.mod_lt _ (by decide)⟩ (y 1))

/-- The scales the kernel ends with. -/
def G1 : Vec F S30x1x512 .f32 := fun y => k0_pay8 (amV A0 A1 A2 A3 A4 A5 (y 0).val 11) (ix3 (0 : Fin 1) (0 : Fin 1) (y 2))

/-- What the four scratch buffers hold after column block `j` of row block `b`: of the activations, the slices up to `j`. -/
def Inv (b j : ℕ) (d0 : Vec F S512x4608 .bf16) (d1 d2 : Vec F S512x128 .f32) (d3 : Vec F S12x512x768 .f32) : Prop :=
  d0 = cbfV A0 b ∧ d1 = scV A1 b ∧ d2 = amV A0 A1 A2 A3 A4 A5 b j ∧ ∀ y : S12x512x768.Idx, (y 0).val ≤ j → d3 y = actV A0 A1 A2 A3 A4 A5 b y

end Scratch

/-- The slice a point stores starts at its column block. -/
theorem off1_slice (i : grid0.Coords) : k0_off1 i = ![(i 1).val, 0, 0] := by
  have h : (i 1).val < 12 := (i 1).isLt
  funext a
  fin_cases a
  · show (Scalar.indexCast (BitVec.ofNat 32 (i 1).val)).toNat = (i 1).val
    simp only [Scalar.indexCast]
    first
      | (rw [BitVec.toNat_ofNat]; exact Nat.mod_eq_of_lt (by omega))
      | (simp; omega)
  · rfl
  · rfl

/-- A point's store into the activations, inside its slice. -/
theorem actPut_in (i : grid0.Coords) (d : Vec F S12x512x768 .f32) (w : FVec F S1x512x768 .f32) (y : S12x512x768.Idx) (h : (y 0).val = (i 1).val) :
    actPut i d w y = w (ix3 (0 : Fin 1) (y 1) (y 2)) := by
  have h1 : (y 1).val < 512 := (y 1).isLt
  have h2 : (y 2).val < 768 := (y 2).isLt
  have hc : ∀ a, k0_off1 i a ≤ (y a).val ∧ (y a).val < k0_off1 i a + S1x512x768.size a := by
    rw [off1_slice]
    intro a
    fin_cases a
    · show (i 1).val ≤ (y 0).val ∧ (y 0).val < (i 1).val + 1
      omega
    · show 0 ≤ (y 1).val ∧ (y 1).val < 0 + 512
      omega
    · show 0 ≤ (y 2).val ∧ (y 2).val < 0 + 768
      omega
  unfold actPut VecWindow.put
  rw [dif_pos hc]
  congr 1
  funext a
  apply Fin.ext
  fin_cases a
  · show (y 0).val - k0_off1 i 0 = 0
    rw [off1_slice]; show (y 0).val - (i 1).val = 0; omega
  · show (y 1).val - k0_off1 i 1 = (y 1).val
    rw [off1_slice]; rfl
  · show (y 2).val - k0_off1 i 2 = (y 2).val
    rw [off1_slice]; rfl

/-- A point's store into the activations, outside its slice. -/
theorem actPut_out (i : grid0.Coords) (d : Vec F S12x512x768 .f32) (w : FVec F S1x512x768 .f32) (y : S12x512x768.Idx) (h : (y 0).val ≠ (i 1).val) :
    actPut i d w y = d y := by
  unfold actPut VecWindow.put
  rw [dif_neg]
  intro hc
  have := hc 0
  rw [off1_slice] at this
  have h' : (i 1).val ≤ (y 0).val ∧ (y 0).val < (i 1).val + 1 := this
  omega

section Steps
variable (A0 : Vec F S15360x4608 .i8) (A1 : Vec F S30x1x512 .f32) (A2 A3 : Vec F S4608x9216 .i8) (A4 A5 : Vec F S1x9216 .f32)

/-- The first column block of a row block establishes the invariant, whatever the scratch held. -/
theorem inv_first (b : ℕ) (i : grid0.Coords) (hi : (i 1).val = 0) (d3 : Vec F S12x512x768 .f32) :
    Inv A0 A1 A2 A3 A4 A5 b 0 (k0_pay22 (bX0 A0 b)) (k0_pay23 (bX1 A1 b))
      (aMax (k0_pay22 (bX0 A0 b)) (k0_pay23 (bX1 A1 b)) (bW A2 0) (bW A3 0) (bS A4 0) (bS A5 0) k0_pay24)
      (actPut i d3 (aTile3 (k0_pay22 (bX0 A0 b)) (k0_pay23 (bX1 A1 b)) (bW A2 0) (bW A3 0) (bS A4 0) (bS A5 0))) := by
  refine ⟨rfl, rfl, rfl, fun y hy => ?_⟩
  have hy0 : (y 0).val = 0 := by omega
  rw [actPut_in _ _ _ _ (by omega)]
  unfold actV; rw [hy0]; rfl

/-- Every later column block keeps it. -/
theorem inv_step (b j : ℕ) (i : grid0.Coords) (hi : (i 1).val = j + 1) {d0 : Vec F S512x4608 .bf16} {d1 d2 : Vec F S512x128 .f32} {d3 : Vec F S12x512x768 .f32}
    (h : Inv A0 A1 A2 A3 A4 A5 b j d0 d1 d2 d3) :
    Inv A0 A1 A2 A3 A4 A5 b (j + 1) d0 d1 (aMax d0 d1 (bW A2 (j + 1)) (bW A3 (j + 1)) (bS A4 (j + 1)) (bS A5 (j + 1)) d2)
      (actPut i d3 (aTile3 d0 d1 (bW A2 (j + 1)) (bW A3 (j + 1)) (bS A4 (j + 1)) (bS A5 (j + 1)))) := by
  obtain ⟨rfl, rfl, rfl, h3⟩ := h
  refine ⟨rfl, rfl, rfl, fun y hy => ?_⟩
  by_cases e : (y 0).val = j + 1
  · rw [actPut_in _ _ _ _ (by omega)]
    unfold actV; rw [e]; rfl
  · rw [actPut_out _ _ _ _ (by omega)]
    exact h3 y (by omega)

/-- After the last column block every slice is known. -/
theorem Inv.act_eq {b : ℕ} {d0 : Vec F S512x4608 .bf16} {d1 d2 : Vec F S512x128 .f32} {d3 : Vec F S12x512x768 .f32}
    (h : Inv A0 A1 A2 A3 A4 A5 b 11 d0 d1 d2 d3) : d3 = actV A0 A1 A2 A3 A4 A5 b :=
  funext fun y => h.2.2.2 y (by have : (y 0).val < 12 := (y 0).isLt; omega)

end Steps

end Cert.GateUpIdeal.Gen

end
-- ==== Proof.GateUpRunA.lean ====
/-
  The gate/up kernel's body at a point of case A.
-/
module

public import proofs.«01_k».proof.Proof.GateUpRuns

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first column block of a row block: from the blocks of the inputs it leaves the scratch buffers at the
    stated values and returns the inputs as they were. -/
theorem kernelRun_A (c : Dev nD) (i : grid0.Coords) (arg2 : Memref sig .tc .vmem S512x4608 .i8) (harg2 : arg2.IsWhole) (arg3 : Memref sig .tc .vmem S1x1x512 .f32) (harg3 : arg3.IsWhole) (arg4 : Memref sig .tc .vmem S4608x768 .i8) (harg4 : arg4.IsWhole) (arg5 : Memref sig .tc .vmem S4608x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S512x9216 .i8) (harg8 : arg8.IsWhole) (arg9 : Memref sig .tc .vmem S1x1x512 .f32) (harg9 : arg9.IsWhole) (arg10 : Memref sig .tc .vmem S512x4608 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S12x512x768 .f32) (harg13 : arg13.IsWhole) (hc0 : cond0_0 i) (hc1 : ¬cond0_1 i)
    (x0 : Vec F S512x4608 .i8) (x1 : Vec F S1x1x512 .f32) (x2 : Vec F S4608x768 .i8) (x3 : Vec F S4608x768 .i8) (x4 : Vec F S1x768 .f32) (x5 : Vec F S1x768 .f32) (xs3 : Vec F S12x512x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare (k0_pay22 x0) ∗ owns (c : Thread nD τ) arg11 fullShare (k0_pay23 x1) ∗ owns (c : Thread nD τ) arg12 fullShare (aMax (k0_pay22 x0) (k0_pay23 x1) x2 x3 x4 x5 k0_pay24) ∗ owns (c : Thread nD τ) arg13 fullShare (actPut i xs3 (aTile3 (k0_pay22 x0) (k0_pay23 x1) x2 x3 x4 x5))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [HS0]
  · iexists _; isplitr; swap; · iexact HS0
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5]
    first | done | rfl | (rw [View.writes_nil, hfs3]; rfl)
  isplitl [HS1]
  · iexists _; isplitr; swap; · iexact HS1
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5]
    first | done | rfl | (rw [View.writes_nil, hfs3]; rfl)
  isplitl [HS2]
  · iexists _; isplitr; swap; · iexact HS2
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5]
    first | done | rfl | (rw [View.writes_nil, hfs3]; rfl)
  · iexists _; isplitr; swap; · iexact HS3
    ipureintro; sl_unfold_run_names
    refine (View.read_writes_cons_put _ _ _ _ _ rfl).trans ?_
    simp only [ld_512x4608, ld_1x1x512, ld_4608x768, ld_1x768, ld_512x128, ldst_512x4608, ldst_512x128, ld_col0, ldst_col0, hf0, hf1, hf2, hf3, hf4, hf5]
    first | done | rfl | (rw [View.writes_nil, hfs3]; rfl)

end Cert.GateUpIdeal.Gen

end
-- ==== Proof.GateUpRunB.lean ====
/-
  The gate/up kernel's body at a point of case B.
-/
module

public import proofs.«01_k».proof.Proof.GateUpRuns

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a column block that is neither the first nor the last: it carries the scratch buffers one block on. -/
theorem kernelRun_B (c : Dev nD) (i : grid0.Coords) (arg2 : Memref sig .tc .vmem S512x4608 .i8) (harg2 : arg2.IsWhole) (arg3 : Memref sig .tc .vmem S1x1x512 .f32) (harg3 : arg3.IsWhole) (arg4 : Memref sig .tc .vmem S4608x768 .i8) (harg4 : arg4.IsWhole) (arg5 : Memref sig .tc .vmem S4608x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S512x9216 .i8) (harg8 : arg8.IsWhole) (arg9 : Memref sig .tc .vmem S1x1x512 .f32) (harg9 : arg9.IsWhole) (arg10 : Memref sig .tc .vmem S512x4608 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S12x512x768 .f32) (harg13 : arg13.IsWhole) (hc0 : ¬cond0_0 i) (hc1 : ¬cond0_1 i)
    (x0 : Vec F S512x4608 .i8) (x1 : Vec F S1x1x512 .f32) (x2 : Vec F S4608x768 .i8) (x3 : Vec F S4608x768 .i8) (x4 : Vec F S1x768 .f32) (x5 : Vec F S1x768 .f32) (xs0 : Vec F S512x4608 .bf16) (xs1 : Vec F S512x128 .f32) (xs2 : Vec F S512x128 .f32) (xs3 : Vec F S12x512x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare (aMax xs0 xs1 x2 x3 x4 x5 xs2) ∗ owns (c : Thread nD τ) arg13 fullShare (actPut i xs3 (aTile3 xs0 xs1 x2 x3 x4 x5))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [HS0]
  · iexists _; isplitr; · ipureintro; exact harg10.read_unread _
    iexact HS0
  isplitl [HS1]
  · iexists _; isplitr; · ipureintro; exact harg11.read_unread _
    iexact HS1
  isplitl [HS2]
  · iexists _; isplitr; swap; · iexact HS2
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5, hfs0, hfs1, hfs2, hfs3]
    first | done | rfl | (rw [View.writes_nil, hfs3]; rfl)
  · iexists _; isplitr; swap; · iexact HS3
    ipureintro; sl_unfold_run_names
    refine (View.read_writes_cons_put _ _ _ _ _ rfl).trans ?_
    simp only [ld_512x4608, ld_1x1x512, ld_4608x768, ld_1x768, ld_512x128, ldst_512x4608, ldst_512x128, ld_col0, ldst_col0, hf0, hf1, hf2, hf3, hf4, hf5, hfs0, hfs1, hfs2, hfs3]
    first | done | rfl | (rw [View.writes_nil, hfs3]; rfl)

end Cert.GateUpIdeal.Gen

end
-- ==== Proof.GateUpRunC.lean ====
/-
  The gate/up kernel's body at a point of case C.
-/
module

public import proofs.«01_k».proof.Proof.GateUpRuns

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at the last column block of a row block: it carries the scratch buffers one block on and writes the outputs. -/
theorem kernelRun_C (c : Dev nD) (i : grid0.Coords) (arg2 : Memref sig .tc .vmem S512x4608 .i8) (harg2 : arg2.IsWhole) (arg3 : Memref sig .tc .vmem S1x1x512 .f32) (harg3 : arg3.IsWhole) (arg4 : Memref sig .tc .vmem S4608x768 .i8) (harg4 : arg4.IsWhole) (arg5 : Memref sig .tc .vmem S4608x768 .i8) (harg5 : arg5.IsWhole) (arg6 : Memref sig .tc .vmem S1x768 .f32) (harg6 : arg6.IsWhole) (arg7 : Memref sig .tc .vmem S1x768 .f32) (harg7 : arg7.IsWhole) (arg8 : Memref sig .tc .vmem S512x9216 .i8) (harg8 : arg8.IsWhole) (arg9 : Memref sig .tc .vmem S1x1x512 .f32) (harg9 : arg9.IsWhole) (arg10 : Memref sig .tc .vmem S512x4608 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S12x512x768 .f32) (harg13 : arg13.IsWhole) (hc0 : ¬cond0_0 i) (hc1 : cond0_1 i)
    (x0 : Vec F S512x4608 .i8) (x1 : Vec F S1x1x512 .f32) (x2 : Vec F S4608x768 .i8) (x3 : Vec F S4608x768 .i8) (x4 : Vec F S1x768 .f32) (x5 : Vec F S1x768 .f32) (xs0 : Vec F S512x4608 .bf16) (xs1 : Vec F S512x128 .f32) (xs2 : Vec F S512x128 .f32) (xs3 : Vec F S12x512x768 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOut (aMax xs0 xs1 x2 x3 x4 x5 xs2) (actPut i xs3 (aTile3 xs0 xs1 x2 x3 x4 x5))) ∗ owns (c : Thread nD τ) arg9 fullShare (k0_pay8 (aMax xs0 xs1 x2 x3 x4 x5 xs2)) ∗ owns (c : Thread nD τ) arg10 fullShare xs0 ∗ owns (c : Thread nD τ) arg11 fullShare xs1 ∗ owns (c : Thread nD τ) arg12 fullShare (aMax xs0 xs1 x2 x3 x4 x5 xs2) ∗ owns (c : Thread nD τ) arg13 fullShare (actPut i xs3 (aTile3 xs0 xs1 x2 x3 x4 x5))) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13) K := by
  simp only [cc0_gate_up_eq_skeleton]; unfold cc0_gate_up_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine codes_read _ _ _ _ _ _ _ _ _ _ _ _ _ _ _ _ ?_ ?_ ?_ ?_ ?_ ?_ ?_ ?_ ?_ ?_ ?_ ?_
    · sl_unfold_run_names; simp only [ld_512x4608, ld_1x1x512, ld_4608x768, ld_1x768, ld_512x128, ldst_512x4608, ldst_512x128, ld_slice _ _ _ _ _ 0 ![0, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 1 ![1, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 2 ![2, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 3 ![3, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 4 ![4, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 5 ![5, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 6 ![6, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 7 ![7, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 8 ![8, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 9 ![9, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 10 ![10, 0, 0] rfl, ld_col0, ldst_col0, hf0, hf1, hf2, hf3, hf4, hf5, hfs0, hfs1, hfs2, hfs3]; rfl
    · sl_unfold_run_names; simp only [ld_512x4608, ld_1x1x512, ld_4608x768, ld_1x768, ld_512x128, ldst_512x4608, ldst_512x128, ld_slice _ _ _ _ _ 11 ![11, 0, 0] rfl, ld_col0, ldst_col0, hf0, hf1, hf2, hf3, hf4, hf5, hfs0, hfs1, hfs2, hfs3]; rfl
  isplitl [H7]
  · iexists _; isplitr; swap; · iexact H7
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5, hfs0, hfs1, hfs2, hfs3]
    first | done | rfl | (rw [View.writes_nil, hfs3]; rfl)
  isplitl [HS0]
  · iexists _; isplitr; · ipureintro; exact harg10.read_unread _
    iexact HS0
  isplitl [HS1]
  · iexists _; isplitr; · ipureintro; exact harg11.read_unread _
    iexact HS1
  isplitl [HS2]
  · iexists _; isplitr; swap; · iexact HS2
    ipureintro; sl_unfold_run_names
    refine (View.read_writes_full _ _ _ _ _).trans ?_
    simp only [ld_512x4608, ld_1x1x512, ld_4608x768, ld_1x768, ld_512x128, ldst_512x4608, ldst_512x128, ld_col0, ldst_col0, hf0, hf1, hf2, hf3, hf4, hf5, hfs0, hfs1, hfs2, hfs3]
    first | done | rfl | (rw [View.writes_nil, hfs3]; rfl)
  · iexists _; isplitr; swap; · iexact HS3
    ipureintro; sl_unfold_run_names
    refine (View.read_writes_cons_put _ _ _ _ _ rfl).trans ?_
    simp only [ld_512x4608, ld_1x1x512, ld_4608x768, ld_1x768, ld_512x128, ldst_512x4608, ldst_512x128, ld_col0, ldst_col0, hf0, hf1, hf2, hf3, hf4, hf5, hfs0, hfs1, hfs2, hfs3]
    first | done | rfl | (rw [View.writes_nil, hfs3]; rfl)

end Cert.GateUpIdeal.Gen

end
-- ==== Proof.GateUpFrame.lean ====
/-
  The gate/up kernel over the whole grid: the proof data, the body obligation, the run, what its result arrays hold and the frame.
-/
module

public import proofs.«01_k».proof.Proof.GateUpVals
public import proofs.«01_k».proof.Proof.GateUpRunA
public import proofs.«01_k».proof.Proof.GateUpRunB
public import proofs.«01_k».proof.Proof.GateUpRunC
public import proofs.«01_k».proof.Proof.RelRun
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks lie -/

/-- Window 0's block index at a point. -/
theorem idx0 : ∀ t : Fin cfg0.N, win0_0.index t (0 : Fin 2) = t.val / 12 ∧ win0_0.index t (1 : Fin 2) = 0 :=
  (by decide +kernel : ∀ t : Fin grid0.N, _)
/-- Window 0's block at a point, read off its array. -/
theorem iblk0 (c : Dev nD) (t : Fin cfg0.N) : iblk m c 0 t = bX0 (V m c main_arg0) (t.val / 12) := by
  have hN : t.val < 360 := lt_of_lt_of_eq t.isLt (show cfg0.N = 360 from N_0)
  obtain ⟨e0, e1⟩ := idx0 t
  funext y
  have h0 : (y 0).val < 512 := (y 0).isLt
  have h1 : (y 1).val < 4608 := (y 1).isLt
  show V m c main_arg0 (((cfg0.win 0).blk t).view.emb y) = V m c main_arg0 _
  congr 1
  funext a; apply Fin.ext
  match a with
  | ⟨0, _⟩ => show win0_0.index t (0 : Fin 2) * 512 + 1 * (y 0).val = (512 * (t.val / 12) + (y 0).val) % 15360; omega
  | ⟨1, _⟩ => show win0_0.index t (1 : Fin 2) * 4608 + 1 * (y 1).val = (y 1).val; omega

/-- Window 1's block index at a point. -/
theorem idx1 : ∀ t : Fin cfg0.N, win0_1.index t (0 : Fin 3) = t.val / 12 ∧ win0_1.index t (1 : Fin 3) = 0 ∧ win0_1.index t (2 : Fin 3) = 0 :=
  (by decide +kernel : ∀ t : Fin grid0.N, _)
/-- Window 1's block at a point, read off its array. -/
theorem iblk1 (c : Dev nD) (t : Fin cfg0.N) : iblk m c 1 t = bX1 (V m c main_v0) (t.val / 12) := by
  have hN : t.val < 360 := lt_of_lt_of_eq t.isLt (show cfg0.N = 360 from N_0)
  obtain ⟨e0, e1, e2⟩ := idx1 t
  funext y
  have h0 : (y 0).val < 1 := (y 0).isLt
  have h1 : (y 1).val < 1 := (y 1).isLt
  have h2 : (y 2).val < 512 := (y 2).isLt
  show V m c main_v0 (((cfg0.win 1).blk t).view.emb y) = V m c main_v0 _
  congr 1
  funext a; apply Fin.ext
  match a with
  | ⟨0, _⟩ => show win0_1.index t (0 : Fin 3) * 1 + 1 * (y 0).val = (t.val / 12) % 30; omega
  | ⟨1, _⟩ => show win0_1.index t (1 : Fin 3) * 1 + 1 * (y 1).val = (y 1).val; omega
  | ⟨2, _⟩ => show win0_1.index t (2 : Fin 3) * 512 + 1 * (y 2).val = (y 2).val; omega

/-- Window 2's block index at a point. -/
theorem idx2 : ∀ t : Fin cfg0.N, win0_2.index t (0 : Fin 2) = 0 ∧ win0_2.index t (1 : Fin 2) = t.val % 12 :=
  (by decide +kernel : ∀ t : Fin grid0.N, _)
/-- Window 2's block at a point, read off its array. -/
theorem iblk2 (c : Dev nD) (t : Fin cfg0.N) : iblk m c 2 t = bW (V m c main_arg2) (t.val % 12) := by
  have hN : t.val < 360 := lt_of_lt_of_eq t.isLt (show cfg0.N = 360 from N_0)
  obtain ⟨e0, e1⟩ := idx2 t
  funext y
  have h0 : (y 0).val < 4608 := (y 0).isLt
  have h1 : (y 1).val < 768 := (y 1).isLt
  show V m c main_arg2 (((cfg0.win 2).blk t).view.emb y) = V m c main_arg2 _
  congr 1
  funext a; apply Fin.ext
  match a with
  | ⟨0, _⟩ => show win0_2.index t (0 : Fin 2) * 4608 + 1 * (y 0).val = (y 0).val; omega
  | ⟨1, _⟩ => show win0_2.index t (1 : Fin 2) * 768 + 1 * (y 1).val = (768 * (t.val % 12) + (y 1).val) % 9216; omega

/-- Window 3's block index at a point. -/
theorem idx3 : ∀ t : Fin cfg0.N, win0_3.index t (0 : Fin 2) = 0 ∧ win0_3.index t (1 : Fin 2) = t.val % 12 :=
  (by decide +kernel : ∀ t : Fin grid0.N, _)
/-- Window 3's block at a point, read off its array. -/
theorem iblk3 (c : Dev nD) (t : Fin cfg0.N) : iblk m c 3 t = bW (V m c main_arg4) (t.val % 12) := by
  have hN : t.val < 360 := lt_of_lt_of_eq t.isLt (show cfg0.N = 360 from N_0)
  obtain ⟨e0, e1⟩ := idx3 t
  funext y
  have h0 : (y 0).val < 4608 := (y 0).isLt
  have h1 : (y 1).val < 768 := (y 1).isLt
  show V m c main_arg4 (((cfg0.win 3).blk t).view.emb y) = V m c main_arg4 _
  congr 1
  funext a; apply Fin.ext
  match a with
  | ⟨0, _⟩ => show win0_3.index t (0 : Fin 2) * 4608 + 1 * (y 0).val = (y 0).val; omega
  | ⟨1, _⟩ => show win0_3.index t (1 : Fin 2) * 768 + 1 * (y 1).val = (768 * (t.val % 12) + (y 1).val) % 9216; omega

/-- Window 4's block index at a point. -/
theorem idx4 : ∀ t : Fin cfg0.N, win0_4.index t (0 : Fin 2) = 0 ∧ win0_4.index t (1 : Fin 2) = t.val % 12 :=
  (by decide +kernel : ∀ t : Fin grid0.N, _)
/-- Window 4's block at a point, read off its array. -/
theorem iblk4 (c : Dev nD) (t : Fin cfg0.N) : iblk m c 4 t = bS (V m c main_v1) (t.val % 12) := by
  have hN : t.val < 360 := lt_of_lt_of_eq t.isLt (show cfg0.N = 360 from N_0)
  obtain ⟨e0, e1⟩ := idx4 t
  funext y
  have h0 : (y 0).val < 1 := (y 0).isLt
  have h1 : (y 1).val < 768 := (y 1).isLt
  show V m c main_v1 (((cfg0.win 4).blk t).view.emb y) = V m c main_v1 _
  congr 1
  funext a; apply Fin.ext
  match a with
  | ⟨0, _⟩ => show win0_4.index t (0 : Fin 2) * 1 + 1 * (y 0).val = (y 0).val; omega
  | ⟨1, _⟩ => show win0_4.index t (1 : Fin 2) * 768 + 1 * (y 1).val = (768 * (t.val % 12) + (y 1).val) % 9216; omega

/-- Window 5's block index at a point. -/
theorem idx5 : ∀ t : Fin cfg0.N, win0_5.index t (0 : Fin 2) = 0 ∧ win0_5.index t (1 : Fin 2) = t.val % 12 :=
  (by decide +kernel : ∀ t : Fin grid0.N, _)
/-- Window 5's block at a point, read off its array. -/
theorem iblk5 (c : Dev nD) (t : Fin cfg0.N) : iblk m c 5 t = bS (V m c main_v2) (t.val % 12) := by
  have hN : t.val < 360 := lt_of_lt_of_eq t.isLt (show cfg0.N = 360 from N_0)
  obtain ⟨e0, e1⟩ := idx5 t
  funext y
  have h0 : (y 0).val < 1 := (y 0).isLt
  have h1 : (y 1).val < 768 := (y 1).isLt
  show V m c main_v2 (((cfg0.win 5).blk t).view.emb y) = V m c main_v2 _
  congr 1
  funext a; apply Fin.ext
  match a with
  | ⟨0, _⟩ => show win0_5.index t (0 : Fin 2) * 1 + 1 * (y 0).val = (y 0).val; omega
  | ⟨1, _⟩ => show win0_5.index t (1 : Fin 2) * 768 + 1 * (y 1).val = (768 * (t.val % 12) + (y 1).val) % 9216; omega

/-- Window 6's block index at a point. -/
theorem idx6 : ∀ t : Fin cfg0.N, win0_6.index t (0 : Fin 2) = t.val / 12 ∧ win0_6.index t (1 : Fin 2) = 0 :=
  (by decide +kernel : ∀ t : Fin grid0.N, _)

/-- Window 7's block index at a point. -/
theorem idx7 : ∀ t : Fin cfg0.N, win0_7.index t (0 : Fin 3) = t.val / 12 ∧ win0_7.index t (1 : Fin 3) = 0 ∧ win0_7.index t (2 : Fin 3) = 0 :=
  (by decide +kernel : ∀ t : Fin grid0.N, _)

/-! ## The proof data -/

/-- Input window 0 is used at every grid point. -/
theorem liveAt0_0 : ∀ t : Fin cfg0.N, cfg0.idle 0 (grid0.coords t) = false := fun _ => rfl
/-- Input window 1 is used at every grid point. -/
theorem liveAt0_1 : ∀ t : Fin cfg0.N, cfg0.idle 1 (grid0.coords t) = false := fun _ => rfl
/-- Input window 2 is used at every grid point. -/
theorem liveAt0_2 : ∀ t : Fin cfg0.N, cfg0.idle 2 (grid0.coords t) = false := fun _ => rfl
/-- Input window 3 is used at every grid point. -/
theorem liveAt0_3 : ∀ t : Fin cfg0.N, cfg0.idle 3 (grid0.coords t) = false := fun _ => rfl
/-- Input window 4 is used at every grid point. -/
theorem liveAt0_4 : ∀ t : Fin cfg0.N, cfg0.idle 4 (grid0.coords t) = false := fun _ => rfl
/-- Input window 5 is used at every grid point. -/
theorem liveAt0_5 : ∀ t : Fin cfg0.N, cfg0.idle 5 (grid0.coords t) = false := fun _ => rfl

/-- The invariant between points: before the first, every scratch at anything; afterwards the scratch as `Inv` says. -/
def PhiS (c : Dev nD) : ℕ → sProp 𝕄
  | 0 => Pipeline.ΦA spec0 c
  | n + 1 => iprop(iprop(∃ d0, ∃ d1, ∃ d2, ∃ d3, ⌜Inv (V m c main_arg0) (V m c main_v0) (V m c main_arg2) (V m c main_arg4) (V m c main_v1) (V m c main_v2) (n / 12) (n % 12) d0 d1 d2 d3⌝ ∗ owns (c : Thread nD τ) scM0_0 fullShare d0 ∗ owns (c : Thread nD τ) scM0_1 fullShare d1 ∗ owns (c : Thread nD τ) scM0_2 fullShare d2 ∗ owns (c : Thread nD τ) scM0_3 fullShare d3) ∗ (∃ r, prngReg c r))

/-- The invariant before any point gives every scratch at something. -/
theorem PhiS_weaken (c : Dev nD) (n : ℕ) : PhiS m c n ⊢ Pipeline.ΦA spec0 c := by
  cases n with
  | zero => exact Idealize.SL.BI.Entails.refl _
  | succ n =>
    rw [PhiA0_eq]
    unfold PhiS
    iintro ⟨⟨%d0, %d1, %d2, %d3, -, HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

/-- The windows of which only a predicate is kept: the outputs. -/
def marked0 : Fin 8 → Bool := fun w => w.val == 6 || w.val == 7

/-- What an output's staging buffer holds after a point that writes it back. -/
def Rl (c : Dev nD) (w : Fin cfg0.W) (t : Fin cfg0.N) : (((cfg0.win w).block).Idx → Elt F (cfg0.win w).elt) → Prop :=
  match w with
  | ⟨6, _⟩ => fun X => t.val % 12 = 11 → X = codesOut (amV (V m c main_arg0) (V m c main_v0) (V m c main_arg2) (V m c main_arg4) (V m c main_v1) (V m c main_v2) (t.val / 12) 11) (actV (V m c main_arg0) (V m c main_v0) (V m c main_arg2) (V m c main_arg4) (V m c main_v1) (V m c main_v2) (t.val / 12))
  | ⟨7, _⟩ => fun X => t.val % 12 = 11 → X = k0_pay8 (amV (V m c main_arg0) (V m c main_v0) (V m c main_arg2) (V m c main_arg4) (V m c main_v1) (V m c main_v2) (t.val / 12) 11)
  | _ => fun _ => True

/-- The proof data: each input's buffer at its block; the outputs held to `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val
  q _ := fullShare
  owed _ := 0

/-- The arrays the run starts from are the ones the host part leaves. -/
theorem A_eq (c : Dev nD) (w : Fin cfg0.W) : (dats m 0 c).A w = V m c (Pipeline.arrRef spec0 w) := by
  dsimp only [dats]

/-- The body leaves input window 0 at its block. -/
theorem after0_0 (c : Dev nD) (t : Fin cfg0.N) : (dats m 0 c).after 0 t = iblk m c 0 t := by dsimp only [dats]
/-- The body finds input window 0 at its block. -/
theorem before0_0 (c : Dev nD) (t : Fin cfg0.N) (d) : (dats m 0 c).before 0 t d = iblk m c 0 t :=
  before0_0_of m (dats m 0 c) (A_eq m c 0) (after0_0 m c) t d
/-- The body leaves input window 1 at its block. -/
theorem after0_1 (c : Dev nD) (t : Fin cfg0.N) : (dats m 0 c).after 1 t = iblk m c 1 t := by dsimp only [dats]
/-- The body finds input window 1 at its block. -/
theorem before0_1 (c : Dev nD) (t : Fin cfg0.N) (d) : (dats m 0 c).before 1 t d = iblk m c 1 t :=
  before0_1_of m (dats m 0 c) (A_eq m c 1) (after0_1 m c) t d
/-- The body leaves input window 2 at its block. -/
theorem after0_2 (c : Dev nD) (t : Fin cfg0.N) : (dats m 0 c).after 2 t = iblk m c 2 t := by dsimp only [dats]
/-- The body finds input window 2 at its block. -/
theorem before0_2 (c : Dev nD) (t : Fin cfg0.N) (d) : (dats m 0 c).before 2 t d = iblk m c 2 t :=
  before0_2_of m (dats m 0 c) (A_eq m c 2) (after0_2 m c) t d
/-- The body leaves input window 3 at its block. -/
theorem after0_3 (c : Dev nD) (t : Fin cfg0.N) : (dats m 0 c).after 3 t = iblk m c 3 t := by dsimp only [dats]
/-- The body finds input window 3 at its block. -/
theorem before0_3 (c : Dev nD) (t : Fin cfg0.N) (d) : (dats m 0 c).before 3 t d = iblk m c 3 t :=
  before0_3_of m (dats m 0 c) (A_eq m c 3) (after0_3 m c) t d
/-- The body leaves input window 4 at its block. -/
theorem after0_4 (c : Dev nD) (t : Fin cfg0.N) : (dats m 0 c).after 4 t = iblk m c 4 t := by dsimp only [dats]
/-- The body finds input window 4 at its block. -/
theorem before0_4 (c : Dev nD) (t : Fin cfg0.N) (d) : (dats m 0 c).before 4 t d = iblk m c 4 t :=
  before0_4_of m (dats m 0 c) (A_eq m c 4) (after0_4 m c) t d
/-- The body leaves input window 5 at its block. -/
theorem after0_5 (c : Dev nD) (t : Fin cfg0.N) : (dats m 0 c).after 5 t = iblk m c 5 t := by dsimp only [dats]
/-- The body finds input window 5 at its block. -/
theorem before0_5 (c : Dev nD) (t : Fin cfg0.N) (d) : (dats m 0 c).before 5 t d = iblk m c 5 t :=
  before0_5_of m (dats m 0 c) (A_eq m c 5) (after0_5 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

/-- The body leaves every input window that is in use at its block. -/
theorem leaves_in (c : Dev nD) (w : Fin cfg0.W) (t : Fin cfg0.N) (h : cfg0.idle w (grid0.coords t) = false) :
    (dats m 0 c).leaves w t = owns (c : Thread nD τ) ((cfg0.win w).stage (cfg0.slots t w)) fullShare ((dats m 0 c).after w t) := by
  unfold Dat.leaves; rw [h]

set_option maxHeartbeats 2400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [leaves_in m c 0 t (liveAt0_0 t), leaves_in m c 1 t (liveAt0_1 t), leaves_in m c 2 t (liveAt0_2 t), leaves_in m c 3 t (liveAt0_3 t), leaves_in m c 4 t (liveAt0_4 t), leaves_in m c 5 t (liveAt0_5 t)]
  rw [after0_0, after0_1, after0_2, after0_3, after0_4, after0_5]
  rw [show (dats m 0 c).owesAt () t.succ = (dats m 0 c).owesAt () t.castSucc from rfl]
  rw [show (dats m 0 c).Φ t.succ = iprop(iprop(∃ d0, ∃ d1, ∃ d2, ∃ d3, ⌜Inv (V m c main_arg0) (V m c main_v0) (V m c main_arg2) (V m c main_arg4) (V m c main_v1) (V m c main_v2) (t.val / 12) (t.val % 12) d0 d1 d2 d3⌝ ∗ owns (c : Thread nD τ) scM0_0 fullShare d0 ∗ owns (c : Thread nD τ) scM0_1 fullShare d1 ∗ owns (c : Thread nD τ) scM0_2 fullShare d2 ∗ owns (c : Thread nD τ) scM0_3 fullShare d3) ∗ (∃ r, prngReg c r)) from rfl]
  have hN : t.val < 360 := lt_of_lt_of_eq t.isLt (show cfg0.N = 360 from N_0)
  have hi : (grid0.coords t 1).val = t.val / 1 % 12 := Pipeline.Grid.coords_val t 1 (by decide) rfl
  rw [Nat.div_one] at hi
  by_cases h0 : t.val % 12 = 0
  · have h1 : ¬t.val % 12 = 11 := by omega
    refine (BIClass.sep_mono (show (dats m 0 c).Φ t.castSucc ⊢ Pipeline.ΦA spec0 c from PhiS_weaken m c t.val) (Idealize.SL.BI.Entails.refl _)).trans ?_
    rw [PhiA0_eq]
    iintro ⟨⟨⟨HS0, HS1, HS2, ⟨%xs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI := inv_first (V m c main_arg0) (V m c main_v0) (V m c main_arg2) (V m c main_arg4) (V m c main_v1) (V m c main_v2) (t.val / 12) (grid0.coords t) (by omega) xs3
    iapply (kernelRun_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) xs3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, ⟨%e6, H6⟩, ⟨%e7, H7⟩, HS0, HS1, HS2, HS3⟩
    isplitl [HS0 HS1 HS2 HS3 Hg]
    · isplitl [HS0 HS1 HS2 HS3]
      · iexists _, _, _, _
        isplitr; swap
        · isplitl [HS0]; · iexact HS0
          isplitl [HS1]; · iexact HS1
          isplitl [HS2]; · iexact HS2
          iexact HS3
        ipureintro
        simp only [iblk0, iblk1, iblk2, iblk3, iblk4, iblk5]
        rw [h0]; exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; intro h; exact absurd h h1
    · iexists _; isplitr; swap; · iexact H7
      ipureintro; intro h; exact absurd h h1
  by_cases h1 : t.val % 12 = 11
  · rw [show (dats m 0 c).Φ t.castSucc = PhiS m c (t.val - 1 + 1) from congrArg (PhiS m c) (show t.val = t.val - 1 + 1 by omega)]
    unfold PhiS
    iintro ⟨⟨⟨%xs0, %xs1, %xs2, %xs3, %hI0, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI := inv_step (V m c main_arg0) (V m c main_v0) (V m c main_arg2) (V m c main_arg4) (V m c main_v1) (V m c main_v2) ((t.val - 1) / 12) ((t.val - 1) % 12) (grid0.coords t) (by omega) hI0
    rw [show (t.val - 1) / 12 = t.val / 12 by omega, show (t.val - 1) % 12 + 1 = t.val % 12 by omega] at hI
    iapply (kernelRun_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) xs0 xs1 xs2 xs3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · iexists _, _, _, _
        isplitr; swap
        · isplitl [HS0]; · iexact HS0
          isplitl [HS1]; · iexact HS1
          isplitl [HS2]; · iexact HS2
          iexact HS3
        ipureintro
        simp only [iblk0, iblk1, iblk2, iblk3, iblk4, iblk5]
        exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [h1] at hI
    isplitl [H6]
    · iexists _; isplitr; swap; · iexact H6
      ipureintro; intro _; simp only [iblk0, iblk1, iblk2, iblk3, iblk4, iblk5, h1]
      rw [← hI.act_eq, ← hI.2.2.1]
    · iexists _; isplitr; swap; · iexact H7
      ipureintro; intro _; simp only [iblk0, iblk1, iblk2, iblk3, iblk4, iblk5, h1]
      rw [← hI.2.2.1]
  · rw [show (dats m 0 c).Φ t.castSucc = PhiS m c (t.val - 1 + 1) from congrArg (PhiS m c) (show t.val = t.val - 1 + 1 by omega)]
    unfold PhiS
    iintro ⟨⟨⟨%xs0, %xs1, %xs2, %xs3, %hI0, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI := inv_step (V m c main_arg0) (V m c main_v0) (V m c main_arg2) (V m c main_arg4) (V m c main_v1) (V m c main_v2) ((t.val - 1) / 12) ((t.val - 1) % 12) (grid0.coords t) (by omega) hI0
    rw [show (t.val - 1) / 12 = t.val / 12 by omega, show (t.val - 1) % 12 + 1 = t.val % 12 by omega] at hI
    iapply (kernelRun_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) xs0 xs1 xs2 xs3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, ⟨%e6, H6⟩, ⟨%e7, H7⟩, HS0, HS1, HS2, HS3⟩
    isplitl [HS0 HS1 HS2 HS3 Hg]
    · isplitl [HS0 HS1 HS2 HS3]
      · iexists _, _, _, _
        isplitr; swap
        · isplitl [HS0]; · iexact HS0
          isplitl [HS1]; · iexact HS1
          isplitl [HS2]; · iexact HS2
          iexact HS3
        ipureintro
        simp only [iblk0, iblk1, iblk2, iblk3, iblk4, iblk5]
        exact hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; intro h; exact absurd h h1
    · iexists _; isplitr; swap; · iexact H7
      ipureintro; intro h; exact absurd h h1

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation with the outputs held to `Rl`. -/
theorem body_obligation (c : Dev nD) : BodyObligationRel (dats (F := F) m 0 c) (defs₀ (F := F)) Variants.none () Set.univ marked0 (Rl m c) := fun t => by
  rw [bigSep_W0, bigSep_W0, defs₀_row]
  refine triple_restated (sound_body m c t) rfl ?_ fun _ => .rfl
  unfold bodyPre
  refine BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono ?_ ?_))))))))
  · show iprop(∃ Y, ⌜((dats m 0 c).toRRel marked0 (Rl m c)).Finds 6 t Y⌝ ∗ owns (c : Thread nD τ) (ms0_6 t) fullShare Y) ⊢ _
    iintro ⟨%Y, -, H⟩; iexists _; iexact H
  · show iprop(∃ Y, ⌜((dats m 0 c).toRRel marked0 (Rl m c)).Finds 7 t Y⌝ ∗ owns (c : Thread nD τ) (ms0_7 t) fullShare Y) ⊢ _
    iintro ⟨%Y, -, H⟩; iexists _; iexact H

/-- Before the first point nothing is asked of the scratch buffers. -/
theorem hin (c : Dev nD) : Pipeline.ΦA spec0 c ⊢ (dats m 0 c).Φ 0 := by
  rw [show (dats m 0 c).Φ 0 = Pipeline.ΦA spec0 c from rfl]

/-- After the last point what is known of the scratch buffers may be forgotten. -/
theorem hout (c : Dev nD) : (dats m 0 c).Φ (Fin.last cfg0.N) ⊢ Pipeline.ΦA spec0 c := PhiS_weaken m c (Fin.last cfg0.N).val

set_option backward.isDefEq.respectTransparency.types false in
/-- The launch: the arrays end as the proof data say, and every semaphore counter at zero. -/
theorem run_main_quiescent : θ_run defs (onTc (τ := τ) (main (F := F))) (s₀ m ρ)
    (fun r => Pipeline.RDat.FramePost (cfgs 0) (fun c => (dats m 0 c).toRRel marked0 (Rl m c)) (V m) r ∧ r.2.sem = fun _ => 0) :=
  Pipeline.θ_run_frame_track_rel cfgs (dats m) (0 : Fin 1) launch0 defs₀ Variants.none marked0 (Rl m) m ρ main
    (hbody := body_obligation m) (hshare := fun c => (dats m 0 c).share_full fun _ => rfl)
    (howed := fun _ _ => rfl) (V := V m) (hmain := hmain m Variants.none) (hA := A_eq m) (hin := hin m) (hout := hout m)

end Cert.GateUpIdeal.Gen

end
-- ==== Proof.GateUpResult.lean ====
/-
  What the gate/up kernel's result arrays hold after the run, as functions of the argument arrays, and the frame.
-/
module

public import proofs.«01_k».proof.Proof.GateUpFrame

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

variable (m : (ℓ : Loc nD τ sig) → Buf (Elt F) ℓ) (ρ : Dev nD → PrngReg)

/-! ## The arrays the host reshapes -/

/-- The array `main_v0` that the host part makes is this reshape of an argument. -/
theorem V_main_v0 (c : Dev nD) : V m c main_v0 = shapeCast S30x1x512 (m ((c : Thread nD τ).loc main_arg1)) shapeCasts_S15360_S30x1x512 := by
  show StableHlo.after hostOps0 _ (Proc.devRef .tc main_v0) = _
  after_results
  rfl

/-- The array `main_v1` that the host part makes is this reshape of an argument. -/
theorem V_main_v1 (c : Dev nD) : V m c main_v1 = shapeCast S1x9216 (m ((c : Thread nD τ).loc main_arg3)) shapeCasts_S9216_S1x9216 := by
  show StableHlo.after hostOps0 _ (Proc.devRef .tc main_v1) = _
  after_results
  rfl

/-- The array `main_v2` that the host part makes is this reshape of an argument. -/
theorem V_main_v2 (c : Dev nD) : V m c main_v2 = shapeCast S1x9216 (m ((c : Thread nD τ).loc main_arg5)) shapeCasts_S9216_S1x9216 := by
  show StableHlo.after hostOps0 _ (Proc.devRef .tc main_v2) = _
  after_results
  rfl

/-! ## The results -/

/-- A place of the codes' block is this place of the codes' array. -/
theorem emb6 (t : Fin cfg0.N) (j : S512x9216.Idx) (i : S15360x9216.Idx) (h0 : (i 0).val = 512 * (t.val / 12) + (j 0).val) (h1 : (i 1).val = (j 1).val) :
    ((cfg0.win 6).blk t).view.emb j = i := by
  obtain ⟨e0, e1⟩ := idx6 t
  funext a; apply Fin.ext
  match a with
  | ⟨0, _⟩ => show win0_6.index t (0 : Fin 2) * 512 + 1 * (j 0).val = (i 0).val; omega
  | ⟨1, _⟩ => show win0_6.index t (1 : Fin 2) * 9216 + 1 * (j 1).val = (i 1).val; omega

/-- A place of the scales' block is this place of the scales' array. -/
theorem emb7 (t : Fin cfg0.N) (j : S1x1x512.Idx) (i : S30x1x512.Idx) (h0 : (i 0).val = t.val / 12) (h2 : (i 2).val = (j 2).val) :
    ((cfg0.win 7).blk t).view.emb j = i := by
  obtain ⟨e0, e1, e2⟩ := idx7 t
  have hj0 : (j 0).val < 1 := (j 0).isLt
  have hj1 : (j 1).val < 1 := (j 1).isLt
  have hi1 : (i 1).val < 1 := (i 1).isLt
  funext a; apply Fin.ext
  match a with
  | ⟨0, _⟩ => show win0_7.index t (0 : Fin 3) * 1 + 1 * (j 0).val = (i 0).val; omega
  | ⟨1, _⟩ => show win0_7.index t (1 : Fin 3) * 1 + 1 * (j 1).val = (i 1).val; omega
  | ⟨2, _⟩ => show win0_7.index t (2 : Fin 3) * 512 + 1 * (j 2).val = (i 2).val; omega

/-- Every place of the codes' array is in a block that is written back. -/
theorem cover6 (i : S15360x9216.Idx) : ∃ t : Fin cfg0.N, (cfg0.win 6).flush t = true ∧ i ∈ ((cfg0.win 6).blk t).view.set := by
  have h0 : (i 0).val < 15360 := (i 0).isLt
  have ht : 12 * ((i 0).val / 512) + 11 < cfg0.N := by rw [show cfg0.N = 360 from N_0]; omega
  generalize htt : (⟨12 * ((i 0).val / 512) + 11, ht⟩ : Fin cfg0.N) = t
  have htv : t.val = 12 * ((i 0).val / 512) + 11 := by rw [← htt]
  refine ⟨t, (flush0_6 _).mpr (by omega), ?_⟩
  have h := ((cfg0.win 6).blk t).view.emb_mem_set (ix2 ⟨(i 0).val % 512, Nat.mod_lt _ (by decide)⟩ (i 1) : S512x9216.Idx)
  rwa [emb6 t _ i (by show (i 0).val = 512 * (t.val / 12) + (i 0).val % 512; omega) rfl] at h

/-- Every place of the scales' array is in a block that is written back. -/
theorem cover7 (i : S30x1x512.Idx) : ∃ t : Fin cfg0.N, (cfg0.win 7).flush t = true ∧ i ∈ ((cfg0.win 7).blk t).view.set := by
  have h0 : (i 0).val < 30 := (i 0).isLt
  have ht : 12 * (i 0).val + 11 < cfg0.N := by rw [show cfg0.N = 360 from N_0]; omega
  generalize htt : (⟨12 * (i 0).val + 11, ht⟩ : Fin cfg0.N) = t
  have htv : t.val = 12 * (i 0).val + 11 := by rw [← htt]
  refine ⟨t, (flush0_7 _).mpr (by omega), ?_⟩
  have h := ((cfg0.win 7).blk t).view.emb_mem_set (ix3 (0 : Fin 1) (0 : Fin 1) (i 2) : S1x1x512.Idx)
  rwa [emb7 t _ i (by omega) rfl] at h

section Post
variable {m} {r : PUnit × MemSt nD τ sig (Elt F)}

/-- The codes' array after the run. -/
theorem post_codes (h : Pipeline.RDat.FramePost (cfgs 0) (fun c => (dats m 0 c).toRRel marked0 (Rl m c)) (V m) r) (c : Dev nD) :
    r.2.mem ((c : Thread nD τ).loc main_v3_0) = G0 (V m c main_arg0) (V m c main_v0) (V m c main_arg2) (V m c main_arg4) (V m c main_v1) (V m c main_v2) := by
  refine h.out_eq c 6 rfl (G0 (V m c main_arg0) (V m c main_v0) (V m c main_arg2) (V m c main_arg4) (V m c main_v1) (V m c main_v2)) ?_ cover6
  intro t ht X hX
  have h11 : t.val % 12 = 11 := (flush0_6 t).mp ht
  have hN : t.val < 360 := lt_of_lt_of_eq t.isLt (show cfg0.N = 360 from N_0)
  rw [show X = codesOut (amV (V m c main_arg0) (V m c main_v0) (V m c main_arg2) (V m c main_arg4) (V m c main_v1) (V m c main_v2) (t.val / 12) 11) (actV (V m c main_arg0) (V m c main_v0) (V m c main_arg2) (V m c main_arg4) (V m c main_v1) (V m c main_v2) (t.val / 12)) from hX h11]
  funext j
  have h0 : (j 0).val < 512 := (j 0).isLt
  show codesOut (amV (V m c main_arg0) (V m c main_v0) (V m c main_arg2) (V m c main_arg4) (V m c main_v1) (V m c main_v2) (t.val / 12) 11) (actV (V m c main_arg0) (V m c main_v0) (V m c main_arg2) (V m c main_arg4) (V m c main_v1) (V m c main_v2) (t.val / 12)) j = G0 (V m c main_arg0) (V m c main_v0) (V m c main_arg2) (V m c main_arg4) (V m c main_v1) (V m c main_v2) (((cfg0.win 6).blk t).view.emb j)
  rw [emb6 t j (ix2 ⟨512 * (t.val / 12) + (j 0).val, by omega⟩ (j 1)) rfl rfl]
  unfold G0
  rw [show ((ix2 ⟨512 * (t.val / 12) + (j 0).val, by omega⟩ (j 1) : S15360x9216.Idx) 0).val / 512 = t.val / 12 from by
    show (512 * (t.val / 12) + (j 0).val) / 512 = _; omega]
  congr 1
  funext a; apply Fin.ext
  match a with
  | ⟨0, _⟩ => show (j 0).val = (512 * (t.val / 12) + (j 0).val) % 512; omega
  | ⟨1, _⟩ => rfl

/-- The scales' array after the run. -/
theorem post_scales (h : Pipeline.RDat.FramePost (cfgs 0) (fun c => (dats m 0 c).toRRel marked0 (Rl m c)) (V m) r) (c : Dev nD) :
    r.2.mem ((c : Thread nD τ).loc main_v3_1) = G1 (V m c main_arg0) (V m c main_v0) (V m c main_arg2) (V m c main_arg4) (V m c main_v1) (V m c main_v2) := by
  refine h.out_eq c 7 rfl (G1 (V m c main_arg0) (V m c main_v0) (V m c main_arg2) (V m c main_arg4) (V m c main_v1) (V m c main_v2)) ?_ cover7
  intro t ht X hX
  have h11 : t.val % 12 = 11 := (flush0_7 t).mp ht
  have hN : t.val < 360 := lt_of_lt_of_eq t.isLt (show cfg0.N = 360 from N_0)
  rw [show X = k0_pay8 (amV (V m c main_arg0) (V m c main_v0) (V m c main_arg2) (V m c main_arg4) (V m c main_v1) (V m c main_v2) (t.val / 12) 11) from hX h11]
  funext j
  have h0 : (j 0).val < 1 := (j 0).isLt
  have h1 : (j 1).val < 1 := (j 1).isLt
  show k0_pay8 (amV (V m c main_arg0) (V m c main_v0) (V m c main_arg2) (V m c main_arg4) (V m c main_v1) (V m c main_v2) (t.val / 12) 11) j = G1 (V m c main_arg0) (V m c main_v0) (V m c main_arg2) (V m c main_arg4) (V m c main_v1) (V m c main_v2) (((cfg0.win 7).blk t).view.emb j)
  rw [emb7 t j (ix3 ⟨t.val / 12, by omega⟩ (0 : Fin 1) (j 2)) rfl rfl]
  unfold G1
  congr 1
  funext a; apply Fin.ext
  match a with
  | ⟨0, _⟩ => show (j 0).val = 0; omega
  | ⟨1, _⟩ => show (j 1).val = 0; omega
  | ⟨2, _⟩ => rfl

end Post

/-- The argument arrays end unchanged, from any relational proof data whose arrays are those the region finds. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 3 rfl).trans ((hA c 3).trans (V_main_arg4 m c)),
      ((h c).2 main_arg5 (Pipeline.mem_restRefs_of main_arg5 (by decide) (by decide))).trans (V_main_arg5 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRRel marked0 (Rl m c)) (A_eq m) ((θ_run defs _ _).mono (fun _ h => h.1) (run_main_quiescent m ρ))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with the result arrays as functions of the arrays the kernel stages. -/
theorem run_values : θ_run defs (onTc (τ := τ) (main (F := F))) ⟨m, fun _ => 0, ρ⟩ (fun r => ∀ c : Dev nD,
      r.2.mem ((c : Thread nD τ).loc main_v3_0) = G0 (V m c main_arg0) (V m c main_v0) (V m c main_arg2) (V m c main_arg4) (V m c main_v1) (V m c main_v2)
      ∧ r.2.mem ((c : Thread nD τ).loc main_v3_1) = G1 (V m c main_arg0) (V m c main_v0) (V m c main_arg2) (V m c main_arg4) (V m c main_v1) (V m c main_v2)) :=
  (θ_run defs _ _).mono (fun _ h c => ⟨post_codes h.1 c, post_scales h.1 c⟩) (run_main_quiescent m ρ)

end Cert.GateUpIdeal.Gen

end
-- ==== Proof.GateUpBits.lean ====
/-
  The frame of the gate/up kernel over machine words, from the frame that is proved of its text at every float instance.
-/
module

public import proofs.«01_k».proof.Defs
public import proofs.«01_k».proof.Proof.Gen.GateUp
public import proofs.«01_k».proof.Proof.GateUpResult

@[expose] public section

noncomputable section

namespace Cert.GateUp

open Idealize.ShloMosaic Idealize.ShloMosaic.TcCoe Idealize.SL.Sem

variable {F : FTy → Type} [FloatOps F]

/-- The two printings of the kernel's body are one function. -/
theorem body_eq : cc0_gate_up (F := F) = Cert.GateUpIdeal.cc0_gate_up (F := F) := rfl

/-- The two printings' tables of bodies are one table. -/
theorem defs₀_eq : defs₀ (F := F) = Cert.GateUpIdeal.defs₀ (F := F) := by
  unfold defs₀ Cert.GateUpIdeal.defs₀
  congr 1
  funext l x
  match l, x with
  | ⟨0, _⟩, (t, s) => rfl
  | ⟨_ + 1, h⟩, _ => exact absurd h (Nat.not_lt.2 (Nat.le_add_left _ _))

/-- The two printings' host programs are one program. -/
theorem main_eq : main (F := F) = Cert.GateUpIdeal.main (F := F) := rfl

/-- The two printings' tables of labels are one table. -/
theorem defs_eq : defs (F := F) = Cert.GateUpIdeal.defs (F := F) := by
  show Pipeline.defs pcfgs defs₀ = Pipeline.defs Cert.GateUpIdeal.pcfgs Cert.GateUpIdeal.defs₀
  rw [defs₀_eq]; rfl

/-- The frame over machine words: the program is, word for word, the one whose frame is proved at every float instance. -/
theorem quiescent : Cert.quiescent_GateUp (hGateUp := Cert.GateUp.Gen.facts) := by
  intro m g _
  have h := Cert.GateUpIdeal.Gen.frame (F := Bits) m g
  rw [← defs_eq, ← main_eq] at h
  exact h

end Cert.GateUp

end
-- ==== Proof.GateUpRefResult.lean ====
/-
  What the reference of the gate/up call computes: its result arrays as functions of its arguments.
-/
module

public import proofs.«01_k».proof.Proof.Gen.GateUpRefIdeal.Frame
public import Idealize.ShloMosaic.Lib.Claim
public import Idealize.ShloMosaic.Lib.Pipeline.Value

@[expose] public section

set_option maxRecDepth 16384

noncomputable section

namespace Cert.GateUpRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The results as functions of the arguments -/

/-- The reference's codes: of the activations, at the scale of their absolute values. -/
def R0 (x0 : Vec F S15360x4608 .i8) (x1 : Vec F S15360 .f32) (x2 : Vec F S4608x9216 .i8) (x3 : Vec F S9216 .f32) (x4 : Vec F S4608x9216 .i8) (x5 : Vec F S9216 .f32) : Vec F S15360x9216 .i8 :=
  k0_pay2 (k0_pay4 x0 x1 x2 x3 x0 x1 x4 x5) (absf (k0_pay4 x0 x1 x2 x3 x0 x1 x4 x5))

/-- The reference's scales. -/
def R1 (x0 : Vec F S15360x4608 .i8) (x1 : Vec F S15360 .f32) (x2 : Vec F S4608x9216 .i8) (x3 : Vec F S9216 .f32) (x4 : Vec F S4608x9216 .i8) (x5 : Vec F S9216 .f32) : Vec F S30x1x512 .f32 :=
  k0_pay3 (absf (k0_pay4 x0 x1 x2 x3 x0 x1 x4 x5))

/-- One zero offset, as a function. -/
theorem hz1 : (![0] : Fin 1 → Nat) = fun _ => 0 := funext fun a => by fin_cases a <;> rfl
/-- Two zero offsets, as a function. -/
theorem hz2 : (![0, 0] : Fin 2 → Nat) = fun _ => 0 := funext fun a => by fin_cases a <;> rfl
/-- Three zero offsets, as a function. -/
theorem hz3 : (![0, 0, 0] : Fin 3 → Nat) = fun _ => 0 := funext fun a => by fin_cases a <;> rfl

/-- The body's store into window 6: one store of the whole array, of loads of whole arrays. -/
theorem out6_eq (x0 : Vec F S15360x4608 .i8) (x1 : Vec F S15360 .f32) (x2 : Vec F S4608x9216 .i8) (x3 : Vec F S9216 .f32) (x4 : Vec F S4608x9216 .i8) (x5 : Vec F S9216 .f32) : out0_6 x0 x1 x2 x3 x4 x5 = R0 x0 x1 x2 x3 x4 x5 := by
  unfold_out out0_6
  rw [View.canon_unit_zero hz2]
  simp only [View.ld_unit_zero (S := S4608x9216) hz2, View.ld_unit_zero (S := S9216) hz1, View.ld_unit_zero (S := S15360) hz1, View.ld_unit_zero (S := S15360x4608) hz2]
  rfl

/-- The body's store into window 7: one store of the whole array, of loads of whole arrays. -/
theorem out7_eq (x0 : Vec F S15360x4608 .i8) (x1 : Vec F S15360 .f32) (x2 : Vec F S4608x9216 .i8) (x3 : Vec F S9216 .f32) (x4 : Vec F S4608x9216 .i8) (x5 : Vec F S9216 .f32) : out0_7 x0 x1 x2 x3 x4 x5 = R1 x0 x1 x2 x3 x4 x5 := by
  unfold_out out0_7
  rw [View.canon_unit_zero hz3]
  simp only [View.ld_unit_zero (S := S4608x9216) hz2, View.ld_unit_zero (S := S9216) hz1, View.ld_unit_zero (S := S15360) hz1, View.ld_unit_zero (S := S15360x4608) hz2]
  rfl

variable (m : (ℓ : Loc nD τ sig) → Buf (Elt F) ℓ) (ρ : Dev nD → PrngReg)

/-! ## Every window's block is its whole array -/

/-- Window 0: its block index is zero on every axis. -/
theorem idx_zero0 : ∀ t : Fin cfg0.N, win0_0.index t (0 : Fin 2) = 0 ∧ win0_0.index t (1 : Fin 2) = 0 := (by decide +kernel : ∀ t : Fin grid0.N, _)

/-- Window 0: an index of its block is the same index of its array. -/
theorem emb0 (t : Fin cfg0.N) (j : S15360x4608.Idx) : ((cfg0.win 0).blk t).view.emb j = j := by
  obtain ⟨e0, e1⟩ := idx_zero0 t
  funext a; apply Fin.ext
  match a with
  | ⟨0, _⟩ => show win0_0.index t (0 : Fin 2) * 15360 + 1 * (j 0).val = (j 0).val; omega
  | ⟨1, _⟩ => show win0_0.index t (1 : Fin 2) * 4608 + 1 * (j 1).val = (j 1).val; omega

/-- Window 0: its block is its array. -/
theorem iblk0_eq (c : Dev nD) (t : Fin cfg0.N) : iblk m c 0 t = V m c main_arg0 := by
  funext j; show V m c main_arg0 (((cfg0.win 0).blk t).view.emb j) = V m c main_arg0 j; rw [emb0]

/-- Window 1: its block index is zero on every axis. -/
theorem idx_zero1 : ∀ t : Fin cfg0.N, win0_1.index t (0 : Fin 1) = 0 := (by decide +kernel : ∀ t : Fin grid0.N, _)

/-- Window 1: an index of its block is the same index of its array. -/
theorem emb1 (t : Fin cfg0.N) (j : S15360.Idx) : ((cfg0.win 1).blk t).view.emb j = j := by
  obtain e0 := idx_zero1 t
  funext a; apply Fin.ext
  match a with
  | ⟨0, _⟩ => show win0_1.index t (0 : Fin 1) * 15360 + 1 * (j 0).val = (j 0).val; omega

/-- Window 1: its block is its array. -/
theorem iblk1_eq (c : Dev nD) (t : Fin cfg0.N) : iblk m c 1 t = V m c main_arg1 := by
  funext j; show V m c main_arg1 (((cfg0.win 1).blk t).view.emb j) = V m c main_arg1 j; rw [emb1]

/-- Window 2: its block index is zero on every axis. -/
theorem idx_zero2 : ∀ t : Fin cfg0.N, win0_2.index t (0 : Fin 2) = 0 ∧ win0_2.index t (1 : Fin 2) = 0 := (by decide +kernel : ∀ t : Fin grid0.N, _)

/-- Window 2: an index of its block is the same index of its array. -/
theorem emb2 (t : Fin cfg0.N) (j : S4608x9216.Idx) : ((cfg0.win 2).blk t).view.emb j = j := by
  obtain ⟨e0, e1⟩ := idx_zero2 t
  funext a; apply Fin.ext
  match a with
  | ⟨0, _⟩ => show win0_2.index t (0 : Fin 2) * 4608 + 1 * (j 0).val = (j 0).val; omega
  | ⟨1, _⟩ => show win0_2.index t (1 : Fin 2) * 9216 + 1 * (j 1).val = (j 1).val; omega

/-- Window 2: its block is its array. -/
theorem iblk2_eq (c : Dev nD) (t : Fin cfg0.N) : iblk m c 2 t = V m c main_arg2 := by
  funext j; show V m c main_arg2 (((cfg0.win 2).blk t).view.emb j) = V m c main_arg2 j; rw [emb2]

/-- Window 3: its block index is zero on every axis. -/
theorem idx_zero3 : ∀ t : Fin cfg0.N, win0_3.index t (0 : Fin 1) = 0 := (by decide +kernel : ∀ t : Fin grid0.N, _)

/-- Window 3: an index of its block is the same index of its array. -/
theorem emb3 (t : Fin cfg0.N) (j : S9216.Idx) : ((cfg0.win 3).blk t).view.emb j = j := by
  obtain e0 := idx_zero3 t
  funext a; apply Fin.ext
  match a with
  | ⟨0, _⟩ => show win0_3.index t (0 : Fin 1) * 9216 + 1 * (j 0).val = (j 0).val; omega

/-- Window 3: its block is its array. -/
theorem iblk3_eq (c : Dev nD) (t : Fin cfg0.N) : iblk m c 3 t = V m c main_arg3 := by
  funext j; show V m c main_arg3 (((cfg0.win 3).blk t).view.emb j) = V m c main_arg3 j; rw [emb3]

/-- Window 4: its block index is zero on every axis. -/
theorem idx_zero4 : ∀ t : Fin cfg0.N, win0_4.index t (0 : Fin 2) = 0 ∧ win0_4.index t (1 : Fin 2) = 0 := (by decide +kernel : ∀ t : Fin grid0.N, _)

/-- Window 4: an index of its block is the same index of its array. -/
theorem emb4 (t : Fin cfg0.N) (j : S4608x9216.Idx) : ((cfg0.win 4).blk t).view.emb j = j := by
  obtain ⟨e0, e1⟩ := idx_zero4 t
  funext a; apply Fin.ext
  match a with
  | ⟨0, _⟩ => show win0_4.index t (0 : Fin 2) * 4608 + 1 * (j 0).val = (j 0).val; omega
  | ⟨1, _⟩ => show win0_4.index t (1 : Fin 2) * 9216 + 1 * (j 1).val = (j 1).val; omega

/-- Window 4: its block is its array. -/
theorem iblk4_eq (c : Dev nD) (t : Fin cfg0.N) : iblk m c 4 t = V m c main_arg4 := by
  funext j; show V m c main_arg4 (((cfg0.win 4).blk t).view.emb j) = V m c main_arg4 j; rw [emb4]

/-- Window 5: its block index is zero on every axis. -/
theorem idx_zero5 : ∀ t : Fin cfg0.N, win0_5.index t (0 : Fin 1) = 0 := (by decide +kernel : ∀ t : Fin grid0.N, _)

/-- Window 5: an index of its block is the same index of its array. -/
theorem emb5 (t : Fin cfg0.N) (j : S9216.Idx) : ((cfg0.win 5).blk t).view.emb j = j := by
  obtain e0 := idx_zero5 t
  funext a; apply Fin.ext
  match a with
  | ⟨0, _⟩ => show win0_5.index t (0 : Fin 1) * 9216 + 1 * (j 0).val = (j 0).val; omega

/-- Window 5: its block is its array. -/
theorem iblk5_eq (c : Dev nD) (t : Fin cfg0.N) : iblk m c 5 t = V m c main_arg5 := by
  funext j; show V m c main_arg5 (((cfg0.win 5).blk t).view.emb j) = V m c main_arg5 j; rw [emb5]

/-- Window 6: its block index is zero on every axis. -/
theorem idx_zero6 : ∀ t : Fin cfg0.N, win0_6.index t (0 : Fin 2) = 0 ∧ win0_6.index t (1 : Fin 2) = 0 := (by decide +kernel : ∀ t : Fin grid0.N, _)

/-- Window 6: an index of its block is the same index of its array. -/
theorem emb6 (t : Fin cfg0.N) (j : S15360x9216.Idx) : ((cfg0.win 6).blk t).view.emb j = j := by
  obtain ⟨e0, e1⟩ := idx_zero6 t
  funext a; apply Fin.ext
  match a with
  | ⟨0, _⟩ => show win0_6.index t (0 : Fin 2) * 15360 + 1 * (j 0).val = (j 0).val; omega
  | ⟨1, _⟩ => show win0_6.index t (1 : Fin 2) * 9216 + 1 * (j 1).val = (j 1).val; omega

/-- Window 7: its block index is zero on every axis. -/
theorem idx_zero7 : ∀ t : Fin cfg0.N, win0_7.index t (0 : Fin 3) = 0 ∧ win0_7.index t (1 : Fin 3) = 0 ∧ win0_7.index t (2 : Fin 3) = 0 := (by decide +kernel : ∀ t : Fin grid0.N, _)

/-- Window 7: an index of its block is the same index of its array. -/
theorem emb7 (t : Fin cfg0.N) (j : S30x1x512.Idx) : ((cfg0.win 7).blk t).view.emb j = j := by
  obtain ⟨e0, e1, e2⟩ := idx_zero7 t
  funext a; apply Fin.ext
  match a with
  | ⟨0, _⟩ => show win0_7.index t (0 : Fin 3) * 30 + 1 * (j 0).val = (j 0).val; omega
  | ⟨1, _⟩ => show win0_7.index t (1 : Fin 3) * 1 + 1 * (j 1).val = (j 1).val; omega
  | ⟨2, _⟩ => show win0_7.index t (2 : Fin 3) * 512 + 1 * (j 2).val = (j 2).val; omega

/-- Result array 0 after the run. -/
theorem final6 (c : Dev nD) : (dats m 0 c).arrAt 6 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (R0 (V m c main_arg0) (V m c main_arg1) (V m c main_arg2) (V m c main_arg3) (V m c main_arg4) (V m c main_arg5))
    (fun t _ => by
      show (cfg0.win 6).cut (grid0.coords t) ((dats m 0 c).after 6 t) = _
      rw [after0_6, out6_eq, iblk0_eq, iblk1_eq, iblk2_eq, iblk3_eq, iblk4_eq, iblk5_eq]
      funext j
      show R0 (V m c main_arg0) (V m c main_arg1) (V m c main_arg2) (V m c main_arg3) (V m c main_arg4) (V m c main_arg5) j = R0 (V m c main_arg0) (V m c main_arg1) (V m c main_arg2) (V m c main_arg3) (V m c main_arg4) (V m c main_arg5) (((cfg0.win 6).blk t).view.emb j)
      rw [emb6])
    (fun i => ⟨(⟨0, by decide⟩ : Fin cfg0.N), flush0_6 _, by
      have h := ((cfg0.win 6).blk (⟨0, by decide⟩ : Fin cfg0.N)).view.emb_mem_set i; rwa [emb6] at h⟩)).trans
    (by rw [V_main_arg0, V_main_arg1, V_main_arg2, V_main_arg3, V_main_arg4, V_main_arg5])

/-- Result array 1 after the run. -/
theorem final7 (c : Dev nD) : (dats m 0 c).arrAt 7 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (R1 (V m c main_arg0) (V m c main_arg1) (V m c main_arg2) (V m c main_arg3) (V m c main_arg4) (V m c main_arg5))
    (fun t _ => by
      show (cfg0.win 7).cut (grid0.coords t) ((dats m 0 c).after 7 t) = _
      rw [after0_7, out7_eq, iblk0_eq, iblk1_eq, iblk2_eq, iblk3_eq, iblk4_eq, iblk5_eq]
      funext j
      show R1 (V m c main_arg0) (V m c main_arg1) (V m c main_arg2) (V m c main_arg3) (V m c main_arg4) (V m c main_arg5) j = R1 (V m c main_arg0) (V m c main_arg1) (V m c main_arg2) (V m c main_arg3) (V m c main_arg4) (V m c main_arg5) (((cfg0.win 7).blk t).view.emb j)
      rw [emb7])
    (fun i => ⟨(⟨0, by decide⟩ : Fin cfg0.N), flush0_7 _, by
      have h := ((cfg0.win 7).blk (⟨0, by decide⟩ : Fin cfg0.N)).view.emb_mem_set i; rwa [emb7] at h⟩)).trans
    (by rw [V_main_arg0, V_main_arg1, V_main_arg2, V_main_arg3, V_main_arg4, V_main_arg5])

/-- Every run ends with the result arrays at these functions of the arguments. -/
theorem run_values : θ_run defs (onTc (τ := τ) (main (F := F))) ⟨m, fun _ => 0, ρ⟩ fun r => ∀ c : Dev nD,
      r.2.mem ((c : Thread nD τ).loc main_v0_0) = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (θ_run defs _ _).mono (fun _ h c => ⟨((h c).1 6).trans (final6 m c), ((h c).1 7).trans (final7 m c)⟩) (run_main m ρ)

end Cert.GateUpRefIdeal.Gen

end
-- ==== Proof.GateUpRead.lean ====
/-
  What the kernel's payloads are at an index, over any float instance: scale, codes, running maximum, activation tile.
-/
module

public import proofs.«01_k».proof.Proof.QuantMath
public import proofs.«01_k».proof.Proof.GateUpVals
public import Idealize.ShloMosaic.Lib.Pointwise

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

variable {F : FTy → Type} [FloatOps F]

/-- A value per row, read along the row of a tile. -/
theorem col_apply {α : Type} (s : S512x1.Idx → α) (r : Fin 512) (n : Fin 768) :
    broadcastTo S512x768 s broadcasts_S512x1_S512x768 (ix2 r n) = s (ix2 r 0) := by
  pointwise

/-- A value per column, read down the column of a tile. -/
theorem row_apply {α : Type} (s : S1x768.Idx → α) (r : Fin 512) (n : Fin 768) :
    broadcastTo S512x768 (shapeCast S1x768 s shapeCasts_S1x768_S1x768) broadcasts_S1x768_S512x768 (ix2 r n) = s (ix2 0 n) := by
  pointwise

/-- The first lane of the broadcast row scales. -/
theorem col0_apply (sc : Vec F S512x128 .f32) (r : Fin 512) : col0 sc (ix2 r 0) = sc (ix2 r 0) := by
  unfold col0 VecWindow.window
  congr 1
  funext a
  apply Fin.ext
  fin_cases a
  · show 0 + 1 * r.val = r.val
    omega
  · rfl

/-- A tile of the gate product brought back to values. -/
theorem gate_apply (s : Vec F S512x1 .f32) (cbf : Vec F S512x4608 .bf16) (w : Vec F S4608x768 .i8) (sw : Vec F S1x768 .f32)
    (r : Fin 512) (n : Fin 768) :
    k0_pay25 s cbf w sw (ix2 r n) = dequant (matmul dot_S512x4608_S4608x768_S512x768_1_0_0_1_n_n none cbf (sitofp .bf16 w)
      (constant S512x768 .f32 0x00000000#32) (ix2 r n)) (s (ix2 r 0)) (sw (ix2 0 n)) := by
  rw [← col_apply s r n, ← row_apply sw r n]
  rfl

/-- The up product is computed by the same expression as the gate product. -/
theorem up_eq (s : Vec F S512x1 .f32) (cbf : Vec F S512x4608 .bf16) (w : Vec F S4608x768 .i8) (sw : Vec F S1x768 .f32) :
    k0_pay26 s cbf w sw = k0_pay25 s cbf w sw := rfl

/-- The activation tile from the two dequantised products. -/
theorem aTile_apply (cbf : Vec F S512x4608 .bf16) (sc : Vec F S512x128 .f32) (wg wu : Vec F S4608x768 .i8) (sg su : Vec F S1x768 .f32)
    (r : Fin 512) (n : Fin 768) :
    aTile cbf sc wg wu sg su (ix2 r n)
      = actL (dequant (matmul dot_S512x4608_S4608x768_S512x768_1_0_0_1_n_n none cbf (sitofp .bf16 wg)
          (constant S512x768 .f32 0x00000000#32) (ix2 r n)) (sc (ix2 r 0)) (sg (ix2 0 n)))
        (dequant (matmul dot_S512x4608_S4608x768_S512x768_1_0_0_1_n_n none cbf (sitofp .bf16 wu)
          (constant S512x768 .f32 0x00000000#32) (ix2 r n)) (sc (ix2 r 0)) (su (ix2 0 n))) := by
  rw [← col0_apply sc r, ← gate_apply (col0 sc) cbf wg sg r n, ← gate_apply (col0 sc) cbf wu su r n, ← up_eq]
  rfl

/-- The stored tile is the tile under a leading axis. -/
theorem aTile3_apply (cbf : Vec F S512x4608 .bf16) (sc : Vec F S512x128 .f32) (wg wu : Vec F S4608x768 .i8) (sg su : Vec F S1x768 .f32)
    (r : Fin 512) (n : Fin 768) :
    aTile3 cbf sc wg wu sg su (ix3 0 r n) = aTile cbf sc wg wu sg su (ix2 r n) := by
  have e : ∀ v : FVec F S512x768 .f32, shapeCast S1x512x768 v shapeCasts_S512x768_S1x512x768 (ix3 0 r n) = v (ix2 r n) := fun v => by pointwise
  exact e (aTile cbf sc wg wu sg su)

/-- Lane `l` of the `k`-th group of 128 columns of a tile. -/
def lane (k : Fin 6) (l : Fin 128) : Fin 768 := ⟨128 * k.val + l.val, by omega⟩

/-- A slice of 128 columns of a tile, read at a lane. -/
theorem slice_apply {α : Type} (v : S512x768.Idx → α) (k : Fin 6) (o : ℕ) (ho : o = 128 * k.val) (h : S512x768.Slices ![0, o] S512x128)
    (r : Fin 512) (l : Fin 128) :
    extractStridedSlice S512x128 ![0, o] v h (ix2 r l) = v (ix2 r (lane k l)) := by
  subst ho
  refine extractStridedSlice_apply _ _ _ _ _ fun a => ?_
  fin_cases a
  · show r.val = 0 + r.val
    omega
  · rfl

/-- The running maximum after a tile: the old one against the absolute values of the tile's six columns of that lane. -/
theorem aMax_apply (cbf : Vec F S512x4608 .bf16) (sc : Vec F S512x128 .f32) (wg wu : Vec F S4608x768 .i8) (sg su : Vec F S1x768 .f32)
    (am : Vec F S512x128 .f32) (r : Fin 512) (l : Fin 128) :
    aMax cbf sc wg wu sg su am (ix2 r l)
      = FloatOps.maximumf (FloatOps.maximumf (FloatOps.maximumf (FloatOps.maximumf (FloatOps.maximumf (FloatOps.maximumf (am (ix2 r l))
          (FloatOps.absf (aTile cbf sc wg wu sg su (ix2 r (lane 0 l))))) (FloatOps.absf (aTile cbf sc wg wu sg su (ix2 r (lane 1 l)))))
          (FloatOps.absf (aTile cbf sc wg wu sg su (ix2 r (lane 2 l))))) (FloatOps.absf (aTile cbf sc wg wu sg su (ix2 r (lane 3 l)))))
          (FloatOps.absf (aTile cbf sc wg wu sg su (ix2 r (lane 4 l))))) (FloatOps.absf (aTile cbf sc wg wu sg su (ix2 r (lane 5 l)))) := by
  rw [← slice_apply (aTile cbf sc wg wu sg su) 0 0 rfl slices_S512x768_o0_0_S512x128, ← slice_apply (aTile cbf sc wg wu sg su) 1 128 rfl slices_S512x768_o0_128_S512x128,
    ← slice_apply (aTile cbf sc wg wu sg su) 2 256 rfl slices_S512x768_o0_256_S512x128, ← slice_apply (aTile cbf sc wg wu sg su) 3 384 rfl slices_S512x768_o0_384_S512x128,
    ← slice_apply (aTile cbf sc wg wu sg su) 4 512 rfl slices_S512x768_o0_512_S512x128, ← slice_apply (aTile cbf sc wg wu sg su) 5 640 rfl slices_S512x768_o0_640_S512x128]
  unfold aMax k0_pay3
  rw [shapeCast_self]
  rfl

/-- The maximum starts at zero. -/
theorem zero_apply (r : Fin 512) (l : Fin 128) : k0_pay24 (F := F) (ix2 r l) = FloatOps.ofBits .f32 0x00000000#32 := by
  unfold k0_pay24
  rw [shapeCast_self]
  rfl

/-- The scale of row `r` of a block: the quantiser's, of the maximum over the lanes. -/
theorem scale_apply (am : Vec F S512x128 .f32) (r : Fin 512) :
    k0_pay7 am (ix2 r 0) = scaleOf (multiReduction .maximumf [1] S512 am 0xFF800000#32 reduces_S512x128_S512 (.inl rfl) rfl (ix1 r)) := by
  have e : ∀ v : FVec F S512 .f32, shapeCast S512x1 v shapeCasts_S512_S512x1 (ix2 r 0) = v (ix1 r) := fun v => by pointwise
  rw [← e (multiReduction .maximumf [1] S512 am 0xFF800000#32 reduces_S512x128_S512 (.inl rfl) rfl)]
  rfl

/-- The scales of a block as they are stored. -/
theorem scales_apply (am : Vec F S512x128 .f32) (r : Fin 512) : k0_pay8 am (ix3 0 0 r) = k0_pay7 am (ix2 r 0) := by
  unfold k0_pay8
  generalize k0_pay7 am = s
  pointwise

/-- A code of a slice: the element times the reciprocal of the row's scale, rounded and clipped. -/
theorem codes_apply (s : FVec F S512x1 .f32) (v : Vec F S1x512x768 .f32) (r : Fin 512) (n : Fin 768) :
    k0_pay12 s v (ix2 r n) = codeMul (v (ix3 0 r n)) (s (ix2 r 0)) := by
  have e : shapeCast S512x768 v shapeCasts_S1x512x768_S512x768 (ix2 r n) = v (ix3 0 r n) := by pointwise
  have e' : broadcastTo S512x768 (divf (broadcast S512x1 (Scalar.ofBits .f32 0x3F800000#32)) s) broadcasts_S512x1_S512x768 (ix2 r n)
      = FloatOps.divf (FloatOps.ofBits .f32 0x3F800000#32) (s (ix2 r 0)) := col_apply _ r n
  exact congrArg₂ (fun a b => toCode (FloatOps.mulf a b)) e e'

/-- The row scales of block `b`, in every lane. -/
theorem sc_apply (A1 : Vec F S30x1x512 .f32) (b : ℕ) (hb : b < 30) (r : Fin 512) (l : Fin 128) :
    scV A1 b (ix2 r l) = A1 (ix3 ⟨b, hb⟩ 0 r) := by
  have e : bX1 A1 b (ix3 0 0 r) = A1 (ix3 ⟨b, hb⟩ 0 r) := by
    show A1 (ix3 ⟨b % 30, _⟩ 0 r) = _
    congr 2
    exact Fin.ext (Nat.mod_eq_of_lt hb)
  rw [← e]
  unfold scV k0_pay23
  generalize bX1 A1 b = v
  pointwise

/-- The activation scratch at slice `j`, row `r`, column `n`. -/
theorem act_apply (A0 : Vec F S15360x4608 .i8) (A1 : Vec F S30x1x512 .f32) (A2 A3 : Vec F S4608x9216 .i8) (A4 A5 : Vec F S1x9216 .f32)
    (b : ℕ) (j : Fin 12) (r : Fin 512) (n : Fin 768) :
    actV A0 A1 A2 A3 A4 A5 b (ix3 j r n)
      = aTile (cbfV A0 b) (scV A1 b) (bW A2 j.val) (bW A3 j.val) (bS A4 j.val) (bS A5 j.val) (ix2 r n) :=
  aTile3_apply _ _ _ _ _ _ r n

/-- A slice of the activation scratch, read at an index. -/
theorem actSlice_apply (act : Vec F S12x512x768 .f32) (k : Fin 12) (r : Fin 512) (n : Fin 768) :
    actSlice act k (ix3 0 r n) = act (ix3 k r n) := by
  unfold actSlice VecWindow.window
  congr 1
  funext a
  apply Fin.ext
  fin_cases a
  · show k.val + 1 * 0 = k.val
    omega
  · show 0 + 1 * r.val = r.val
    omega
  · show 0 + 1 * n.val = n.val
    omega

/-- A code of a block, from the maxima and the activations. -/
theorem codesOut_apply (am : Vec F S512x128 .f32) (act : Vec F S12x512x768 .f32) (r : Fin 512) (n : Fin 9216) :
    codesOut am act (ix2 r n)
      = codeMul (act (ix3 ⟨n.val / 768, by omega⟩ r ⟨n.val % 768, Nat.mod_lt _ (by decide)⟩)) (k0_pay7 am (ix2 r 0)) := by
  rw [← actSlice_apply act ⟨n.val / 768, by omega⟩ r ⟨n.val % 768, Nat.mod_lt _ (by decide)⟩, ← codes_apply]
  rfl

end Cert.GateUpIdeal.Gen

end
-- ==== Proof.GateUpRefRead.lean ====
/-
  What the reference's payloads are at an index, over any float instance: scale, codes, activation of the products.
-/
module

public import proofs.«01_k».proof.Proof.QuantMath
public import proofs.«01_k».proof.Proof.Gen.GateUpRefIdeal.Frame
public import Idealize.ShloMosaic.Lib.Pointwise

@[expose] public section

set_option maxRecDepth 16384

noncomputable section

namespace Cert.GateUpRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math

variable {F : FTy → Type} [FloatOps F]

/-- The scale of row `t`: the quantiser's, of the row's maximum. -/
theorem scale_apply (v : FVec F S15360x9216 .f32) (t : Fin 15360) :
    k0_pay1 v (ix1 t) = scaleOf (multiReduction .maximumf [1] S15360 v 0xFF800000#32 reduces_S15360x9216_S15360 (.inl rfl) rfl (ix1 t)) := rfl

/-- A value per row, read along the row. -/
theorem col_apply {α : Type} (s : S15360.Idx → α) (t : Fin 15360) (n : Fin 9216) :
    broadcastTo S15360x9216 (shapeCast S15360x1 s shapeCasts_S15360_S15360x1) broadcasts_S15360x1_S15360x9216 (ix2 t n) = s (ix1 t) := by
  pointwise

/-- A value per column, read down the column. -/
theorem row_apply {α : Type} (s : S9216.Idx → α) (t : Fin 15360) (n : Fin 9216) :
    broadcastTo S15360x9216 (shapeCast S1x9216 s shapeCasts_S9216_S1x9216) broadcasts_S1x9216_S15360x9216 (ix2 t n) = s (ix1 n) := by
  pointwise

/-- The code at row `t` and column `n`: the element divided by the row's scale, rounded and clipped. -/
theorem codes_apply (v w : FVec F S15360x9216 .f32) (t : Fin 15360) (n : Fin 9216) :
    k0_pay2 v w (ix2 t n) = codeDiv (v (ix2 t n)) (k0_pay1 w (ix1 t)) :=
  congrArg (codeDiv (v (ix2 t n))) (col_apply (k0_pay1 w) t n)

/-- The scales as they are stored: row `512 b + r` at block `b` and place `r`. -/
theorem scales_apply (w : FVec F S15360x9216 .f32) (b : Fin 30) (r : Fin 512) :
    k0_pay3 w (ix3 b 0 r) = k0_pay1 w (ix1 ⟨b.val * 512 + r.val, by omega⟩) := by
  unfold k0_pay3
  generalize k0_pay1 w = s
  pointwise

/-- The activation at row `t` and column `n`, from the two products. -/
theorem act_apply (v0 : Vec F S15360x4608 .i8) (v1 : Vec F S15360 .f32) (v2 : Vec F S4608x9216 .i8) (v3 : Vec F S9216 .f32)
    (v15 : Vec F S4608x9216 .i8) (v16 : Vec F S9216 .f32) (t : Fin 15360) (n : Fin 9216) :
    k0_pay4 v0 v1 v2 v3 v0 v1 v15 v16 (ix2 t n)
      = actR (dequant (matmul dot_S15360x4608_S4608x9216_S15360x9216_1_0_0_1_n_n none (sitofp .bf16 v0) (sitofp .bf16 v2)
            (constant S15360x9216 .f32 0x00000000#32) (ix2 t n)) (v1 (ix1 t)) (v3 (ix1 n)))
          (dequant (matmul dot_S15360x4608_S4608x9216_S15360x9216_1_0_0_1_n_n none (sitofp .bf16 v0) (sitofp .bf16 v15)
            (constant S15360x9216 .f32 0x00000000#32) (ix2 t n)) (v1 (ix1 t)) (v16 (ix1 n))) := by
  rw [← col_apply v1 t n, ← row_apply v3 t n, ← row_apply v16 t n]
  rfl

end Cert.GateUpRefIdeal.Gen

end
-- ==== Proof.GateUpMath.lean ====
/-
  The gate/up call and its reference are one function over the extended reals: the products, the activations, the row
  maxima, the scales and the codes agree index by index.
-/
module

public import proofs.«01_k».proof.Proof.GateUpRead
public import proofs.«01_k».proof.Proof.GateUpRefRead
public import proofs.«01_k».proof.Proof.GateUpRefResult
public import Idealize.ShloMosaic.Lib.Pointwise

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

/-! ## The products -/

/-- The product of the codes at row `t` with a weight's codes at column `n`. -/
def dotAt (X : Vec Ideal S15360x4608 .i8) (W : Vec Ideal S4608x9216 .i8) (t : Fin 15360) (n : Fin 9216) : EReal :=
  ∑ k : Fin 4608, (FloatOps.sitofp (F := Ideal) .bf16 (X (ix2 t k)) : EReal) * FloatOps.sitofp (F := Ideal) .bf16 (W (ix2 k n))

/-- The reference's product. -/
theorem ref_dot (X : Vec Ideal S15360x4608 .i8) (W : Vec Ideal S4608x9216 .i8) (t : Fin 15360) (n : Fin 9216) :
    matmul Cert.GateUpRefIdeal.dot_S15360x4608_S4608x9216_S15360x9216_1_0_0_1_n_n none (sitofp (F := Ideal) .bf16 X) (sitofp (F := Ideal) .bf16 W)
      (constant S15360x9216 .f32 0x00000000#32) (ix2 t n) = dotAt X W t n := by
  unfold dotAt
  pointwise

/-- The kernel's product of a block, as a sum. -/
theorem block_dot (x : FVec Ideal S512x4608 .bf16) (w : Vec Ideal S4608x768 .i8) (r : Fin 512) (n : Fin 768) :
    matmul dot_S512x4608_S4608x768_S512x768_1_0_0_1_n_n none x (sitofp (F := Ideal) .bf16 w) (constant S512x768 .f32 0x00000000#32) (ix2 r n)
      = ∑ k : Fin 4608, (x (ix2 r k) : EReal) * FloatOps.sitofp (F := Ideal) .bf16 (w (ix2 k n)) := by
  pointwise

/-- Row `r` of block `b`. -/
def rowOf (b : Fin 30) (r : Fin 512) : Fin 15360 := ⟨b.val * 512 + r.val, by omega⟩

/-- Column `n` of tile `j`. -/
def colOf (j : Fin 12) (n : Fin 768) : Fin 9216 := ⟨768 * j.val + n.val, by omega⟩

/-- An element of a block of the codes. -/
theorem bX0_apply (A : Vec Ideal S15360x4608 .i8) (b : Fin 30) (r : Fin 512) (k : Fin 4608) : bX0 A b.val (ix2 r k) = A (ix2 (rowOf b r) k) := by
  have e : (⟨(512 * b.val + r.val) % 15360, Nat.mod_lt _ (by decide)⟩ : Fin 15360) = rowOf b r :=
    Fin.ext (by show (512 * b.val + r.val) % 15360 = b.val * 512 + r.val; omega)
  show A (ix2 (⟨(512 * b.val + r.val) % 15360, _⟩ : Fin 15360) k) = _
  rw [e]

/-- An element of a tile of a weight. -/
theorem bW_apply (A : Vec Ideal S4608x9216 .i8) (j : Fin 12) (k : Fin 4608) (n : Fin 768) : bW A j.val (ix2 k n) = A (ix2 k (colOf j n)) := by
  have e : (⟨(768 * j.val + n.val) % 9216, Nat.mod_lt _ (by decide)⟩ : Fin 9216) = colOf j n :=
    Fin.ext (by show (768 * j.val + n.val) % 9216 = 768 * j.val + n.val; omega)
  show A (ix2 k (⟨(768 * j.val + n.val) % 9216, _⟩ : Fin 9216)) = _
  rw [e]

/-- An element of a tile of a weight's scales. -/
theorem bS_apply (A : Vec Ideal S1x9216 .f32) (j : Fin 12) (n : Fin 768) : bS A j.val (ix2 0 n) = A (ix2 0 (colOf j n)) := by
  have e : (⟨(768 * j.val + n.val) % 9216, Nat.mod_lt _ (by decide)⟩ : Fin 9216) = colOf j n :=
    Fin.ext (by show (768 * j.val + n.val) % 9216 = 768 * j.val + n.val; omega)
  show A (ix2 0 (⟨(768 * j.val + n.val) % 9216, _⟩ : Fin 9216)) = _
  rw [e]

/-- The kernel's product of a block is the product at the block's rows and columns. -/
theorem ker_dot (X : Vec Ideal S15360x4608 .i8) (W : Vec Ideal S4608x9216 .i8) (b : Fin 30) (j : Fin 12) (r : Fin 512) (n : Fin 768) :
    matmul dot_S512x4608_S4608x768_S512x768_1_0_0_1_n_n none (cbfV X b.val) (sitofp (F := Ideal) .bf16 (bW W j.val))
      (constant S512x768 .f32 0x00000000#32) (ix2 r n) = dotAt X W (rowOf b r) (colOf j n) := by
  rw [block_dot]
  refine Finset.sum_congr rfl fun k _ => ?_
  rw [bW_apply, ← bX0_apply X b r k]
  unfold cbfV k0_pay22
  rw [shapeCast_self]
  rfl

/-! ## The activations -/

section Values
variable (X : Vec Ideal S15360x4608 .i8) (xs : Vec Ideal S15360 .f32) (Wg Wu : Vec Ideal S4608x9216 .i8) (sg su : Vec Ideal S9216 .f32)

/-- The activation at row `t` and column `n`. -/
def actAt (t : Fin 15360) (n : Fin 9216) : Ideal .f32 :=
  actR (F := Ideal) (dequant (F := Ideal) (dotAt X Wg t n) (xs (ix1 t)) (sg (ix1 n))) (dequant (F := Ideal) (dotAt X Wu t n) (xs (ix1 t)) (su (ix1 n)))

/-- The reference's activations. -/
theorem ref_act (t : Fin 15360) (n : Fin 9216) :
    Cert.GateUpRefIdeal.Gen.k0_pay4 (F := Ideal) X xs Wg sg X xs Wu su (ix2 t n) = actAt X xs Wg Wu sg su t n := by
  rw [Cert.GateUpRefIdeal.Gen.act_apply, ref_dot, ref_dot]
  rfl

/-- The row scales as the kernel reads them, by blocks of rows. -/
abbrev xsB : Vec Ideal S30x1x512 .f32 := shapeCast S30x1x512 xs shapeCasts_S15360_S30x1x512

/-- A weight's scales as the kernel reads them, as one row. -/
abbrev rowB (s : Vec Ideal S9216 .f32) : Vec Ideal S1x9216 .f32 := shapeCast S1x9216 s shapeCasts_S9216_S1x9216

/-- The row scale at row `r` of block `b`. -/
theorem xsB_apply (b : Fin 30) (r : Fin 512) : xsB xs (ix3 b 0 r) = xs (ix1 (rowOf b r)) := by
  unfold xsB rowOf
  pointwise

/-- A weight's scale at column `n`. -/
theorem rowB_apply (s : Vec Ideal S9216 .f32) (n : Fin 9216) : rowB s (ix2 0 n) = s (ix1 n) := by
  unfold rowB
  pointwise

/-- A tile of the kernel's activations. -/
def tileB (b j : ℕ) : FVec Ideal S512x768 .f32 := aTile (cbfV X b) (scV (xsB xs) b) (bW Wg j) (bW Wu j) (bS (rowB sg) j) (bS (rowB su) j)

/-- It holds the activations at the tile's rows and columns. -/
theorem ker_act (b : Fin 30) (j : Fin 12) (r : Fin 512) (n : Fin 768) :
    tileB X xs Wg Wu sg su b.val j.val (ix2 r n) = actAt X xs Wg Wu sg su (rowOf b r) (colOf j n) := by
  unfold tileB
  rw [aTile_apply, ker_dot, ker_dot, sc_apply _ b.val b.isLt, bS_apply, bS_apply, xsB_apply, rowB_apply, rowB_apply, actL_eq]
  rfl

/-! ## The row maxima -/

/-- The kernel's maxima after a tile, lane by lane. -/
def amB (b j : ℕ) : Vec Ideal S512x128 .f32 := amV X (xsB xs) Wg Wu (rowB sg) (rowB su) b j

/-- One step of the maximum: at most `z` exactly when the old one and the tile's six columns of the lane are. -/
theorem aMax_le (cbf : Vec Ideal S512x4608 .bf16) (sc : Vec Ideal S512x128 .f32) (wg wu : Vec Ideal S4608x768 .i8) (sg su : Vec Ideal S1x768 .f32)
    (am : Vec Ideal S512x128 .f32) (r : Fin 512) (l : Fin 128) (z : EReal) :
    (aMax cbf sc wg wu sg su am (ix2 r l) : EReal) ≤ z
      ↔ (am (ix2 r l) : EReal) ≤ z ∧ ∀ k : Fin 6, (FloatOps.absf (F := Ideal) (aTile cbf sc wg wu sg su (ix2 r (lane k l))) : EReal) ≤ z := by
  rw [aMax_apply]
  simp only [Fin.forall_fin_succ, Ideal.maximumf_def, max_le_iff, and_assoc, IsEmpty.forall_iff, and_true]
  rfl

/-- The maxima after tile `j`: at most `z` exactly when zero and all the lane's columns so far are. -/
theorem amB_le (b : ℕ) (r : Fin 512) (l : Fin 128) (z : EReal) (j : ℕ) :
    (amB X xs Wg Wu sg su b j (ix2 r l) : EReal) ≤ z
      ↔ (0 : EReal) ≤ z ∧ ∀ i ≤ j, ∀ k : Fin 6, (FloatOps.absf (F := Ideal) (tileB X xs Wg Wu sg su b i (ix2 r (lane k l))) : EReal) ≤ z := by
  induction j with
  | zero =>
    unfold amB amV
    rw [aMax_le, zero_apply]
    have e : (FloatOps.ofBits (F := Ideal) .f32 0x00000000#32 : EReal) = 0 := Ideal.ofBits_zero_f32
    rw [e]
    refine and_congr_right fun _ => ⟨fun h i hi => ?_, fun h => h 0 le_rfl⟩
    obtain rfl : i = 0 := by omega
    exact h
  | succ j ih =>
    have e : amB X xs Wg Wu sg su b (j + 1)
        = aMax (cbfV X b) (scV (xsB xs) b) (bW Wg (j + 1)) (bW Wu (j + 1)) (bS (rowB sg) (j + 1)) (bS (rowB su) (j + 1)) (amB X xs Wg Wu sg su b j) := rfl
    rw [e, aMax_le, ih]
    constructor
    · rintro ⟨⟨h0, h1⟩, h2⟩
      refine ⟨h0, fun i hi => ?_⟩
      rcases Nat.lt_or_eq_of_le hi with h | rfl
      · exact h1 i (by omega)
      · exact h2
    · rintro ⟨h0, h1⟩
      exact ⟨⟨h0, fun i hi => h1 i (by omega)⟩, h1 (j + 1) le_rfl⟩

/-- The maximum of the kernel's lanes is the maximum over the row of the activations' absolute values. -/
theorem max_eq (b : Fin 30) (r : Fin 512) :
    multiReduction (F := Ideal) .maximumf [1] S512 (amB X xs Wg Wu sg su b.val 11) 0xFF800000#32 reduces_S512x128_S512 (.inl rfl) rfl (ix1 r)
      = multiReduction (F := Ideal) .maximumf [1] Cert.GateUpRefIdeal.S15360 (absf (Cert.GateUpRefIdeal.Gen.k0_pay4 (F := Ideal) X xs Wg sg X xs Wu su))
          0xFF800000#32 Cert.GateUpRefIdeal.Gen.reduces_S15360x9216_S15360 (.inl rfl) rfl (ix1 (rowOf b r)) := by
  refine eq_of_forall_ge_iff (α := EReal) fun z => ?_
  refine (rowMax_le (amB X xs Wg Wu sg su b.val 11) _ _ _ r z).trans (Iff.trans ?_
    (rowMax_le (absf (Cert.GateUpRefIdeal.Gen.k0_pay4 (F := Ideal) X xs Wg sg X xs Wu su)) _ _ _ (rowOf b r) z).symm)
  have hr : ∀ n, (absf (Cert.GateUpRefIdeal.Gen.k0_pay4 (F := Ideal) X xs Wg sg X xs Wu su) (ix2 (rowOf b r) n) : EReal)
      = FloatOps.absf (F := Ideal) (actAt X xs Wg Wu sg su (rowOf b r) n) := fun n => congrArg (FloatOps.absf (F := Ideal)) (ref_act X xs Wg Wu sg su (rowOf b r) n)
  constructor
  · intro h n
    have hn := n.isLt
    refine (hr n).trans_le ?_
    have h1 := ((amB_le X xs Wg Wu sg su b.val r ⟨n.val % 128, Nat.mod_lt _ (by decide)⟩ z 11).1 (h _)).2 (n.val / 768) (by omega)
      ⟨n.val % 768 / 128, by omega⟩
    rw [ker_act X xs Wg Wu sg su b ⟨n.val / 768, by omega⟩ r] at h1
    have e : colOf ⟨n.val / 768, by omega⟩ (lane ⟨n.val % 768 / 128, by omega⟩ ⟨n.val % 128, Nat.mod_lt _ (by decide)⟩) = n :=
      Fin.ext (by show 768 * (n.val / 768) + (128 * (n.val % 768 / 128) + n.val % 128) = n.val; omega)
    rwa [e] at h1
  · intro h l
    refine (amB_le X xs Wg Wu sg su b.val r l z 11).2 ⟨(absf_nonneg _).trans ((hr 0).symm.trans_le (h 0)), fun i hi k => ?_⟩
    rw [ker_act X xs Wg Wu sg su b ⟨i, by omega⟩ r]
    exact (hr _).symm.trans_le (h _)

/-! ## Scales and codes -/

/-- The scales agree, row by row. -/
theorem scale_eq (b : Fin 30) (r : Fin 512) :
    k0_pay7 (amB X xs Wg Wu sg su b.val 11) (ix2 r 0)
      = Cert.GateUpRefIdeal.Gen.k0_pay1 (absf (Cert.GateUpRefIdeal.Gen.k0_pay4 (F := Ideal) X xs Wg sg X xs Wu su)) (ix1 (rowOf b r)) := by
  rw [scale_apply, Cert.GateUpRefIdeal.Gen.scale_apply, max_eq]

/-- The kernel's scales are the reference's. -/
theorem G1_eq : G1 X (xsB xs) Wg Wu (rowB sg) (rowB su) = Cert.GateUpRefIdeal.Gen.R1 (F := Ideal) X xs Wg sg Wu su := by
  funext y
  obtain ⟨b, z, r, rfl⟩ : ∃ (b : Fin 30) (z : Fin 1) (r : Fin 512), y = ix3 b z r := ⟨y 0, y 1, y 2, (ix3_eta y).symm⟩
  obtain rfl : z = 0 := Subsingleton.elim _ _
  unfold Cert.GateUpRefIdeal.Gen.R1
  rw [Cert.GateUpRefIdeal.Gen.scales_apply]
  refine Eq.trans ?_ (scale_eq X xs Wg Wu sg su b r)
  exact scales_apply (amB X xs Wg Wu sg su b.val 11) r

/-- The kernel's codes are the reference's. -/
theorem G0_eq : G0 X (xsB xs) Wg Wu (rowB sg) (rowB su) = Cert.GateUpRefIdeal.Gen.R0 (F := Ideal) X xs Wg sg Wu su := by
  funext y
  obtain ⟨t, n, rfl⟩ : ∃ (t : Fin 15360) (n : Fin 9216), y = ix2 t n := ⟨y 0, y 1, (ix2_eta y).symm⟩
  have ht := t.isLt
  have hn := n.isLt
  have et : rowOf ⟨t.val / 512, by omega⟩ ⟨t.val % 512, Nat.mod_lt _ (by decide)⟩ = t :=
    Fin.ext (by show t.val / 512 * 512 + t.val % 512 = t.val; omega)
  have en : colOf ⟨n.val / 768, by omega⟩ ⟨n.val % 768, Nat.mod_lt _ (by decide)⟩ = n :=
    Fin.ext (by show 768 * (n.val / 768) + n.val % 768 = n.val; omega)
  unfold Cert.GateUpRefIdeal.Gen.R0
  rw [Cert.GateUpRefIdeal.Gen.codes_apply, ref_act]
  have hs := scale_eq X xs Wg Wu sg su ⟨t.val / 512, by omega⟩ ⟨t.val % 512, Nat.mod_lt _ (by decide)⟩
  have ha := ker_act X xs Wg Wu sg su ⟨t.val / 512, by omega⟩ ⟨n.val / 768, by omega⟩ ⟨t.val % 512, Nat.mod_lt _ (by decide)⟩ ⟨n.val % 768, Nat.mod_lt _ (by decide)⟩
  rw [et] at hs ha
  rw [en] at ha
  show codesOut (amB X xs Wg Wu sg su (t.val / 512) 11) (actV X (xsB xs) Wg Wu (rowB sg) (rowB su) (t.val / 512))
    (ix2 (⟨t.val % 512, Nat.mod_lt _ (by decide)⟩ : Fin 512) n) = _
  rw [codesOut_apply, act_apply]
  show codeMul (tileB X xs Wg Wu sg su (t.val / 512) (n.val / 768) (ix2 _ _)) _ = _
  rw [ha, hs]
  exact codeMul_eq _ _ (by rw [Cert.GateUpRefIdeal.Gen.scale_apply]; exact scaleOf_ne_zero _)

end Values

end Cert.GateUpIdeal.Gen

end
-- ==== Proof.GateUpClaim.lean ====
/-
  The algebraic claim of the gate/up call.
-/
module

public import proofs.«01_k».proof.Defs
public import proofs.«01_k».proof.Proof.GateUpResult
public import proofs.«01_k».proof.Proof.GateUpRefResult
public import proofs.«01_k».proof.Proof.GateUpMath

@[expose] public section

noncomputable section

namespace Cert.GateUpIdeal

open Idealize.ShloMosaic Idealize.SL.Sem

/-- From any memories that agree on the arguments, the kernel and its reference run, leave their arguments unchanged, and
    end with equal results. -/
theorem algebraic : Cert.algebraic_GateUpIdeal_GateUpRefIdeal (hGateUpIdeal := Cert.GateUpIdeal.Gen.facts) (hGateUpRefIdeal := Cert.GateUpRefIdeal.Gen.facts) := by
  intro m g m' g' _ hargs
  refine ⟨fun c => Cert.GateUpRefIdeal.Gen.R0 (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)), fun c => Cert.GateUpRefIdeal.Gen.R1 (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)), ?_, ?_⟩
  · refine (θ_run (Cert.GateUpIdeal.defs (F := Ideal)) _ _).mono (fun r h c => ?_) (θ_run_and (Cert.GateUpIdeal.Gen.run_values (F := Ideal) m g) (Cert.GateUpIdeal.Gen.unchanged (F := Ideal) m g))
    refine ⟨(h.1 c).1.trans ?_, (h.1 c).2.trans ?_, h.2 c⟩
    · rw [Cert.GateUpIdeal.Gen.V_main_arg0, Cert.GateUpIdeal.Gen.V_main_v0, Cert.GateUpIdeal.Gen.V_main_arg2, Cert.GateUpIdeal.Gen.V_main_arg4, Cert.GateUpIdeal.Gen.V_main_v1, Cert.GateUpIdeal.Gen.V_main_v2]
      exact Cert.GateUpIdeal.Gen.G0_eq _ _ _ _ _ _
    · rw [Cert.GateUpIdeal.Gen.V_main_arg0, Cert.GateUpIdeal.Gen.V_main_v0, Cert.GateUpIdeal.Gen.V_main_arg2, Cert.GateUpIdeal.Gen.V_main_arg4, Cert.GateUpIdeal.Gen.V_main_v1, Cert.GateUpIdeal.Gen.V_main_v2]
      exact Cert.GateUpIdeal.Gen.G1_eq _ _ _ _ _ _
  · refine (θ_run (Cert.GateUpRefIdeal.defs (F := Ideal)) _ _).mono (fun r h c => ?_) (θ_run_and (Cert.GateUpRefIdeal.Gen.run_values (F := Ideal) m' g') (Cert.GateUpRefIdeal.Gen.unchanged (F := Ideal) m' g'))
    obtain ⟨h0, h1, h2, h3, h4, h5⟩ := hargs c
    refine ⟨(h.1 c).1.trans ?_, (h.1 c).2.trans ?_, h.2 c⟩
    · rw [h0, h1, h2, h3, h4, h5]
    · rw [h0, h1, h2, h3, h4, h5]

end Cert.GateUpIdeal

end
-- ==== Proof.OprojLoop.lean ====
/-
  The row loop of the attention-projection kernel: the contents its trips leave, in closed form.
-/
module

public import proofs.«01_k».proof.Proof.Gen.OprojIdeal.Loops
public import Idealize.ShloMosaic.Lib.Pipeline.FrameBody
public import Idealize.ShloMosaic.Lib.Pipeline.DatRel
public import Idealize.ShloMosaic.Lib.Pipeline.Value
public import Idealize.ShloMosaic.Lib.Pipeline.ValueKit.Tiles
public import Idealize.ShloMosaic.Lib.ValueIdx
public import Idealize.ShloMosaic.Lib.WritesUnit
public import Idealize.ShloMosaic.Lib.VecWindow
public import Idealize.ShloMosaic.Lib.Tactic

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-- A row of a block lies in one of its sixteen chunks. -/
theorem div16_lt (a : Fin 256) : a.val / 16 < 16 := by have := a.isLt; omega

/-- The sixteen rows that trip `k` of the row loop works on, of a 256-row block. -/
def rows16 {e : EltTy} (d : Vec F S256x4608 e) (k : ℕ) : Vec F S16x4608 e :=
  fun y => d (ix2 (n0 := 256) (n1 := 4608) ⟨(16 * k + (y 0).val) % 256, Nat.mod_lt _ (by omega)⟩ (y 1))

/-- The scale column of the sixteen rows that trip `k` works on. -/
def col16 (d : Vec F S256x128 .f32) (k : ℕ) : Vec F S16x1 .f32 :=
  fun y => d (ix2 (n0 := 256) (n1 := 128) ⟨(16 * k + (y 0).val) % 256, Nat.mod_lt _ (by omega)⟩ ⟨0, by omega⟩)

/-- Where a row of the block lies within its trip's sixteen rows. -/
abbrev loc16 {W : ℕ} (y : (⟨2, ![256, W]⟩ : Shape).Idx) : (⟨2, ![16, W]⟩ : Shape).Idx :=
  ix2 (n0 := 16) (n1 := W) ⟨(y 0).val % 16, Nat.mod_lt _ (by omega)⟩ (y 1)

/-- What trip `k` stores of the residual stream. -/
def h1C (a : Vec F S256x4608 .f32) (s : Vec F S256x128 .f32) (ws : Vec F S1x4608 .f32) (x : Vec F S256x4608 .bf16) (gp : Vec F S1x4608 .f32) (k : ℕ) : Vec F S16x4608 .f32 :=
  k0_pay2 (rows16 a k) (col16 s k) ws (rows16 x k) gp

/-- The sums of squares trip `k` normalizes by. -/
def sqC (a : Vec F S256x4608 .f32) (s : Vec F S256x128 .f32) (ws : Vec F S1x4608 .f32) (x : Vec F S256x4608 .bf16) (gp : Vec F S1x4608 .f32) (k : ℕ) : Vec F S16x1 .f32 :=
  k0_pay3 (rows16 a k) (col16 s k) ws (rows16 x k) gp

/-- The residual stream the whole loop stores, row by row. -/
def h1V (a : Vec F S256x4608 .f32) (s : Vec F S256x128 .f32) (ws : Vec F S1x4608 .f32) (x : Vec F S256x4608 .bf16) (gp : Vec F S1x4608 .f32) : Vec F S256x4608 .f32 :=
  fun y => h1C a s ws x gp ((y 0).val / 16) (loc16 (W := 4608) y)

/-- The rounded codes the whole loop leaves in the accumulator, row by row. -/
def qV (a : Vec F S256x4608 .f32) (s : Vec F S256x128 .f32) (ws : Vec F S1x4608 .f32) (x : Vec F S256x4608 .bf16) (gp gi : Vec F S1x4608 .f32) : Vec F S256x4608 .f32 :=
  fun y => k0_pay6 (h1C a s ws x gp ((y 0).val / 16)) (sqC a s ws x gp ((y 0).val / 16)) gi (loc16 (W := 4608) y)

/-- The row scales the whole loop leaves, one per row and copied across the lanes. -/
def sV (a : Vec F S256x4608 .f32) (s : Vec F S256x128 .f32) (ws : Vec F S1x4608 .f32) (x : Vec F S256x4608 .bf16) (gp gi : Vec F S1x4608 .f32) : Vec F S256x128 .f32 :=
  fun y => k0_pay7 (h1C a s ws x gp ((y 0).val / 16)) (sqC a s ws x gp ((y 0).val / 16)) gi (loc16 (W := 128) y)

/-- A load of trip `k`'s rows reads those rows of what the view holds. -/
theorem ld_rows16 {e : EltTy} (v : View sig .tc .vmem S256x4608 e) (f : v.ty.Contents (Elt F)) (k : ℕ) (hk : k < 16) (off : Fin 2 → ℕ) (ho : off = ![16 * k, 0]) (inb) :
    v.readAt (Elt F) (Rect.unit (s := S256x4608) off ![16, 4608] inb).toLoadRect f = rows16 (v.read (Elt F) f) k := by
  subst ho
  funext y
  have hy : (y 0).val < 16 := (y 0).isLt
  refine View.ld_unit_apply_of (v.read (Elt F) f) _ _ inb y _ fun a => ?_
  match a with
  | ⟨0, _⟩ => show (16 * k + (y 0).val) % 256 = 16 * k + (y 0).val; omega
  | ⟨1, _⟩ => show (y 1).val = 0 + (y 1).val; omega

/-- A load of trip `k`'s scale column reads that column of what the view holds. -/
theorem ld_col16 (v : View sig .tc .vmem S256x128 .f32) (f : v.ty.Contents (Elt F)) (k : ℕ) (hk : k < 16) (off : Fin 2 → ℕ) (ho : off = ![16 * k, 0]) (inb) :
    v.readAt (Elt F) (Rect.unit (s := S256x128) off ![16, 1] inb).toLoadRect f = col16 (v.read (Elt F) f) k := by
  subst ho
  funext y
  have hy : (y 0).val < 16 := (y 0).isLt
  have hz : (y 1).val < 1 := (y 1).isLt
  refine View.ld_unit_apply_of (v.read (Elt F) f) _ _ inb y _ fun a => ?_
  match a with
  | ⟨0, _⟩ => show (16 * k + (y 0).val) % 256 = 16 * k + (y 0).val; omega
  | ⟨1, _⟩ => show 0 = 0 + (y 1).val; omega

/-- A load of the whole of a one-row view reads what it holds. -/
theorem ld_1x4608 {e : EltTy} (v : View sig .tc .vmem S1x4608 e) (f : v.ty.Contents (Elt F)) (inb) :
    v.readAt (Elt F) (Rect.unit (s := S1x4608) ![0, 0] ![1, 4608] inb).toLoadRect f = v.read (Elt F) f := View.readAt_full v f inb

/-- Rows that agree are the same sixteen rows. -/
theorem rows16_congr {e : EltTy} {d d' : Vec F S256x4608 e} (k : ℕ) (hk : k < 16) (h : ∀ y : S256x4608.Idx, 16 * k ≤ (y 0).val → d y = d' y) :
    rows16 d k = rows16 d' k := by
  funext y
  have hy : (y 0).val < 16 := (y 0).isLt
  refine h _ ?_
  show 16 * k ≤ (16 * k + (y 0).val) % 256
  omega

/-- Scale columns that agree are the same sixteen scales. -/
theorem col16_congr {d d' : Vec F S256x128 .f32} (k : ℕ) (hk : k < 16) (h : ∀ y : S256x128.Idx, 16 * k ≤ (y 0).val → d y = d' y) :
    col16 d k = col16 d' k := by
  funext y
  have hy : (y 0).val < 16 := (y 0).isLt
  refine h _ ?_
  show 16 * k ≤ (16 * k + (y 0).val) % 256
  omega

/-- Storing sixteen rows over contents known row by row. -/
theorem store16 {W : ℕ} {e : EltTy} (v : View sig .tc .vmem (⟨2, ![256, W]⟩ : Shape) e) (f : v.ty.Contents (Elt F)) (k : ℕ) (off : Fin 2 → ℕ) (ho : off = ![16 * k, 0]) (inb)
    (w : Vec F (⟨2, ![16, W]⟩ : Shape) e) (L : List (View.Piece (Elt F) (⟨2, ![256, W]⟩ : Shape) e)) (p : ℕ → Vec F (⟨2, ![16, W]⟩ : Shape) e) (g : Vec F (⟨2, ![256, W]⟩ : Shape) e)
    (hw : w = p k) (hL : ∀ y, v.read (Elt F) (v.writes (Elt F) f L) y = if (y 0).val < 16 * k then p ((y 0).val / 16) (loc16 y) else g y) (y : (⟨2, ![256, W]⟩ : Shape).Idx) :
    v.read (Elt F) (v.writes (Elt F) f ((⟨Rect.unit (s := ⟨2, ![256, W]⟩) off ![16, W] inb, w⟩ : View.Piece (Elt F) (⟨2, ![256, W]⟩ : Shape) e) :: L)) y
      = if (y 0).val < 16 * (k + 1) then p ((y 0).val / 16) (loc16 y) else g y := by
  refine (View.read_writes_cons_rows v f inb w L y ho (show (![16, W] : Fin 2 → ℕ) 0 = 16 from rfl) rfl).trans ?_
  by_cases h : 16 * k ≤ (y (0 : Fin 2)).val ∧ (y (0 : Fin 2)).val < 16 * k + 16
  · rw [dif_pos h, if_pos (by omega), hw, show (y 0).val / 16 = k by omega]
    refine congrArg (p k) (funext fun a => Fin.ext ?_)
    match a with
    | ⟨0, _⟩ => show (y 0).val - 16 * k = (y 0).val % 16; omega
    | ⟨1, _⟩ => show (y 1).val - 0 = (y 1).val; omega
  · rw [dif_neg h, hL y]
    by_cases h' : (y 0).val < 16 * k
    · rw [if_pos h', if_pos (by omega)]
    · rw [if_neg h', if_neg (by omega)]

section
variable (𝒱 : Variants) (c : Dev nD) (bd : Option 𝒱.V) (i : grid0.Coords) (arg1 : Memref sig .tc .vmem S256x1024 .i8) (harg1 : arg1.IsWhole) (arg2 : Memref sig .tc .vmem S1x1x256 .f32) (harg2 : arg2.IsWhole) (arg3 : Memref sig .tc .vmem S1024x4608 .i8) (harg3 : arg3.IsWhole) (arg4 : Memref sig .tc .vmem S1x4608 .f32) (harg4 : arg4.IsWhole) (arg5 : Memref sig .tc .vmem S256x4608 .bf16) (harg5 : arg5.IsWhole) (arg6 : Memref sig .tc .vmem S1x4608 .f32) (harg6 : arg6.IsWhole) (arg7 : Memref sig .tc .vmem S1x4608 .f32) (harg7 : arg7.IsWhole) (arg8 : Memref sig .tc .vmem S256x4608 .f32) (harg8 : arg8.IsWhole) (arg9 : Memref sig .tc .vmem S256x4608 .i8) (harg9 : arg9.IsWhole) (arg10 : Memref sig .tc .vmem S1x1x256 .f32) (harg10 : arg10.IsWhole) (arg11 : Memref sig .tc .vmem S1024x4608 .bf16) (harg11 : arg11.IsWhole) (arg12 : Memref sig .tc .vmem S256x4608 .f32) (harg12 : arg12.IsWhole) (arg13 : Memref sig .tc .vmem S256x128 .f32) (harg13 : arg13.IsWhole) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)

/-- What trip `k` stores into the residual stream, from what the accumulator and the scale scratch hold when it starts. -/
theorem trip8_eq (f8 f12 f13) : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 k).1 f8 f12 f13
    = [⟨Rect.unit (s := S256x4608) (k0_off1 k) ![16, 4608] (k0_off1_inb k), h1C (arg12.view.read (Elt F) f12) (arg13.view.read (Elt F) f13) (arg4.view.read (Elt F) X_arg4) (arg5.view.read (Elt F) X_arg5) (arg6.view.read (Elt F) X_arg6) k.val⟩] := by
  have hk : k.val < 16 := Nat.lt_of_lt_of_le k.isLt k0_t1_abs.2.1
  unfold trip_k0_t1 h1C
  dsimp only
  rw [← ld_rows16 arg12.view f12 k.val hk _ (k0_off1_eq k) (k0_off1_inb k), ← ld_rows16 arg5.view X_arg5 k.val hk _ (k0_off1_eq k) (k0_off1_inb k),
    ← ld_col16 arg13.view f13 k.val hk _ (k0_off2_eq k) (k0_off2_inb k),
    ← ld_1x4608 arg4.view X_arg4 inb_S1x4608_S1x4608_0_0, ← ld_1x4608 arg6.view X_arg6 inb_S1x4608_S1x4608_0_0]

/-- What trip `k` stores into the accumulator. -/
theorem trip12_eq (f8 f12 f13) : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 k).2.1 f8 f12 f13
    = [⟨Rect.unit (s := S256x4608) (k0_off1 k) ![16, 4608] (k0_off1_inb k),
        k0_pay6 (h1C (arg12.view.read (Elt F) f12) (arg13.view.read (Elt F) f13) (arg4.view.read (Elt F) X_arg4) (arg5.view.read (Elt F) X_arg5) (arg6.view.read (Elt F) X_arg6) k.val)
          (sqC (arg12.view.read (Elt F) f12) (arg13.view.read (Elt F) f13) (arg4.view.read (Elt F) X_arg4) (arg5.view.read (Elt F) X_arg5) (arg6.view.read (Elt F) X_arg6) k.val) (arg7.view.read (Elt F) X_arg7)⟩] := by
  have hk : k.val < 16 := Nat.lt_of_lt_of_le k.isLt k0_t1_abs.2.1
  unfold trip_k0_t1 h1C sqC
  dsimp only
  unfold trip_k0_t1.sl.r_1 trip_k0_t1.sl.r
  rw [← ld_rows16 arg12.view f12 k.val hk _ (k0_off1_eq k) (k0_off1_inb k), ← ld_rows16 arg5.view X_arg5 k.val hk _ (k0_off1_eq k) (k0_off1_inb k),
    ← ld_col16 arg13.view f13 k.val hk _ (k0_off2_eq k) (k0_off2_inb k),
    ← ld_1x4608 arg4.view X_arg4 inb_S1x4608_S1x4608_0_0, ← ld_1x4608 arg6.view X_arg6 inb_S1x4608_S1x4608_0_0, ← ld_1x4608 arg7.view X_arg7 inb_S1x4608_S1x4608_0_0]

/-- What trip `k` stores into the scale scratch. -/
theorem trip13_eq (f8 f12 f13) : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 k).2.2.1 f8 f12 f13
    = [⟨Rect.unit (s := S256x128) (k0_off3 k) ![16, 128] (k0_off3_inb k),
        k0_pay7 (h1C (arg12.view.read (Elt F) f12) (arg13.view.read (Elt F) f13) (arg4.view.read (Elt F) X_arg4) (arg5.view.read (Elt F) X_arg5) (arg6.view.read (Elt F) X_arg6) k.val)
          (sqC (arg12.view.read (Elt F) f12) (arg13.view.read (Elt F) f13) (arg4.view.read (Elt F) X_arg4) (arg5.view.read (Elt F) X_arg5) (arg6.view.read (Elt F) X_arg6) k.val) (arg7.view.read (Elt F) X_arg7)⟩] := by
  have hk : k.val < 16 := Nat.lt_of_lt_of_le k.isLt k0_t1_abs.2.1
  unfold trip_k0_t1 h1C sqC
  dsimp only
  unfold trip_k0_t1.sl.r_1 trip_k0_t1.sl.r
  rw [← ld_rows16 arg12.view f12 k.val hk _ (k0_off1_eq k) (k0_off1_inb k), ← ld_rows16 arg5.view X_arg5 k.val hk _ (k0_off1_eq k) (k0_off1_inb k),
    ← ld_col16 arg13.view f13 k.val hk _ (k0_off2_eq k) (k0_off2_inb k),
    ← ld_1x4608 arg4.view X_arg4 inb_S1x4608_S1x4608_0_0, ← ld_1x4608 arg6.view X_arg6 inb_S1x4608_S1x4608_0_0, ← ld_1x4608 arg7.view X_arg7 inb_S1x4608_S1x4608_0_0]
end

section
variable (𝒱 : Variants) (c : Dev nD) (bd : Option 𝒱.V) (i : grid0.Coords) (arg1 : Memref sig .tc .vmem S256x1024 .i8) (harg1 : arg1.IsWhole) (arg2 : Memref sig .tc .vmem S1x1x256 .f32) (harg2 : arg2.IsWhole) (arg3 : Memref sig .tc .vmem S1024x4608 .i8) (harg3 : arg3.IsWhole) (arg4 : Memref sig .tc .vmem S1x4608 .f32) (harg4 : arg4.IsWhole) (arg5 : Memref sig .tc .vmem S256x4608 .bf16) (harg5 : arg5.IsWhole) (arg6 : Memref sig .tc .vmem S1x4608 .f32) (harg6 : arg6.IsWhole) (arg7 : Memref sig .tc .vmem S1x4608 .f32) (harg7 : arg7.IsWhole) (arg8 : Memref sig .tc .vmem S256x4608 .f32) (harg8 : arg8.IsWhole) (arg9 : Memref sig .tc .vmem S256x4608 .i8) (harg9 : arg9.IsWhole) (arg10 : Memref sig .tc .vmem S1x1x256 .f32) (harg10 : arg10.IsWhole) (arg11 : Memref sig .tc .vmem S1024x4608 .bf16) (harg11 : arg11.IsWhole) (arg12 : Memref sig .tc .vmem S256x4608 .f32) (harg12 : arg12.IsWhole) (arg13 : Memref sig .tc .vmem S256x128 .f32) (harg13 : arg13.IsWhole) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- The state before trip `n`: the rows already visited hold what their trips computed, and the rest are as at loop entry. -/
theorem pb_read (G8 G12 G13) (n : ℕ) (hn : n ≤ k0_t1_loop.trips) :
    (∀ y, arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).1) y
      = if (y 0).val < 16 * n then h1V (arg12.view.read (Elt F) G12) (arg13.view.read (Elt F) G13) (arg4.view.read (Elt F) X_arg4) (arg5.view.read (Elt F) X_arg5) (arg6.view.read (Elt F) X_arg6) y else arg8.view.read (Elt F) G8 y)
    ∧ (∀ y, arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.1) y
      = if (y 0).val < 16 * n then qV (arg12.view.read (Elt F) G12) (arg13.view.read (Elt F) G13) (arg4.view.read (Elt F) X_arg4) (arg5.view.read (Elt F) X_arg5) (arg6.view.read (Elt F) X_arg6) (arg7.view.read (Elt F) X_arg7) y else arg12.view.read (Elt F) G12 y)
    ∧ (∀ y, arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.2) y
      = if (y 0).val < 16 * n then sV (arg12.view.read (Elt F) G12) (arg13.view.read (Elt F) G13) (arg4.view.read (Elt F) X_arg4) (arg5.view.read (Elt F) X_arg5) (arg6.view.read (Elt F) X_arg6) (arg7.view.read (Elt F) X_arg7) y else arg13.view.read (Elt F) G13 y) := by
  induction n with
  | zero => exact ⟨fun y => (if_neg (by omega)).symm, fun y => (if_neg (by omega)).symm, fun y => (if_neg (by omega)).symm⟩
  | succ n ih =>
    obtain ⟨h8, h12, h13⟩ := ih (by omega)
    have hn16 : n < 16 := Nat.lt_of_lt_of_le (show n < k0_t1_loop.trips by omega) k0_t1_abs.2.1
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 ⟨n, by omega⟩
    unfold tripL_k0_t1 at hs
    dsimp only at hs
    rw [trip8_eq, trip12_eq, trip13_eq] at hs
    have e12 := rows16_congr n hn16 (d := arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.1)) (d' := arg12.view.read (Elt F) G12) fun y hy => (h12 y).trans (if_neg (by omega))
    have e13 := col16_congr n hn16 (d := arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.2)) (d' := arg13.view.read (Elt F) G13) fun y hy => (h13 y).trans (if_neg (by omega))
    have eh : ∀ (ws : Vec F S1x4608 .f32) (x : Vec F S256x4608 .bf16) (gp : Vec F S1x4608 .f32), h1C (arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.1)) (arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.2)) ws x gp n
        = h1C (arg12.view.read (Elt F) G12) (arg13.view.read (Elt F) G13) ws x gp n := fun ws x gp => by unfold h1C; rw [e12, e13]
    have eq : ∀ (ws : Vec F S1x4608 .f32) (x : Vec F S256x4608 .bf16) (gp : Vec F S1x4608 .f32), sqC (arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.1)) (arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.2)) ws x gp n
        = sqC (arg12.view.read (Elt F) G12) (arg13.view.read (Elt F) G13) ws x gp n := fun ws x gp => by unfold sqC; rw [e12, e13]
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 (n + 1) = _ from hs]
    refine ⟨fun y => ?_, fun y => ?_, fun y => ?_⟩
    · exact store16 arg8.view G8 n _ (k0_off1_eq ⟨n, by omega⟩) _ _ _ (fun j => h1C (arg12.view.read (Elt F) G12) (arg13.view.read (Elt F) G13) (arg4.view.read (Elt F) X_arg4) (arg5.view.read (Elt F) X_arg5) (arg6.view.read (Elt F) X_arg6) j) _ (eh _ _ _) h8 y
    · exact store16 arg12.view G12 n _ (k0_off1_eq ⟨n, by omega⟩) _ _ _ (fun j => k0_pay6 (h1C (arg12.view.read (Elt F) G12) (arg13.view.read (Elt F) G13) (arg4.view.read (Elt F) X_arg4) (arg5.view.read (Elt F) X_arg5) (arg6.view.read (Elt F) X_arg6) j) (sqC (arg12.view.read (Elt F) G12) (arg13.view.read (Elt F) G13) (arg4.view.read (Elt F) X_arg4) (arg5.view.read (Elt F) X_arg5) (arg6.view.read (Elt F) X_arg6) j) (arg7.view.read (Elt F) X_arg7)) _ (by rw [← eh, ← eq]) h12 y
    · exact store16 arg13.view G13 n _ (k0_off3_eq ⟨n, by omega⟩) _ _ _ (fun j => k0_pay7 (h1C (arg12.view.read (Elt F) G12) (arg13.view.read (Elt F) G13) (arg4.view.read (Elt F) X_arg4) (arg5.view.read (Elt F) X_arg5) (arg6.view.read (Elt F) X_arg6) j) (sqC (arg12.view.read (Elt F) G12) (arg13.view.read (Elt F) G13) (arg4.view.read (Elt F) X_arg4) (arg5.view.read (Elt F) X_arg5) (arg6.view.read (Elt F) X_arg6) j) (arg7.view.read (Elt F) X_arg7)) _ (by rw [← eh, ← eq]) h13 y

/-- The row loop has sixteen trips. -/
theorem trips16 : k0_t1_loop.trips = 16 := by decide +kernel

/-- After the loop the residual stream's block holds what the sixteen trips computed. -/
theorem pb_read8 (G8 G12 G13) (n : ℕ) (hn : n = k0_t1_loop.trips) : arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).1)
    = h1V (arg12.view.read (Elt F) G12) (arg13.view.read (Elt F) G13) (arg4.view.read (Elt F) X_arg4) (arg5.view.read (Elt F) X_arg5) (arg6.view.read (Elt F) X_arg6) := by
  subst hn
  funext y
  have hy : (y 0).val < 256 := (y 0).isLt
  exact ((pb_read 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 _ le_rfl).1 y).trans (if_pos (by rw [trips16]; omega))

/-- After the loop the accumulator holds the rounded codes. -/
theorem pb_read12 (G8 G12 G13) (n : ℕ) (hn : n = k0_t1_loop.trips) : arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.1)
    = qV (arg12.view.read (Elt F) G12) (arg13.view.read (Elt F) G13) (arg4.view.read (Elt F) X_arg4) (arg5.view.read (Elt F) X_arg5) (arg6.view.read (Elt F) X_arg6) (arg7.view.read (Elt F) X_arg7) := by
  subst hn
  funext y
  have hy : (y 0).val < 256 := (y 0).isLt
  exact ((pb_read 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 _ le_rfl).2.1 y).trans (if_pos (by rw [trips16]; omega))

/-- After the loop the scale scratch holds the row scales. -/
theorem pb_read13 (G8 G12 G13) (n : ℕ) (hn : n = k0_t1_loop.trips) : arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 n).2.2)
    = sV (arg12.view.read (Elt F) G12) (arg13.view.read (Elt F) G13) (arg4.view.read (Elt F) X_arg4) (arg5.view.read (Elt F) X_arg5) (arg6.view.read (Elt F) X_arg6) (arg7.view.read (Elt F) X_arg7) := by
  subst hn
  funext y
  have hy : (y 0).val < 256 := (y 0).isLt
  exact ((pb_read 𝒱 c bd i arg1 harg1 arg2 harg2 arg3 harg3 arg4 harg4 arg5 harg5 arg6 harg6 arg7 harg7 arg8 harg8 arg9 harg9 arg10 harg10 arg11 harg11 arg12 harg12 arg13 harg13 X_arg4 X_arg5 X_arg6 X_arg7 G8 G12 G13 _ le_rfl).2.2 y).trans (if_pos (by rw [trips16]; omega))
end

end Cert.OprojIdeal.Gen
-- ==== Proof.OprojRuns.lean ====
/-
  Names for what one grid point of the attention-projection kernel computes, and what its whole loads read.
-/
module

public import proofs.«01_k».proof.Proof.OprojLoop
public import proofs.«01_k».proof.Proof.Gen.OprojIdeal.Frame.Runs
public import Idealize.ShloMosaic.Lib.Ring
public import Idealize.ShloMosaic.Lib.WordCmp

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-- The row scales: column 0 of the broadcast scratch. -/
def col0 (sc : Vec F S256x128 .f32) : Vec F S256x1 .f32 := VecWindow.window sc ![0, 0] S256x1.size inb_S256x128_S256x1_0_0

/-- The residual stream one point stores. -/
def fH1 (x0 : Vec F S256x1024 .i8) (x1 : Vec F S1x1x256 .f32) (wbf : Vec F S1024x4608 .bf16) (x3 : Vec F S1x4608 .f32) (x4 : Vec F S256x4608 .bf16) (x5 : Vec F S1x4608 .f32) : Vec F S256x4608 .f32 :=
  h1V (k0_pay9 x0 wbf) (k0_pay10 x1) x3 x4 x5

/-- The codes one point stores. -/
def fQ (x0 : Vec F S256x1024 .i8) (x1 : Vec F S1x1x256 .f32) (wbf : Vec F S1024x4608 .bf16) (x3 : Vec F S1x4608 .f32) (x4 : Vec F S256x4608 .bf16) (x5 x6 : Vec F S1x4608 .f32) : Vec F S256x4608 .i8 :=
  k0_pay11 (qV (k0_pay9 x0 wbf) (k0_pay10 x1) x3 x4 x5 x6)

/-- The row scales one point stores. -/
def fS (x0 : Vec F S256x1024 .i8) (x1 : Vec F S1x1x256 .f32) (wbf : Vec F S1024x4608 .bf16) (x3 : Vec F S1x4608 .f32) (x4 : Vec F S256x4608 .bf16) (x5 x6 : Vec F S1x4608 .f32) : Vec F S1x1x256 .f32 :=
  k0_pay1 (k0_pay12 (col0 (sV (k0_pay9 x0 wbf) (k0_pay10 x1) x3 x4 x5 x6)))

section Loads
variable {sp : Space}

/-- A load of the whole of a view of this shape reads what the view holds. -/
theorem ld_256x1024 {e : EltTy} (v : View sig .tc sp S256x1024 e) (f : v.ty.Contents (Elt F)) (inb) :
    v.readAt (Elt F) (Rect.unit (s := S256x1024) ![0, 0] ![256, 1024] inb).toLoadRect f = v.read (Elt F) f := View.readAt_full v f inb

/-- A load of the whole of a view of this shape reads what the view holds. -/
theorem ld_1x1x256 {e : EltTy} (v : View sig .tc sp S1x1x256 e) (f : v.ty.Contents (Elt F)) (inb) :
    v.readAt (Elt F) (Rect.unit (s := S1x1x256) ![0, 0, 0] ![1, 1, 256] inb).toLoadRect f = v.read (Elt F) f := View.readAt_full v f inb

/-- A load of the whole of a view of this shape, after a store of the whole, reads the stored value. -/
theorem ldst_1x1x256 {e : EltTy} (v : View sig .tc sp S1x1x256 e) (inb inb') (w : S1x1x256.Idx → Elt F e) (L : List (View.Piece (Elt F) S1x1x256 e)) :
    v.readCov (⟨Rect.unit (s := S1x1x256) ![0, 0, 0] ![1, 1, 256] inb', w⟩ :: L) (Rect.unit (s := S1x1x256) ![0, 0, 0] ![1, 1, 256] inb).toLoadRect = w := View.readCov_full v inb inb' w L

/-- A view of this shape, after a store of the whole, reads the stored value. -/
theorem rdst_1x1x256 {e : EltTy} (v : View sig .tc sp S1x1x256 e) (f : v.ty.Contents (Elt F)) (inb) (w : S1x1x256.Idx → Elt F e) (L : List (View.Piece (Elt F) S1x1x256 e)) :
    v.read (Elt F) (v.writes (Elt F) f (⟨Rect.unit (s := S1x1x256) ![0, 0, 0] ![1, 1, 256] inb, w⟩ :: L)) = w := View.read_writes_full v f inb w L

/-- A load of the whole of a view of this shape reads what the view holds. -/
theorem ld_1024x4608 {e : EltTy} (v : View sig .tc sp S1024x4608 e) (f : v.ty.Contents (Elt F)) (inb) :
    v.readAt (Elt F) (Rect.unit (s := S1024x4608) ![0, 0] ![1024, 4608] inb).toLoadRect f = v.read (Elt F) f := View.readAt_full v f inb

/-- A load of the whole of a view of this shape, after a store of the whole, reads the stored value. -/
theorem ldst_1024x4608 {e : EltTy} (v : View sig .tc sp S1024x4608 e) (inb inb') (w : S1024x4608.Idx → Elt F e) (L : List (View.Piece (Elt F) S1024x4608 e)) :
    v.readCov (⟨Rect.unit (s := S1024x4608) ![0, 0] ![1024, 4608] inb', w⟩ :: L) (Rect.unit (s := S1024x4608) ![0, 0] ![1024, 4608] inb).toLoadRect = w := View.readCov_full v inb inb' w L

/-- A view of this shape, after a store of the whole, reads the stored value. -/
theorem rdst_1024x4608 {e : EltTy} (v : View sig .tc sp S1024x4608 e) (f : v.ty.Contents (Elt F)) (inb) (w : S1024x4608.Idx → Elt F e) (L : List (View.Piece (Elt F) S1024x4608 e)) :
    v.read (Elt F) (v.writes (Elt F) f (⟨Rect.unit (s := S1024x4608) ![0, 0] ![1024, 4608] inb, w⟩ :: L)) = w := View.read_writes_full v f inb w L

/-- A load of the whole of a view of this shape reads what the view holds. -/
theorem ld_256x4608 {e : EltTy} (v : View sig .tc sp S256x4608 e) (f : v.ty.Contents (Elt F)) (inb) :
    v.readAt (Elt F) (Rect.unit (s := S256x4608) ![0, 0] ![256, 4608] inb).toLoadRect f = v.read (Elt F) f := View.readAt_full v f inb

/-- A load of the whole of a view of this shape, after a store of the whole, reads the stored value. -/
theorem ldst_256x4608 {e : EltTy} (v : View sig .tc sp S256x4608 e) (inb inb') (w : S256x4608.Idx → Elt F e) (L : List (View.Piece (Elt F) S256x4608 e)) :
    v.readCov (⟨Rect.unit (s := S256x4608) ![0, 0] ![256, 4608] inb', w⟩ :: L) (Rect.unit (s := S256x4608) ![0, 0] ![256, 4608] inb).toLoadRect = w := View.readCov_full v inb inb' w L

/-- A view of this shape, after a store of the whole, reads the stored value. -/
theorem rdst_256x4608 {e : EltTy} (v : View sig .tc sp S256x4608 e) (f : v.ty.Contents (Elt F)) (inb) (w : S256x4608.Idx → Elt F e) (L : List (View.Piece (Elt F) S256x4608 e)) :
    v.read (Elt F) (v.writes (Elt F) f (⟨Rect.unit (s := S256x4608) ![0, 0] ![256, 4608] inb, w⟩ :: L)) = w := View.read_writes_full v f inb w L

/-- A load of the whole of a view of this shape reads what the view holds. -/
theorem ld_256x128 {e : EltTy} (v : View sig .tc sp S256x128 e) (f : v.ty.Contents (Elt F)) (inb) :
    v.readAt (Elt F) (Rect.unit (s := S256x128) ![0, 0] ![256, 128] inb).toLoadRect f = v.read (Elt F) f := View.readAt_full v f inb

/-- A load of the whole of a view of this shape, after a store of the whole, reads the stored value. -/
theorem ldst_256x128 {e : EltTy} (v : View sig .tc sp S256x128 e) (inb inb') (w : S256x128.Idx → Elt F e) (L : List (View.Piece (Elt F) S256x128 e)) :
    v.readCov (⟨Rect.unit (s := S256x128) ![0, 0] ![256, 128] inb', w⟩ :: L) (Rect.unit (s := S256x128) ![0, 0] ![256, 128] inb).toLoadRect = w := View.readCov_full v inb inb' w L

/-- A view of this shape, after a store of the whole, reads the stored value. -/
theorem rdst_256x128 {e : EltTy} (v : View sig .tc sp S256x128 e) (f : v.ty.Contents (Elt F)) (inb) (w : S256x128.Idx → Elt F e) (L : List (View.Piece (Elt F) S256x128 e)) :
    v.read (Elt F) (v.writes (Elt F) f (⟨Rect.unit (s := S256x128) ![0, 0] ![256, 128] inb, w⟩ :: L)) = w := View.read_writes_full v f inb w L

/-- A load of column 0 of the broadcast scratch. -/
theorem ld_col0 (v : View sig .tc sp S256x128 .f32) (f : v.ty.Contents (Elt F)) (inb) :
    v.readAt (Elt F) (Rect.unit (s := S256x128) ![0, 0] ![256, 1] inb).toLoadRect f = col0 (v.read (Elt F) f) := rfl

/-- A load of the whole of the accumulator, after the stores `L` over the stores `L'`. -/
theorem cov_256x4608 {e : EltTy} (v : View sig .tc sp S256x4608 e) (inb) (L L' : List (View.Piece (Elt F) S256x4608 e)) :
    v.readCov (L ++ L') (Rect.unit (s := S256x4608) ![0, 0] ![256, 4608] inb).toLoadRect = v.read (Elt F) (v.writes (Elt F) (v.writes (Elt F) v.junk L') L) := by
  rw [← View.writes_append]; exact View.readAt_full v _ inb

/-- A load of column 0 of the broadcast scratch, after the stores `L` over the stores `L'`. -/
theorem cov_col0 (v : View sig .tc sp S256x128 .f32) (inb) (L L' : List (View.Piece (Elt F) S256x128 .f32)) :
    v.readCov (L ++ L') (Rect.unit (s := S256x128) ![0, 0] ![256, 1] inb).toLoadRect = col0 (v.read (Elt F) (v.writes (Elt F) (v.writes (Elt F) v.junk L') L)) := by
  rw [← View.writes_append]; rfl

end Loads

end Cert.OprojIdeal.Gen
-- ==== Proof.OprojRunA.lean ====
/-
  The attention-projection kernel's body at the first grid point.
-/
module

public import proofs.«01_k».proof.Proof.OprojRuns

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 1000000 in
/-- At the first point the body converts the weight, and leaves its outputs at the stated values. -/
theorem kernelRun_A (c : Dev nD) (i : grid0.Coords) (arg1 : Memref sig .tc .vmem S256x1024 .i8) (harg1 : arg1.IsWhole) (arg2 : Memref sig .tc .vmem S1x1x256 .f32) (harg2 : arg2.IsWhole) (arg3 : Memref sig .tc .vmem S1024x4608 .i8) (harg3 : arg3.IsWhole) (arg4 : Memref sig .tc .vmem S1x4608 .f32) (harg4 : arg4.IsWhole) (arg5 : Memref sig .tc .vmem S256x4608 .bf16) (harg5 : arg5.IsWhole) (arg6 : Memref sig .tc .vmem S1x4608 .f32) (harg6 : arg6.IsWhole) (arg7 : Memref sig .tc .vmem S1x4608 .f32) (harg7 : arg7.IsWhole) (arg8 : Memref sig .tc .vmem S256x4608 .f32) (harg8 : arg8.IsWhole) (arg9 : Memref sig .tc .vmem S256x4608 .i8) (harg9 : arg9.IsWhole) (arg10 : Memref sig .tc .vmem S1x1x256 .f32) (harg10 : arg10.IsWhole) (arg11 : Memref sig .tc .vmem S1024x4608 .bf16) (harg11 : arg11.IsWhole) (arg12 : Memref sig .tc .vmem S256x4608 .f32) (harg12 : arg12.IsWhole) (arg13 : Memref sig .tc .vmem S256x128 .f32) (harg13 : arg13.IsWhole) (hc0 : cond0_0 i)
    (x0 : Vec F S256x1024 .i8) (x1 : Vec F S1x1x256 .f32) (x2 : Vec F S1024x4608 .i8) (x3 : Vec F S1x4608 .f32) (x4 : Vec F S256x4608 .bf16) (x5 : Vec F S1x4608 .f32) (x6 : Vec F S1x4608 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (fH1 x0 x1 (k0_pay8 x2) x3 x4 x5) ∗ owns (c : Thread nD τ) arg9 fullShare (fQ x0 x1 (k0_pay8 x2) x3 x4 x5 x6) ∗ owns (c : Thread nD τ) arg10 fullShare (fS x0 x1 (k0_pay8 x2) x3 x4 x5 x6) ∗ owns (c : Thread nD τ) arg11 fullShare (k0_pay8 x2) ∗ (∃ d, owns (c : Thread nD τ) arg12 fullShare d) ∗ (∃ d, owns (c : Thread nD τ) arg13 fullShare d)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13) K := by
  simp only [cc0_oproj_eq_skeleton]; unfold cc0_oproj_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro; sl_unfold_run_names
    refine (pb_read8 _ _ _ _ _ _ _ _ _ _ _ _ _ _ _ _ _ _ _ _ _ _ _ _ _ _ _ _ _ _ _ _ _ _ _ _ _ _ rfl).trans ?_
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6]
    first | done | rfl
  isplitl [H8]
  · iexists _; isplitr; swap; · iexact H8
    ipureintro; sl_unfold_run_names
    refine (View.read_writes_full _ _ _ _ _).trans ?_
    rw [cov_256x4608, pb_read12 _ _ _ _ _ _ _ _ _ _ _ _ _ _ _ _ _ _ _ _ _ _ _ _ _ _ _ _ _ _ _ _ _ _ _ _ _ _ rfl]
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6]
    first | done | rfl
  isplitl [H9]
  · iexists _; isplitr; swap; · iexact H9
    ipureintro; sl_unfold_run_names
    refine (View.read_writes_full _ _ _ _ _).trans ?_
    rw [cov_col0, pb_read13 _ _ _ _ _ _ _ _ _ _ _ _ _ _ _ _ _ _ _ _ _ _ _ _ _ _ _ _ _ _ _ _ _ _ _ _ _ _ rfl]
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6]
    first | done | rfl
  isplitl [HS0]
  · iexists _; isplitr; swap; · iexact HS0
    ipureintro; sl_unfold_run_names
    refine (View.read_writes_full _ _ _ _ _).trans ?_
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6]
    first | done | rfl
  isplitl [HS1]
  · iexists _, _; isplitr; swap; · iexact HS1
    ipureintro; rfl
  iexists _, _; isplitr; swap; · iexact HS2
  ipureintro; rfl

end Cert.OprojIdeal.Gen
-- ==== Proof.OprojRunB.lean ====
/-
  The attention-projection kernel's body at every later grid point.
-/
module

public import proofs.«01_k».proof.Proof.OprojRuns

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 1000000 in
/-- At a later point the body reuses the converted weight, and leaves its outputs at the stated values. -/
theorem kernelRun_B (c : Dev nD) (i : grid0.Coords) (arg1 : Memref sig .tc .vmem S256x1024 .i8) (harg1 : arg1.IsWhole) (arg2 : Memref sig .tc .vmem S1x1x256 .f32) (harg2 : arg2.IsWhole) (arg3 : Memref sig .tc .vmem S1024x4608 .i8) (harg3 : arg3.IsWhole) (arg4 : Memref sig .tc .vmem S1x4608 .f32) (harg4 : arg4.IsWhole) (arg5 : Memref sig .tc .vmem S256x4608 .bf16) (harg5 : arg5.IsWhole) (arg6 : Memref sig .tc .vmem S1x4608 .f32) (harg6 : arg6.IsWhole) (arg7 : Memref sig .tc .vmem S1x4608 .f32) (harg7 : arg7.IsWhole) (arg8 : Memref sig .tc .vmem S256x4608 .f32) (harg8 : arg8.IsWhole) (arg9 : Memref sig .tc .vmem S256x4608 .i8) (harg9 : arg9.IsWhole) (arg10 : Memref sig .tc .vmem S1x1x256 .f32) (harg10 : arg10.IsWhole) (arg11 : Memref sig .tc .vmem S1024x4608 .bf16) (harg11 : arg11.IsWhole) (arg12 : Memref sig .tc .vmem S256x4608 .f32) (harg12 : arg12.IsWhole) (arg13 : Memref sig .tc .vmem S256x128 .f32) (harg13 : arg13.IsWhole) (hc0 : ¬cond0_0 i)
    (x0 : Vec F S256x1024 .i8) (x1 : Vec F S1x1x256 .f32) (x2 : Vec F S1024x4608 .i8) (x3 : Vec F S1x4608 .f32) (x4 : Vec F S256x4608 .bf16) (x5 : Vec F S1x4608 .f32) (x6 : Vec F S1x4608 .f32) (xs0 : Vec F S1024x4608 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (fH1 x0 x1 xs0 x3 x4 x5) ∗ owns (c : Thread nD τ) arg9 fullShare (fQ x0 x1 xs0 x3 x4 x5 x6) ∗ owns (c : Thread nD τ) arg10 fullShare (fS x0 x1 xs0 x3 x4 x5 x6) ∗ owns (c : Thread nD τ) arg11 fullShare xs0 ∗ (∃ d, owns (c : Thread nD τ) arg12 fullShare d) ∗ (∃ d, owns (c : Thread nD τ) arg13 fullShare d)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13) K := by
  simp only [cc0_oproj_eq_skeleton]; unfold cc0_oproj_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro; sl_unfold_run_names
    refine (pb_read8 _ _ _ _ _ _ _ _ _ _ _ _ _ _ _ _ _ _ _ _ _ _ _ _ _ _ _ _ _ _ _ _ _ _ _ _ _ _ rfl).trans ?_
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6, hfs0]
    first | done | rfl
  isplitl [H8]
  · iexists _; isplitr; swap; · iexact H8
    ipureintro; sl_unfold_run_names
    refine (View.read_writes_full _ _ _ _ _).trans ?_
    rw [cov_256x4608, pb_read12 _ _ _ _ _ _ _ _ _ _ _ _ _ _ _ _ _ _ _ _ _ _ _ _ _ _ _ _ _ _ _ _ _ _ _ _ _ _ rfl]
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6, hfs0]
    first | done | rfl
  isplitl [H9]
  · iexists _; isplitr; swap; · iexact H9
    ipureintro; sl_unfold_run_names
    refine (View.read_writes_full _ _ _ _ _).trans ?_
    rw [cov_col0, pb_read13 _ _ _ _ _ _ _ _ _ _ _ _ _ _ _ _ _ _ _ _ _ _ _ _ _ _ _ _ _ _ _ _ _ _ _ _ _ _ rfl]
    simp only [ld_256x1024, ld_1x1x256, ld_1024x4608, ld_256x4608, ld_256x128, ldst_1x1x256, ldst_1024x4608, ldst_256x4608, ldst_256x128, rdst_1x1x256, rdst_1024x4608, rdst_256x4608, rdst_256x128, ld_col0, hf0, hf1, hf2, hf3, hf4, hf5, hf6, hfs0]
    first | done | rfl
  isplitl [HS0]
  · iexists _; isplitr; · ipureintro; exact harg11.read_unread _
    iexact HS0
  isplitl [HS1]
  · iexists _, _; isplitr; swap; · iexact HS1
    ipureintro; rfl
  iexists _, _; isplitr; swap; · iexact HS2
  ipureintro; rfl

end Cert.OprojIdeal.Gen
-- ==== Proof.OprojFrame.lean ====
/-
  The attention-projection kernel over the whole grid: the proof data, the body obligation, the run, and what its result arrays hold.
-/
module

public import proofs.«01_k».proof.Proof.OprojRunA
public import proofs.«01_k».proof.Proof.OprojRunB
public import Idealize.ShloMosaic.Lib.Claim

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The blocks -/

/-- Rows `256 b` to `256 b + 255` of the codes. -/
def bX0 (A : Vec F S15360x1024 .i8) (b : ℕ) : Vec F S256x1024 .i8 := fun y => A (ix2 ⟨(256 * b + (y 0).val) % 15360, Nat.mod_lt _ (by decide)⟩ (y 1))

/-- The row scales of row block `b`. -/
def bX1 (A : Vec F S60x1x256 .f32) (b : ℕ) : Vec F S1x1x256 .f32 := fun y => A (ix3 ⟨b % 60, Nat.mod_lt _ (by decide)⟩ (y 1) (y 2))

/-- Rows `256 b` to `256 b + 255` of the layer's input. -/
def bX4 (A : Vec F S15360x4608 .bf16) (b : ℕ) : Vec F S256x4608 .bf16 := fun y => A (ix2 ⟨(256 * b + (y 0).val) % 15360, Nat.mod_lt _ (by decide)⟩ (y 1))

section Out
variable (A0 : Vec F S15360x1024 .i8) (A1 : Vec F S60x1x256 .f32) (A2 : Vec F S1024x4608 .i8) (A3 : Vec F S1x4608 .f32) (A4 : Vec F S15360x4608 .bf16) (A5 A6 : Vec F S1x4608 .f32)

/-- The block of the residual stream that row block `b` ends with. -/
def oH (b : ℕ) : Vec F S256x4608 .f32 := fH1 (bX0 A0 b) (bX1 A1 b) (k0_pay8 A2) A3 (bX4 A4 b) A5

/-- The block of codes that row block `b` ends with. -/
def oQ (b : ℕ) : Vec F S256x4608 .i8 := fQ (bX0 A0 b) (bX1 A1 b) (k0_pay8 A2) A3 (bX4 A4 b) A5 A6

/-- The row scales that row block `b` ends with. -/
def oS (b : ℕ) : Vec F S1x1x256 .f32 := fS (bX0 A0 b) (bX1 A1 b) (k0_pay8 A2) A3 (bX4 A4 b) A5 A6

/-- The residual stream the kernel ends with. -/
def GH : Vec F S15360x4608 .f32 := fun y => oH A0 A1 A2 A3 A4 A5 ((y 0).val / 256) (ix2 ⟨(y 0).val % 256, Nat.mod_lt _ (by decide)⟩ (y 1))

/-- The codes the kernel ends with. -/
def GQ : Vec F S15360x4608 .i8 := fun y => oQ A0 A1 A2 A3 A4 A5 A6 ((y 0).val / 256) (ix2 ⟨(y 0).val % 256, Nat.mod_lt _ (by decide)⟩ (y 1))

/-- The row scales the kernel ends with. -/
def GS : Vec F S60x1x256 .f32 := fun y => oS A0 A1 A2 A3 A4 A5 A6 (y 0).val (ix3 (0 : Fin 1) (y 1) (y 2))
end Out

variable (m : (ℓ : Loc nD τ sig) → Buf (Elt F) ℓ) (ρ : Dev nD → PrngReg)

/-! ## Where the windows' blocks lie -/

/-- Window 0's block index at a point. -/
theorem idx0 : ∀ t : Fin cfg0.N, win0_0.index t (0 : Fin 2) = t.val ∧ win0_0.index t (1 : Fin 2) = 0 :=
  (by decide +kernel : ∀ t : Fin grid0.N, _)

/-- Window 0's block at a point, read off its array. -/
theorem iblk0 (c : Dev nD) (t : Fin cfg0.N) : iblk m c 0 t = bX0 (V m c main_arg0) t.val := by
  have hN : t.val < 60 := lt_of_lt_of_eq t.isLt (show cfg0.N = 60 from N_0)
  obtain ⟨e0, e1⟩ := idx0 t
  funext y
  have h0 : (y 0).val < 256 := (y 0).isLt
  have h1 : (y 1).val < 1024 := (y 1).isLt
  show V m c main_arg0 (((cfg0.win 0).blk t).view.emb y) = V m c main_arg0 _
  congr 1
  funext a; apply Fin.ext
  match a with
  | ⟨0, _⟩ => show win0_0.index t (0 : Fin 2) * 256 + 1 * (y 0).val = (256 * t.val + (y 0).val) % 15360; omega
  | ⟨1, _⟩ => show win0_0.index t (1 : Fin 2) * 1024 + 1 * (y 1).val = (y 1).val; omega

/-- Window 1's block index at a point. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1's block at a point, read off its array. -/
theorem iblk1 (c : Dev nD) (t : Fin cfg0.N) : iblk m c 1 t = bX1 (V m c main_v0) t.val := by
  have hN : t.val < 60 := lt_of_lt_of_eq t.isLt (show cfg0.N = 60 from N_0)
  obtain ⟨e0, e1, e2⟩ := idx1 t
  funext y
  have h0 : (y 0).val < 1 := (y 0).isLt
  have h1 : (y 1).val < 1 := (y 1).isLt
  have h2 : (y 2).val < 256 := (y 2).isLt
  show V m c main_v0 (((cfg0.win 1).blk t).view.emb y) = V m c main_v0 _
  congr 1
  funext a; apply Fin.ext
  match a with
  | ⟨0, _⟩ => show win0_1.index t (0 : Fin 3) * 1 + 1 * (y 0).val = t.val % 60; omega
  | ⟨1, _⟩ => show win0_1.index t (1 : Fin 3) * 1 + 1 * (y 1).val = (y 1).val; omega
  | ⟨2, _⟩ => show win0_1.index t (2 : Fin 3) * 256 + 1 * (y 2).val = (y 2).val; omega

/-- Window 2's block index at a point. -/
theorem idx2 : ∀ t : Fin cfg0.N, win0_2.index t (0 : Fin 2) = 0 ∧ win0_2.index t (1 : Fin 2) = 0 :=
  (by decide +kernel : ∀ t : Fin grid0.N, _)

/-- Window 2's block at a point, read off its array. -/
theorem iblk2 (c : Dev nD) (t : Fin cfg0.N) : iblk m c 2 t = V m c main_arg2 := by
  have hN : t.val < 60 := lt_of_lt_of_eq t.isLt (show cfg0.N = 60 from N_0)
  obtain ⟨e0, e1⟩ := idx2 t
  funext y
  have h0 : (y 0).val < 1024 := (y 0).isLt
  have h1 : (y 1).val < 4608 := (y 1).isLt
  show V m c main_arg2 (((cfg0.win 2).blk t).view.emb y) = V m c main_arg2 _
  congr 1
  funext a; apply Fin.ext
  match a with
  | ⟨0, _⟩ => show win0_2.index t (0 : Fin 2) * 1024 + 1 * (y 0).val = (y 0).val; omega
  | ⟨1, _⟩ => show win0_2.index t (1 : Fin 2) * 4608 + 1 * (y 1).val = (y 1).val; omega

/-- Window 3's block index at a point. -/
theorem idx3 : ∀ t : Fin cfg0.N, win0_3.index t (0 : Fin 2) = 0 ∧ win0_3.index t (1 : Fin 2) = 0 :=
  (by decide +kernel : ∀ t : Fin grid0.N, _)

/-- Window 3's block at a point, read off its array. -/
theorem iblk3 (c : Dev nD) (t : Fin cfg0.N) : iblk m c 3 t = V m c main_v1 := by
  have hN : t.val < 60 := lt_of_lt_of_eq t.isLt (show cfg0.N = 60 from N_0)
  obtain ⟨e0, e1⟩ := idx3 t
  funext y
  have h0 : (y 0).val < 1 := (y 0).isLt
  have h1 : (y 1).val < 4608 := (y 1).isLt
  show V m c main_v1 (((cfg0.win 3).blk t).view.emb y) = V m c main_v1 _
  congr 1
  funext a; apply Fin.ext
  match a with
  | ⟨0, _⟩ => show win0_3.index t (0 : Fin 2) * 1 + 1 * (y 0).val = (y 0).val; omega
  | ⟨1, _⟩ => show win0_3.index t (1 : Fin 2) * 4608 + 1 * (y 1).val = (y 1).val; omega

/-- Window 4's block index at a point. -/
theorem idx4 : ∀ t : Fin cfg0.N, win0_4.index t (0 : Fin 2) = t.val ∧ win0_4.index t (1 : Fin 2) = 0 :=
  (by decide +kernel : ∀ t : Fin grid0.N, _)

/-- Window 4's block at a point, read off its array. -/
theorem iblk4 (c : Dev nD) (t : Fin cfg0.N) : iblk m c 4 t = bX4 (V m c main_arg4) t.val := by
  have hN : t.val < 60 := lt_of_lt_of_eq t.isLt (show cfg0.N = 60 from N_0)
  obtain ⟨e0, e1⟩ := idx4 t
  funext y
  have h0 : (y 0).val < 256 := (y 0).isLt
  have h1 : (y 1).val < 4608 := (y 1).isLt
  show V m c main_arg4 (((cfg0.win 4).blk t).view.emb y) = V m c main_arg4 _
  congr 1
  funext a; apply Fin.ext
  match a with
  | ⟨0, _⟩ => show win0_4.index t (0 : Fin 2) * 256 + 1 * (y 0).val = (256 * t.val + (y 0).val) % 15360; omega
  | ⟨1, _⟩ => show win0_4.index t (1 : Fin 2) * 4608 + 1 * (y 1).val = (y 1).val; omega

/-- Window 5's block index at a point. -/
theorem idx5 : ∀ t : Fin cfg0.N, win0_5.index t (0 : Fin 2) = 0 ∧ win0_5.index t (1 : Fin 2) = 0 :=
  (by decide +kernel : ∀ t : Fin grid0.N, _)

/-- Window 5's block at a point, read off its array. -/
theorem iblk5 (c : Dev nD) (t : Fin cfg0.N) : iblk m c 5 t = V m c main_v2 := by
  have hN : t.val < 60 := lt_of_lt_of_eq t.isLt (show cfg0.N = 60 from N_0)
  obtain ⟨e0, e1⟩ := idx5 t
  funext y
  have h0 : (y 0).val < 1 := (y 0).isLt
  have h1 : (y 1).val < 4608 := (y 1).isLt
  show V m c main_v2 (((cfg0.win 5).blk t).view.emb y) = V m c main_v2 _
  congr 1
  funext a; apply Fin.ext
  match a with
  | ⟨0, _⟩ => show win0_5.index t (0 : Fin 2) * 1 + 1 * (y 0).val = (y 0).val; omega
  | ⟨1, _⟩ => show win0_5.index t (1 : Fin 2) * 4608 + 1 * (y 1).val = (y 1).val; omega

/-- Window 6's block index at a point. -/
theorem idx6 : ∀ t : Fin cfg0.N, win0_6.index t (0 : Fin 2) = 0 ∧ win0_6.index t (1 : Fin 2) = 0 :=
  (by decide +kernel : ∀ t : Fin grid0.N, _)

/-- Window 6's block at a point, read off its array. -/
theorem iblk6 (c : Dev nD) (t : Fin cfg0.N) : iblk m c 6 t = V m c main_v3 := by
  have hN : t.val < 60 := lt_of_lt_of_eq t.isLt (show cfg0.N = 60 from N_0)
  obtain ⟨e0, e1⟩ := idx6 t
  funext y
  have h0 : (y 0).val < 1 := (y 0).isLt
  have h1 : (y 1).val < 4608 := (y 1).isLt
  show V m c main_v3 (((cfg0.win 6).blk t).view.emb y) = V m c main_v3 _
  congr 1
  funext a; apply Fin.ext
  match a with
  | ⟨0, _⟩ => show win0_6.index t (0 : Fin 2) * 1 + 1 * (y 0).val = (y 0).val; omega
  | ⟨1, _⟩ => show win0_6.index t (1 : Fin 2) * 4608 + 1 * (y 1).val = (y 1).val; omega

/-- Window 7's block index at a point. -/
theorem idx7 : ∀ t : Fin cfg0.N, win0_7.index t (0 : Fin 2) = t.val ∧ win0_7.index t (1 : Fin 2) = 0 :=
  (by decide +kernel : ∀ t : Fin grid0.N, _)

/-- Window 8's block index at a point. -/
theorem idx8 : ∀ t : Fin cfg0.N, win0_8.index t (0 : Fin 2) = t.val ∧ win0_8.index t (1 : Fin 2) = 0 :=
  (by decide +kernel : ∀ t : Fin grid0.N, _)

/-- Window 9's block index at a point. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The proof data -/

/-- The invariant between points: before the first, every scratch at anything; afterwards the converted weight in its buffer. -/
def PhiS (c : Dev nD) : ℕ → sProp 𝕄
  | 0 => Pipeline.ΦA spec0 c
  | n + 1 => iprop(iprop(owns (c : Thread nD τ) scM0_0 fullShare (k0_pay8 (V m c main_arg2)) ∗ (∃ d, owns (c : Thread nD τ) scM0_1 fullShare d) ∗ (∃ d, owns (c : Thread nD τ) scM0_2 fullShare d)) ∗ (∃ r, prngReg c r))

/-- The invariant before any point gives every scratch at something. -/
theorem PhiS_weaken (c : Dev nD) (n : ℕ) : PhiS m c n ⊢ Pipeline.ΦA spec0 c := by
  cases n with
  | zero => exact Idealize.SL.BI.Entails.refl _
  | succ n =>
    rw [PhiA0_eq]
    unfold PhiS
    iintro ⟨⟨HS0, HS1, HS2⟩, Hg⟩
    isplitl [HS0 HS1 HS2]
    · isplitl [HS0]; · iexists _; iexact HS0
      isplitl [HS1]; · iexact HS1
      iexact HS2
    iexact Hg

/-- The proof data: each input's buffer at its block; each output's at what its row block computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oH (V m c main_arg0) (V m c main_v0) (V m c main_arg2) (V m c main_v1) (V m c main_arg4) (V m c main_v2) t.val
    | ⟨8, _⟩ => oQ (V m c main_arg0) (V m c main_v0) (V m c main_arg2) (V m c main_v1) (V m c main_arg4) (V m c main_v2) (V m c main_v3) t.val
    | ⟨9, _⟩ => oS (V m c main_arg0) (V m c main_v0) (V m c main_arg2) (V m c main_v1) (V m c main_arg4) (V m c main_v2) (V m c main_v3) t.val
  Φ t := PhiS m c t.val
  q _ := fullShare
  owed _ := 0

/-- The arrays of the proof data are those the region finds. -/
theorem A_eq (c : Dev nD) (w : Fin cfg0.W) : (dats m 0 c).A w = V m c (Pipeline.arrRef spec0 w) := by
  dsimp only [dats]

/-- Window 0's buffer after a point is its block. -/
theorem after0_0 (c : Dev nD) (t : Fin cfg0.N) : (dats m 0 c).after 0 t = iblk m c 0 t := by dsimp only [dats]
/-- Window 0's buffer before a point is its block. -/
theorem before0_0 (c : Dev nD) (t : Fin cfg0.N) (d) : (dats m 0 c).before 0 t d = iblk m c 0 t :=
  before0_0_of m (dats m 0 c) (A_eq m c 0) (after0_0 m c) t d
/-- Window 1's buffer after a point is its block. -/
theorem after0_1 (c : Dev nD) (t : Fin cfg0.N) : (dats m 0 c).after 1 t = iblk m c 1 t := by dsimp only [dats]
/-- Window 1's buffer before a point is its block. -/
theorem before0_1 (c : Dev nD) (t : Fin cfg0.N) (d) : (dats m 0 c).before 1 t d = iblk m c 1 t :=
  before0_1_of m (dats m 0 c) (A_eq m c 1) (after0_1 m c) t d
/-- Window 2's buffer after a point is its block. -/
theorem after0_2 (c : Dev nD) (t : Fin cfg0.N) : (dats m 0 c).after 2 t = iblk m c 2 t := by dsimp only [dats]
/-- Window 2's buffer before a point is its block. -/
theorem before0_2 (c : Dev nD) (t : Fin cfg0.N) (d) : (dats m 0 c).before 2 t d = iblk m c 2 t :=
  before0_2_of m (dats m 0 c) (A_eq m c 2) (after0_2 m c) t d
/-- Window 3's buffer after a point is its block. -/
theorem after0_3 (c : Dev nD) (t : Fin cfg0.N) : (dats m 0 c).after 3 t = iblk m c 3 t := by dsimp only [dats]
/-- Window 3's buffer before a point is its block. -/
theorem before0_3 (c : Dev nD) (t : Fin cfg0.N) (d) : (dats m 0 c).before 3 t d = iblk m c 3 t :=
  before0_3_of m (dats m 0 c) (A_eq m c 3) (after0_3 m c) t d
/-- Window 4's buffer after a point is its block. -/
theorem after0_4 (c : Dev nD) (t : Fin cfg0.N) : (dats m 0 c).after 4 t = iblk m c 4 t := by dsimp only [dats]
/-- Window 4's buffer before a point is its block. -/
theorem before0_4 (c : Dev nD) (t : Fin cfg0.N) (d) : (dats m 0 c).before 4 t d = iblk m c 4 t :=
  before0_4_of m (dats m 0 c) (A_eq m c 4) (after0_4 m c) t d
/-- Window 5's buffer after a point is its block. -/
theorem after0_5 (c : Dev nD) (t : Fin cfg0.N) : (dats m 0 c).after 5 t = iblk m c 5 t := by dsimp only [dats]
/-- Window 5's buffer before a point is its block. -/
theorem before0_5 (c : Dev nD) (t : Fin cfg0.N) (d) : (dats m 0 c).before 5 t d = iblk m c 5 t :=
  before0_5_of m (dats m 0 c) (A_eq m c 5) (after0_5 m c) t d
/-- Window 6's buffer after a point is its block. -/
theorem after0_6 (c : Dev nD) (t : Fin cfg0.N) : (dats m 0 c).after 6 t = iblk m c 6 t := by dsimp only [dats]
/-- Window 6's buffer before a point is its block. -/
theorem before0_6 (c : Dev nD) (t : Fin cfg0.N) (d) : (dats m 0 c).before 6 t d = iblk m c 6 t :=
  before0_6_of m (dats m 0 c) (A_eq m c 6) (after0_6 m c) t d
/-- Window 7's buffer after a point is what its row block computes. -/
theorem after0_7 (c : Dev nD) (t : Fin cfg0.N) : (dats m 0 c).after 7 t = oH (V m c main_arg0) (V m c main_v0) (V m c main_arg2) (V m c main_v1) (V m c main_arg4) (V m c main_v2) t.val := by dsimp only [dats]
/-- Window 8's buffer after a point is what its row block computes. -/
theorem after0_8 (c : Dev nD) (t : Fin cfg0.N) : (dats m 0 c).after 8 t = oQ (V m c main_arg0) (V m c main_v0) (V m c main_arg2) (V m c main_v1) (V m c main_arg4) (V m c main_v2) (V m c main_v3) t.val := by dsimp only [dats]
/-- Window 9's buffer after a point is what its row block computes. -/
theorem after0_9 (c : Dev nD) (t : Fin cfg0.N) : (dats m 0 c).after 9 t = oS (V m c main_arg0) (V m c main_v0) (V m c main_arg2) (V m c main_v1) (V m c main_arg4) (V m c main_v2) (V m c main_v3) t.val := by dsimp only [dats]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7, after0_8, after0_9]
  unfold oH oQ oS
  rw [iblk0, iblk1, iblk2, iblk3, iblk4, iblk5, iblk6]
  rw [show (dats m 0 c).owesAt () t.succ = (dats m 0 c).owesAt () t.castSucc from rfl]
  rw [show (dats m 0 c).Φ t.succ = iprop(iprop(owns (c : Thread nD τ) scM0_0 fullShare (k0_pay8 (V m c main_arg2)) ∗ (∃ d, owns (c : Thread nD τ) scM0_1 fullShare d) ∗ (∃ d, owns (c : Thread nD τ) scM0_2 fullShare d)) ∗ (∃ r, prngReg c r)) from rfl]
  have hN : t.val < 60 := lt_of_lt_of_eq t.isLt (show cfg0.N = 60 from N_0)
  by_cases h0 : t.val % 60 = 0
  · refine (BIClass.sep_mono (show (dats m 0 c).Φ t.castSucc ⊢ Pipeline.ΦA spec0 c from PhiS_weaken m c t.val) (Idealize.SL.BI.Entails.refl _)).trans ?_
    rw [PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun_A c (grid0.coords t) _ _ _ _ _ _ _ _ _ _ _ _ _ _ _ _ _ _ _ _ _ _ _ _ _ _ ((hcond0_0 t).mpr h0) (bX0 (V m c main_arg0) t.val) (bX1 (V m c main_v0) t.val) (V m c main_arg2) (V m c main_v1) (bX4 (V m c main_arg4) t.val) (V m c main_v2) (V m c main_v3) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).Φ t.castSucc = PhiS m c (t.val - 1 + 1) from congrArg (PhiS m c) (show t.val = t.val - 1 + 1 by omega)]
    unfold PhiS
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun_B c (grid0.coords t) _ _ _ _ _ _ _ _ _ _ _ _ _ _ _ _ _ _ _ _ _ _ _ _ _ _ (fun h => h0 ((hcond0_0 t).mp h)) (bX0 (V m c main_arg0) t.val) (bX1 (V m c main_v0) t.val) (V m c main_arg2) (V m c main_v1) (bX4 (V m c main_arg4) t.val) (V m c main_v2) (V m c main_v3) (k0_pay8 (V m c main_arg2)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The proof data's invariant before the first point is the scratch at anything. -/
theorem hin (c : Dev nD) : Pipeline.ΦA spec0 c ⊢ (dats m 0 c).Φ 0 := by
  rw [show (dats m 0 c).Φ 0 = Pipeline.ΦA spec0 c from rfl]

/-- After the last point the scratch is given back at anything. -/
theorem hout (c : Dev nD) : (dats m 0 c).Φ (Fin.last cfg0.N) ⊢ Pipeline.ΦA spec0 c := PhiS_weaken m c (Fin.last cfg0.N).val

set_option backward.isDefEq.respectTransparency.types false in
/-- The launch: the arrays end as the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-! ## The arrays the host reshapes -/

/-- The row scales, reshaped to row blocks. -/
theorem V_main_v0 (c : Dev nD) : V m c main_v0 = shapeCast S60x1x256 (m ((c : Thread nD τ).loc main_arg1)) shapeCasts_S15360_S60x1x256 := by
  show StableHlo.after hostOps0 _ (Proc.devRef .tc main_v0) = _
  after_results
  rfl

/-- The weight's scales, reshaped to one row. -/
theorem V_main_v1 (c : Dev nD) : V m c main_v1 = shapeCast S1x4608 (m ((c : Thread nD τ).loc main_arg3)) shapeCasts_S4608_S1x4608 := by
  show StableHlo.after hostOps0 _ (Proc.devRef .tc main_v1) = _
  after_results
  rfl

/-- The gain after attention, reshaped to one row. -/
theorem V_main_v2 (c : Dev nD) : V m c main_v2 = shapeCast S1x4608 (m ((c : Thread nD τ).loc main_arg5)) shapeCasts_S4608_S1x4608 := by
  show StableHlo.after hostOps0 _ (Proc.devRef .tc main_v2) = _
  after_results
  rfl

/-- The gain before the feed-forward block, reshaped to one row. -/
theorem V_main_v3 (c : Dev nD) : V m c main_v3 = shapeCast S1x4608 (m ((c : Thread nD τ).loc main_arg6)) shapeCasts_S4608_S1x4608 := by
  show StableHlo.after hostOps0 _ (Proc.devRef .tc main_v3) = _
  after_results
  rfl

/-! ## The results -/

/-- A place of window 7's block is this place of its array. -/
theorem emb7 (t : Fin cfg0.N) (j : S256x4608.Idx) (i : S15360x4608.Idx) (h0 : (i 0).val = 256 * t.val + (j 0).val) (h1 : (i 1).val = (j 1).val) :
    ((cfg0.win 7).blk t).view.emb j = i := by
  obtain ⟨e0, e1⟩ := idx7 t
  funext a; apply Fin.ext
  match a with
  | ⟨0, _⟩ => show win0_7.index t (0 : Fin 2) * 256 + 1 * (j 0).val = (i 0).val; omega
  | ⟨1, _⟩ => show win0_7.index t (1 : Fin 2) * 4608 + 1 * (j 1).val = (i 1).val; omega

/-- Every place of window 7's array is in a block that is written back. -/
theorem cover7 (i : S15360x4608.Idx) : ∃ t : Fin cfg0.N, (cfg0.win 7).flush t = true ∧ i ∈ ((cfg0.win 7).blk t).view.set := by
  have h0 : (i 0).val < 15360 := (i 0).isLt
  have ht : (i 0).val / 256 < cfg0.N := by rw [show cfg0.N = 60 from N_0]; omega
  generalize htt : (⟨(i 0).val / 256, ht⟩ : Fin cfg0.N) = t
  have htv : t.val = (i 0).val / 256 := by rw [← htt]
  refine ⟨t, flush0_7 _, ?_⟩
  have h := ((cfg0.win 7).blk t).view.emb_mem_set (ix2 ⟨(i 0).val % 256, Nat.mod_lt _ (by decide)⟩ (i 1) : S256x4608.Idx)
  rwa [emb7 t _ i (by show (i 0).val = 256 * t.val + (i 0).val % 256; omega) rfl] at h

/-- Window 7's array after the run. -/
theorem arrAt7 (c : Dev nD) : (dats m 0 c).arrAt 7 cfg0.N = GH (V m c main_arg0) (V m c main_v0) (V m c main_arg2) (V m c main_v1) (V m c main_arg4) (V m c main_v2) := by
  refine Dat.arrAt_eq_of_cover (dats m 0 c) 7 (GH (V m c main_arg0) (V m c main_v0) (V m c main_arg2) (V m c main_v1) (V m c main_arg4) (V m c main_v2)) ?_ cover7
  intro t ht
  have hN : t.val < 60 := lt_of_lt_of_eq t.isLt (show cfg0.N = 60 from N_0)
  show (cfg0.win 7).cut (grid0.coords t) ((dats m 0 c).after 7 t) = _
  rw [after0_7]
  funext j
  have h0 : (j 0).val < 256 := (j 0).isLt
  show oH (V m c main_arg0) (V m c main_v0) (V m c main_arg2) (V m c main_v1) (V m c main_arg4) (V m c main_v2) t.val j = GH (V m c main_arg0) (V m c main_v0) (V m c main_arg2) (V m c main_v1) (V m c main_arg4) (V m c main_v2) (((cfg0.win 7).blk t).view.emb j)
  rw [emb7 t j (ix2 ⟨256 * t.val + (j 0).val, by omega⟩ (j 1)) rfl rfl]
  unfold GH
  rw [show ((ix2 ⟨256 * t.val + (j 0).val, by omega⟩ (j 1) : S15360x4608.Idx) 0).val / 256 = t.val from by
    show (256 * t.val + (j 0).val) / 256 = _; omega]
  congr 1
  funext a; apply Fin.ext
  match a with
  | ⟨0, _⟩ => show (j 0).val = (256 * t.val + (j 0).val) % 256; omega
  | ⟨1, _⟩ => rfl

/-- A place of window 8's block is this place of its array. -/
theorem emb8 (t : Fin cfg0.N) (j : S256x4608.Idx) (i : S15360x4608.Idx) (h0 : (i 0).val = 256 * t.val + (j 0).val) (h1 : (i 1).val = (j 1).val) :
    ((cfg0.win 8).blk t).view.emb j = i := by
  obtain ⟨e0, e1⟩ := idx8 t
  funext a; apply Fin.ext
  match a with
  | ⟨0, _⟩ => show win0_8.index t (0 : Fin 2) * 256 + 1 * (j 0).val = (i 0).val; omega
  | ⟨1, _⟩ => show win0_8.index t (1 : Fin 2) * 4608 + 1 * (j 1).val = (i 1).val; omega

/-- Every place of window 8's array is in a block that is written back. -/
theorem cover8 (i : S15360x4608.Idx) : ∃ t : Fin cfg0.N, (cfg0.win 8).flush t = true ∧ i ∈ ((cfg0.win 8).blk t).view.set := by
  have h0 : (i 0).val < 15360 := (i 0).isLt
  have ht : (i 0).val / 256 < cfg0.N := by rw [show cfg0.N = 60 from N_0]; omega
  generalize htt : (⟨(i 0).val / 256, ht⟩ : Fin cfg0.N) = t
  have htv : t.val = (i 0).val / 256 := by rw [← htt]
  refine ⟨t, flush0_8 _, ?_⟩
  have h := ((cfg0.win 8).blk t).view.emb_mem_set (ix2 ⟨(i 0).val % 256, Nat.mod_lt _ (by decide)⟩ (i 1) : S256x4608.Idx)
  rwa [emb8 t _ i (by show (i 0).val = 256 * t.val + (i 0).val % 256; omega) rfl] at h

/-- Window 8's array after the run. -/
theorem arrAt8 (c : Dev nD) : (dats m 0 c).arrAt 8 cfg0.N = GQ (V m c main_arg0) (V m c main_v0) (V m c main_arg2) (V m c main_v1) (V m c main_arg4) (V m c main_v2) (V m c main_v3) := by
  refine Dat.arrAt_eq_of_cover (dats m 0 c) 8 (GQ (V m c main_arg0) (V m c main_v0) (V m c main_arg2) (V m c main_v1) (V m c main_arg4) (V m c main_v2) (V m c main_v3)) ?_ cover8
  intro t ht
  have hN : t.val < 60 := lt_of_lt_of_eq t.isLt (show cfg0.N = 60 from N_0)
  show (cfg0.win 8).cut (grid0.coords t) ((dats m 0 c).after 8 t) = _
  rw [after0_8]
  funext j
  have h0 : (j 0).val < 256 := (j 0).isLt
  show oQ (V m c main_arg0) (V m c main_v0) (V m c main_arg2) (V m c main_v1) (V m c main_arg4) (V m c main_v2) (V m c main_v3) t.val j = GQ (V m c main_arg0) (V m c main_v0) (V m c main_arg2) (V m c main_v1) (V m c main_arg4) (V m c main_v2) (V m c main_v3) (((cfg0.win 8).blk t).view.emb j)
  rw [emb8 t j (ix2 ⟨256 * t.val + (j 0).val, by omega⟩ (j 1)) rfl rfl]
  unfold GQ
  rw [show ((ix2 ⟨256 * t.val + (j 0).val, by omega⟩ (j 1) : S15360x4608.Idx) 0).val / 256 = t.val from by
    show (256 * t.val + (j 0).val) / 256 = _; omega]
  congr 1
  funext a; apply Fin.ext
  match a with
  | ⟨0, _⟩ => show (j 0).val = (256 * t.val + (j 0).val) % 256; omega
  | ⟨1, _⟩ => rfl

/-- A place of window 9's block is this place of its array. -/
theorem emb9 (t : Fin cfg0.N) (j : S1x1x256.Idx) (i : S60x1x256.Idx) (h0 : (i 0).val = t.val) (h1 : (i 1).val = (j 1).val) (h2 : (i 2).val = (j 2).val) :
    ((cfg0.win 9).blk t).view.emb j = i := by
  obtain ⟨e0, e1, e2⟩ := idx9 t
  have hj : (j 0).val < 1 := (j 0).isLt
  funext a; apply Fin.ext
  match a with
  | ⟨0, _⟩ => show win0_9.index t (0 : Fin 3) * 1 + 1 * (j 0).val = (i 0).val; omega
  | ⟨1, _⟩ => show win0_9.index t (1 : Fin 3) * 1 + 1 * (j 1).val = (i 1).val; omega
  | ⟨2, _⟩ => show win0_9.index t (2 : Fin 3) * 256 + 1 * (j 2).val = (i 2).val; omega

/-- Every place of window 9's array is in a block that is written back. -/
theorem cover9 (i : S60x1x256.Idx) : ∃ t : Fin cfg0.N, (cfg0.win 9).flush t = true ∧ i ∈ ((cfg0.win 9).blk t).view.set := by
  have h0 : (i 0).val < 60 := (i 0).isLt
  have ht : (i 0).val < cfg0.N := by rw [show cfg0.N = 60 from N_0]; omega
  generalize htt : (⟨(i 0).val, ht⟩ : Fin cfg0.N) = t
  have htv : t.val = (i 0).val := by rw [← htt]
  refine ⟨t, flush0_9 _, ?_⟩
  have h := ((cfg0.win 9).blk t).view.emb_mem_set (ix3 (0 : Fin 1) (i 1) (i 2) : S1x1x256.Idx)
  rwa [emb9 t _ i htv.symm rfl rfl] at h

/-- Window 9's array after the run. -/
theorem arrAt9 (c : Dev nD) : (dats m 0 c).arrAt 9 cfg0.N = GS (V m c main_arg0) (V m c main_v0) (V m c main_arg2) (V m c main_v1) (V m c main_arg4) (V m c main_v2) (V m c main_v3) := by
  refine Dat.arrAt_eq_of_cover (dats m 0 c) 9 (GS (V m c main_arg0) (V m c main_v0) (V m c main_arg2) (V m c main_v1) (V m c main_arg4) (V m c main_v2) (V m c main_v3)) ?_ cover9
  intro t ht
  have hN : t.val < 60 := lt_of_lt_of_eq t.isLt (show cfg0.N = 60 from N_0)
  show (cfg0.win 9).cut (grid0.coords t) ((dats m 0 c).after 9 t) = _
  rw [after0_9]
  funext j
  have h0 : (j 0).val < 1 := (j 0).isLt
  show oS (V m c main_arg0) (V m c main_v0) (V m c main_arg2) (V m c main_v1) (V m c main_arg4) (V m c main_v2) (V m c main_v3) t.val j = GS (V m c main_arg0) (V m c main_v0) (V m c main_arg2) (V m c main_v1) (V m c main_arg4) (V m c main_v2) (V m c main_v3) (((cfg0.win 9).blk t).view.emb j)
  rw [emb9 t j (ix3 ⟨t.val, by omega⟩ (j 1) (j 2)) rfl rfl rfl]
  unfold GS
  show oS (V m c main_arg0) (V m c main_v0) (V m c main_arg2) (V m c main_v1) (V m c main_arg4) (V m c main_v2) (V m c main_v3) t.val j = oS (V m c main_arg0) (V m c main_v0) (V m c main_arg2) (V m c main_v1) (V m c main_arg4) (V m c main_v2) (V m c main_v3) t.val (ix3 (0 : Fin 1) (j 1) (j 2))
  congr 1
  funext a; apply Fin.ext
  match a with
  | ⟨0, _⟩ => show (j 0).val = 0; omega
  | ⟨1, _⟩ => rfl
  | ⟨2, _⟩ => rfl

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run_main_quiescent m ρ))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run with the result arrays as functions of the arrays the kernel stages. -/
theorem run_values : θ_run defs (onTc (τ := τ) (main (F := F))) ⟨m, fun _ => 0, ρ⟩ (fun r => ∀ c : Dev nD,
      r.2.mem ((c : Thread nD τ).loc main_v4_0) = GH (V m c main_arg0) (V m c main_v0) (V m c main_arg2) (V m c main_v1) (V m c main_arg4) (V m c main_v2)
      ∧ r.2.mem ((c : Thread nD τ).loc main_v4_1) = GQ (V m c main_arg0) (V m c main_v0) (V m c main_arg2) (V m c main_v1) (V m c main_arg4) (V m c main_v2) (V m c main_v3)
      ∧ r.2.mem ((c : Thread nD τ).loc main_v4_2) = GS (V m c main_arg0) (V m c main_v0) (V m c main_arg2) (V m c main_v1) (V m c main_arg4) (V m c main_v2) (V m c main_v3)) :=
  (θ_run defs _ _).mono (fun _ h c => ⟨((h.1 c).1 7).trans (arrAt7 m c), ((h.1 c).1 8).trans (arrAt8 m c), ((h.1 c).1 9).trans (arrAt9 m c)⟩) (run_main_quiescent m ρ)

end Cert.OprojIdeal.Gen
-- ==== Proof.OprojBits.lean ====
/-
  The frame of the attention-projection kernel over machine words, from the frame that is proved of its text at every float instance.
-/
module

public import proofs.«01_k».proof.Defs
public import proofs.«01_k».proof.Proof.Gen.Oproj
public import proofs.«01_k».proof.Proof.OprojFrame

@[expose] public section

noncomputable section

namespace Cert.Oproj

open Idealize.ShloMosaic Idealize.ShloMosaic.TcCoe Idealize.SL.Sem

variable {F : FTy → Type} [FloatOps F]

/-- The two printings of the kernel's body are one function. -/
theorem body_eq : cc0_oproj (F := F) = Cert.OprojIdeal.cc0_oproj (F := F) := rfl

/-- The two printings' tables of bodies are one table. -/
theorem defs₀_eq : defs₀ (F := F) = Cert.OprojIdeal.defs₀ (F := F) := by
  unfold defs₀ Cert.OprojIdeal.defs₀
  congr 1
  funext l x
  match l, x with
  | ⟨0, _⟩, (t, s) => rfl
  | ⟨_ + 1, h⟩, _ => exact absurd h (Nat.not_lt.2 (Nat.le_add_left _ _))

/-- The two printings' host programs are one program. -/
theorem main_eq : main (F := F) = Cert.OprojIdeal.main (F := F) := rfl

/-- The two printings' tables of labels are one table. -/
theorem defs_eq : defs (F := F) = Cert.OprojIdeal.defs (F := F) := by
  show Pipeline.defs pcfgs defs₀ = Pipeline.defs Cert.OprojIdeal.pcfgs Cert.OprojIdeal.defs₀
  rw [defs₀_eq]; rfl

/-- The frame over machine words: the program is, word for word, the one whose frame is proved at every float instance. -/
theorem quiescent : Cert.quiescent_Oproj (hOproj := Cert.Oproj.Gen.facts) := by
  intro m g _
  have h := Cert.OprojIdeal.Gen.frame (F := Bits) m g
  rw [← defs_eq, ← main_eq] at h
  exact h

end Cert.Oproj

end
-- ==== Proof.OprojRefResult.lean ====
/-
  What the reference of the attention projection computes: its result arrays as functions of its arguments.
-/
module

public import proofs.«01_k».proof.Proof.Gen.OprojRefIdeal.Frame
public import Idealize.ShloMosaic.Lib.Claim
public import Idealize.ShloMosaic.Lib.Pipeline.Value

@[expose] public section

set_option maxRecDepth 16384

noncomputable section

namespace Cert.OprojRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The results as functions of the arguments -/

/-- The reference's residual stream. -/
def R0 (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : Vec F S15360x4608 .f32 :=
  k0_pay5 x0 x1 x2 x3 x4 x5

/-- The reference's codes. -/
def R1 (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : Vec F S15360x4608 .i8 :=
  k0_pay3 (k0_pay5 x0 x1 x2 x3 x4 x5) x6 (k0_pay6 x0 x1 x2 x3 x4 x5)

/-- The reference's row scales. -/
def R2 (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : Vec F S60x1x256 .f32 :=
  k0_pay4 (k0_pay5 x0 x1 x2 x3 x4 x5) x6 (k0_pay6 x0 x1 x2 x3 x4 x5)

/-- One zero offset, as a function. -/
theorem hz1 : (![0] : Fin 1 → Nat) = fun _ => 0 := funext fun a => by fin_cases a <;> rfl
/-- Two zero offsets, as a function. -/
theorem hz2 : (![0, 0] : Fin 2 → Nat) = fun _ => 0 := funext fun a => by fin_cases a <;> rfl
/-- Three zero offsets, as a function. -/
theorem hz3 : (![0, 0, 0] : Fin 3 → Nat) = fun _ => 0 := funext fun a => by fin_cases a <;> rfl

/-- The body's store into window 7: one store of the whole array, of loads of whole arrays. -/
theorem out7_eq (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : out0_7 x0 x1 x2 x3 x4 x5 x6 = R0 x0 x1 x2 x3 x4 x5 x6 := by
  unfold out0_7 k0_pay7
  rw [View.canon_unit_zero hz2]
  simp only [View.ld_unit_zero (S := S1024x4608) hz2, View.ld_unit_zero (S := S4608) hz1, View.ld_unit_zero (S := S15360) hz1, View.ld_unit_zero (S := S15360x1024) hz2, View.ld_unit_zero (S := S15360x4608) hz2]
  rfl

/-- The body's store into window 8: one store of the whole array, of loads of whole arrays. -/
theorem out8_eq (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : out0_8 x0 x1 x2 x3 x4 x5 x6 = R1 x0 x1 x2 x3 x4 x5 x6 := by
  unfold out0_8 k0_pay8 k0_pay7
  rw [View.canon_unit_zero hz2]
  simp only [View.ld_unit_zero (S := S1024x4608) hz2, View.ld_unit_zero (S := S4608) hz1, View.ld_unit_zero (S := S15360) hz1, View.ld_unit_zero (S := S15360x1024) hz2, View.ld_unit_zero (S := S15360x4608) hz2]
  rfl

/-- The body's store into window 9: one store of the whole array, of loads of whole arrays. -/
theorem out9_eq (x0 : Vec F S15360x1024 .i8) (x1 : Vec F S15360 .f32) (x2 : Vec F S1024x4608 .i8) (x3 : Vec F S4608 .f32) (x4 : Vec F S15360x4608 .bf16) (x5 : Vec F S4608 .f32) (x6 : Vec F S4608 .f32) : out0_9 x0 x1 x2 x3 x4 x5 x6 = R2 x0 x1 x2 x3 x4 x5 x6 := by
  unfold out0_9 k0_pay8 k0_pay7
  rw [View.canon_unit_zero hz3]
  simp only [View.ld_unit_zero (S := S1024x4608) hz2, View.ld_unit_zero (S := S4608) hz1, View.ld_unit_zero (S := S15360) hz1, View.ld_unit_zero (S := S15360x1024) hz2, View.ld_unit_zero (S := S15360x4608) hz2]
  rfl

variable (m : (ℓ : Loc nD τ sig) → Buf (Elt F) ℓ) (ρ : Dev nD → PrngReg)

/-! ## Every window's block is its whole array -/

/-- Window 0: its block index is zero on every axis. -/
theorem idx_zero0 : ∀ t : Fin cfg0.N, win0_0.index t (0 : Fin 2) = 0 ∧ win0_0.index t (1 : Fin 2) = 0 := (by decide +kernel : ∀ t : Fin grid0.N, _)

/-- Window 0: an index of its block is the same index of its array. -/
theorem emb0 (t : Fin cfg0.N) (j : S15360x1024.Idx) : ((cfg0.win 0).blk t).view.emb j = j := by
  obtain ⟨e0, e1⟩ := idx_zero0 t
  funext a; apply Fin.ext
  match a with
  | ⟨0, _⟩ => show win0_0.index t (0 : Fin 2) * 15360 + 1 * (j 0).val = (j 0).val; omega
  | ⟨1, _⟩ => show win0_0.index t (1 : Fin 2) * 1024 + 1 * (j 1).val = (j 1).val; omega

/-- Window 0: its block is its array. -/
theorem iblk0_eq (c : Dev nD) (t : Fin cfg0.N) : iblk m c 0 t = V m c main_arg0 := by
  funext j; show V m c main_arg0 (((cfg0.win 0).blk t).view.emb j) = V m c main_arg0 j; rw [emb0]

/-- Window 1: its block index is zero on every axis. -/
theorem idx_zero1 : ∀ t : Fin cfg0.N, win0_1.index t (0 : Fin 1) = 0 := (by decide +kernel : ∀ t : Fin grid0.N, _)

/-- Window 1: an index of its block is the same index of its array. -/
theorem emb1 (t : Fin cfg0.N) (j : S15360.Idx) : ((cfg0.win 1).blk t).view.emb j = j := by
  obtain e0 := idx_zero1 t
  funext a; apply Fin.ext
  match a with
  | ⟨0, _⟩ => show win0_1.index t (0 : Fin 1) * 15360 + 1 * (j 0).val = (j 0).val; omega

/-- Window 1: its block is its array. -/
theorem iblk1_eq (c : Dev nD) (t : Fin cfg0.N) : iblk m c 1 t = V m c main_arg1 := by
  funext j; show V m c main_arg1 (((cfg0.win 1).blk t).view.emb j) = V m c main_arg1 j; rw [emb1]

/-- Window 2: its block index is zero on every axis. -/
theorem idx_zero2 : ∀ t : Fin cfg0.N, win0_2.index t (0 : Fin 2) = 0 ∧ win0_2.index t (1 : Fin 2) = 0 := (by decide +kernel : ∀ t : Fin grid0.N, _)

/-- Window 2: an index of its block is the same index of its array. -/
theorem emb2 (t : Fin cfg0.N) (j : S1024x4608.Idx) : ((cfg0.win 2).blk t).view.emb j = j := by
  obtain ⟨e0, e1⟩ := idx_zero2 t
  funext a; apply Fin.ext
  match a with
  | ⟨0, _⟩ => show win0_2.index t (0 : Fin 2) * 1024 + 1 * (j 0).val = (j 0).val; omega
  | ⟨1, _⟩ => show win0_2.index t (1 : Fin 2) * 4608 + 1 * (j 1).val = (j 1).val; omega

/-- Window 2: its block is its array. -/
theorem iblk2_eq (c : Dev nD) (t : Fin cfg0.N) : iblk m c 2 t = V m c main_arg2 := by
  funext j; show V m c main_arg2 (((cfg0.win 2).blk t).view.emb j) = V m c main_arg2 j; rw [emb2]

/-- Window 3: its block index is zero on every axis. -/
theorem idx_zero3 : ∀ t : Fin cfg0.N, win0_3.index t (0 : Fin 1) = 0 := (by decide +kernel : ∀ t : Fin grid0.N, _)

/-- Window 3: an index of its block is the same index of its array. -/
theorem emb3 (t : Fin cfg0.N) (j : S4608.Idx) : ((cfg0.win 3).blk t).view.emb j = j := by
  obtain e0 := idx_zero3 t
  funext a; apply Fin.ext
  match a with
  | ⟨0, _⟩ => show win0_3.index t (0 : Fin 1) * 4608 + 1 * (j 0).val = (j 0).val; omega

/-- Window 3: its block is its array. -/
theorem iblk3_eq (c : Dev nD) (t : Fin cfg0.N) : iblk m c 3 t = V m c main_arg3 := by
  funext j; show V m c main_arg3 (((cfg0.win 3).blk t).view.emb j) = V m c main_arg3 j; rw [emb3]

/-- Window 4: its block index is zero on every axis. -/
theorem idx_zero4 : ∀ t : Fin cfg0.N, win0_4.index t (0 : Fin 2) = 0 ∧ win0_4.index t (1 : Fin 2) = 0 := (by decide +kernel : ∀ t : Fin grid0.N, _)

/-- Window 4: an index of its block is the same index of its array. -/
theorem emb4 (t : Fin cfg0.N) (j : S15360x4608.Idx) : ((cfg0.win 4).blk t).view.emb j = j := by
  obtain ⟨e0, e1⟩ := idx_zero4 t
  funext a; apply Fin.ext
  match a with
  | ⟨0, _⟩ => show win0_4.index t (0 : Fin 2) * 15360 + 1 * (j 0).val = (j 0).val; omega
  | ⟨1, _⟩ => show win0_4.index t (1 : Fin 2) * 4608 + 1 * (j 1).val = (j 1).val; omega

/-- Window 4: its block is its array. -/
theorem iblk4_eq (c : Dev nD) (t : Fin cfg0.N) : iblk m c 4 t = V m c main_arg4 := by
  funext j; show V m c main_arg4 (((cfg0.win 4).blk t).view.emb j) = V m c main_arg4 j; rw [emb4]

/-- Window 5: its block index is zero on every axis. -/
theorem idx_zero5 : ∀ t : Fin cfg0.N, win0_5.index t (0 : Fin 1) = 0 := (by decide +kernel : ∀ t : Fin grid0.N, _)

/-- Window 5: an index of its block is the same index of its array. -/
theorem emb5 (t : Fin cfg0.N) (j : S4608.Idx) : ((cfg0.win 5).blk t).view.emb j = j := by
  obtain e0 := idx_zero5 t
  funext a; apply Fin.ext
  match a with
  | ⟨0, _⟩ => show win0_5.index t (0 : Fin 1) * 4608 + 1 * (j 0).val = (j 0).val; omega

/-- Window 5: its block is its array. -/
theorem iblk5_eq (c : Dev nD) (t : Fin cfg0.N) : iblk m c 5 t = V m c main_arg5 := by
  funext j; show V m c main_arg5 (((cfg0.win 5).blk t).view.emb j) = V m c main_arg5 j; rw [emb5]

/-- Window 6: its block index is zero on every axis. -/
theorem idx_zero6 : ∀ t : Fin cfg0.N, win0_6.index t (0 : Fin 1) = 0 := (by decide +kernel : ∀ t : Fin grid0.N, _)

/-- Window 6: an index of its block is the same index of its array. -/
theorem emb6 (t : Fin cfg0.N) (j : S4608.Idx) : ((cfg0.win 6).blk t).view.emb j = j := by
  obtain e0 := idx_zero6 t
  funext a; apply Fin.ext
  match a with
  | ⟨0, _⟩ => show win0_6.index t (0 : Fin 1) * 4608 + 1 * (j 0).val = (j 0).val; omega

/-- Window 6: its block is its array. -/
theorem iblk6_eq (c : Dev nD) (t : Fin cfg0.N) : iblk m c 6 t = V m c main_arg6 := by
  funext j; show V m c main_arg6 (((cfg0.win 6).blk t).view.emb j) = V m c main_arg6 j; rw [emb6]

/-- Window 7: its block index is zero on every axis. -/
theorem idx_zero7 : ∀ t : Fin cfg0.N, win0_7.index t (0 : Fin 2) = 0 ∧ win0_7.index t (1 : Fin 2) = 0 := (by decide +kernel : ∀ t : Fin grid0.N, _)

/-- Window 7: an index of its block is the same index of its array. -/
theorem emb7 (t : Fin cfg0.N) (j : S15360x4608.Idx) : ((cfg0.win 7).blk t).view.emb j = j := by
  obtain ⟨e0, e1⟩ := idx_zero7 t
  funext a; apply Fin.ext
  match a with
  | ⟨0, _⟩ => show win0_7.index t (0 : Fin 2) * 15360 + 1 * (j 0).val = (j 0).val; omega
  | ⟨1, _⟩ => show win0_7.index t (1 : Fin 2) * 4608 + 1 * (j 1).val = (j 1).val; omega

/-- Window 8: its block index is zero on every axis. -/
theorem idx_zero8 : ∀ t : Fin cfg0.N, win0_8.index t (0 : Fin 2) = 0 ∧ win0_8.index t (1 : Fin 2) = 0 := (by decide +kernel : ∀ t : Fin grid0.N, _)

/-- Window 8: an index of its block is the same index of its array. -/
theorem emb8 (t : Fin cfg0.N) (j : S15360x4608.Idx) : ((cfg0.win 8).blk t).view.emb j = j := by
  obtain ⟨e0, e1⟩ := idx_zero8 t
  funext a; apply Fin.ext
  match a with
  | ⟨0, _⟩ => show win0_8.index t (0 : Fin 2) * 15360 + 1 * (j 0).val = (j 0).val; omega
  | ⟨1, _⟩ => show win0_8.index t (1 : Fin 2) * 4608 + 1 * (j 1).val = (j 1).val; omega

/-- Window 9: its block index is zero on every axis. -/
theorem idx_zero9 : ∀ t : Fin cfg0.N, win0_9.index t (0 : Fin 3) = 0 ∧ win0_9.index t (1 : Fin 3) = 0 ∧ win0_9.index t (2 : Fin 3) = 0 := (by decide +kernel : ∀ t : Fin grid0.N, _)

/-- Window 9: an index of its block is the same index of its array. -/
theorem emb9 (t : Fin cfg0.N) (j : S60x1x256.Idx) : ((cfg0.win 9).blk t).view.emb j = j := by
  obtain ⟨e0, e1, e2⟩ := idx_zero9 t
  funext a; apply Fin.ext
  match a with
  | ⟨0, _⟩ => show win0_9.index t (0 : Fin 3) * 60 + 1 * (j 0).val = (j 0).val; omega
  | ⟨1, _⟩ => show win0_9.index t (1 : Fin 3) * 1 + 1 * (j 1).val = (j 1).val; omega
  | ⟨2, _⟩ => show win0_9.index t (2 : Fin 3) * 256 + 1 * (j 2).val = (j 2).val; omega

/-- Result array 0 after the run. -/
theorem final7 (c : Dev nD) : (dats m 0 c).arrAt 7 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (R0 (V m c main_arg0) (V m c main_arg1) (V m c main_arg2) (V m c main_arg3) (V m c main_arg4) (V m c main_arg5) (V m c main_arg6))
    (fun t _ => by
      show (cfg0.win 7).cut (grid0.coords t) ((dats m 0 c).after 7 t) = _
      rw [after0_7, out7_eq, iblk0_eq, iblk1_eq, iblk2_eq, iblk3_eq, iblk4_eq, iblk5_eq, iblk6_eq]
      funext j
      show R0 (V m c main_arg0) (V m c main_arg1) (V m c main_arg2) (V m c main_arg3) (V m c main_arg4) (V m c main_arg5) (V m c main_arg6) j = R0 (V m c main_arg0) (V m c main_arg1) (V m c main_arg2) (V m c main_arg3) (V m c main_arg4) (V m c main_arg5) (V m c main_arg6) (((cfg0.win 7).blk t).view.emb j)
      rw [emb7])
    (fun i => ⟨(⟨0, by decide⟩ : Fin cfg0.N), flush0_7 _, by
      have h := ((cfg0.win 7).blk (⟨0, by decide⟩ : Fin cfg0.N)).view.emb_mem_set i; rwa [emb7] at h⟩)).trans
    (by rw [V_main_arg0, V_main_arg1, V_main_arg2, V_main_arg3, V_main_arg4, V_main_arg5, V_main_arg6])

/-- Result array 1 after the run. -/
theorem final8 (c : Dev nD) : (dats m 0 c).arrAt 8 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (R1 (V m c main_arg0) (V m c main_arg1) (V m c main_arg2) (V m c main_arg3) (V m c main_arg4) (V m c main_arg5) (V m c main_arg6))
    (fun t _ => by
      show (cfg0.win 8).cut (grid0.coords t) ((dats m 0 c).after 8 t) = _
      rw [after0_8, out8_eq, iblk0_eq, iblk1_eq, iblk2_eq, iblk3_eq, iblk4_eq, iblk5_eq, iblk6_eq]
      funext j
      show R1 (V m c main_arg0) (V m c main_arg1) (V m c main_arg2) (V m c main_arg3) (V m c main_arg4) (V m c main_arg5) (V m c main_arg6) j = R1 (V m c main_arg0) (V m c main_arg1) (V m c main_arg2) (V m c main_arg3) (V m c main_arg4) (V m c main_arg5) (V m c main_arg6) (((cfg0.win 8).blk t).view.emb j)
      rw [emb8])
    (fun i => ⟨(⟨0, by decide⟩ : Fin cfg0.N), flush0_8 _, by
      have h := ((cfg0.win 8).blk (⟨0, by decide⟩ : Fin cfg0.N)).view.emb_mem_set i; rwa [emb8] at h⟩)).trans
    (by rw [V_main_arg0, V_main_arg1, V_main_arg2, V_main_arg3, V_main_arg4, V_main_arg5, V_main_arg6])

/-- Result array 2 after the run. -/
theorem final9 (c : Dev nD) : (dats m 0 c).arrAt 9 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (R2 (V m c main_arg0) (V m c main_arg1) (V m c main_arg2) (V m c main_arg3) (V m c main_arg4) (V m c main_arg5) (V m c main_arg6))
    (fun t _ => by
      show (cfg0.win 9).cut (grid0.coords t) ((dats m 0 c).after 9 t) = _
      rw [after0_9, out9_eq, iblk0_eq, iblk1_eq, iblk2_eq, iblk3_eq, iblk4_eq, iblk5_eq, iblk6_eq]
      funext j
      show R2 (V m c main_arg0) (V m c main_arg1) (V m c main_arg2) (V m c main_arg3) (V m c main_arg4) (V m c main_arg5) (V m c main_arg6) j = R2 (V m c main_arg0) (V m c main_arg1) (V m c main_arg2) (V m c main_arg3) (V m c main_arg4) (V m c main_arg5) (V m c main_arg6) (((cfg0.win 9).blk t).view.emb j)
      rw [emb9])
    (fun i => ⟨(⟨0, by decide⟩ : Fin cfg0.N), flush0_9 _, by
      have h := ((cfg0.win 9).blk (⟨0, by decide⟩ : Fin cfg0.N)).view.emb_mem_set i; rwa [emb9] at h⟩)).trans
    (by rw [V_main_arg0, V_main_arg1, V_main_arg2, V_main_arg3, V_main_arg4, V_main_arg5, V_main_arg6])

/-- Every run ends with the result arrays at these functions of the arguments. -/
theorem run_values : θ_run defs (onTc (τ := τ) (main (F := F))) ⟨m, fun _ => 0, ρ⟩ fun r => ∀ c : Dev nD,
      r.2.mem ((c : Thread nD τ).loc main_v0_0) = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (θ_run defs _ _).mono (fun _ h c => ⟨((h c).1 7).trans (final7 m c), ((h c).1 8).trans (final8 m c), ((h c).1 9).trans (final9 m c)⟩) (run_main m ρ)

end Cert.OprojRefIdeal.Gen

end
-- ==== Proof.UnitMath.lean ====
/-
  The scalar mathematics of a root-mean-square normalisation with a gain: times the reciprocal of the root, or divided by it.
-/
module

public import proofs.«01_k».proof.Proof.NormMath

@[expose] public section

noncomputable section

namespace Cert.Math

open Idealize.ShloMosaic

section Scalars
variable {F : FTy → Type} [FloatOps F]

/-- An element normalised by the row's sum of squares `s`, times one plus the gain, by the reciprocal of the root mean square. -/
def unitMul (f s g : F .f32) : F .f32 :=
  FloatOps.mulf (FloatOps.mulf f (FloatOps.divf (FloatOps.ofBits .f32 0x3F800000#32) (rms s))) (FloatOps.addf (FloatOps.ofBits .f32 0x3F800000#32) g)

/-- The same by division. -/
def unitDiv (f s g : F .f32) : F .f32 :=
  FloatOps.mulf (FloatOps.divf f (rms s)) (FloatOps.addf (FloatOps.ofBits .f32 0x3F800000#32) g)

/-- The residual element `x` plus `y`. -/
def resid (x : F .bf16) (y : F .f32) : F .f32 := FloatOps.addf (FloatOps.extf .f32 (by decide) x) y

end Scalars

/-- The two spellings agree when the sum of squares is at least zero, also at the infinities. -/
theorem unitMul_eq (f s g : Ideal .f32) (hs : (0 : EReal) ≤ s) : unitMul (F := Ideal) f s g = unitDiv f s g := by
  have e : FloatOps.mulf (F := Ideal) (φ := .f32) f (FloatOps.divf (FloatOps.ofBits .f32 0x3F800000#32) (rms s)) = FloatOps.divf f (rms s) := by
    show (f : EReal) * Ideal.div (Ideal.ofBits .f32 0x3F800000#32) (rms s) = Ideal.div f (rms s)
    rw [Ideal.ofBits_one_f32]
    unfold Ideal.div
    rw [if_neg (rms_ne_zero s hs), if_neg (rms_ne_zero s hs), one_mul]
  unfold unitMul unitDiv
  rw [e]

end Cert.Math

end
-- ==== Proof.OprojRead.lean ====
/-
  What the payloads of the attention-projection kernel are at an index, over any float instance.
-/
module

public import proofs.«01_k».proof.Proof.QuantMath
public import proofs.«01_k».proof.Proof.UnitMath
public import proofs.«01_k».proof.Proof.OprojFrame
public import Idealize.ShloMosaic.Lib.Pointwise

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

variable {F : FTy → Type} [FloatOps F]

/-- A value per row, read along the row of a chunk. -/
theorem col_apply {α : Type} (s : S16x1.Idx → α) (r : Fin 16) (n : Fin 4608) :
    broadcastTo S16x4608 s broadcasts_S16x1_S16x4608 (ix2 r n) = s (ix2 r 0) := by
  pointwise

/-- A value per row, read in every lane. -/
theorem lane_apply {α : Type} (s : S16x1.Idx → α) (r : Fin 16) (l : Fin 128) :
    broadcastTo S16x128 s broadcasts_S16x1_S16x128 (ix2 r l) = s (ix2 r 0) := by
  pointwise

/-- A value per column, read down the column of a chunk. -/
theorem row_apply {α : Type} (s : S1x4608.Idx → α) (r : Fin 16) (n : Fin 4608) :
    broadcastTo S16x4608 s broadcasts_S1x4608_S16x4608 (ix2 r n) = s (ix2 0 n) := by
  pointwise

/-- A value per row of a chunk, as a column. -/
theorem cast_apply {α : Type} (s : S16.Idx → α) (r : Fin 16) :
    shapeCast S16x1 s shapeCasts_S16_S16x1 (ix2 r 0) = s (ix1 r) := by
  pointwise

/-- A chunk of the product brought back to values. -/
def val16 (a : Vec F S16x4608 .f32) (s : Vec F S16x1 .f32) (ws : Vec F S1x4608 .f32) : FVec F S16x4608 .f32 :=
  mulf a (mulf (broadcastTo S16x4608 s broadcasts_S16x1_S16x4608) (broadcastTo S16x4608 ws broadcasts_S1x4608_S16x4608))

/-- It at an index. -/
theorem val16_apply (a : Vec F S16x4608 .f32) (s : Vec F S16x1 .f32) (ws : Vec F S1x4608 .f32) (r : Fin 16) (n : Fin 4608) :
    val16 a s ws (ix2 r n) = dequant (a (ix2 r n)) (s (ix2 r 0)) (ws (ix2 0 n)) := by
  rw [← col_apply s r n, ← row_apply ws r n]
  rfl

/-- The sums of squares of a chunk's rows. -/
def sq16 (f : FVec F S16x4608 .f32) : FVec F S16 .f32 :=
  multiReduction .add [1] S16 (mulf f f) 0x00000000#32 reduces_S16x4608_S16 (.inl rfl) rfl

/-- The same as a column. -/
def sqCol16 (f : FVec F S16x4608 .f32) : FVec F S16x1 .f32 := shapeCast S16x1 (sq16 f) shapeCasts_S16_S16x1

/-- A normalised chunk at an index. -/
theorem nrm_apply (h : FVec F S16x4608 .f32) (q : FVec F S16x1 .f32) (g : Vec F S1x4608 .f32) (r : Fin 16) (n : Fin 4608) :
    k0_pay4 h q g (ix2 r n) = unitMul (h (ix2 r n)) (q (ix2 r 0)) (g (ix2 0 n)) := by
  have e1 := col_apply (divf (broadcast S16x1 (Scalar.ofBits .f32 0x3F800000#32)) (sqrt (addf (divf q (broadcast S16x1 (Scalar.ofBits .f32 0x45900000#32)))
    (broadcast S16x1 (Scalar.ofBits .f32 0x358637BD#32))))) r n
  have e2 := row_apply (addf (broadcast S1x4608 (Scalar.ofBits .f32 0x3F800000#32)) g) r n
  unfold k0_pay4
  rw [shapeCast_self]
  exact congrArg₂ (fun a b => FloatOps.mulf (FloatOps.mulf (h (ix2 r n)) a) b) e1 e2

/-- A chunk of the residual stream at an index. -/
theorem h16_apply (a : Vec F S16x4608 .f32) (s : Vec F S16x1 .f32) (ws : Vec F S1x4608 .f32) (x : Vec F S16x4608 .bf16) (g : Vec F S1x4608 .f32) (r : Fin 16) (n : Fin 4608) :
    k0_pay2 a s ws x g (ix2 r n) = resid (x (ix2 r n)) (unitMul (val16 a s ws (ix2 r n)) (sq16 (val16 a s ws) (ix1 r)) (g (ix2 0 n))) := by
  rw [← cast_apply (sq16 (val16 a s ws)) r, ← nrm_apply]
  unfold k0_pay2 k0_pay4
  rw [shapeCast_self, shapeCast_self]
  rfl

/-- A chunk's sum of squares of the residual stream. -/
theorem sq2_apply (a : Vec F S16x4608 .f32) (s : Vec F S16x1 .f32) (ws : Vec F S1x4608 .f32) (x : Vec F S16x4608 .bf16) (g : Vec F S1x4608 .f32) (r : Fin 16) :
    k0_pay3 a s ws x g (ix2 r 0) = sq16 (k0_pay2 a s ws x g) (ix1 r) := cast_apply _ r

/-- A row's scale. -/
theorem scale_apply (h : FVec F S16x4608 .f32) (q : FVec F S16x1 .f32) (g : Vec F S1x4608 .f32) (r : Fin 16) :
    k0_pay5 h q g (ix2 r 0) = scaleOf (multiReduction .maximumf [1] S16 (absf (k0_pay4 h q g)) 0xFF800000#32 reduces_S16x4608_S16 (.inl rfl) rfl (ix1 r)) := by
  rw [← cast_apply (multiReduction .maximumf [1] S16 (absf (k0_pay4 h q g)) 0xFF800000#32 reduces_S16x4608_S16 (.inl rfl) rfl) r]
  rfl

/-- A code, before and after the conversion to eight bits. -/
theorem code_apply (h : FVec F S16x4608 .f32) (q : FVec F S16x1 .f32) (g : Vec F S1x4608 .f32) (r : Fin 16) (n : Fin 4608) :
    FloatOps.fptosi 8 (k0_pay6 h q g (ix2 r n)) = codeMul (k0_pay4 h q g (ix2 r n)) (k0_pay5 h q g (ix2 r 0)) := by
  have e := col_apply (divf (broadcast S16x1 (Scalar.ofBits .f32 0x3F800000#32)) (k0_pay5 h q g)) r n
  unfold k0_pay6
  rw [shapeCast_self]
  exact congrArg (fun a => toCode (FloatOps.mulf (k0_pay4 h q g (ix2 r n)) a)) e

/-- A row's scale, in every lane. -/
theorem lanes_apply (h : FVec F S16x4608 .f32) (q : FVec F S16x1 .f32) (g : Vec F S1x4608 .f32) (r : Fin 16) (l : Fin 128) :
    k0_pay7 h q g (ix2 r l) = k0_pay5 h q g (ix2 r 0) := by
  unfold k0_pay7
  rw [shapeCast_self, shapeCast_self]
  exact lane_apply _ r l

/-- The first lane of the row scales. -/
theorem col0_apply (sc : Vec F S256x128 .f32) (r : Fin 256) : col0 sc (ix2 r 0) = sc (ix2 r 0) := by
  unfold col0 VecWindow.window
  congr 1
  funext a
  apply Fin.ext
  fin_cases a
  · show 0 + 1 * r.val = r.val
    omega
  · rfl

/-- A block's row scales as columns. -/
theorem sc_apply (v : Vec F S1x1x256 .f32) (r : Fin 256) (l : Fin 128) : k0_pay10 v (ix2 r l) = v (ix3 0 0 r) := by
  unfold k0_pay10
  pointwise

/-- A block's column of scales as a row. -/
theorem back_apply (v : Vec F S256x1 .f32) (r : Fin 256) : k0_pay1 (k0_pay12 v) (ix3 0 0 r) = v (ix2 r 0) := by
  unfold k0_pay1 k0_pay12
  pointwise

/-- The converted weight at an index. -/
theorem wbf_apply (w : Vec F S1024x4608 .i8) (k : Fin 1024) (n : Fin 4608) : k0_pay8 w (ix2 k n) = FloatOps.sitofp .bf16 (w (ix2 k n)) := by
  unfold k0_pay8
  rw [shapeCast_self]
  rfl

/-- Row `q` of chunk `k` of a block. -/
def row256 (k q : Fin 16) : Fin 256 := ⟨16 * k.val + q.val, by omega⟩

/-- A row of a chunk, as the loop computes it, is that row. -/
theorem row256_eq (k q : Fin 16) : (⟨(16 * k.val + q.val) % 256, Nat.mod_lt _ (by decide)⟩ : Fin 256) = row256 k q :=
  Fin.ext (by show (16 * k.val + q.val) % 256 = 16 * k.val + q.val; omega)

/-- An element of a chunk of rows. -/
theorem rows16_apply {e : EltTy} (d : Vec F S256x4608 e) (k q : Fin 16) (n : Fin 4608) : rows16 d k.val (ix2 q n) = d (ix2 (row256 k q) n) := by
  rw [← row256_eq]; rfl

/-- An element of a chunk's scales. -/
theorem col16_apply (d : Vec F S256x128 .f32) (k q : Fin 16) : col16 d k.val (ix2 q 0) = d (ix2 (row256 k q) 0) := by
  rw [← row256_eq]; rfl

/-- Chunk `k` holds rows `16 k` on, and within it row `q`. -/
theorem chunk_eq (k q : Fin 16) : (row256 k q).val / 16 = k.val ∧ (⟨(row256 k q).val % 16, Nat.mod_lt _ (by omega)⟩ : Fin 16) = q := by
  have hk := k.isLt
  have hq := q.isLt
  refine ⟨by show (16 * k.val + q.val) / 16 = k.val; omega, Fin.ext (by show (16 * k.val + q.val) % 16 = q.val; omega)⟩

section Block
variable (x0 : Vec F S256x1024 .i8) (x1 : Vec F S1x1x256 .f32) (wbf : Vec F S1024x4608 .bf16) (x3 : Vec F S1x4608 .f32) (x4 : Vec F S256x4608 .bf16) (x5 x6 : Vec F S1x4608 .f32)

/-- A chunk of a block's residual stream. -/
def hB (k : ℕ) : Vec F S16x4608 .f32 := h1C (k0_pay9 x0 wbf) (k0_pay10 x1) x3 x4 x5 k

/-- Its sums of squares. -/
def qB (k : ℕ) : Vec F S16x1 .f32 := sqC (k0_pay9 x0 wbf) (k0_pay10 x1) x3 x4 x5 k

/-- A block's residual stream at an index. -/
theorem fH1_apply (k q : Fin 16) (n : Fin 4608) : fH1 x0 x1 wbf x3 x4 x5 (ix2 (row256 k q) n) = hB x0 x1 wbf x3 x4 x5 k.val (ix2 q n) := by
  obtain ⟨e1, e2⟩ := chunk_eq k q
  show h1C (k0_pay9 x0 wbf) (k0_pay10 x1) x3 x4 x5 ((row256 k q).val / 16) (ix2 (⟨(row256 k q).val % 16, _⟩ : Fin 16) n) = _
  rw [e1, e2]
  rfl

/-- A block's codes at an index. -/
theorem fQ_apply (k q : Fin 16) (n : Fin 4608) : fQ x0 x1 wbf x3 x4 x5 x6 (ix2 (row256 k q) n)
    = codeMul (k0_pay4 (hB x0 x1 wbf x3 x4 x5 k.val) (qB x0 x1 wbf x3 x4 x5 k.val) x6 (ix2 q n)) (k0_pay5 (hB x0 x1 wbf x3 x4 x5 k.val) (qB x0 x1 wbf x3 x4 x5 k.val) x6 (ix2 q 0)) := by
  obtain ⟨e1, e2⟩ := chunk_eq k q
  rw [← code_apply]
  show FloatOps.fptosi 8 (k0_pay6 (h1C (k0_pay9 x0 wbf) (k0_pay10 x1) x3 x4 x5 ((row256 k q).val / 16)) (sqC (k0_pay9 x0 wbf) (k0_pay10 x1) x3 x4 x5 ((row256 k q).val / 16)) x6
    (ix2 (⟨(row256 k q).val % 16, _⟩ : Fin 16) n)) = _
  rw [e1, e2]
  rfl

/-- A block's row scales at an index. -/
theorem fS_apply (k q : Fin 16) : fS x0 x1 wbf x3 x4 x5 x6 (ix3 0 0 (row256 k q))
    = k0_pay5 (hB x0 x1 wbf x3 x4 x5 k.val) (qB x0 x1 wbf x3 x4 x5 k.val) x6 (ix2 q 0) := by
  obtain ⟨e1, e2⟩ := chunk_eq k q
  rw [← lanes_apply _ _ _ q 0]
  unfold fS
  rw [back_apply, col0_apply]
  show k0_pay7 (h1C (k0_pay9 x0 wbf) (k0_pay10 x1) x3 x4 x5 ((row256 k q).val / 16)) (sqC (k0_pay9 x0 wbf) (k0_pay10 x1) x3 x4 x5 ((row256 k q).val / 16)) x6
    (ix2 (⟨(row256 k q).val % 16, _⟩ : Fin 16) (0 : Fin 128)) = _
  rw [e1, e2]
  rfl

end Block

end Cert.OprojIdeal.Gen

end
-- ==== Proof.OprojRefRead.lean ====
/-
  What the payloads of the attention projection's reference are at an index, over any float instance.
-/
module

public import proofs.«01_k».proof.Proof.QuantMath
public import proofs.«01_k».proof.Proof.UnitMath
public import proofs.«01_k».proof.Proof.Gen.OprojRefIdeal.Frame
public import Idealize.ShloMosaic.Lib.Pointwise

@[expose] public section

set_option maxRecDepth 16384

noncomputable section

namespace Cert.OprojRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math

variable {F : FTy → Type} [FloatOps F]

/-- A value per row, read along the row. -/
theorem col_apply {α : Type} (s : S15360x1.Idx → α) (t : Fin 15360) (n : Fin 4608) :
    broadcastTo S15360x4608 s broadcasts_S15360x1_S15360x4608 (ix2 t n) = s (ix2 t 0) := by
  pointwise

/-- A vector with a value per row, as a column. -/
theorem cast_apply {α : Type} (s : S15360.Idx → α) (t : Fin 15360) :
    shapeCast S15360x1 s shapeCasts_S15360_S15360x1 (ix2 t 0) = s (ix1 t) := by
  pointwise

/-- A value per column, read down the column. -/
theorem row_apply {α : Type} (s : S4608.Idx → α) (t : Fin 15360) (n : Fin 4608) :
    broadcastTo S15360x4608 (shapeCast S1x4608 s shapeCasts_S4608_S1x4608) broadcasts_S1x4608_S15360x4608 (ix2 t n) = s (ix1 n) := by
  pointwise

/-- The product brought back to values. -/
def prod (v0 : Vec F S15360x1024 .i8) (v1 : Vec F S15360 .f32) (v2 : Vec F S1024x4608 .i8) (v3 : Vec F S4608 .f32) : FVec F S15360x4608 .f32 :=
  mulf (matmul dot_S15360x1024_S1024x4608_S15360x4608_1_0_0_1_n_n none (sitofp .bf16 v0) (sitofp .bf16 v2) (constant S15360x4608 .f32 0x00000000#32))
    (mulf (broadcastTo S15360x4608 (shapeCast S15360x1 v1 shapeCasts_S15360_S15360x1) broadcasts_S15360x1_S15360x4608)
      (broadcastTo S15360x4608 (shapeCast S1x4608 v3 shapeCasts_S4608_S1x4608) broadcasts_S1x4608_S15360x4608))

/-- It at row `t` and column `n`. -/
theorem prod_apply (v0 : Vec F S15360x1024 .i8) (v1 : Vec F S15360 .f32) (v2 : Vec F S1024x4608 .i8) (v3 : Vec F S4608 .f32) (t : Fin 15360) (n : Fin 4608) :
    prod v0 v1 v2 v3 (ix2 t n) = dequant (matmul dot_S15360x1024_S1024x4608_S15360x4608_1_0_0_1_n_n none (sitofp .bf16 v0) (sitofp .bf16 v2)
      (constant S15360x4608 .f32 0x00000000#32) (ix2 t n)) (v1 (ix1 t)) (v3 (ix1 n)) := by
  rw [← cast_apply v1 t, ← col_apply (shapeCast S15360x1 v1 shapeCasts_S15360_S15360x1) t n, ← row_apply v3 t n]
  rfl

/-- The sums of squares of the rows. -/
def sqSum (f : FVec F S15360x4608 .f32) : FVec F S15360 .f32 :=
  multiReduction .add [1] S15360 (mulf f f) 0x00000000#32 reduces_S15360x4608_S15360 (.inl rfl) rfl

/-- The root mean squares of the rows, as a column. -/
def rmsCol (f : FVec F S15360x4608 .f32) : FVec F S15360x1 .f32 :=
  sqrt (addf (divf (shapeCast S15360x1 (sqSum f)
    shapeCasts_S15360_S15360x1) (broadcast S15360x1 (Scalar.ofBits .f32 0x45900000#32))) (broadcast S15360x1 (Scalar.ofBits .f32 0x358637BD#32)))

/-- The root mean square of row `t`. -/
theorem rmsCol_apply (f : FVec F S15360x4608 .f32) (t : Fin 15360) : rmsCol f (ix2 t 0) = rms (sqSum f (ix1 t)) := by
  rw [← cast_apply (sqSum f) t]
  rfl

/-- The normalised rows at row `t` and column `n`. -/
theorem nrm_apply (f : FVec F S15360x4608 .f32) (g : Vec F S4608 .f32) (t : Fin 15360) (n : Fin 4608) :
    k0_pay1 f g (broadcastTo S15360x4608 (rmsCol f) broadcasts_S15360x1_S15360x4608) (ix2 t n) = unitDiv (f (ix2 t n)) (sqSum f (ix1 t)) (g (ix1 n)) := by
  have e1 := rmsCol_apply f t
  have e2 := col_apply (rmsCol f) t n
  have e3 := row_apply (addf (broadcast S4608 (Scalar.ofBits .f32 0x3F800000#32)) g) t n
  exact congrArg₂ (fun a b => FloatOps.mulf (FloatOps.divf (f (ix2 t n)) a) b) (e2.trans e1) e3

/-- The reference's residual stream at row `t` and column `n`. -/
theorem h1_apply (v0 : Vec F S15360x1024 .i8) (v1 : Vec F S15360 .f32) (v2 : Vec F S1024x4608 .i8) (v3 : Vec F S4608 .f32)
    (v13 : Vec F S15360x4608 .bf16) (v15 : Vec F S4608 .f32) (t : Fin 15360) (n : Fin 4608) :
    k0_pay5 v0 v1 v2 v3 v13 v15 (ix2 t n)
      = resid (v13 (ix2 t n)) (unitDiv (prod v0 v1 v2 v3 (ix2 t n)) (sqSum (prod v0 v1 v2 v3) (ix1 t)) (v15 (ix1 n))) := by
  rw [← nrm_apply]
  rfl

/-- The root mean squares of the residual stream, along the rows. -/
theorem pay6_eq (v0 : Vec F S15360x1024 .i8) (v1 : Vec F S15360 .f32) (v2 : Vec F S1024x4608 .i8) (v3 : Vec F S4608 .f32) (v13 : Vec F S15360x4608 .bf16) (v15 : Vec F S4608 .f32) :
    k0_pay6 v0 v1 v2 v3 v13 v15 = broadcastTo S15360x4608 (rmsCol (k0_pay5 v0 v1 v2 v3 v13 v15)) broadcasts_S15360x1_S15360x4608 := rfl

/-- The row scale at row `t`. -/
theorem scale_apply (f : FVec F S15360x4608 .f32) (g : Vec F S4608 .f32) (r : FVec F S15360x4608 .f32) (t : Fin 15360) :
    k0_pay2 f g r (ix1 t) = scaleOf (multiReduction .maximumf [1] S15360 (absf (k0_pay1 f g r)) 0xFF800000#32 reduces_S15360x4608_S15360 (.inl rfl) rfl (ix1 t)) := rfl

/-- The code at row `t` and column `n`. -/
theorem code_apply (f : FVec F S15360x4608 .f32) (g : Vec F S4608 .f32) (r : FVec F S15360x4608 .f32) (t : Fin 15360) (n : Fin 4608) :
    k0_pay3 f g r (ix2 t n) = codeDiv (k0_pay1 f g r (ix2 t n)) (k0_pay2 f g r (ix1 t)) := by
  rw [← cast_apply (k0_pay2 f g r) t, ← col_apply (shapeCast S15360x1 (k0_pay2 f g r) shapeCasts_S15360_S15360x1) t n]
  rfl

/-- The row scales by blocks of rows. -/
theorem blocks_apply {α : Type} (v : S15360.Idx → α) (b : Fin 60) (r : Fin 256) :
    shapeCast S60x1x256 v shapeCasts_S15360_S60x1x256 (ix3 b 0 r) = v (ix1 ⟨b.val * 256 + r.val, by omega⟩) := by
  pointwise

/-- The row scale at row `r` of block `b`. -/
theorem scales_apply (f : FVec F S15360x4608 .f32) (g : Vec F S4608 .f32) (q : FVec F S15360x4608 .f32) (b : Fin 60) (r : Fin 256) :
    k0_pay4 f g q (ix3 b 0 r) = k0_pay2 f g q (ix1 ⟨b.val * 256 + r.val, by omega⟩) := by
  unfold k0_pay4
  exact blocks_apply _ b r

end Cert.OprojRefIdeal.Gen

end
-- ==== Proof.OprojMath.lean ====
/-
  The attention projection and its reference are one function over the extended reals: the products, the sums of squares,
  the normalised rows, their largest absolute values and the codes agree index by index.
-/
module

public import proofs.«01_k».proof.Proof.OprojRead
public import proofs.«01_k».proof.Proof.OprojRefRead
public import proofs.«01_k».proof.Proof.OprojRefResult
public import Idealize.ShloMosaic.Lib.Pointwise

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

/-! ## The products -/

/-- The product of the codes at row `t` with the weight's codes at column `n`. -/
def dotAt (X : Vec Ideal S15360x1024 .i8) (W : Vec Ideal S1024x4608 .i8) (t : Fin 15360) (n : Fin 4608) : EReal :=
  ∑ k : Fin 1024, (FloatOps.sitofp (F := Ideal) .bf16 (X (ix2 t k)) : EReal) * FloatOps.sitofp (F := Ideal) .bf16 (W (ix2 k n))

/-- The reference's product. -/
theorem ref_dot (X : Vec Ideal S15360x1024 .i8) (W : Vec Ideal S1024x4608 .i8) (t : Fin 15360) (n : Fin 4608) :
    matmul Cert.OprojRefIdeal.dot_S15360x1024_S1024x4608_S15360x4608_1_0_0_1_n_n none (sitofp (F := Ideal) .bf16 X) (sitofp (F := Ideal) .bf16 W)
      (constant S15360x4608 .f32 0x00000000#32) (ix2 t n) = dotAt X W t n := by
  unfold dotAt
  pointwise

/-- The kernel's product of a block, as a sum. -/
theorem block_dot (x : Vec Ideal S256x1024 .i8) (w : FVec Ideal S1024x4608 .bf16) (r : Fin 256) (n : Fin 4608) :
    matmul dot_S256x1024_S1024x4608_S256x4608_1_0_0_1_n_n none (sitofp (F := Ideal) .bf16 x) w (constant S256x4608 .f32 0x00000000#32) (ix2 r n)
      = ∑ k : Fin 1024, (FloatOps.sitofp (F := Ideal) .bf16 (x (ix2 r k)) : EReal) * w (ix2 k n) := by
  pointwise

/-- Row `r` of block `b`. -/
def rowOf (b : Fin 60) (r : Fin 256) : Fin 15360 := ⟨b.val * 256 + r.val, by omega⟩

/-- A row of a block, as the windows compute it, is that row. -/
theorem rowOf_eq (b : Fin 60) (r : Fin 256) : (⟨(256 * b.val + r.val) % 15360, Nat.mod_lt _ (by decide)⟩ : Fin 15360) = rowOf b r :=
  Fin.ext (by show (256 * b.val + r.val) % 15360 = b.val * 256 + r.val; omega)

/-- An element of a block of the codes. -/
theorem bX0_apply (A : Vec Ideal S15360x1024 .i8) (b : Fin 60) (r : Fin 256) (k : Fin 1024) : bX0 A b.val (ix2 r k) = A (ix2 (rowOf b r) k) := by
  rw [← rowOf_eq]; rfl

/-- An element of a block of the layer's input. -/
theorem bX4_apply (A : Vec Ideal S15360x4608 .bf16) (b : Fin 60) (r : Fin 256) (k : Fin 4608) : bX4 A b.val (ix2 r k) = A (ix2 (rowOf b r) k) := by
  rw [← rowOf_eq]; rfl

/-- A row scale of a block. -/
theorem bX1_apply (A : Vec Ideal S60x1x256 .f32) (b : Fin 60) (r : Fin 256) : bX1 A b.val (ix3 0 0 r) = A (ix3 b 0 r) := by
  have e : (⟨b.val % 60, Nat.mod_lt _ (by decide)⟩ : Fin 60) = b := Fin.ext (Nat.mod_eq_of_lt b.isLt)
  show A (ix3 (⟨b.val % 60, _⟩ : Fin 60) 0 r) = _
  rw [e]

/-- The kernel's product of a block is the product at the block's rows. -/
theorem ker_dot (X : Vec Ideal S15360x1024 .i8) (W : Vec Ideal S1024x4608 .i8) (b : Fin 60) (r : Fin 256) (n : Fin 4608) :
    k0_pay9 (F := Ideal) (bX0 X b.val) (k0_pay8 W) (ix2 r n) = dotAt X W (rowOf b r) n := by
  unfold k0_pay9
  rw [shapeCast_self, block_dot]
  refine Finset.sum_congr rfl fun k _ => ?_
  rw [bX0_apply, wbf_apply]

/-! ## The values -/

section Values
variable (X : Vec Ideal S15360x1024 .i8) (xs : Vec Ideal S15360 .f32) (W : Vec Ideal S1024x4608 .i8) (ws : Vec Ideal S4608 .f32)
  (x : Vec Ideal S15360x4608 .bf16) (gp gi : Vec Ideal S4608 .f32)

/-- The product brought back to values, at row `t` and column `n`. -/
def valAt (t : Fin 15360) (n : Fin 4608) : Ideal .f32 := dequant (F := Ideal) (dotAt X W t n) (xs (ix1 t)) (ws (ix1 n))

/-- The sum of squares of a row of values. -/
def sqOf (f : Fin 4608 → Ideal .f32) : Ideal .f32 := (∑ n : Fin 4608, (f n : EReal) * f n : EReal)

/-- It is at least zero. -/
theorem sqOf_nonneg (f : Fin 4608 → Ideal .f32) : (0 : EReal) ≤ sqOf f := Finset.sum_nonneg fun n _ => sq_nonneg _

/-- The residual stream at row `t` and column `n`. -/
def hAt (t : Fin 15360) (n : Fin 4608) : Ideal .f32 :=
  resid (F := Ideal) (x (ix2 t n)) (unitDiv (valAt X xs W ws t n) (sqOf (valAt X xs W ws t)) (gp (ix1 n)))

/-- The normalised residual stream at row `t` and column `n`. -/
def nAt (t : Fin 15360) (n : Fin 4608) : Ideal .f32 :=
  unitDiv (F := Ideal) (hAt X xs W ws x gp t n) (sqOf (hAt X xs W ws x gp t)) (gi (ix1 n))

/-- The quantiser's scale of row `t`. -/
def scAt (t : Fin 15360) : Ideal .f32 :=
  scaleOf (F := Ideal) (Finset.univ.fold max (⊥ : EReal) (fun n => (FloatOps.absf (nAt X xs W ws x gp gi t n) : EReal)))

/-! ## The reference -/

/-- The reference's row sums of squares. -/
theorem ref_sq (f : FVec Ideal Cert.OprojRefIdeal.S15360x4608 .f32) (g : Fin 4608 → Ideal .f32) (t : Fin 15360) (h : ∀ n, f (ix2 t n) = g n) :
    Cert.OprojRefIdeal.Gen.sqSum (F := Ideal) f (ix1 t) = sqOf g := by
  unfold Cert.OprojRefIdeal.Gen.sqSum
  refine (rowSum_apply (mulf f f) _ _ _ t).trans ?_
  refine Finset.sum_congr rfl fun n _ => ?_
  exact congrArg₂ (fun a b : EReal => a * b) (h n) (h n)

/-- The reference's values. -/
theorem ref_val (t : Fin 15360) (n : Fin 4608) : Cert.OprojRefIdeal.Gen.prod (F := Ideal) X xs W ws (ix2 t n) = valAt X xs W ws t n := by
  rw [Cert.OprojRefIdeal.Gen.prod_apply, ref_dot]
  rfl

/-- The reference's residual stream. -/
theorem ref_h (t : Fin 15360) (n : Fin 4608) : Cert.OprojRefIdeal.Gen.k0_pay5 (F := Ideal) X xs W ws x gp (ix2 t n) = hAt X xs W ws x gp t n := by
  rw [Cert.OprojRefIdeal.Gen.h1_apply, ref_val, ref_sq _ _ t (ref_val X xs W ws t)]
  rfl

/-- The reference's normalised residual stream. -/
theorem ref_n (t : Fin 15360) (n : Fin 4608) :
    Cert.OprojRefIdeal.Gen.k0_pay1 (F := Ideal) (Cert.OprojRefIdeal.Gen.k0_pay5 X xs W ws x gp) gi (Cert.OprojRefIdeal.Gen.k0_pay6 X xs W ws x gp) (ix2 t n) = nAt X xs W ws x gp gi t n := by
  rw [Cert.OprojRefIdeal.Gen.pay6_eq, Cert.OprojRefIdeal.Gen.nrm_apply, ref_h, ref_sq _ _ t (ref_h X xs W ws x gp t)]
  rfl

/-- The reference's scales. -/
theorem ref_sc (t : Fin 15360) :
    Cert.OprojRefIdeal.Gen.k0_pay2 (F := Ideal) (Cert.OprojRefIdeal.Gen.k0_pay5 X xs W ws x gp) gi (Cert.OprojRefIdeal.Gen.k0_pay6 X xs W ws x gp) (ix1 t) = scAt X xs W ws x gp gi t := by
  rw [Cert.OprojRefIdeal.Gen.scale_apply]
  unfold scAt
  refine congrArg (scaleOf (F := Ideal)) ((rowMax_apply _ _ _ _ t).trans ?_)
  congr 1
  funext n
  exact congrArg (FloatOps.absf (F := Ideal) (φ := .f32)) (ref_n X xs W ws x gp gi t n)

/-! ## The kernel -/

/-- The row scales as the kernel reads them, by blocks of rows. -/
abbrev xsB : Vec Ideal S60x1x256 .f32 := shapeCast S60x1x256 xs shapeCasts_S15360_S60x1x256

/-- A row of 4608 values as the kernel reads it. -/
abbrev rowB (s : Vec Ideal S4608 .f32) : Vec Ideal S1x4608 .f32 := shapeCast S1x4608 s shapeCasts_S4608_S1x4608

/-- The row scale at row `r` of block `b`. -/
theorem xsB_apply (b : Fin 60) (r : Fin 256) : xsB xs (ix3 b 0 r) = xs (ix1 (rowOf b r)) := by
  unfold xsB rowOf
  pointwise

/-- A row's value at column `n`. -/
theorem rowB_apply (s : Vec Ideal S4608 .f32) (n : Fin 4608) : rowB s (ix2 0 n) = s (ix1 n) := by
  unfold rowB
  pointwise

/-- The kernel's row sums of squares of a chunk. -/
theorem ker_sq (f : FVec Ideal S16x4608 .f32) (g : Fin 4608 → Ideal .f32) (q : Fin 16) (h : ∀ n, f (ix2 q n) = g n) :
    sq16 (F := Ideal) f (ix1 q) = sqOf g := by
  unfold sq16
  refine (rowSum_apply (mulf f f) _ _ _ q).trans ?_
  refine Finset.sum_congr rfl fun n _ => ?_
  exact congrArg₂ (fun a b : EReal => a * b) (h n) (h n)

/-- The kernel's values of a chunk. -/
theorem ker_val (b : Fin 60) (k q : Fin 16) (n : Fin 4608) :
    val16 (F := Ideal) (rows16 (k0_pay9 (bX0 X b.val) (k0_pay8 W)) k.val) (col16 (k0_pay10 (bX1 (xsB xs) b.val)) k.val) (rowB ws) (ix2 q n)
      = valAt X xs W ws (rowOf b (row256 k q)) n := by
  rw [val16_apply, rows16_apply, ker_dot, col16_apply, sc_apply, bX1_apply, xsB_apply, rowB_apply]
  rfl

/-- A chunk of the kernel's residual stream. -/
abbrev hK (b : Fin 60) (k : Fin 16) : Vec Ideal S16x4608 .f32 :=
  hB (F := Ideal) (bX0 X b.val) (bX1 (xsB xs) b.val) (k0_pay8 W) (rowB ws) (bX4 x b.val) (rowB gp) k.val

/-- Its sums of squares. -/
abbrev qK (b : Fin 60) (k : Fin 16) : Vec Ideal S16x1 .f32 :=
  qB (F := Ideal) (bX0 X b.val) (bX1 (xsB xs) b.val) (k0_pay8 W) (rowB ws) (bX4 x b.val) (rowB gp) k.val

/-- The kernel's residual stream. -/
theorem ker_h (b : Fin 60) (k q : Fin 16) (n : Fin 4608) :
    hK X xs W ws x gp b k (ix2 q n) = hAt X xs W ws x gp (rowOf b (row256 k q)) n := by
  unfold hK hB h1C
  rw [h16_apply, ker_val, ker_sq _ _ q (ker_val X xs W ws b k q), rows16_apply, bX4_apply, rowB_apply, unitMul_eq _ _ _ (sqOf_nonneg _)]
  rfl

/-- The kernel's sums of squares of the residual stream. -/
theorem ker_q (b : Fin 60) (k q : Fin 16) :
    qK X xs W ws x gp b k (ix2 q 0) = sqOf (hAt X xs W ws x gp (rowOf b (row256 k q))) := by
  unfold qK qB sqC
  rw [sq2_apply]
  exact ker_sq _ _ q (ker_h X xs W ws x gp b k q)

/-- The kernel's normalised residual stream. -/
theorem ker_n (b : Fin 60) (k q : Fin 16) (n : Fin 4608) :
    k0_pay4 (F := Ideal) (hK X xs W ws x gp b k) (qK X xs W ws x gp b k) (rowB gi) (ix2 q n) = nAt X xs W ws x gp gi (rowOf b (row256 k q)) n := by
  rw [nrm_apply, ker_h, ker_q, rowB_apply, unitMul_eq _ _ _ (sqOf_nonneg _)]
  rfl

/-- The kernel's scales. -/
theorem ker_sc (b : Fin 60) (k q : Fin 16) :
    k0_pay5 (F := Ideal) (hK X xs W ws x gp b k) (qK X xs W ws x gp b k) (rowB gi) (ix2 q 0) = scAt X xs W ws x gp gi (rowOf b (row256 k q)) := by
  rw [scale_apply]
  unfold scAt
  refine congrArg (scaleOf (F := Ideal)) ((rowMax_apply _ _ _ _ q).trans ?_)
  congr 1
  funext n
  exact congrArg (FloatOps.absf (F := Ideal) (φ := .f32)) (ker_n X xs W ws x gp gi b k q n)

/-! ## The results -/

/-- Every row of a block is a row of a chunk. -/
theorem exists_row (r : Fin 256) : ∃ k q : Fin 16, r = row256 k q :=
  ⟨⟨r.val / 16, by omega⟩, ⟨r.val % 16, by omega⟩, Fin.ext (by show r.val = 16 * (r.val / 16) + r.val % 16; omega)⟩

/-- Every row is a row of a chunk of a block. -/
theorem exists_rowOf (t : Fin 15360) : ∃ (b : Fin 60) (r : Fin 256), t = rowOf b r :=
  ⟨⟨t.val / 256, by omega⟩, ⟨t.val % 256, by omega⟩, Fin.ext (by show t.val = t.val / 256 * 256 + t.val % 256; omega)⟩

/-- Where a row of a block lies. -/
theorem rowOf_split (b : Fin 60) (r : Fin 256) : (rowOf b r).val / 256 = b.val ∧ (⟨(rowOf b r).val % 256, Nat.mod_lt _ (by decide)⟩ : Fin 256) = r := by
  have hr := r.isLt
  refine ⟨by show (b.val * 256 + r.val) / 256 = b.val; omega, Fin.ext (by show (b.val * 256 + r.val) % 256 = r.val; omega)⟩

/-- The kernel's residual stream is the reference's. -/
theorem GH_eq : GH X (xsB xs) W (rowB ws) x (rowB gp) = Cert.OprojRefIdeal.Gen.R0 (F := Ideal) X xs W ws x gp gi := by
  funext y
  obtain ⟨t, n, rfl⟩ : ∃ (t : Fin 15360) (n : Fin 4608), y = ix2 t n := ⟨y 0, y 1, (ix2_eta y).symm⟩
  obtain ⟨b, r, rfl⟩ := exists_rowOf t
  obtain ⟨k, q, rfl⟩ := exists_row r
  obtain ⟨e1, e2⟩ := rowOf_split b (row256 k q)
  unfold Cert.OprojRefIdeal.Gen.R0
  rw [ref_h]
  show oH X (xsB xs) W (rowB ws) x (rowB gp) ((rowOf b (row256 k q)).val / 256) (ix2 (⟨(rowOf b (row256 k q)).val % 256, _⟩ : Fin 256) n) = _
  rw [e1, e2]
  exact (fH1_apply _ _ _ _ _ _ k q n).trans (ker_h X xs W ws x gp b k q n)

/-- The kernel's codes are the reference's. -/
theorem GQ_eq : GQ X (xsB xs) W (rowB ws) x (rowB gp) (rowB gi) = Cert.OprojRefIdeal.Gen.R1 (F := Ideal) X xs W ws x gp gi := by
  funext y
  obtain ⟨t, n, rfl⟩ : ∃ (t : Fin 15360) (n : Fin 4608), y = ix2 t n := ⟨y 0, y 1, (ix2_eta y).symm⟩
  obtain ⟨b, r, rfl⟩ := exists_rowOf t
  obtain ⟨k, q, rfl⟩ := exists_row r
  obtain ⟨e1, e2⟩ := rowOf_split b (row256 k q)
  unfold Cert.OprojRefIdeal.Gen.R1
  rw [Cert.OprojRefIdeal.Gen.code_apply, ref_n, ref_sc]
  show oQ X (xsB xs) W (rowB ws) x (rowB gp) (rowB gi) ((rowOf b (row256 k q)).val / 256) (ix2 (⟨(rowOf b (row256 k q)).val % 256, _⟩ : Fin 256) n) = _
  rw [e1, e2]
  refine (fQ_apply _ _ _ _ _ _ _ k q n).trans ?_
  refine (congrArg₂ (codeMul (F := Ideal)) (ker_n X xs W ws x gp gi b k q n) (ker_sc X xs W ws x gp gi b k q)).trans ?_
  exact codeMul_eq _ _ (scaleOf_ne_zero _)

/-- The kernel's row scales are the reference's. -/
theorem GS_eq : GS X (xsB xs) W (rowB ws) x (rowB gp) (rowB gi) = Cert.OprojRefIdeal.Gen.R2 (F := Ideal) X xs W ws x gp gi := by
  funext y
  obtain ⟨b, z, r, rfl⟩ : ∃ (b : Fin 60) (z : Fin 1) (r : Fin 256), y = ix3 b z r := ⟨y 0, y 1, y 2, (ix3_eta y).symm⟩
  obtain rfl : z = 0 := Subsingleton.elim _ _
  obtain ⟨k, q, rfl⟩ := exists_row r
  unfold Cert.OprojRefIdeal.Gen.R2
  rw [Cert.OprojRefIdeal.Gen.scales_apply]
  refine Eq.trans ?_ (ref_sc X xs W ws x gp gi (rowOf b (row256 k q))).symm
  show oS X (xsB xs) W (rowB ws) x (rowB gp) (rowB gi) b.val (ix3 (0 : Fin 1) (0 : Fin 1) (row256 k q)) = _
  exact (fS_apply _ _ _ _ _ _ _ k q).trans (ker_sc X xs W ws x gp gi b k q)

end Values

end Cert.OprojIdeal.Gen

end
-- ==== Proof.OprojClaim.lean ====
/-
  The algebraic claim of the attention projection.
-/
module

public import proofs.«01_k».proof.Defs
public import proofs.«01_k».proof.Proof.OprojFrame
public import proofs.«01_k».proof.Proof.OprojRefResult
public import proofs.«01_k».proof.Proof.OprojMath

@[expose] public section

noncomputable section

namespace Cert.OprojIdeal

open Idealize.ShloMosaic Idealize.SL.Sem

/-- From any memories that agree on the arguments, the kernel and its reference run, leave their arguments unchanged, and
    end with equal results. -/
theorem algebraic : Cert.algebraic_OprojIdeal_OprojRefIdeal (hOprojIdeal := Cert.OprojIdeal.Gen.facts) (hOprojRefIdeal := Cert.OprojRefIdeal.Gen.facts) := by
  intro m g m' g' _ hargs
  refine ⟨fun c => Cert.OprojRefIdeal.Gen.R0 (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)), fun c => Cert.OprojRefIdeal.Gen.R1 (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)), fun c => Cert.OprojRefIdeal.Gen.R2 (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)), ?_, ?_⟩
  · refine (θ_run (Cert.OprojIdeal.defs (F := Ideal)) _ _).mono (fun r h c => ?_) (θ_run_and (Cert.OprojIdeal.Gen.run_values (F := Ideal) m g) (Cert.OprojIdeal.Gen.unchanged (F := Ideal) m g))
    refine ⟨(h.1 c).1.trans ?_, (h.1 c).2.1.trans ?_, (h.1 c).2.2.trans ?_, h.2 c⟩
    · rw [Cert.OprojIdeal.Gen.V_main_arg0, Cert.OprojIdeal.Gen.V_main_v0, Cert.OprojIdeal.Gen.V_main_arg2, Cert.OprojIdeal.Gen.V_main_v1, Cert.OprojIdeal.Gen.V_main_arg4, Cert.OprojIdeal.Gen.V_main_v2]
      exact Cert.OprojIdeal.Gen.GH_eq _ _ _ _ _ _ _
    · rw [Cert.OprojIdeal.Gen.V_main_arg0, Cert.OprojIdeal.Gen.V_main_v0, Cert.OprojIdeal.Gen.V_main_arg2, Cert.OprojIdeal.Gen.V_main_v1, Cert.OprojIdeal.Gen.V_main_arg4, Cert.OprojIdeal.Gen.V_main_v2, Cert.OprojIdeal.Gen.V_main_v3]
      exact Cert.OprojIdeal.Gen.GQ_eq _ _ _ _ _ _ _
    · rw [Cert.OprojIdeal.Gen.V_main_arg0, Cert.OprojIdeal.Gen.V_main_v0, Cert.OprojIdeal.Gen.V_main_arg2, Cert.OprojIdeal.Gen.V_main_v1, Cert.OprojIdeal.Gen.V_main_arg4, Cert.OprojIdeal.Gen.V_main_v2, Cert.OprojIdeal.Gen.V_main_v3]
      exact Cert.OprojIdeal.Gen.GS_eq _ _ _ _ _ _ _
  · refine (θ_run (Cert.OprojRefIdeal.defs (F := Ideal)) _ _).mono (fun r h c => ?_) (θ_run_and (Cert.OprojRefIdeal.Gen.run_values (F := Ideal) m' g') (Cert.OprojRefIdeal.Gen.unchanged (F := Ideal) m' g'))
    obtain ⟨h0, h1, h2, h3, h4, h5, h6⟩ := hargs c
    refine ⟨(h.1 c).1.trans ?_, (h.1 c).2.1.trans ?_, (h.1 c).2.2.trans ?_, h.2 c⟩
    · rw [h0, h1, h2, h3, h4, h5, h6]
    · rw [h0, h1, h2, h3, h4, h5, h6]
    · rw [h0, h1, h2, h3, h4, h5, h6]

end Cert.OprojIdeal

end
-- ==== Proof.QkvLoop.lean ====
/-
  The two loops of the query/key/value kernel: the contents their trips leave, in closed form.
-/
module

public import proofs.«01_k».proof.Proof.Gen.QkvIdeal.Loops
public import Idealize.ShloMosaic.Lib.Pipeline.FrameBody
public import Idealize.ShloMosaic.Lib.Pipeline.DatRel
public import Idealize.ShloMosaic.Lib.Pipeline.Value
public import Idealize.ShloMosaic.Lib.Pipeline.ValueKit.Tiles
public import Idealize.ShloMosaic.Lib.ValueIdx
public import Idealize.ShloMosaic.Lib.WritesUnit
public import Idealize.ShloMosaic.Lib.VecWindow
public import Idealize.ShloMosaic.Lib.Tactic

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-- The sixteen rows that trip `k` of the row loop works on, of a 512-row block. -/
def rows16 {e : EltTy} (d : Vec F S512x4608 e) (k : ℕ) : Vec F S16x4608 e :=
  fun y => d (ix2 (n0 := 512) (n1 := 4608) ⟨(16 * k + (y 0).val) % 512, Nat.mod_lt _ (by omega)⟩ (y 1))

/-- The 256 rows of the weight that trip `k` of the weight loop converts. -/
def rows256 {e : EltTy} (d : Vec F S4608x2048 e) (k : ℕ) : Vec F S256x2048 e :=
  fun y => d (ix2 (n0 := 4608) (n1 := 2048) ⟨(256 * k + (y 0).val) % 4608, Nat.mod_lt _ (by omega)⟩ (y 1))

/-- Where a row of the block lies within its trip's `p` rows. -/
abbrev locP {N W : ℕ} (p : ℕ) (hp : 0 < p) (y : (⟨2, ![N, W]⟩ : Shape).Idx) : (⟨2, ![p, W]⟩ : Shape).Idx :=
  ix2 (n0 := p) (n1 := W) ⟨(y 0).val % p, Nat.mod_lt _ hp⟩ (y 1)

/-- What trip `k` of the row loop stores of the codes. -/
def cC (x : Vec F S512x4608 .bf16) (g : Vec F S1x4608 .f32) (k : ℕ) : Vec F S16x4608 .bf16 :=
  k0_pay6 (Scalar.ofBits .f32 0x42FE0000#32) (k0_pay4 (rows16 x k) g)

/-- What trip `k` of the row loop stores of the row scales. -/
def sC (x : Vec F S512x4608 .bf16) (g : Vec F S1x4608 .f32) (k : ℕ) : Vec F S16x128 .f32 :=
  k0_pay7 (k0_pay3 (rows16 x k) g)

/-- The codes the whole loop leaves, row by row. -/
def cV (x : Vec F S512x4608 .bf16) (g : Vec F S1x4608 .f32) : Vec F S512x4608 .bf16 :=
  fun y => cC x g ((y 0).val / 16) (locP (N := 512) (W := 4608) 16 (by omega) y)

/-- The row scales the whole loop leaves, one per row and copied across the lanes. -/
def sV (x : Vec F S512x4608 .bf16) (g : Vec F S1x4608 .f32) : Vec F S512x128 .f32 :=
  fun y => sC x g ((y 0).val / 16) (locP (N := 512) (W := 128) 16 (by omega) y)

/-- The weight the whole weight loop leaves. -/
def wV (w : Vec F S4608x2048 .i8) : Vec F S4608x2048 .bf16 :=
  fun y => k0_pay5 (rows256 w ((y 0).val / 256)) (locP (N := 4608) (W := 2048) 256 (by omega) y)

/-- A load of trip `k`'s sixteen rows reads those rows of what the view holds. -/
theorem ld_rows16 {e : EltTy} (v : View sig .tc .vmem S512x4608 e) (f : v.ty.Contents (Elt F)) (k : ℕ) (hk : k < 32) (off : Fin 2 → ℕ) (ho : off = ![16 * k, 0]) (inb) :
    v.readAt (Elt F) (Rect.unit (s := S512x4608) off ![16, 4608] inb).toLoadRect f = rows16 (v.read (Elt F) f) k := by
  subst ho
  funext y
  have hy : (y 0).val < 16 := (y 0).isLt
  refine View.ld_unit_apply_of (v.read (Elt F) f) _ _ inb y _ fun a => ?_
  match a with
  | ⟨0, _⟩ => show (16 * k + (y 0).val) % 512 = 16 * k + (y 0).val; omega
  | ⟨1, _⟩ => show (y 1).val = 0 + (y 1).val; omega

/-- A load of trip `k`'s rows of the weight reads those rows of what the view holds. -/
theorem ld_rows256 {e : EltTy} (v : View sig .tc .vmem S4608x2048 e) (f : v.ty.Contents (Elt F)) (k : ℕ) (hk : k < 18) (off : Fin 2 → ℕ) (ho : off = ![256 * k, 0]) (inb) :
    v.readAt (Elt F) (Rect.unit (s := S4608x2048) off ![256, 2048] inb).toLoadRect f = rows256 (v.read (Elt F) f) k := by
  subst ho
  funext y
  have hy : (y 0).val < 256 := (y 0).isLt
  refine View.ld_unit_apply_of (v.read (Elt F) f) _ _ inb y _ fun a => ?_
  match a with
  | ⟨0, _⟩ => show (256 * k + (y 0).val) % 4608 = 256 * k + (y 0).val; omega
  | ⟨1, _⟩ => show (y 1).val = 0 + (y 1).val; omega

/-- A load of the whole of a one-row view reads what it holds. -/
theorem ld_1x4608 {e : EltTy} (v : View sig .tc .vmem S1x4608 e) (f : v.ty.Contents (Elt F)) (inb) :
    v.readAt (Elt F) (Rect.unit (s := S1x4608) ![0, 0] ![1, 4608] inb).toLoadRect f = v.read (Elt F) f := View.readAt_full v f inb

/-- Storing `p` rows over contents known row by row. -/
theorem storeP {N W : ℕ} {e : EltTy} (p : ℕ) (hp : 0 < p) (v : View sig .tc .vmem (⟨2, ![N, W]⟩ : Shape) e) (f : v.ty.Contents (Elt F)) (k : ℕ) (off : Fin 2 → ℕ) (ho : off = ![p * k, 0]) (inb)
    (w : Vec F (⟨2, ![p, W]⟩ : Shape) e) (L : List (View.Piece (Elt F) (⟨2, ![N, W]⟩ : Shape) e)) (q : ℕ → Vec F (⟨2, ![p, W]⟩ : Shape) e) (g : Vec F (⟨2, ![N, W]⟩ : Shape) e)
    (hw : w = q k) (hL : ∀ y, v.read (Elt F) (v.writes (Elt F) f L) y = if (y 0).val < p * k then q ((y 0).val / p) (locP p hp y) else g y) (y : (⟨2, ![N, W]⟩ : Shape).Idx) :
    v.read (Elt F) (v.writes (Elt F) f ((⟨Rect.unit (s := ⟨2, ![N, W]⟩) off ![p, W] inb, w⟩ : View.Piece (Elt F) (⟨2, ![N, W]⟩ : Shape) e) :: L)) y
      = if (y 0).val < p * (k + 1) then q ((y 0).val / p) (locP p hp y) else g y := by
  refine (View.read_writes_cons_rows v f inb w L y ho (show (![p, W] : Fin 2 → ℕ) 0 = p from rfl) rfl).trans ?_
  have hm : p * (k + 1) = p * k + p := Nat.mul_succ p k
  by_cases h : p * k ≤ (y (0 : Fin 2)).val ∧ (y (0 : Fin 2)).val < p * k + p
  · have hd : (y 0).val / p = k := Nat.div_eq_of_lt_le (by rw [Nat.mul_comm]; exact h.1) (by rw [Nat.mul_comm, hm]; exact h.2)
    rw [dif_pos h, if_pos (by omega), hw, hd]
    refine congrArg (q k) (funext fun a => Fin.ext ?_)
    match a with
    | ⟨0, _⟩ =>
      show (y 0).val - p * k = (y 0).val % p
      have := Nat.div_add_mod (y 0).val p
      rw [hd] at this
      omega
    | ⟨1, _⟩ => show (y 1).val - 0 = (y 1).val; omega
  · rw [dif_neg h, hL y]
    by_cases h' : (y 0).val < p * k
    · rw [if_pos h', if_pos (by omega)]
    · rw [if_neg h', if_neg (by omega)]

section
variable (𝒱 : Variants) (c : Dev nD) (bd : Option 𝒱.V) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (k0_h1 : k0_cond1 i = 1#1) (X_arg3 : BufTy.Contents (Elt F) arg3.view.ty) (k : Fin k0_t1_loop.trips)

/-- What trip `k` of the weight loop stores. -/
theorem trip14_eq : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 k).1
    = [⟨Rect.unit (s := S4608x2048) (k0_off1 k) ![256, 2048] (k0_off1_inb i k k0_h1), k0_pay5 (rows256 (arg3.view.read (Elt F) X_arg3) k.val)⟩] := by
  have hk : k.val < 18 := Nat.lt_of_lt_of_le k.isLt k0_t1_abs.2.1
  unfold trip_k0_t1
  dsimp only
  rw [← ld_rows256 arg3.view X_arg3 k.val hk _ (k0_off1_eq k) (k0_off1_inb i k k0_h1)]
end

section
variable (𝒱 : Variants) (c : Dev nD) (bd : Option 𝒱.V) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (X_arg1 : BufTy.Contents (Elt F) arg1.view.ty) (X_arg2 : BufTy.Contents (Elt F) arg2.view.ty) (k : Fin k0_t2_loop.trips)

/-- What trip `k` of the row loop stores of the codes. -/
theorem trip15_eq : (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 k).1
    = [⟨Rect.unit (s := S512x4608) (k0_off2 k) ![16, 4608] (k0_off2_inb k), cC (arg1.view.read (Elt F) X_arg1) (arg2.view.read (Elt F) X_arg2) k.val⟩] := by
  have hk : k.val < 32 := Nat.lt_of_lt_of_le k.isLt k0_t2_abs.2.1
  unfold trip_k0_t2 cC
  dsimp only
  try sl_unfold_run_names
  rw [← ld_rows16 arg1.view X_arg1 k.val hk _ (k0_off2_eq k) (k0_off2_inb k), ← ld_1x4608 arg2.view X_arg2 inb_S1x4608_S1x4608_0_0]

/-- What trip `k` of the row loop stores of the row scales. -/
theorem trip16_eq : (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 k).2.1
    = [⟨Rect.unit (s := S512x128) (k0_off3 k) ![16, 128] (k0_off3_inb k), sC (arg1.view.read (Elt F) X_arg1) (arg2.view.read (Elt F) X_arg2) k.val⟩] := by
  have hk : k.val < 32 := Nat.lt_of_lt_of_le k.isLt k0_t2_abs.2.1
  unfold trip_k0_t2 sC
  dsimp only
  try sl_unfold_run_names
  rw [← ld_rows16 arg1.view X_arg1 k.val hk _ (k0_off2_eq k) (k0_off2_inb k), ← ld_1x4608 arg2.view X_arg2 inb_S1x4608_S1x4608_0_0]

/-- What trip `k` of the row loop stores. -/
theorem tripL2_eq : tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 k
    = ([⟨Rect.unit (s := S512x4608) (k0_off2 k) ![16, 4608] (k0_off2_inb k), cC (arg1.view.read (Elt F) X_arg1) (arg2.view.read (Elt F) X_arg2) k.val⟩],
      [⟨Rect.unit (s := S512x128) (k0_off3 k) ![16, 128] (k0_off3_inb k), sC (arg1.view.read (Elt F) X_arg1) (arg2.view.read (Elt F) X_arg2) k.val⟩]) :=
  Prod.ext (trip15_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 k) (trip16_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 k)
end

/-- The weight loop runs 18 trips. -/
theorem trips18 : k0_t1_loop.trips = 18 := by decide +kernel
/-- The row loop runs 32 trips. -/
theorem trips32 : k0_t2_loop.trips = 32 := by decide +kernel

section
variable (𝒱 : Variants) (c : Dev nD) (bd : Option 𝒱.V) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (k0_h1 : k0_cond1 i = 1#1) (X_arg3 : BufTy.Contents (Elt F) arg3.view.ty)

/-- The weight scratch before trip `n`: the rows already visited are converted, and the rest are as at loop entry. -/
theorem pb1_read (G14 : arg14.view.ty.Contents (Elt F)) (n : ℕ) (hn : n ≤ k0_t1_loop.trips) :
    ∀ y, arg14.view.read (Elt F) (arg14.view.writes (Elt F) G14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 n)) y
      = if (y 0).val < 256 * n then wV (arg3.view.read (Elt F) X_arg3) y else arg14.view.read (Elt F) G14 y := by
  induction n with
  | zero => exact fun y => (if_neg (by omega)).symm
  | succ n ih =>
    have h := ih (by omega)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 ⟨n, by omega⟩
    unfold tripL_k0_t1 at hs
    rw [trip14_eq] at hs
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 (n + 1) = _ from hs]
    exact fun y => storeP 256 (by omega) arg14.view G14 n _ (k0_off1_eq ⟨n, by omega⟩) _ _ _ (fun j => k0_pay5 (rows256 (arg3.view.read (Elt F) X_arg3) j)) _ rfl h y

/-- After the loop the weight scratch holds the converted weight. -/
theorem pb1_read14 (G14 : arg14.view.ty.Contents (Elt F)) (n : ℕ) (hn : n = k0_t1_loop.trips) :
    arg14.view.read (Elt F) (arg14.view.writes (Elt F) G14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 n)) = wV (arg3.view.read (Elt F) X_arg3) := by
  subst hn
  funext y
  have hy : (y 0).val < 4608 := (y 0).isLt
  exact (pb1_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X_arg3 G14 _ le_rfl y).trans (if_pos (by rw [trips18]; omega))
end

section
variable (𝒱 : Variants) (c : Dev nD) (bd : Option 𝒱.V) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (X_arg1 : BufTy.Contents (Elt F) arg1.view.ty) (X_arg2 : BufTy.Contents (Elt F) arg2.view.ty)

/-- The row loop's state before trip `n`. -/
theorem pb2_read (G15 : arg15.view.ty.Contents (Elt F)) (G16 : arg16.view.ty.Contents (Elt F)) (n : ℕ) (hn : n ≤ k0_t2_loop.trips) :
    (∀ y, arg15.view.read (Elt F) (arg15.view.writes (Elt F) G15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 n).1) y
      = if (y 0).val < 16 * n then cV (arg1.view.read (Elt F) X_arg1) (arg2.view.read (Elt F) X_arg2) y else arg15.view.read (Elt F) G15 y)
    ∧ (∀ y, arg16.view.read (Elt F) (arg16.view.writes (Elt F) G16 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 n).2) y
      = if (y 0).val < 16 * n then sV (arg1.view.read (Elt F) X_arg1) (arg2.view.read (Elt F) X_arg2) y else arg16.view.read (Elt F) G16 y) := by
  induction n with
  | zero => exact ⟨fun y => (if_neg (by omega)).symm, fun y => (if_neg (by omega)).symm⟩
  | succ n ih =>
    obtain ⟨h15, h16⟩ := ih (by omega)
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 ⟨n, by omega⟩
    rw [tripL2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 ⟨n, by omega⟩] at hs
    rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 (n + 1) = _ from hs]
    exact ⟨fun y => storeP 16 (by omega) arg15.view G15 n _ (k0_off2_eq ⟨n, by omega⟩) _ _ _ (fun j => cC (arg1.view.read (Elt F) X_arg1) (arg2.view.read (Elt F) X_arg2) j) _ rfl h15 y,
      fun y => storeP 16 (by omega) arg16.view G16 n _ (k0_off3_eq ⟨n, by omega⟩) _ _ _ (fun j => sC (arg1.view.read (Elt F) X_arg1) (arg2.view.read (Elt F) X_arg2) j) _ rfl h16 y⟩

/-- After the loop the code scratch holds the codes. -/
theorem pb2_read15 (G15 : arg15.view.ty.Contents (Elt F)) (n : ℕ) (hn : n = k0_t2_loop.trips) :
    arg15.view.read (Elt F) (arg15.view.writes (Elt F) G15 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 n).1) = cV (arg1.view.read (Elt F) X_arg1) (arg2.view.read (Elt F) X_arg2) := by
  subst hn
  funext y
  have hy : (y 0).val < 512 := (y 0).isLt
  exact ((pb2_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 G15 arg16.view.junk _ le_rfl).1 y).trans (if_pos (by rw [trips32]; omega))

/-- After the loop the scale scratch holds the row scales. -/
theorem pb2_read16 (G16 : arg16.view.ty.Contents (Elt F)) (n : ℕ) (hn : n = k0_t2_loop.trips) :
    arg16.view.read (Elt F) (arg16.view.writes (Elt F) G16 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 n).2) = sV (arg1.view.read (Elt F) X_arg1) (arg2.view.read (Elt F) X_arg2) := by
  subst hn
  funext y
  have hy : (y 0).val < 512 := (y 0).isLt
  exact ((pb2_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg2 arg15.view.junk G16 _ le_rfl).2 y).trans (if_pos (by rw [trips32]; omega))
end

end Cert.QkvIdeal.Gen
-- ==== Proof.QkvRuns.lean ====
/-
  Names for what one grid point of the query/key/value kernel computes, and what its loads read.
-/
module

public import proofs.«01_k».proof.Proof.QkvLoop
public import proofs.«01_k».proof.Proof.Gen.QkvIdeal.Frame.Runs
public import Idealize.ShloMosaic.Lib.Ring
public import Idealize.ShloMosaic.Lib.WordCmp

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

/-- The row scales: column 0 of the broadcast scratch. -/
def col0 (sc : Vec F S512x128 .f32) : Vec F S512x1 .f32 := VecWindow.window sc ![0, 0] S512x1.size inb_S512x128_S512x1_0_0

/-- Columns 0 to 511 of the converted weight. -/
def wc0 (w : Vec F S4608x2048 .bf16) : Vec F S4608x512 .bf16 := VecWindow.window w ![0, 0] S4608x512.size inb_S4608x2048_S4608x512_0_0

/-- Columns 512 to 1023 of the converted weight. -/
def wc1 (w : Vec F S4608x2048 .bf16) : Vec F S4608x512 .bf16 := VecWindow.window w ![0, 512] S4608x512.size inb_S4608x2048_S4608x512_0_512

/-- Columns 1024 to 1535 of the converted weight. -/
def wc2 (w : Vec F S4608x2048 .bf16) : Vec F S4608x512 .bf16 := VecWindow.window w ![0, 1024] S4608x512.size inb_S4608x2048_S4608x512_0_1024

/-- Columns 1536 to 2047 of the converted weight. -/
def wc3 (w : Vec F S4608x2048 .bf16) : Vec F S4608x512 .bf16 := VecWindow.window w ![0, 1536] S4608x512.size inb_S4608x2048_S4608x512_0_1536

/-- The weight's scales of head 0. -/
def ws0 (w : Vec F S1x2048 .f32) : Vec F S1x128 .f32 := VecWindow.window w ![0, 0] S1x128.size inb_S1x2048_S1x128_0_0

/-- The weight's scales of head 1. -/
def ws1 (w : Vec F S1x2048 .f32) : Vec F S1x128 .f32 := VecWindow.window w ![0, 128] S1x128.size inb_S1x2048_S1x128_0_128

/-- The weight's scales of head 2. -/
def ws2 (w : Vec F S1x2048 .f32) : Vec F S1x128 .f32 := VecWindow.window w ![0, 256] S1x128.size inb_S1x2048_S1x128_0_256

/-- The weight's scales of head 3. -/
def ws3 (w : Vec F S1x2048 .f32) : Vec F S1x128 .f32 := VecWindow.window w ![0, 384] S1x128.size inb_S1x2048_S1x128_0_384

/-- The weight's scales of head 4. -/
def ws4 (w : Vec F S1x2048 .f32) : Vec F S1x128 .f32 := VecWindow.window w ![0, 512] S1x128.size inb_S1x2048_S1x128_0_512

/-- The weight's scales of head 5. -/
def ws5 (w : Vec F S1x2048 .f32) : Vec F S1x128 .f32 := VecWindow.window w ![0, 640] S1x128.size inb_S1x2048_S1x128_0_640

/-- The weight's scales of head 6. -/
def ws6 (w : Vec F S1x2048 .f32) : Vec F S1x128 .f32 := VecWindow.window w ![0, 768] S1x128.size inb_S1x2048_S1x128_0_768

/-- The weight's scales of head 7. -/
def ws7 (w : Vec F S1x2048 .f32) : Vec F S1x128 .f32 := VecWindow.window w ![0, 896] S1x128.size inb_S1x2048_S1x128_0_896

/-- The weight's scales of head 8. -/
def ws8 (w : Vec F S1x2048 .f32) : Vec F S1x128 .f32 := VecWindow.window w ![0, 1024] S1x128.size inb_S1x2048_S1x128_0_1024

/-- The weight's scales of head 9. -/
def ws9 (w : Vec F S1x2048 .f32) : Vec F S1x128 .f32 := VecWindow.window w ![0, 1152] S1x128.size inb_S1x2048_S1x128_0_1152

/-- The weight's scales of head 10. -/
def ws10 (w : Vec F S1x2048 .f32) : Vec F S1x128 .f32 := VecWindow.window w ![0, 1280] S1x128.size inb_S1x2048_S1x128_0_1280

/-- The weight's scales of head 11. -/
def ws11 (w : Vec F S1x2048 .f32) : Vec F S1x128 .f32 := VecWindow.window w ![0, 1408] S1x128.size inb_S1x2048_S1x128_0_1408

/-- The weight's scales of head 12. -/
def ws12 (w : Vec F S1x2048 .f32) : Vec F S1x128 .f32 := VecWindow.window w ![0, 1536] S1x128.size inb_S1x2048_S1x128_0_1536

/-- The weight's scales of head 13. -/
def ws13 (w : Vec F S1x2048 .f32) : Vec F S1x128 .f32 := VecWindow.window w ![0, 1664] S1x128.size inb_S1x2048_S1x128_0_1664

/-- The weight's scales of head 14. -/
def ws14 (w : Vec F S1x2048 .f32) : Vec F S1x128 .f32 := VecWindow.window w ![0, 1792] S1x128.size inb_S1x2048_S1x128_0_1792

/-- The weight's scales of head 15. -/
def ws15 (w : Vec F S1x2048 .f32) : Vec F S1x128 .f32 := VecWindow.window w ![0, 1920] S1x128.size inb_S1x2048_S1x128_0_1920

/-- The cache scales of head 0. -/
def kv0 (w : Vec F S1x512 .f32) : Vec F S1x128 .f32 := VecWindow.window w ![0, 0] S1x128.size inb_S1x512_S1x128_0_0

/-- The cache scales of head 1. -/
def kv1 (w : Vec F S1x512 .f32) : Vec F S1x128 .f32 := VecWindow.window w ![0, 128] S1x128.size inb_S1x512_S1x128_0_128

/-- The cache scales of head 2. -/
def kv2 (w : Vec F S1x512 .f32) : Vec F S1x128 .f32 := VecWindow.window w ![0, 256] S1x128.size inb_S1x512_S1x128_0_256

/-- The cache scales of head 3. -/
def kv3 (w : Vec F S1x512 .f32) : Vec F S1x128 .f32 := VecWindow.window w ![0, 384] S1x128.size inb_S1x512_S1x128_0_384

/-- Eight blocks, by number. -/
def sel8 {α : Type} (a b c d e f g h : α) : ℕ → α
  | 0 => a | 1 => b | 2 => c | 3 => d | 4 => e | 5 => f | 6 => g | _ => h

/-- Four blocks, by number. -/
def sel4 {α : Type} (a b c d : α) : ℕ → α
  | 0 => a | 1 => b | 2 => c | _ => d

/-- Blocks of 128 columns side by side. -/
def cols {W : ℕ} {e : EltTy} (p : ℕ → Vec F S512x128 e) : Vec F (⟨2, ![512, W]⟩ : Shape) e :=
  fun y => p ((y 1).val / 128) (ix2 (n0 := 512) (n1 := 128) (y 0) ⟨(y 1).val % 128, Nat.mod_lt _ (by omega)⟩)

section Point
variable (x0 : Vec F S512x4608 .bf16) (x1 : Vec F S1x4608 .f32) (wbf : Vec F S4608x2048 .bf16) (x3 : Vec F S1x2048 .f32) (x4 x5 : Vec F S512x64 .f32) (x6 x7 : Vec F S1x512 .f32)

/-- The codes one point stores. -/
def fC : Vec F S512x4608 .i8 := k0_pay8 (cV x0 x1)

/-- The row scales of one point, as a column. -/
def rS : Vec F S512x1 .f32 := col0 (sV x0 x1)

/-- The row scales one point stores. -/
def fS : Vec F S1x1x512 .f32 := k0_pay9 (rS x0 x1)

/-- The queries of one head of one point. -/
def pQ : ℕ → Vec F S512x128 .bf16 :=
  sel8
    (k0_pay14 (k0_pay10 x4) (k0_pay11 x5) (rS x0 x1) (k0_pay13 (cV x0 x1) (wc0 wbf)) (ws0 x3))
    (k0_pay15 (k0_pay10 x4) (k0_pay11 x5) (rS x0 x1) (k0_pay12 (cV x0 x1) (wc0 wbf)) (ws1 x3))
    (k0_pay16 (k0_pay10 x4) (k0_pay11 x5) (rS x0 x1) (k0_pay12 (cV x0 x1) (wc0 wbf)) (ws2 x3))
    (k0_pay17 (k0_pay10 x4) (k0_pay11 x5) (rS x0 x1) (k0_pay12 (cV x0 x1) (wc0 wbf)) (ws3 x3))
    (k0_pay19 (k0_pay10 x4) (k0_pay11 x5) (rS x0 x1) (cV x0 x1) (wc1 wbf) (ws4 x3))
    (k0_pay22 (k0_pay10 x4) (k0_pay11 x5) (rS x0 x1) (k0_pay20 (cV x0 x1) (wc1 wbf)) (k0_pay21 (ws5 x3)))
    (k0_pay23 (k0_pay10 x4) (k0_pay11 x5) (rS x0 x1) (k0_pay18 (cV x0 x1) (wc1 wbf)) (ws6 x3))
    (k0_pay24 (k0_pay10 x4) (k0_pay11 x5) (rS x0 x1) (k0_pay18 (cV x0 x1) (wc1 wbf)) (ws7 x3))

/-- The key codes of one head of one point. -/
def pK : ℕ → Vec F S512x128 .fp8e4m3 :=
  sel4
    (k0_pay26 (k0_pay10 x4) (k0_pay11 x5) (rS x0 x1) (cV x0 x1) (wc2 wbf) (ws8 x3) (kv0 x6))
    (k0_pay28 (k0_pay27 (k0_pay10 x4) (k0_pay11 x5) (rS x0 x1) (cV x0 x1) (wc2 wbf) (ws9 x3) (kv1 x6)))
    (k0_pay29 (k0_pay10 x4) (k0_pay11 x5) (rS x0 x1) (k0_pay25 (cV x0 x1) (wc2 wbf)) (ws10 x3) (kv2 x6))
    (k0_pay32 (k0_pay30 (k0_pay10 x4) (k0_pay11 x5) (rS x0 x1) (k0_pay25 (cV x0 x1) (wc2 wbf)) (ws11 x3)) (k0_pay31 (kv3 x6)))

/-- The value codes of one head of one point. -/
def pV : ℕ → Vec F S512x128 .fp8e4m3 :=
  sel4
    (k0_pay34 (rS x0 x1) (cV x0 x1) (wc3 wbf) (ws12 x3) (kv0 x7))
    (k0_pay37 (k0_pay35 (rS x0 x1) (cV x0 x1) (wc3 wbf) (ws13 x3)) (k0_pay36 (kv1 x7)))
    (k0_pay38 (rS x0 x1) (k0_pay33 (cV x0 x1) (wc3 wbf)) (ws14 x3) (kv2 x7))
    (k0_pay1 (k0_pay39 (rS x0 x1) (k0_pay33 (cV x0 x1) (wc3 wbf)) (ws15 x3) (kv3 x7)))

/-- The queries one point stores. -/
def fQ : Vec F S512x1024 .bf16 := cols (W := 1024) (pQ x0 x1 wbf x3 x4 x5)

/-- The key codes one point stores. -/
def fK : Vec F S512x512 .fp8e4m3 := cols (W := 512) (pK x0 x1 wbf x3 x4 x5 x6)

/-- The value codes one point stores. -/
def fV : Vec F S512x512 .fp8e4m3 := cols (W := 512) (pV x0 x1 wbf x3 x7)
end Point

section Loads
variable {sp : Space}

/-- Storing 128 columns over contents known column by column. -/
theorem store128 {W : ℕ} {e : EltTy} (v : View sig .tc sp (⟨2, ![512, W]⟩ : Shape) e) (f : v.ty.Contents (Elt F)) (k o : ℕ) (ho : o = 128 * k) (inb)
    (w : Vec F S512x128 e) (L : List (View.Piece (Elt F) (⟨2, ![512, W]⟩ : Shape) e)) (p : ℕ → Vec F S512x128 e)
    (hw : w = p k) (hL : ∀ y, (y 1).val < 128 * k → v.read (Elt F) (v.writes (Elt F) f L) y = cols p y) (y : (⟨2, ![512, W]⟩ : Shape).Idx) (hy : (y 1).val < 128 * (k + 1)) :
    v.read (Elt F) (v.writes (Elt F) f ((⟨Rect.unit (s := ⟨2, ![512, W]⟩) ![0, o] ![512, 128] inb, w⟩ : View.Piece (Elt F) (⟨2, ![512, W]⟩ : Shape) e) :: L)) y = cols p y := by
  subst ho
  by_cases h : (y 1).val < 128 * k
  · exact (View.read_writes_cons_unit_of_not_mem v f inb w L y rfl (1 : Fin 2) (.inl h)).trans (hL y h)
  · have hd : (y 1).val / 128 = k := by omega
    refine (View.read_writes_cons_unit_of_mem v f inb w L y (ix2 (n0 := 512) (n1 := 128) (y 0) ⟨(y 1).val % 128, Nat.mod_lt _ (by omega)⟩) rfl fun a => ?_).trans ?_
    · match a with
      | ⟨0, _⟩ => show (y 0).val = 0 + (y 0).val; omega
      | ⟨1, _⟩ => show (y 1).val = 128 * k + (y 1).val % 128; omega
    · unfold cols
      rw [hd, hw]

/-- Eight stores of 128 columns, side by side. -/
theorem read_cols8 {e : EltTy} (v : View sig .tc sp S512x1024 e) (f : v.ty.Contents (Elt F)) (w0 w1 w2 w3 w4 w5 w6 w7 : Vec F S512x128 e) (i0) (i1) (i2) (i3) (i4) (i5) (i6) (i7) :
    v.read (Elt F) (v.writes (Elt F) f [⟨Rect.unit (s := S512x1024) ![0, 896] ![512, 128] i7, w7⟩, ⟨Rect.unit (s := S512x1024) ![0, 768] ![512, 128] i6, w6⟩, ⟨Rect.unit (s := S512x1024) ![0, 640] ![512, 128] i5, w5⟩, ⟨Rect.unit (s := S512x1024) ![0, 512] ![512, 128] i4, w4⟩, ⟨Rect.unit (s := S512x1024) ![0, 384] ![512, 128] i3, w3⟩, ⟨Rect.unit (s := S512x1024) ![0, 256] ![512, 128] i2, w2⟩, ⟨Rect.unit (s := S512x1024) ![0, 128] ![512, 128] i1, w1⟩, ⟨Rect.unit (s := S512x1024) ![0, 0] ![512, 128] i0, w0⟩]) = cols (W := 1024) (sel8 w0 w1 w2 w3 w4 w5 w6 w7) := by
  funext y
  have hy : (y 1).val < 1024 := (y 1).isLt
  exact (store128 v f 7 _ rfl i7 w7 _ (sel8 w0 w1 w2 w3 w4 w5 w6 w7) rfl (store128 v f 6 _ rfl i6 w6 _ (sel8 w0 w1 w2 w3 w4 w5 w6 w7) rfl (store128 v f 5 _ rfl i5 w5 _ (sel8 w0 w1 w2 w3 w4 w5 w6 w7) rfl (store128 v f 4 _ rfl i4 w4 _ (sel8 w0 w1 w2 w3 w4 w5 w6 w7) rfl (store128 v f 3 _ rfl i3 w3 _ (sel8 w0 w1 w2 w3 w4 w5 w6 w7) rfl (store128 v f 2 _ rfl i2 w2 _ (sel8 w0 w1 w2 w3 w4 w5 w6 w7) rfl (store128 v f 1 _ rfl i1 w1 _ (sel8 w0 w1 w2 w3 w4 w5 w6 w7) rfl (store128 v f 0 _ rfl i0 w0 _ (sel8 w0 w1 w2 w3 w4 w5 w6 w7) rfl (fun y h => absurd h (by omega)))))))))) y (by omega)

/-- Four stores of 128 columns, side by side. -/
theorem read_cols4 {e : EltTy} (v : View sig .tc sp S512x512 e) (f : v.ty.Contents (Elt F)) (w0 w1 w2 w3 : Vec F S512x128 e) (i0) (i1) (i2) (i3) :
    v.read (Elt F) (v.writes (Elt F) f [⟨Rect.unit (s := S512x512) ![0, 384] ![512, 128] i3, w3⟩, ⟨Rect.unit (s := S512x512) ![0, 256] ![512, 128] i2, w2⟩, ⟨Rect.unit (s := S512x512) ![0, 128] ![512, 128] i1, w1⟩, ⟨Rect.unit (s := S512x512) ![0, 0] ![512, 128] i0, w0⟩]) = cols (W := 512) (sel4 w0 w1 w2 w3) := by
  funext y
  have hy : (y 1).val < 512 := (y 1).isLt
  exact (store128 v f 3 _ rfl i3 w3 _ (sel4 w0 w1 w2 w3) rfl (store128 v f 2 _ rfl i2 w2 _ (sel4 w0 w1 w2 w3) rfl (store128 v f 1 _ rfl i1 w1 _ (sel4 w0 w1 w2 w3) rfl (store128 v f 0 _ rfl i0 w0 _ (sel4 w0 w1 w2 w3) rfl (fun y h => absurd h (by omega)))))) y (by omega)

/-- A load of the whole of a view of this shape reads what the view holds. -/
theorem ld_512x64 {e : EltTy} (v : View sig .tc sp S512x64 e) (f : v.ty.Contents (Elt F)) (inb) :
    v.readAt (Elt F) (Rect.unit (s := S512x64) ![0, 0] ![512, 64] inb).toLoadRect f = v.read (Elt F) f := View.readAt_full v f inb

/-- A load of the whole of the code scratch. -/
theorem ld_512x4608 {e : EltTy} (v : View sig .tc sp S512x4608 e) (f : v.ty.Contents (Elt F)) (inb) :
    v.readAt (Elt F) (Rect.unit (s := S512x4608) ![0, 0] ![512, 4608] inb).toLoadRect f = v.read (Elt F) f := View.readAt_full v f inb

/-- A load of column 0 of the scale scratch. -/
theorem ld_col0 (v : View sig .tc sp S512x128 .f32) (f : v.ty.Contents (Elt F)) (inb) :
    v.readAt (Elt F) (Rect.unit (s := S512x128) ![0, 0] ![512, 1] inb).toLoadRect f = col0 (v.read (Elt F) f) := rfl

/-- A load of 512 columns of the weight scratch. -/
theorem ld_wc0 (v : View sig .tc sp S4608x2048 .bf16) (f : v.ty.Contents (Elt F)) (inb) :
    v.readAt (Elt F) (Rect.unit (s := S4608x2048) ![0, 0] ![4608, 512] inb).toLoadRect f = wc0 (v.read (Elt F) f) := rfl

/-- A load of 512 columns of the weight scratch. -/
theorem ld_wc1 (v : View sig .tc sp S4608x2048 .bf16) (f : v.ty.Contents (Elt F)) (inb) :
    v.readAt (Elt F) (Rect.unit (s := S4608x2048) ![0, 512] ![4608, 512] inb).toLoadRect f = wc1 (v.read (Elt F) f) := rfl

/-- A load of 512 columns of the weight scratch. -/
theorem ld_wc2 (v : View sig .tc sp S4608x2048 .bf16) (f : v.ty.Contents (Elt F)) (inb) :
    v.readAt (Elt F) (Rect.unit (s := S4608x2048) ![0, 1024] ![4608, 512] inb).toLoadRect f = wc2 (v.read (Elt F) f) := rfl

/-- A load of 512 columns of the weight scratch. -/
theorem ld_wc3 (v : View sig .tc sp S4608x2048 .bf16) (f : v.ty.Contents (Elt F)) (inb) :
    v.readAt (Elt F) (Rect.unit (s := S4608x2048) ![0, 1536] ![4608, 512] inb).toLoadRect f = wc3 (v.read (Elt F) f) := rfl

/-- A load of the weight's scales of head 0. -/
theorem ld_ws0 (v : View sig .tc sp S1x2048 .f32) (f : v.ty.Contents (Elt F)) (inb) :
    v.readAt (Elt F) (Rect.unit (s := S1x2048) ![0, 0] ![1, 128] inb).toLoadRect f = ws0 (v.read (Elt F) f) := rfl

/-- A load of the weight's scales of head 1. -/
theorem ld_ws1 (v : View sig .tc sp S1x2048 .f32) (f : v.ty.Contents (Elt F)) (inb) :
    v.readAt (Elt F) (Rect.unit (s := S1x2048) ![0, 128] ![1, 128] inb).toLoadRect f = ws1 (v.read (Elt F) f) := rfl

/-- A load of the weight's scales of head 2. -/
theorem ld_ws2 (v : View sig .tc sp S1x2048 .f32) (f : v.ty.Contents (Elt F)) (inb) :
    v.readAt (Elt F) (Rect.unit (s := S1x2048) ![0, 256] ![1, 128] inb).toLoadRect f = ws2 (v.read (Elt F) f) := rfl

/-- A load of the weight's scales of head 3. -/
theorem ld_ws3 (v : View sig .tc sp S1x2048 .f32) (f : v.ty.Contents (Elt F)) (inb) :
    v.readAt (Elt F) (Rect.unit (s := S1x2048) ![0, 384] ![1, 128] inb).toLoadRect f = ws3 (v.read (Elt F) f) := rfl

/-- A load of the weight's scales of head 4. -/
theorem ld_ws4 (v : View sig .tc sp S1x2048 .f32) (f : v.ty.Contents (Elt F)) (inb) :
    v.readAt (Elt F) (Rect.unit (s := S1x2048) ![0, 512] ![1, 128] inb).toLoadRect f = ws4 (v.read (Elt F) f) := rfl

/-- A load of the weight's scales of head 5. -/
theorem ld_ws5 (v : View sig .tc sp S1x2048 .f32) (f : v.ty.Contents (Elt F)) (inb) :
    v.readAt (Elt F) (Rect.unit (s := S1x2048) ![0, 640] ![1, 128] inb).toLoadRect f = ws5 (v.read (Elt F) f) := rfl

/-- A load of the weight's scales of head 6. -/
theorem ld_ws6 (v : View sig .tc sp S1x2048 .f32) (f : v.ty.Contents (Elt F)) (inb) :
    v.readAt (Elt F) (Rect.unit (s := S1x2048) ![0, 768] ![1, 128] inb).toLoadRect f = ws6 (v.read (Elt F) f) := rfl

/-- A load of the weight's scales of head 7. -/
theorem ld_ws7 (v : View sig .tc sp S1x2048 .f32) (f : v.ty.Contents (Elt F)) (inb) :
    v.readAt (Elt F) (Rect.unit (s := S1x2048) ![0, 896] ![1, 128] inb).toLoadRect f = ws7 (v.read (Elt F) f) := rfl

/-- A load of the weight's scales of head 8. -/
theorem ld_ws8 (v : View sig .tc sp S1x2048 .f32) (f : v.ty.Contents (Elt F)) (inb) :
    v.readAt (Elt F) (Rect.unit (s := S1x2048) ![0, 1024] ![1, 128] inb).toLoadRect f = ws8 (v.read (Elt F) f) := rfl

/-- A load of the weight's scales of head 9. -/
theorem ld_ws9 (v : View sig .tc sp S1x2048 .f32) (f : v.ty.Contents (Elt F)) (inb) :
    v.readAt (Elt F) (Rect.unit (s := S1x2048) ![0, 1152] ![1, 128] inb).toLoadRect f = ws9 (v.read (Elt F) f) := rfl

/-- A load of the weight's scales of head 10. -/
theorem ld_ws10 (v : View sig .tc sp S1x2048 .f32) (f : v.ty.Contents (Elt F)) (inb) :
    v.readAt (Elt F) (Rect.unit (s := S1x2048) ![0, 1280] ![1, 128] inb).toLoadRect f = ws10 (v.read (Elt F) f) := rfl

/-- A load of the weight's scales of head 11. -/
theorem ld_ws11 (v : View sig .tc sp S1x2048 .f32) (f : v.ty.Contents (Elt F)) (inb) :
    v.readAt (Elt F) (Rect.unit (s := S1x2048) ![0, 1408] ![1, 128] inb).toLoadRect f = ws11 (v.read (Elt F) f) := rfl

/-- A load of the weight's scales of head 12. -/
theorem ld_ws12 (v : View sig .tc sp S1x2048 .f32) (f : v.ty.Contents (Elt F)) (inb) :
    v.readAt (Elt F) (Rect.unit (s := S1x2048) ![0, 1536] ![1, 128] inb).toLoadRect f = ws12 (v.read (Elt F) f) := rfl

/-- A load of the weight's scales of head 13. -/
theorem ld_ws13 (v : View sig .tc sp S1x2048 .f32) (f : v.ty.Contents (Elt F)) (inb) :
    v.readAt (Elt F) (Rect.unit (s := S1x2048) ![0, 1664] ![1, 128] inb).toLoadRect f = ws13 (v.read (Elt F) f) := rfl

/-- A load of the weight's scales of head 14. -/
theorem ld_ws14 (v : View sig .tc sp S1x2048 .f32) (f : v.ty.Contents (Elt F)) (inb) :
    v.readAt (Elt F) (Rect.unit (s := S1x2048) ![0, 1792] ![1, 128] inb).toLoadRect f = ws14 (v.read (Elt F) f) := rfl

/-- A load of the weight's scales of head 15. -/
theorem ld_ws15 (v : View sig .tc sp S1x2048 .f32) (f : v.ty.Contents (Elt F)) (inb) :
    v.readAt (Elt F) (Rect.unit (s := S1x2048) ![0, 1920] ![1, 128] inb).toLoadRect f = ws15 (v.read (Elt F) f) := rfl

/-- A load of the cache scales of head 0. -/
theorem ld_kv0 (v : View sig .tc sp S1x512 .f32) (f : v.ty.Contents (Elt F)) (inb) :
    v.readAt (Elt F) (Rect.unit (s := S1x512) ![0, 0] ![1, 128] inb).toLoadRect f = kv0 (v.read (Elt F) f) := rfl

/-- A load of the cache scales of head 1. -/
theorem ld_kv1 (v : View sig .tc sp S1x512 .f32) (f : v.ty.Contents (Elt F)) (inb) :
    v.readAt (Elt F) (Rect.unit (s := S1x512) ![0, 128] ![1, 128] inb).toLoadRect f = kv1 (v.read (Elt F) f) := rfl

/-- A load of the cache scales of head 2. -/
theorem ld_kv2 (v : View sig .tc sp S1x512 .f32) (f : v.ty.Contents (Elt F)) (inb) :
    v.readAt (Elt F) (Rect.unit (s := S1x512) ![0, 256] ![1, 128] inb).toLoadRect f = kv2 (v.read (Elt F) f) := rfl

/-- A load of the cache scales of head 3. -/
theorem ld_kv3 (v : View sig .tc sp S1x512 .f32) (f : v.ty.Contents (Elt F)) (inb) :
    v.readAt (Elt F) (Rect.unit (s := S1x512) ![0, 384] ![1, 128] inb).toLoadRect f = kv3 (v.read (Elt F) f) := rfl

end Loads

end Cert.QkvIdeal.Gen
-- ==== Proof.QkvRunA.lean ====
/-
  The query/key/value kernel's body at the first grid point.
-/
module

public import proofs.«01_k».proof.Proof.QkvRuns

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 4000000 in
/-- At the first point the body converts the weight, and leaves its outputs at the stated values. -/
theorem kernelRun_A (c : Dev nD) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (hc0 : cond0_0 i)
    (x0 : Vec F S512x4608 .bf16) (x1 : Vec F S1x4608 .f32) (x2 : Vec F S4608x2048 .i8) (x3 : Vec F S1x2048 .f32) (x4 : Vec F S512x64 .f32) (x5 : Vec F S512x64 .f32) (x6 : Vec F S1x512 .f32) (x7 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (fC x0 x1) ∗ owns (c : Thread nD τ) arg10 fullShare (fS x0 x1) ∗ owns (c : Thread nD τ) arg11 fullShare (fQ x0 x1 (wV x2) x3 x4 x5) ∗ owns (c : Thread nD τ) arg12 fullShare (fK x0 x1 (wV x2) x3 x4 x5 x6) ∗ owns (c : Thread nD τ) arg13 fullShare (fV x0 x1 (wV x2) x3 x7) ∗ owns (c : Thread nD τ) arg14 fullShare (wV x2) ∗ (∃ d, owns (c : Thread nD τ) arg15 fullShare d) ∗ (∃ d, owns (c : Thread nD τ) arg16 fullShare d)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_eq_skeleton]; unfold cc0_qkv_skel
  simp only [k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; sl_unfold_run_names
    refine (View.read_writes_full _ _ _ _ _).trans ?_
    unfold fC
    rw [ld_512x4608, pb2_read15 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [H9]
  · iexists _; isplitr; swap; · iexact H9
    ipureintro; sl_unfold_run_names
    refine (View.read_writes_full _ _ _ _ _).trans ?_
    unfold fS rS
    rw [ld_col0, pb2_read16 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [H10]
  · iexists _; isplitr; swap; · iexact H10
    ipureintro; sl_unfold_run_names
    refine (read_cols8 _ _ _ _ _ _ _ _ _ _ _ _ _ _ _ _ _ _).trans ?_
    unfold fQ pQ rS
    simp only [ld_512x4608, ld_col0, ld_512x64, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl, pb1_read14 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [H11]
  · iexists _; isplitr; swap; · iexact H11
    ipureintro; sl_unfold_run_names
    refine (read_cols4 _ _ _ _ _ _ _ _ _ _).trans ?_
    unfold fK pK rS
    simp only [ld_512x4608, ld_col0, ld_512x64, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl, pb1_read14 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [H12]
  · iexists _; isplitr; swap; · iexact H12
    ipureintro; sl_unfold_run_names
    refine (read_cols4 _ _ _ _ _ _ _ _ _ _).trans ?_
    unfold fV pV rS
    simp only [ld_512x4608, ld_col0, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl, pb1_read14 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [HS0]
  · iexists _; isplitr; swap; · iexact HS0
    ipureintro; sl_unfold_run_names
    rw [pb1_read14 _ _ _ _ _ _ _ _ _ _ _ _ _ _ _ _ _ _ _ _ _ _ _ _ _ _ _ _ _ _ _ _ _ _ _ _ _ _ _ _ rfl]
    simp only [hf0, hf1, hf2, hf3, hf4, hf5, hf6, hf7]
    first | done | rfl
  isplitl [HS1]
  · iexists _, _; isplitr; swap; · iexact HS1
    ipureintro; rfl
  iexists _, _; isplitr; swap; · iexact HS2
  ipureintro; rfl

end Cert.QkvIdeal.Gen
-- ==== Proof.QkvRunB.lean ====
/-
  The query/key/value kernel's body at every later grid point.
-/
module

public import proofs.«01_k».proof.Proof.QkvRuns

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 4000000 in
/-- At a later point the body reuses the converted weight, and leaves its outputs at the stated values. -/
theorem kernelRun_B (c : Dev nD) (i : grid0.Coords) (arg1 : Memref sig .tc .vmem S512x4608 .bf16) (harg1 : arg1.IsWhole) (arg2 : Memref sig .tc .vmem S1x4608 .f32) (harg2 : arg2.IsWhole) (arg3 : Memref sig .tc .vmem S4608x2048 .i8) (harg3 : arg3.IsWhole) (arg4 : Memref sig .tc .vmem S1x2048 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x4608 .i8) (harg9 : arg9.IsWhole) (arg10 : Memref sig .tc .vmem S1x1x512 .f32) (harg10 : arg10.IsWhole) (arg11 : Memref sig .tc .vmem S512x1024 .bf16) (harg11 : arg11.IsWhole) (arg12 : Memref sig .tc .vmem S512x512 .fp8e4m3) (harg12 : arg12.IsWhole) (arg13 : Memref sig .tc .vmem S512x512 .fp8e4m3) (harg13 : arg13.IsWhole) (arg14 : Memref sig .tc .vmem S4608x2048 .bf16) (harg14 : arg14.IsWhole) (arg15 : Memref sig .tc .vmem S512x4608 .bf16) (harg15 : arg15.IsWhole) (arg16 : Memref sig .tc .vmem S512x128 .f32) (harg16 : arg16.IsWhole) (hc0 : ¬cond0_0 i)
    (x0 : Vec F S512x4608 .bf16) (x1 : Vec F S1x4608 .f32) (x2 : Vec F S4608x2048 .i8) (x3 : Vec F S1x2048 .f32) (x4 : Vec F S512x64 .f32) (x5 : Vec F S512x64 .f32) (x6 : Vec F S1x512 .f32) (x7 : Vec F S1x512 .f32) (xs0 : Vec F S4608x2048 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (fC x0 x1) ∗ owns (c : Thread nD τ) arg10 fullShare (fS x0 x1) ∗ owns (c : Thread nD τ) arg11 fullShare (fQ x0 x1 xs0 x3 x4 x5) ∗ owns (c : Thread nD τ) arg12 fullShare (fK x0 x1 xs0 x3 x4 x5 x6) ∗ owns (c : Thread nD τ) arg13 fullShare (fV x0 x1 xs0 x3 x7) ∗ owns (c : Thread nD τ) arg14 fullShare xs0 ∗ (∃ d, owns (c : Thread nD τ) arg15 fullShare d) ∗ (∃ d, owns (c : Thread nD τ) arg16 fullShare d)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_qkv_eq_skeleton]; unfold cc0_qkv_skel
  simp only [k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; sl_unfold_run_names
    refine (View.read_writes_full _ _ _ _ _).trans ?_
    unfold fC
    rw [ld_512x4608, pb2_read15 _ _ _ _ _ _ _ _ _ _ _ _ _ _ _ _ _ _ _ _ _ _ _ _ _ _ _ _ _ _ _ _ _ _ _ _ _ _ _ _ rfl]
    simp only [hf0, hf1, hf2, hf3, hf4, hf5, hf6, hf7, hfs0]
    first | done | rfl
  isplitl [H9]
  · iexists _; isplitr; swap; · iexact H9
    ipureintro; sl_unfold_run_names
    refine (View.read_writes_full _ _ _ _ _).trans ?_
    unfold fS rS
    rw [ld_col0, pb2_read16 _ _ _ _ _ _ _ _ _ _ _ _ _ _ _ _ _ _ _ _ _ _ _ _ _ _ _ _ _ _ _ _ _ _ _ _ _ _ _ _ rfl]
    simp only [hf0, hf1, hf2, hf3, hf4, hf5, hf6, hf7, hfs0]
    first | done | rfl
  isplitl [H10]
  · iexists _; isplitr; swap; · iexact H10
    ipureintro; sl_unfold_run_names
    refine (read_cols8 _ _ _ _ _ _ _ _ _ _ _ _ _ _ _ _ _ _).trans ?_
    unfold fQ pQ rS
    simp only [ld_512x4608, ld_col0, ld_512x64, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl]
    simp only [hf0, hf1, hf2, hf3, hf4, hf5, hf6, hf7, hfs0]
    first | done | rfl
  isplitl [H11]
  · iexists _; isplitr; swap; · iexact H11
    ipureintro; sl_unfold_run_names
    refine (read_cols4 _ _ _ _ _ _ _ _ _ _).trans ?_
    unfold fK pK rS
    simp only [ld_512x4608, ld_col0, ld_512x64, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl]
    simp only [hf0, hf1, hf2, hf3, hf4, hf5, hf6, hf7, hfs0]
    first | done | rfl
  isplitl [H12]
  · iexists _; isplitr; swap; · iexact H12
    ipureintro; sl_unfold_run_names
    refine (read_cols4 _ _ _ _ _ _ _ _ _ _).trans ?_
    unfold fV pV rS
    simp only [ld_512x4608, ld_col0, ld_wc0, ld_wc1, ld_wc2, ld_wc3, ld_ws0, ld_ws1, ld_ws2, ld_ws3, ld_ws4, ld_ws5, ld_ws6, ld_ws7, ld_ws8, ld_ws9, ld_ws10, ld_ws11, ld_ws12, ld_ws13, ld_ws14, ld_ws15, ld_kv0, ld_kv1, ld_kv2, ld_kv3]
    rw [pb2_read15 _ _ _ _ _ _ _ _ _ _ _ _ _ _ _ _ _ _ _ _ _ _ _ _ _ _ _ _ _ _ _ _ _ _ _ _ _ _ _ _ rfl, pb2_read16 _ _ _ _ _ _ _ _ _ _ _ _ _ _ _ _ _ _ _ _ _ _ _ _ _ _ _ _ _ _ _ _ _ _ _ _ _ _ _ _ rfl]
    simp only [hf0, hf1, hf2, hf3, hf4, hf5, hf6, hf7, hfs0]
    first | done | rfl
  isplitl [HS0]
  · iexists _; isplitr; · ipureintro; exact harg14.read_unread _
    iexact HS0
  isplitl [HS1]
  · iexists _, _; isplitr; swap; · iexact HS1
    ipureintro; rfl
  iexists _, _; isplitr; swap; · iexact HS2
  ipureintro; rfl

end Cert.QkvIdeal.Gen
-- ==== Proof.QkvFrame.lean ====
/-
  The query/key/value kernel over the whole grid: the proof data, the body obligation, the run, and what its result arrays hold.
-/
module

public import proofs.«01_k».proof.Proof.QkvRunA
public import proofs.«01_k».proof.Proof.QkvRunB
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The blocks -/

/-- Rows `512 b` to `512 b + 511` of the layer's input. -/
def bX0 (A : Vec F S15360x4608 .bf16) (b : ℕ) : Vec F S512x4608 .bf16 := fun y => A (ix2 ⟨(512 * b + (y 0).val) % 15360, Nat.mod_lt _ (by decide)⟩ (y 1))

/-- Rows `512 b` to `512 b + 511` of the cosines or of the sines. -/
def bX4 (A : Vec F S15360x64 .f32) (b : ℕ) : Vec F S512x64 .f32 := fun y => A (ix2 ⟨(512 * b + (y 0).val) % 15360, Nat.mod_lt _ (by decide)⟩ (y 1))

section Out
variable (A0 : Vec F S15360x4608 .bf16) (A1 : Vec F S1x4608 .f32) (A2 : Vec F S4608x2048 .i8) (A3 : Vec F S1x2048 .f32) (A4 A5 : Vec F S15360x64 .f32) (A6 A7 : Vec F S1x512 .f32)

/-- The block of codes that row block `b` ends with. -/
def oC (b : ℕ) : Vec F S512x4608 .i8 := fC (bX0 A0 b) A1

/-- The block of row scales that row block `b` ends with. -/
def oS (b : ℕ) : Vec F S1x1x512 .f32 := fS (bX0 A0 b) A1

/-- The block of queries that row block `b` ends with. -/
def oQ (b : ℕ) : Vec F S512x1024 .bf16 := fQ (bX0 A0 b) A1 (wV A2) A3 (bX4 A4 b) (bX4 A5 b)

/-- The block of key codes that row block `b` ends with. -/
def oK (b : ℕ) : Vec F S512x512 .fp8e4m3 := fK (bX0 A0 b) A1 (wV A2) A3 (bX4 A4 b) (bX4 A5 b) A6

/-- The block of value codes that row block `b` ends with. -/
def oV (b : ℕ) : Vec F S512x512 .fp8e4m3 := fV (bX0 A0 b) A1 (wV A2) A3 A7

/-- The codes the kernel ends with. -/
def GC : Vec F S15360x4608 .i8 := fun y => oC A0 A1 ((y 0).val / 512) (ix2 ⟨(y 0).val % 512, Nat.mod_lt _ (by decide)⟩ (y 1))

/-- The row scales the kernel ends with. -/
def GS : Vec F S30x1x512 .f32 := fun y => oS A0 A1 (y 0).val (ix3 (0 : Fin 1) (y 1) (y 2))

/-- The queries the kernel ends with. -/
def GQ : Vec F S15360x1024 .bf16 := fun y => oQ A0 A1 A2 A3 A4 A5 ((y 0).val / 512) (ix2 ⟨(y 0).val % 512, Nat.mod_lt _ (by decide)⟩ (y 1))

/-- The key codes the kernel ends with. -/
def GK : Vec F S15360x512 .fp8e4m3 := fun y => oK A0 A1 A2 A3 A4 A5 A6 ((y 0).val / 512) (ix2 ⟨(y 0).val % 512, Nat.mod_lt _ (by decide)⟩ (y 1))

/-- The value codes the kernel ends with. -/
def GV : Vec F S15360x512 .fp8e4m3 := fun y => oV A0 A1 A2 A3 A7 ((y 0).val / 512) (ix2 ⟨(y 0).val % 512, Nat.mod_lt _ (by decide)⟩ (y 1))
end Out

variable (m : (ℓ : Loc nD τ sig) → Buf (Elt F) ℓ) (ρ : Dev nD → PrngReg)

/-! ## Where the windows' blocks lie -/

/-- Window 0's block index at a point. -/
theorem idx0 : ∀ t : Fin cfg0.N, win0_0.index t (0 : Fin 2) = t.val ∧ win0_0.index t (1 : Fin 2) = 0 :=
  (by decide +kernel : ∀ t : Fin grid0.N, _)

/-- Window 0's block at a point, read off its array. -/
theorem iblk0 (c : Dev nD) (t : Fin cfg0.N) : iblk m c 0 t = bX0 (V m c main_arg0) t.val := by
  have hN : t.val < 30 := lt_of_lt_of_eq t.isLt (show cfg0.N = 30 from N_0)
  obtain ⟨e0, e1⟩ := idx0 t
  funext y
  have h0 : (y 0).val < 512 := (y 0).isLt
  have h1 : (y 1).val < 4608 := (y 1).isLt
  show V m c main_arg0 (((cfg0.win 0).blk t).view.emb y) = V m c main_arg0 _
  congr 1
  funext a; apply Fin.ext
  match a with
  | ⟨0, _⟩ => show win0_0.index t (0 : Fin 2) * 512 + 1 * (y 0).val = (512 * t.val + (y 0).val) % 15360; omega
  | ⟨1, _⟩ => show win0_0.index t (1 : Fin 2) * 4608 + 1 * (y 1).val = (y 1).val; omega

/-- Window 1's block index at a point. -/
theorem idx1 : ∀ t : Fin cfg0.N, win0_1.index t (0 : Fin 2) = 0 ∧ win0_1.index t (1 : Fin 2) = 0 :=
  (by decide +kernel : ∀ t : Fin grid0.N, _)

/-- Window 1's block at a point, read off its array. -/
theorem iblk1 (c : Dev nD) (t : Fin cfg0.N) : iblk m c 1 t = V m c main_v0 := by
  have hN : t.val < 30 := lt_of_lt_of_eq t.isLt (show cfg0.N = 30 from N_0)
  obtain ⟨e0, e1⟩ := idx1 t
  funext y
  have h0 : (y 0).val < 1 := (y 0).isLt
  have h1 : (y 1).val < 4608 := (y 1).isLt
  show V m c main_v0 (((cfg0.win 1).blk t).view.emb y) = V m c main_v0 _
  congr 1
  funext a; apply Fin.ext
  match a with
  | ⟨0, _⟩ => show win0_1.index t (0 : Fin 2) * 1 + 1 * (y 0).val = (y 0).val; omega
  | ⟨1, _⟩ => show win0_1.index t (1 : Fin 2) * 4608 + 1 * (y 1).val = (y 1).val; omega

/-- Window 2's block index at a point. -/
theorem idx2 : ∀ t : Fin cfg0.N, win0_2.index t (0 : Fin 2) = 0 ∧ win0_2.index t (1 : Fin 2) = 0 :=
  (by decide +kernel : ∀ t : Fin grid0.N, _)

/-- Window 2's block at a point, read off its array. -/
theorem iblk2 (c : Dev nD) (t : Fin cfg0.N) : iblk m c 2 t = V m c main_arg2 := by
  have hN : t.val < 30 := lt_of_lt_of_eq t.isLt (show cfg0.N = 30 from N_0)
  obtain ⟨e0, e1⟩ := idx2 t
  funext y
  have h0 : (y 0).val < 4608 := (y 0).isLt
  have h1 : (y 1).val < 2048 := (y 1).isLt
  show V m c main_arg2 (((cfg0.win 2).blk t).view.emb y) = V m c main_arg2 _
  congr 1
  funext a; apply Fin.ext
  match a with
  | ⟨0, _⟩ => show win0_2.index t (0 : Fin 2) * 4608 + 1 * (y 0).val = (y 0).val; omega
  | ⟨1, _⟩ => show win0_2.index t (1 : Fin 2) * 2048 + 1 * (y 1).val = (y 1).val; omega

/-- Window 3's block index at a point. -/
theorem idx3 : ∀ t : Fin cfg0.N, win0_3.index t (0 : Fin 2) = 0 ∧ win0_3.index t (1 : Fin 2) = 0 :=
  (by decide +kernel : ∀ t : Fin grid0.N, _)

/-- Window 3's block at a point, read off its array. -/
theorem iblk3 (c : Dev nD) (t : Fin cfg0.N) : iblk m c 3 t = V m c main_v1 := by
  have hN : t.val < 30 := lt_of_lt_of_eq t.isLt (show cfg0.N = 30 from N_0)
  obtain ⟨e0, e1⟩ := idx3 t
  funext y
  have h0 : (y 0).val < 1 := (y 0).isLt
  have h1 : (y 1).val < 2048 := (y 1).isLt
  show V m c main_v1 (((cfg0.win 3).blk t).view.emb y) = V m c main_v1 _
  congr 1
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- Window 4's block index at a point. -/
theorem idx4 : ∀ t : Fin cfg0.N, win0_4.index t (0 : Fin 2) = t.val ∧ win0_4.index t (1 : Fin 2) = 0 :=
  (by decide +kernel : ∀ t : Fin grid0.N, _)

/-- Window 4's block at a point, read off its array. -/
theorem iblk4 (c : Dev nD) (t : Fin cfg0.N) : iblk m c 4 t = bX4 (V m c main_arg4) t.val := by
  have hN : t.val < 30 := lt_of_lt_of_eq t.isLt (show cfg0.N = 30 from N_0)
  obtain ⟨e0, e1⟩ := idx4 t
  funext y
  have h0 : (y 0).val < 512 := (y 0).isLt
  have h1 : (y 1).val < 64 := (y 1).isLt
  show V m c main_arg4 (((cfg0.win 4).blk t).view.emb y) = V m c main_arg4 _
  congr 1
  funext a; apply Fin.ext
  match a with
  | ⟨0, _⟩ => show win0_4.index t (0 : Fin 2) * 512 + 1 * (y 0).val = (512 * t.val + (y 0).val) % 15360; omega
  | ⟨1, _⟩ => show win0_4.index t (1 : Fin 2) * 64 + 1 * (y 1).val = (y 1).val; omega

/-- Window 5's block index at a point. -/
theorem idx5 : ∀ t : Fin cfg0.N, win0_5.index t (0 : Fin 2) = t.val ∧ win0_5.index t (1 : Fin 2) = 0 :=
  (by decide +kernel : ∀ t : Fin grid0.N, _)

/-- Window 5's block at a point, read off its array. -/
theorem iblk5 (c : Dev nD) (t : Fin cfg0.N) : iblk m c 5 t = bX4 (V m c main_arg5) t.val := by
  have hN : t.val < 30 := lt_of_lt_of_eq t.isLt (show cfg0.N = 30 from N_0)
  obtain ⟨e0, e1⟩ := idx5 t
  funext y
  have h0 : (y 0).val < 512 := (y 0).isLt
  have h1 : (y 1).val < 64 := (y 1).isLt
  show V m c main_arg5 (((cfg0.win 5).blk t).view.emb y) = V m c main_arg5 _
  congr 1
  funext a; apply Fin.ext
  match a with
  | ⟨0, _⟩ => show win0_5.index t (0 : Fin 2) * 512 + 1 * (y 0).val = (512 * t.val + (y 0).val) % 15360; omega
  | ⟨1, _⟩ => show win0_5.index t (1 : Fin 2) * 64 + 1 * (y 1).val = (y 1).val; omega

/-- Window 6's block index at a point. -/
theorem idx6 : ∀ t : Fin cfg0.N, win0_6.index t (0 : Fin 2) = 0 ∧ win0_6.index t (1 : Fin 2) = 0 :=
  (by decide +kernel : ∀ t : Fin grid0.N, _)

/-- Window 6's block at a point, read off its array. -/
theorem iblk6 (c : Dev nD) (t : Fin cfg0.N) : iblk m c 6 t = V m c main_v4 := by
  have hN : t.val < 30 := lt_of_lt_of_eq t.isLt (show cfg0.N = 30 from N_0)
  obtain ⟨e0, e1⟩ := idx6 t
  funext y
  have h0 : (y 0).val < 1 := (y 0).isLt
  have h1 : (y 1).val < 512 := (y 1).isLt
  show V m c main_v4 (((cfg0.win 6).blk t).view.emb y) = V m c main_v4 _
  congr 1
  funext a; apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7's block index at a point. -/
theorem idx7 : ∀ t : Fin cfg0.N, win0_7.index t (0 : Fin 2) = 0 ∧ win0_7.index t (1 : Fin 2) = 0 :=
  (by decide +kernel : ∀ t : Fin grid0.N, _)

/-- Window 7's block at a point, read off its array. -/
theorem iblk7 (c : Dev nD) (t : Fin cfg0.N) : iblk m c 7 t = V m c main_v7 := by
  have hN : t.val < 30 := lt_of_lt_of_eq t.isLt (show cfg0.N = 30 from N_0)
  obtain ⟨e0, e1⟩ := idx7 t
  funext y
  have h0 : (y 0).val < 1 := (y 0).isLt
  have h1 : (y 1).val < 512 := (y 1).isLt
  show V m c main_v7 (((cfg0.win 7).blk t).view.emb y) = V m c main_v7 _
  congr 1
  funext a; apply Fin.ext
  match a with
  | ⟨0, _⟩ => show win0_7.index t (0 : Fin 2) * 1 + 1 * (y 0).val = (y 0).val; omega
  | ⟨1, _⟩ => show win0_7.index t (1 : Fin 2) * 512 + 1 * (y 1).val = (y 1).val; omega

/-- Window 8's block index at a point. -/
theorem idx8 : ∀ t : Fin cfg0.N, win0_8.index t (0 : Fin 2) = t.val ∧ win0_8.index t (1 : Fin 2) = 0 :=
  (by decide +kernel : ∀ t : Fin grid0.N, _)

/-- Window 9's block index at a point. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Window 10's block index at a point. -/
theorem idx10 : ∀ t : Fin cfg0.N, win0_10.index t (0 : Fin 2) = t.val ∧ win0_10.index t (1 : Fin 2) = 0 :=
  (by decide +kernel : ∀ t : Fin grid0.N, _)

/-- Window 11's block index at a point. -/
theorem idx11 : ∀ t : Fin cfg0.N, win0_11.index t (0 : Fin 2) = t.val ∧ win0_11.index t (1 : Fin 2) = 0 :=
  (by decide +kernel : ∀ t : Fin grid0.N, _)

/-- Window 12's block index at a point. -/
theorem idx12 : ∀ t : Fin cfg0.N, win0_12.index t (0 : Fin 2) = t.val ∧ win0_12.index t (1 : Fin 2) = 0 :=
  (by decide +kernel : ∀ t : Fin grid0.N, _)

/-! ## The proof data -/

/-- The invariant between points: before the first, every scratch at anything; afterwards the converted weight in its buffer. -/
def PhiS (c : Dev nD) : ℕ → sProp 𝕄
  | 0 => Pipeline.ΦA spec0 c
  | n + 1 => iprop(iprop(owns (c : Thread nD τ) scM0_0 fullShare (wV (V m c main_arg2)) ∗ (∃ d, owns (c : Thread nD τ) scM0_1 fullShare d) ∗ (∃ d, owns (c : Thread nD τ) scM0_2 fullShare d)) ∗ (∃ r, prngReg c r))

/-- The invariant before any point gives every scratch at something. -/
theorem PhiS_weaken (c : Dev nD) (n : ℕ) : PhiS m c n ⊢ Pipeline.ΦA spec0 c := by
  cases n with
  | zero => exact Idealize.SL.BI.Entails.refl _
  | succ n =>
    rw [PhiA0_eq]
    unfold PhiS
    iintro ⟨⟨HS0, HS1, HS2⟩, Hg⟩
    isplitl [HS0 HS1 HS2]
    · isplitl [HS0]; · iexists _; iexact HS0
      isplitl [HS1]; · iexact HS1
      iexact HS2
    iexact Hg

/-- The proof data: each input's buffer at its block; each output's at what its row block computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oC (V m c main_arg0) (V m c main_v0) t.val
    | ⟨9, _⟩ => oS (V m c main_arg0) (V m c main_v0) t.val
    | ⟨10, _⟩ => oQ (V m c main_arg0) (V m c main_v0) (V m c main_arg2) (V m c main_v1) (V m c main_arg4) (V m c main_arg5) t.val
    | ⟨11, _⟩ => oK (V m c main_arg0) (V m c main_v0) (V m c main_arg2) (V m c main_v1) (V m c main_arg4) (V m c main_arg5) (V m c main_v4) t.val
    | ⟨12, _⟩ => oV (V m c main_arg0) (V m c main_v0) (V m c main_arg2) (V m c main_v1) (V m c main_v7) t.val
  Φ t := PhiS m c t.val
  q _ := fullShare
  owed _ := 0

/-- The arrays of the proof data are those the region finds. -/
theorem A_eq (c : Dev nD) (w : Fin cfg0.W) : (dats m 0 c).A w = V m c (Pipeline.arrRef spec0 w) := by
  dsimp only [dats]

/-- Window 0's buffer after a point is its block. -/
theorem after0_0 (c : Dev nD) (t : Fin cfg0.N) : (dats m 0 c).after 0 t = iblk m c 0 t := by dsimp only [dats]
/-- Window 0's buffer before a point is its block. -/
theorem before0_0 (c : Dev nD) (t : Fin cfg0.N) (d) : (dats m 0 c).before 0 t d = iblk m c 0 t :=
  before0_0_of m (dats m 0 c) (A_eq m c 0) (after0_0 m c) t d
/-- Window 1's buffer after a point is its block. -/
theorem after0_1 (c : Dev nD) (t : Fin cfg0.N) : (dats m 0 c).after 1 t = iblk m c 1 t := by dsimp only [dats]
/-- Window 1's buffer before a point is its block. -/
theorem before0_1 (c : Dev nD) (t : Fin cfg0.N) (d) : (dats m 0 c).before 1 t d = iblk m c 1 t :=
  before0_1_of m (dats m 0 c) (A_eq m c 1) (after0_1 m c) t d
/-- Window 2's buffer after a point is its block. -/
theorem after0_2 (c : Dev nD) (t : Fin cfg0.N) : (dats m 0 c).after 2 t = iblk m c 2 t := by dsimp only [dats]
/-- Window 2's buffer before a point is its block. -/
theorem before0_2 (c : Dev nD) (t : Fin cfg0.N) (d) : (dats m 0 c).before 2 t d = iblk m c 2 t :=
  before0_2_of m (dats m 0 c) (A_eq m c 2) (after0_2 m c) t d
/-- Window 3's buffer after a point is its block. -/
theorem after0_3 (c : Dev nD) (t : Fin cfg0.N) : (dats m 0 c).after 3 t = iblk m c 3 t := by dsimp only [dats]
/-- Window 3's buffer before a point is its block. -/
theorem before0_3 (c : Dev nD) (t : Fin cfg0.N) (d) : (dats m 0 c).before 3 t d = iblk m c 3 t :=
  before0_3_of m (dats m 0 c) (A_eq m c 3) (after0_3 m c) t d
/-- Window 4's buffer after a point is its block. -/
theorem after0_4 (c : Dev nD) (t : Fin cfg0.N) : (dats m 0 c).after 4 t = iblk m c 4 t := by dsimp only [dats]
/-- Window 4's buffer before a point is its block. -/
theorem before0_4 (c : Dev nD) (t : Fin cfg0.N) (d) : (dats m 0 c).before 4 t d = iblk m c 4 t :=
  before0_4_of m (dats m 0 c) (A_eq m c 4) (after0_4 m c) t d
/-- Window 5's buffer after a point is its block. -/
theorem after0_5 (c : Dev nD) (t : Fin cfg0.N) : (dats m 0 c).after 5 t = iblk m c 5 t := by dsimp only [dats]
/-- Window 5's buffer before a point is its block. -/
theorem before0_5 (c : Dev nD) (t : Fin cfg0.N) (d) : (dats m 0 c).before 5 t d = iblk m c 5 t :=
  before0_5_of m (dats m 0 c) (A_eq m c 5) (after0_5 m c) t d
/-- Window 6's buffer after a point is its block. -/
theorem after0_6 (c : Dev nD) (t : Fin cfg0.N) : (dats m 0 c).after 6 t = iblk m c 6 t := by dsimp only [dats]
/-- Window 6's buffer before a point is its block. -/
theorem before0_6 (c : Dev nD) (t : Fin cfg0.N) (d) : (dats m 0 c).before 6 t d = iblk m c 6 t :=
  before0_6_of m (dats m 0 c) (A_eq m c 6) (after0_6 m c) t d
/-- Window 7's buffer after a point is its block. -/
theorem after0_7 (c : Dev nD) (t : Fin cfg0.N) : (dats m 0 c).after 7 t = iblk m c 7 t := by dsimp only [dats]
/-- Window 7's buffer before a point is its block. -/
theorem before0_7 (c : Dev nD) (t : Fin cfg0.N) (d) : (dats m 0 c).before 7 t d = iblk m c 7 t :=
  before0_7_of m (dats m 0 c) (A_eq m c 7) (after0_7 m c) t d
/-- Window 8's buffer after a point is what its row block computes. -/
theorem after0_8 (c : Dev nD) (t : Fin cfg0.N) : (dats m 0 c).after 8 t = oC (V m c main_arg0) (V m c main_v0) t.val := by dsimp only [dats]
/-- Window 9's buffer after a point is what its row block computes. -/
theorem after0_9 (c : Dev nD) (t : Fin cfg0.N) : (dats m 0 c).after 9 t = oS (V m c main_arg0) (V m c main_v0) t.val := by dsimp only [dats]
/-- Window 10's buffer after a point is what its row block computes. -/
theorem after0_10 (c : Dev nD) (t : Fin cfg0.N) : (dats m 0 c).after 10 t = oQ (V m c main_arg0) (V m c main_v0) (V m c main_arg2) (V m c main_v1) (V m c main_arg4) (V m c main_arg5) t.val := by dsimp only [dats]
/-- Window 11's buffer after a point is what its row block computes. -/
theorem after0_11 (c : Dev nD) (t : Fin cfg0.N) : (dats m 0 c).after 11 t = oK (V m c main_arg0) (V m c main_v0) (V m c main_arg2) (V m c main_v1) (V m c main_arg4) (V m c main_arg5) (V m c main_v4) t.val := by dsimp only [dats]
/-- Window 12's buffer after a point is what its row block computes. -/
theorem after0_12 (c : Dev nD) (t : Fin cfg0.N) : (dats m 0 c).after 12 t = oV (V m c main_arg0) (V m c main_v0) (V m c main_arg2) (V m c main_v1) (V m c main_v7) t.val := by dsimp only [dats]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [after0_0, after0_1, after0_2, after0_3, after0_4, after0_5, after0_6, after0_7, after0_8, after0_9, after0_10, after0_11, after0_12]
  unfold oC oS oQ oK oV
  rw [iblk0, iblk1, iblk2, iblk3, iblk4, iblk5, iblk6, iblk7]
  rw [show (dats m 0 c).owesAt () t.succ = (dats m 0 c).owesAt () t.castSucc from rfl]
  rw [show (dats m 0 c).Φ t.succ = iprop(iprop(owns (c : Thread nD τ) scM0_0 fullShare (wV (V m c main_arg2)) ∗ (∃ d, owns (c : Thread nD τ) scM0_1 fullShare d) ∗ (∃ d, owns (c : Thread nD τ) scM0_2 fullShare d)) ∗ (∃ r, prngReg c r)) from rfl]
  have hN : t.val < 30 := lt_of_lt_of_eq t.isLt (show cfg0.N = 30 from N_0)
  by_cases h0 : t.val % 30 = 0
  · refine (BIClass.sep_mono (show (dats m 0 c).Φ t.castSucc ⊢ Pipeline.ΦA spec0 c from PhiS_weaken m c t.val) (Idealize.SL.BI.Entails.refl _)).trans ?_
    rw [PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun_A c (grid0.coords t) _ _ _ _ _ _ _ _ _ _ _ _ _ _ _ _ _ _ _ _ _ _ _ _ _ _ _ _ _ _ _ _ ((hcond0_0 t).mpr h0) (bX0 (V m c main_arg0) t.val) (V m c main_v0) (V m c main_arg2) (V m c main_v1) (bX4 (V m c main_arg4) t.val) (bX4 (V m c main_arg5) t.val) (V m c main_v4) (V m c main_v7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [show (dats m 0 c).Φ t.castSucc = PhiS m c (t.val - 1 + 1) from congrArg (PhiS m c) (show t.val = t.val - 1 + 1 by omega)]
    unfold PhiS
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun_B c (grid0.coords t) _ _ _ _ _ _ _ _ _ _ _ _ _ _ _ _ _ _ _ _ _ _ _ _ _ _ _ _ _ _ _ _ (fun h => h0 ((hcond0_0 t).mp h)) (bX0 (V m c main_arg0) t.val) (V m c main_v0) (V m c main_arg2) (V m c main_v1) (bX4 (V m c main_arg4) t.val) (bX4 (V m c main_arg5) t.val) (V m c main_v4) (V m c main_v7) (wV (V m c main_arg2)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The proof data's invariant before the first point is the scratch at anything. -/
theorem hin (c : Dev nD) : Pipeline.ΦA spec0 c ⊢ (dats m 0 c).Φ 0 := by
  rw [show (dats m 0 c).Φ 0 = Pipeline.ΦA spec0 c from rfl]

/-- After the last point the scratch is given back at anything. -/
theorem hout (c : Dev nD) : (dats m 0 c).Φ (Fin.last cfg0.N) ⊢ Pipeline.ΦA spec0 c := PhiS_weaken m c (Fin.last cfg0.N).val

set_option backward.isDefEq.respectTransparency.types false in
/-- The launch: the arrays end as the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-! ## The arrays the host reshapes -/

/-- The gain before attention, reshaped to one row. -/
theorem V_main_v0 (c : Dev nD) : V m c main_v0 = shapeCast S1x4608 (m ((c : Thread nD τ).loc main_arg1)) shapeCasts_S4608_S1x4608 := by
  show StableHlo.after hostOps0 _ (Proc.devRef .tc main_v0) = _
  after_results
  rfl

/-- The weight's scales, reshaped to one row. -/
theorem V_main_v1 (c : Dev nD) : V m c main_v1 = shapeCast S1x2048 (m ((c : Thread nD τ).loc main_arg3)) shapeCasts_S2048_S1x2048 := by
  show StableHlo.after hostOps0 _ (Proc.devRef .tc main_v1) = _
  after_results
  rfl

/-- A value per head, repeated over the head's 128 columns, as one row. -/
def rep4 (v : Vec F S4 .f32) : Vec F S1x512 .f32 :=
  shapeCast S1x512 (shapeCast S512 (broadcastInDim S4x128 ![0] bcast_S4_S4x128_0 v) shapeCasts_S4x128_S512) shapeCasts_S512_S1x512

/-- The keys' scales, repeated over their heads. -/
theorem V_main_v4 (c : Dev nD) : V m c main_v4 = rep4 (m ((c : Thread nD τ).loc main_arg6)) := by
  show StableHlo.after hostOps0 _ (Proc.devRef .tc main_v4) = _
  after_results
  rfl

/-- The values' scales, repeated over their heads. -/
theorem V_main_v7 (c : Dev nD) : V m c main_v7 = rep4 (m ((c : Thread nD τ).loc main_arg7)) := by
  show StableHlo.after hostOps0 _ (Proc.devRef .tc main_v7) = _
  after_results
  rfl

/-! ## The results -/

/-- A place of window 8's block is this place of its array. -/
theorem emb8 (t : Fin cfg0.N) (j : S512x4608.Idx) (i : S15360x4608.Idx) (h0 : (i 0).val = 512 * t.val + (j 0).val) (h1 : (i 1).val = (j 1).val) :
    ((cfg0.win 8).blk t).view.emb j = i := by
  obtain ⟨e0, e1⟩ := idx8 t
  funext a; apply Fin.ext
  match a with
  | ⟨0, _⟩ => show win0_8.index t (0 : Fin 2) * 512 + 1 * (j 0).val = (i 0).val; omega
  | ⟨1, _⟩ => show win0_8.index t (1 : Fin 2) * 4608 + 1 * (j 1).val = (i 1).val; omega

/-- Every place of window 8's array is in a block that is written back. -/
theorem cover8 (i : S15360x4608.Idx) : ∃ t : Fin cfg0.N, (cfg0.win 8).flush t = true ∧ i ∈ ((cfg0.win 8).blk t).view.set := by
  have h0 : (i 0).val < 15360 := (i 0).isLt
  have ht : (i 0).val / 512 < cfg0.N := by rw [show cfg0.N = 30 from N_0]; omega
  generalize htt : (⟨(i 0).val / 512, ht⟩ : Fin cfg0.N) = t
  have htv : t.val = (i 0).val / 512 := by rw [← htt]
  refine ⟨t, flush0_8 _, ?_⟩
  have h := ((cfg0.win 8).blk t).view.emb_mem_set (ix2 ⟨(i 0).val % 512, Nat.mod_lt _ (by decide)⟩ (i 1) : S512x4608.Idx)
  rwa [emb8 t _ i (by show (i 0).val = 512 * t.val + (i 0).val % 512; omega) rfl] at h

/-- Window 8's array after the run. -/
theorem arrAt8 (c : Dev nD) : (dats m 0 c).arrAt 8 cfg0.N = GC (V m c main_arg0) (V m c main_v0) := by
  refine Dat.arrAt_eq_of_cover (dats m 0 c) 8 (GC (V m c main_arg0) (V m c main_v0)) ?_ cover8
  intro t ht
  have hN : t.val < 30 := lt_of_lt_of_eq t.isLt (show cfg0.N = 30 from N_0)
  show (cfg0.win 8).cut (grid0.coords t) ((dats m 0 c).after 8 t) = _
  rw [after0_8]
  funext j
  have h0 : (j 0).val < 512 := (j 0).isLt
  show oC (V m c main_arg0) (V m c main_v0) t.val j = GC (V m c main_arg0) (V m c main_v0) (((cfg0.win 8).blk t).view.emb j)
  rw [emb8 t j (ix2 ⟨512 * t.val + (j 0).val, by omega⟩ (j 1)) rfl rfl]
  unfold GC
  rw [show ((ix2 ⟨512 * t.val + (j 0).val, by omega⟩ (j 1) : S15360x4608.Idx) 0).val / 512 = t.val from by
    show (512 * t.val + (j 0).val) / 512 = _; omega]
  congr 1
  funext a; apply Fin.ext
  match a with
  | ⟨0, _⟩ => show (j 0).val = (512 * t.val + (j 0).val) % 512; omega
  | ⟨1, _⟩ => rfl

/-- A place of window 9's block is this place of its array. -/
theorem emb9 (t : Fin cfg0.N) (j : S1x1x512.Idx) (i : S30x1x512.Idx) (h0 : (i 0).val = t.val) (h1 : (i 1).val = (j 1).val) (h2 : (i 2).val = (j 2).val) :
    ((cfg0.win 9).blk t).view.emb j = i := by
  obtain ⟨e0, e1, e2⟩ := idx9 t
  have hj : (j 0).val < 1 := (j 0).isLt
  funext a; apply Fin.ext
  match a with
  | ⟨0, _⟩ => show win0_9.index t (0 : Fin 3) * 1 + 1 * (j 0).val = (i 0).val; omega
  | ⟨1, _⟩ => show win0_9.index t (1 : Fin 3) * 1 + 1 * (j 1).val = (i 1).val; omega
  | ⟨2, _⟩ => show win0_9.index t (2 : Fin 3) * 512 + 1 * (j 2).val = (i 2).val; omega

/-- Every place of window 9's array is in a block that is written back. -/
theorem cover9 (i : S30x1x512.Idx) : ∃ t : Fin cfg0.N, (cfg0.win 9).flush t = true ∧ i ∈ ((cfg0.win 9).blk t).view.set := by
  have h0 : (i 0).val < 30 := (i 0).isLt
  have ht : (i 0).val < cfg0.N := by rw [show cfg0.N = 30 from N_0]; omega
  generalize htt : (⟨(i 0).val, ht⟩ : Fin cfg0.N) = t
  have htv : t.val = (i 0).val := by rw [← htt]
  refine ⟨t, flush0_9 _, ?_⟩
  have h := ((cfg0.win 9).blk t).view.emb_mem_set (ix3 (0 : Fin 1) (i 1) (i 2) : S1x1x512.Idx)
  rwa [emb9 t _ i htv.symm rfl rfl] at h

/-- Window 9's array after the run. -/
theorem arrAt9 (c : Dev nD) : (dats m 0 c).arrAt 9 cfg0.N = GS (V m c main_arg0) (V m c main_v0) := by
  refine Dat.arrAt_eq_of_cover (dats m 0 c) 9 (GS (V m c main_arg0) (V m c main_v0)) ?_ cover9
  intro t ht
  have hN : t.val < 30 := lt_of_lt_of_eq t.isLt (show cfg0.N = 30 from N_0)
  show (cfg0.win 9).cut (grid0.coords t) ((dats m 0 c).after 9 t) = _
  rw [after0_9]
  funext j
  have h0 : (j 0).val < 1 := (j 0).isLt
  show oS (V m c main_arg0) (V m c main_v0) t.val j = GS (V m c main_arg0) (V m c main_v0) (((cfg0.win 9).blk t).view.emb j)
  rw [emb9 t j (ix3 ⟨t.val, by omega⟩ (j 1) (j 2)) rfl rfl rfl]
  unfold GS
  show oS (V m c main_arg0) (V m c main_v0) t.val j = oS (V m c main_arg0) (V m c main_v0) t.val (ix3 (0 : Fin 1) (j 1) (j 2))
  congr 1
  funext a; apply Fin.ext
  match a with
  | ⟨0, _⟩ => show (j 0).val = 0; omega
  | ⟨1, _⟩ => rfl
  | ⟨2, _⟩ => rfl

/-- A place of window 10's block is this place of its array. -/
theorem emb10 (t : Fin cfg0.N) (j : S512x1024.Idx) (i : S15360x1024.Idx) (h0 : (i 0).val = 512 * t.val + (j 0).val) (h1 : (i 1).val = (j 1).val) :
    ((cfg0.win 10).blk t).view.emb j = i := by
  obtain ⟨e0, e1⟩ := idx10 t
  funext a; apply Fin.ext
  match a with
  | ⟨0, _⟩ => show win0_10.index t (0 : Fin 2) * 512 + 1 * (j 0).val = (i 0).val; omega
  | ⟨1, _⟩ => show win0_10.index t (1 : Fin 2) * 1024 + 1 * (j 1).val = (i 1).val; omega

/-- Every place of window 10's array is in a block that is written back. -/
theorem cover10 (i : S15360x1024.Idx) : ∃ t : Fin cfg0.N, (cfg0.win 10).flush t = true ∧ i ∈ ((cfg0.win 10).blk t).view.set := by
  have h0 : (i 0).val < 15360 := (i 0).isLt
  have ht : (i 0).val / 512 < cfg0.N := by rw [show cfg0.N = 30 from N_0]; omega
  generalize htt : (⟨(i 0).val / 512, ht⟩ : Fin cfg0.N) = t
  have htv : t.val = (i 0).val / 512 := by rw [← htt]
  refine ⟨t, flush0_10 _, ?_⟩
  have h := ((cfg0.win 10).blk t).view.emb_mem_set (ix2 ⟨(i 0).val % 512, Nat.mod_lt _ (by decide)⟩ (i 1) : S512x1024.Idx)
  rwa [emb10 t _ i (by show (i 0).val = 512 * t.val + (i 0).val % 512; omega) rfl] at h

/-- Window 10's array after the run. -/
theorem arrAt10 (c : Dev nD) : (dats m 0 c).arrAt 10 cfg0.N = GQ (V m c main_arg0) (V m c main_v0) (V m c main_arg2) (V m c main_v1) (V m c main_arg4) (V m c main_arg5) := by
  refine Dat.arrAt_eq_of_cover (dats m 0 c) 10 (GQ (V m c main_arg0) (V m c main_v0) (V m c main_arg2) (V m c main_v1) (V m c main_arg4) (V m c main_arg5)) ?_ cover10
  intro t ht
  have hN : t.val < 30 := lt_of_lt_of_eq t.isLt (show cfg0.N = 30 from N_0)
  show (cfg0.win 10).cut (grid0.coords t) ((dats m 0 c).after 10 t) = _
  rw [after0_10]
  funext j
  have h0 : (j 0).val < 512 := (j 0).isLt
  show oQ (V m c main_arg0) (V m c main_v0) (V m c main_arg2) (V m c main_v1) (V m c main_arg4) (V m c main_arg5) t.val j = GQ (V m c main_arg0) (V m c main_v0) (V m c main_arg2) (V m c main_v1) (V m c main_arg4) (V m c main_arg5) (((cfg0.win 10).blk t).view.emb j)
  rw [emb10 t j (ix2 ⟨512 * t.val + (j 0).val, by omega⟩ (j 1)) rfl rfl]
  unfold GQ
  rw [show ((ix2 ⟨512 * t.val + (j 0).val, by omega⟩ (j 1) : S15360x1024.Idx) 0).val / 512 = t.val from by
    show (512 * t.val + (j 0).val) / 512 = _; omega]
  congr 1
  funext a; apply Fin.ext
  match a with
  | ⟨0, _⟩ => show (j 0).val = (512 * t.val + (j 0).val) % 512; omega
  | ⟨1, _⟩ => rfl

/-- A place of window 11's block is this place of its array. -/
theorem emb11 (t : Fin cfg0.N) (j : S512x512.Idx) (i : S15360x512.Idx) (h0 : (i 0).val = 512 * t.val + (j 0).val) (h1 : (i 1).val = (j 1).val) :
    ((cfg0.win 11).blk t).view.emb j = i := by
  obtain ⟨e0, e1⟩ := idx11 t
  funext a; apply Fin.ext
  match a with
  | ⟨0, _⟩ => show win0_11.index t (0 : Fin 2) * 512 + 1 * (j 0).val = (i 0).val; omega
  | ⟨1, _⟩ => show win0_11.index t (1 : Fin 2) * 512 + 1 * (j 1).val = (i 1).val; omega

/-- Every place of window 11's array is in a block that is written back. -/
theorem cover11 (i : S15360x512.Idx) : ∃ t : Fin cfg0.N, (cfg0.win 11).flush t = true ∧ i ∈ ((cfg0.win 11).blk t).view.set := by
  have h0 : (i 0).val < 15360 := (i 0).isLt
  have ht : (i 0).val / 512 < cfg0.N := by rw [show cfg0.N = 30 from N_0]; omega
  generalize htt : (⟨(i 0).val / 512, ht⟩ : Fin cfg0.N) = t
  have htv : t.val = (i 0).val / 512 := by rw [← htt]
  refine ⟨t, flush0_11 _, ?_⟩
  have h := ((cfg0.win 11).blk t).view.emb_mem_set (ix2 ⟨(i 0).val % 512, Nat.mod_lt _ (by decide)⟩ (i 1) : S512x512.Idx)
  rwa [emb11 t _ i (by show (i 0).val = 512 * t.val + (i 0).val % 512; omega) rfl] at h

/-- Window 11's array after the run. -/
theorem arrAt11 (c : Dev nD) : (dats m 0 c).arrAt 11 cfg0.N = GK (V m c main_arg0) (V m c main_v0) (V m c main_arg2) (V m c main_v1) (V m c main_arg4) (V m c main_arg5) (V m c main_v4) := by
  refine Dat.arrAt_eq_of_cover (dats m 0 c) 11 (GK (V m c main_arg0) (V m c main_v0) (V m c main_arg2) (V m c main_v1) (V m c main_arg4) (V m c main_arg5) (V m c main_v4)) ?_ cover11
  intro t ht
  have hN : t.val < 30 := lt_of_lt_of_eq t.isLt (show cfg0.N = 30 from N_0)
  show (cfg0.win 11).cut (grid0.coords t) ((dats m 0 c).after 11 t) = _
  rw [after0_11]
  funext j
  have h0 : (j 0).val < 512 := (j 0).isLt
  show oK (V m c main_arg0) (V m c main_v0) (V m c main_arg2) (V m c main_v1) (V m c main_arg4) (V m c main_arg5) (V m c main_v4) t.val j = GK (V m c main_arg0) (V m c main_v0) (V m c main_arg2) (V m c main_v1) (V m c main_arg4) (V m c main_arg5) (V m c main_v4) (((cfg0.win 11).blk t).view.emb j)
  rw [emb11 t j (ix2 ⟨512 * t.val + (j 0).val, by omega⟩ (j 1)) rfl rfl]
  unfold GK
  rw [show ((ix2 ⟨512 * t.val + (j 0).val, by omega⟩ (j 1) : S15360x512.Idx) 0).val / 512 = t.val from by
    show (512 * t.val + (j 0).val) / 512 = _; omega]
  congr 1
  funext a; apply Fin.ext
  match a with
  | ⟨0, _⟩ => show (j 0).val = (512 * t.val + (j 0).val) % 512; omega
  | ⟨1, _⟩ => rfl

/-- A place of window 12's block is this place of its array. -/
theorem emb12 (t : Fin cfg0.N) (j : S512x512.Idx) (i : S15360x512.Idx) (h0 : (i 0).val = 512 * t.val + (j 0).val) (h1 : (i 1).val = (j 1).val) :
    ((cfg0.win 12).blk t).view.emb j = i := by
  obtain ⟨e0, e1⟩ := idx12 t
  funext a; apply Fin.ext
  match a with
  | ⟨0, _⟩ => show win0_12.index t (0 : Fin 2) * 512 + 1 * (j 0).val = (i 0).val; omega
  | ⟨1, _⟩ => show win0_12.index t (1 : Fin 2) * 512 + 1 * (j 1).val = (i 1).val; omega

/-- Every place of window 12's array is in a block that is written back. -/
theorem cover12 (i : S15360x512.Idx) : ∃ t : Fin cfg0.N, (cfg0.win 12).flush t = true ∧ i ∈ ((cfg0.win 12).blk t).view.set := by
  have h0 : (i 0).val < 15360 := (i 0).isLt
  have ht : (i 0).val / 512 < cfg0.N := by rw [show cfg0.N = 30 from N_0]; omega
  generalize htt : (⟨(i 0).val / 512, ht⟩ : Fin cfg0.N) = t
  have htv : t.val = (i 0).val / 512 := by rw [← htt]
  refine ⟨t, flush0_12 _, ?_⟩
  have h := ((cfg0.win 12).blk t).view.emb_mem_set (ix2 ⟨(i 0).val % 512, Nat.mod_lt _ (by decide)⟩ (i 1) : S512x512.Idx)
  rwa [emb12 t _ i (by show (i 0).val = 512 * t.val + (i 0).val % 512; omega) rfl] at h

/-- Window 12's array after the run. -/
theorem arrAt12 (c : Dev nD) : (dats m 0 c).arrAt 12 cfg0.N = GV (V m c main_arg0) (V m c main_v0) (V m c main_arg2) (V m c main_v1) (V m c main_v7) := by
  refine Dat.arrAt_eq_of_cover (dats m 0 c) 12 (GV (V m c main_arg0) (V m c main_v0) (V m c main_arg2) (V m c main_v1) (V m c main_v7)) ?_ cover12
  intro t ht
  have hN : t.val < 30 := lt_of_lt_of_eq t.isLt (show cfg0.N = 30 from N_0)
  show (cfg0.win 12).cut (grid0.coords t) ((dats m 0 c).after 12 t) = _
  rw [after0_12]
  funext j
  have h0 : (j 0).val < 512 := (j 0).isLt
  show oV (V m c main_arg0) (V m c main_v0) (V m c main_arg2) (V m c main_v1) (V m c main_v7) t.val j = GV (V m c main_arg0) (V m c main_v0) (V m c main_arg2) (V m c main_v1) (V m c main_v7) (((cfg0.win 12).blk t).view.emb j)
  rw [emb12 t j (ix2 ⟨512 * t.val + (j 0).val, by omega⟩ (j 1)) rfl rfl]
  unfold GV
  rw [show ((ix2 ⟨512 * t.val + (j 0).val, by omega⟩ (j 1) : S15360x512.Idx) 0).val / 512 = t.val from by
    show (512 * t.val + (j 0).val) / 512 = _; omega]
  congr 1
  funext a; apply Fin.ext
  match a with
  | ⟨0, _⟩ => show (j 0).val = (512 * t.val + (j 0).val) % 512; omega
  | ⟨1, _⟩ => rfl

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_main_quiescent m ρ))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The run with the result arrays as functions of the arrays the kernel stages. -/
theorem run_values : θ_run defs (onTc (τ := τ) (main (F := F))) ⟨m, fun _ => 0, ρ⟩ (fun r => ∀ c : Dev nD,
      r.2.mem ((c : Thread nD τ).loc main_v8_0) = GC (V m c main_arg0) (V m c main_v0)
      ∧ r.2.mem ((c : Thread nD τ).loc main_v8_1) = GS (V m c main_arg0) (V m c main_v0)
      ∧ r.2.mem ((c : Thread nD τ).loc main_v8_2) = GQ (V m c main_arg0) (V m c main_v0) (V m c main_arg2) (V m c main_v1) (V m c main_arg4) (V m c main_arg5)
      ∧ r.2.mem ((c : Thread nD τ).loc main_v8_3) = GK (V m c main_arg0) (V m c main_v0) (V m c main_arg2) (V m c main_v1) (V m c main_arg4) (V m c main_arg5) (V m c main_v4)
      ∧ r.2.mem ((c : Thread nD τ).loc main_v8_4) = GV (V m c main_arg0) (V m c main_v0) (V m c main_arg2) (V m c main_v1) (V m c main_v7)) :=
  (θ_run defs _ _).mono (fun _ h c => ⟨((h.1 c).1 8).trans (arrAt8 m c), ((h.1 c).1 9).trans (arrAt9 m c), ((h.1 c).1 10).trans (arrAt10 m c), ((h.1 c).1 11).trans (arrAt11 m c), ((h.1 c).1 12).trans (arrAt12 m c)⟩) (run_main_quiescent m ρ)

end Cert.QkvIdeal.Gen
-- ==== Proof.QkvBits.lean ====
/-
  The frame of the query/key/value kernel over machine words, from the frame that is proved of its text at every float instance.
-/
module

public import proofs.«01_k».proof.Defs
public import proofs.«01_k».proof.Proof.Gen.Qkv
public import proofs.«01_k».proof.Proof.QkvFrame

@[expose] public section

noncomputable section

namespace Cert.Qkv

open Idealize.ShloMosaic Idealize.ShloMosaic.TcCoe Idealize.SL.Sem

variable {F : FTy → Type} [FloatOps F]

/-- The two printings of the kernel's body are one function. -/
theorem body_eq : cc0_qkv (F := F) = Cert.QkvIdeal.cc0_qkv (F := F) := rfl

set_option maxHeartbeats 4000000 in
/-- The two printings' tables of bodies are one table. -/
theorem defs₀_eq : defs₀ (F := F) = Cert.QkvIdeal.defs₀ (F := F) := by
  unfold defs₀ Cert.QkvIdeal.defs₀
  congr 1
  funext l x
  match l, x with
  | ⟨0, _⟩, (t, s) => rfl
  | ⟨_ + 1, h⟩, _ => exact absurd h (Nat.not_lt.2 (Nat.le_add_left _ _))

/-- The two printings' host programs are one program. -/
theorem main_eq : main (F := F) = Cert.QkvIdeal.main (F := F) := rfl

/-- The two printings' tables of labels are one table. -/
theorem defs_eq : defs (F := F) = Cert.QkvIdeal.defs (F := F) := by
  show Pipeline.defs pcfgs defs₀ = Pipeline.defs Cert.QkvIdeal.pcfgs Cert.QkvIdeal.defs₀
  rw [defs₀_eq]; rfl

/-- The frame over machine words: the program is, word for word, the one whose frame is proved at every float instance. -/
theorem quiescent : Cert.quiescent_Qkv (hQkv := Cert.Qkv.Gen.facts) := by
  intro m g _
  have h := Cert.QkvIdeal.Gen.frame (F := Bits) m g
  rw [← defs_eq, ← main_eq] at h
  exact h

end Cert.Qkv

end
-- ==== Proof.QkvRefResult.lean ====
/-
  What the reference of the query/key/value step computes: its result arrays as functions of its arguments.
-/
module

public import proofs.«01_k».proof.Proof.Gen.QkvRefIdeal.Frame
public import Idealize.ShloMosaic.Lib.Claim
public import Idealize.ShloMosaic.Lib.Pipeline.Value

@[expose] public section

set_option maxRecDepth 16384

noncomputable section

namespace Cert.QkvRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The results as functions of the arguments -/

/-- The reference's codes. -/
def R0 (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32) : Vec F S15360x4608 .i8 :=
  k0_pay6 x0 x1

/-- The reference's row scales. -/
def R1 (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32) : Vec F S30x1x512 .f32 :=
  k0_pay14 (k0_pay5 x0 x1)

/-- The reference's queries. -/
def R2 (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32) : Vec F S15360x1024 .bf16 :=
  k0_pay1 (k0_pay12 (k0_pay7 x0 x1 x2) (k0_pay8 x3) (k0_pay9 x0 x1) x4 x5)

/-- The reference's key codes. -/
def R3 (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32) : Vec F S15360x512 .fp8e4m3 :=
  k0_pay2 (k0_pay13 (k0_pay7 x0 x1 x2) (k0_pay8 x3) (k0_pay9 x0 x1) x4 x5) x6

/-- The reference's value codes. -/
def R4 (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32) : Vec F S15360x512 .fp8e4m3 :=
  k0_pay3 (k0_pay11 (k0_pay7 x0 x1 x2) (k0_pay8 x3) (k0_pay9 x0 x1)) x7

/-- One zero offset, as a function. -/
theorem hz1 : (![0] : Fin 1 → Nat) = fun _ => 0 := funext fun a => by fin_cases a <;> rfl

/-- Two zero offsets, as a function. -/
theorem hz2 : (![0, 0] : Fin 2 → Nat) = fun _ => 0 := funext fun a => by fin_cases a <;> rfl

/-- Three zero offsets, as a function. -/
theorem hz3 : (![0, 0, 0] : Fin 3 → Nat) = fun _ => 0 := funext fun a => by fin_cases a <;> rfl

section Out
variable (x0 : Vec F S15360x4608 .bf16) (x1 : Vec F S4608 .f32) (x2 : Vec F S4608x2048 .i8) (x3 : Vec F S2048 .f32) (x4 : Vec F S15360x64 .f32) (x5 : Vec F S15360x64 .f32) (x6 : Vec F S4 .f32) (x7 : Vec F S4 .f32)

/-- The body's store into window 8: one store of the whole array, of loads of whole arrays. -/
theorem out8_eq : out0_8 x0 x1 x2 x3 x4 x5 x6 x7 = R0 x0 x1 x2 x3 x4 x5 x6 x7 := by
  unfold out0_8
  rw [View.canon_unit_zero hz2]
  simp only [View.ld_unit_zero (S := S4) hz1, View.ld_unit_zero (S := S2048) hz1, View.ld_unit_zero (S := S4608) hz1, View.ld_unit_zero (S := S4608x2048) hz2, View.ld_unit_zero (S := S15360x64) hz2, View.ld_unit_zero (S := S15360x4608) hz2]
  rfl

/-- The body's store into window 9: one store of the whole array, of loads of whole arrays. -/
theorem out9_eq : out0_9 x0 x1 x2 x3 x4 x5 x6 x7 = R1 x0 x1 x2 x3 x4 x5 x6 x7 := by
  unfold out0_9
  rw [View.canon_unit_zero hz3]
  simp only [View.ld_unit_zero (S := S4) hz1, View.ld_unit_zero (S := S2048) hz1, View.ld_unit_zero (S := S4608) hz1, View.ld_unit_zero (S := S4608x2048) hz2, View.ld_unit_zero (S := S15360x64) hz2, View.ld_unit_zero (S := S15360x4608) hz2]
  rfl

/-- The body's store into window 10: one store of the whole array, of loads of whole arrays. -/
theorem out10_eq : out0_10 x0 x1 x2 x3 x4 x5 x6 x7 = R2 x0 x1 x2 x3 x4 x5 x6 x7 := by
  unfold out0_10 k0_pay15 k0_pay16 k0_pay17
  rw [View.canon_unit_zero hz2]
  simp only [View.ld_unit_zero (S := S4) hz1, View.ld_unit_zero (S := S2048) hz1, View.ld_unit_zero (S := S4608) hz1, View.ld_unit_zero (S := S4608x2048) hz2, View.ld_unit_zero (S := S15360x64) hz2, View.ld_unit_zero (S := S15360x4608) hz2]
  rfl

/-- The body's store into window 11: one store of the whole array, of loads of whole arrays. -/
theorem out11_eq : out0_11 x0 x1 x2 x3 x4 x5 x6 x7 = R3 x0 x1 x2 x3 x4 x5 x6 x7 := by
  unfold out0_11 k0_pay15 k0_pay16 k0_pay17
  rw [View.canon_unit_zero hz2]
  simp only [View.ld_unit_zero (S := S4) hz1, View.ld_unit_zero (S := S2048) hz1, View.ld_unit_zero (S := S4608) hz1, View.ld_unit_zero (S := S4608x2048) hz2, View.ld_unit_zero (S := S15360x64) hz2, View.ld_unit_zero (S := S15360x4608) hz2]
  rfl

/-- The body's store into window 12: one store of the whole array, of loads of whole arrays. -/
theorem out12_eq : out0_12 x0 x1 x2 x3 x4 x5 x6 x7 = R4 x0 x1 x2 x3 x4 x5 x6 x7 := by
  unfold out0_12 k0_pay15 k0_pay16 k0_pay17
  rw [View.canon_unit_zero hz2]
  simp only [View.ld_unit_zero (S := S4) hz1, View.ld_unit_zero (S := S2048) hz1, View.ld_unit_zero (S := S4608) hz1, View.ld_unit_zero (S := S4608x2048) hz2, View.ld_unit_zero (S := S15360x64) hz2, View.ld_unit_zero (S := S15360x4608) hz2]
  rfl

end Out

variable (m : (ℓ : Loc nD τ sig) → Buf (Elt F) ℓ) (ρ : Dev nD → PrngReg)

/-! ## Every window's block is its whole array -/

/-- Window 0: its block index is zero on every axis. -/
theorem idx_zero0 : ∀ t : Fin cfg0.N, win0_0.index t (0 : Fin 2) = 0 ∧ win0_0.index t (1 : Fin 2) = 0 := (by decide +kernel : ∀ t : Fin grid0.N, _)

/-- Window 0: an index of its block is the same index of its array. -/
theorem emb0 (t : Fin cfg0.N) (j : S15360x4608.Idx) : ((cfg0.win 0).blk t).view.emb j = j := by
  obtain ⟨e0, e1⟩ := idx_zero0 t
  funext a; apply Fin.ext
  match a with
  | ⟨0, _⟩ => show win0_0.index t (0 : Fin 2) * 15360 + 1 * (j 0).val = (j 0).val; omega
  | ⟨1, _⟩ => show win0_0.index t (1 : Fin 2) * 4608 + 1 * (j 1).val = (j 1).val; omega

/-- Window 0: its block is its array. -/
theorem iblk0_eq (c : Dev nD) (t : Fin cfg0.N) : iblk m c 0 t = V m c main_arg0 := by
  funext j; show V m c main_arg0 (((cfg0.win 0).blk t).view.emb j) = V m c main_arg0 j; rw [emb0]

/-- Window 1: its block index is zero on every axis. -/
theorem idx_zero1 : ∀ t : Fin cfg0.N, win0_1.index t (0 : Fin 1) = 0 := (by decide +kernel : ∀ t : Fin grid0.N, _)

/-- Window 1: an index of its block is the same index of its array. -/
theorem emb1 (t : Fin cfg0.N) (j : S4608.Idx) : ((cfg0.win 1).blk t).view.emb j = j := by
  obtain e0 := idx_zero1 t
  funext a; apply Fin.ext
  match a with
  | ⟨0, _⟩ => show win0_1.index t (0 : Fin 1) * 4608 + 1 * (j 0).val = (j 0).val; omega

/-- Window 1: its block is its array. -/
theorem iblk1_eq (c : Dev nD) (t : Fin cfg0.N) : iblk m c 1 t = V m c main_arg1 := by
  funext j; show V m c main_arg1 (((cfg0.win 1).blk t).view.emb j) = V m c main_arg1 j; rw [emb1]

/-- Window 2: its block index is zero on every axis. -/
theorem idx_zero2 : ∀ t : Fin cfg0.N, win0_2.index t (0 : Fin 2) = 0 ∧ win0_2.index t (1 : Fin 2) = 0 := (by decide +kernel : ∀ t : Fin grid0.N, _)

/-- Window 2: an index of its block is the same index of its array. -/
theorem emb2 (t : Fin cfg0.N) (j : S4608x2048.Idx) : ((cfg0.win 2).blk t).view.emb j = j := by
  obtain ⟨e0, e1⟩ := idx_zero2 t
  funext a; apply Fin.ext
  match a with
  | ⟨0, _⟩ => show win0_2.index t (0 : Fin 2) * 4608 + 1 * (j 0).val = (j 0).val; omega
  | ⟨1, _⟩ => show win0_2.index t (1 : Fin 2) * 2048 + 1 * (j 1).val = (j 1).val; omega

/-- Window 2: its block is its array. -/
theorem iblk2_eq (c : Dev nD) (t : Fin cfg0.N) : iblk m c 2 t = V m c main_arg2 := by
  funext j; show V m c main_arg2 (((cfg0.win 2).blk t).view.emb j) = V m c main_arg2 j; rw [emb2]

/-- Window 3: its block index is zero on every axis. -/
theorem idx_zero3 : ∀ t : Fin cfg0.N, win0_3.index t (0 : Fin 1) = 0 := (by decide +kernel : ∀ t : Fin grid0.N, _)

/-- Window 3: an index of its block is the same index of its array. -/
theorem emb3 (t : Fin cfg0.N) (j : S2048.Idx) : ((cfg0.win 3).blk t).view.emb j = j := by
  obtain e0 := idx_zero3 t
  funext a; apply Fin.ext
  match a with
  | ⟨0, _⟩ => show win0_3.index t (0 : Fin 1) * 2048 + 1 * (j 0).val = (j 0).val; omega

/-- Window 3: its block is its array. -/
theorem iblk3_eq (c : Dev nD) (t : Fin cfg0.N) : iblk m c 3 t = V m c main_arg3 := by
  funext j; show V m c main_arg3 (((cfg0.win 3).blk t).view.emb j) = V m c main_arg3 j; rw [emb3]

/-- Window 4: its block index is zero on every axis. -/
theorem idx_zero4 : ∀ t : Fin cfg0.N, win0_4.index t (0 : Fin 2) = 0 ∧ win0_4.index t (1 : Fin 2) = 0 := (by decide +kernel : ∀ t : Fin grid0.N, _)

/-- Window 4: an index of its block is the same index of its array. -/
theorem emb4 (t : Fin cfg0.N) (j : S15360x64.Idx) : ((cfg0.win 4).blk t).view.emb j = j := by
  obtain ⟨e0, e1⟩ := idx_zero4 t
  funext a; apply Fin.ext
  match a with
  | ⟨0, _⟩ => show win0_4.index t (0 : Fin 2) * 15360 + 1 * (j 0).val = (j 0).val; omega
  | ⟨1, _⟩ => show win0_4.index t (1 : Fin 2) * 64 + 1 * (j 1).val = (j 1).val; omega

/-- Window 4: its block is its array. -/
theorem iblk4_eq (c : Dev nD) (t : Fin cfg0.N) : iblk m c 4 t = V m c main_arg4 := by
  funext j; show V m c main_arg4 (((cfg0.win 4).blk t).view.emb j) = V m c main_arg4 j; rw [emb4]

/-- Window 5: its block index is zero on every axis. -/
theorem idx_zero5 : ∀ t : Fin cfg0.N, win0_5.index t (0 : Fin 2) = 0 ∧ win0_5.index t (1 : Fin 2) = 0 := (by decide +kernel : ∀ t : Fin grid0.N, _)

/-- Window 5: an index of its block is the same index of its array. -/
theorem emb5 (t : Fin cfg0.N) (j : S15360x64.Idx) : ((cfg0.win 5).blk t).view.emb j = j := by
  obtain ⟨e0, e1⟩ := idx_zero5 t
  funext a; apply Fin.ext
  match a with
  | ⟨0, _⟩ => show win0_5.index t (0 : Fin 2) * 15360 + 1 * (j 0).val = (j 0).val; omega
  | ⟨1, _⟩ => show win0_5.index t (1 : Fin 2) * 64 + 1 * (j 1).val = (j 1).val; omega

/-- Window 5: its block is its array. -/
theorem iblk5_eq (c : Dev nD) (t : Fin cfg0.N) : iblk m c 5 t = V m c main_arg5 := by
  funext j; show V m c main_arg5 (((cfg0.win 5).blk t).view.emb j) = V m c main_arg5 j; rw [emb5]

/-- Window 6: its block index is zero on every axis. -/
theorem idx_zero6 : ∀ t : Fin cfg0.N, win0_6.index t (0 : Fin 1) = 0 := (by decide +kernel : ∀ t : Fin grid0.N, _)

/-- Window 6: an index of its block is the same index of its array. -/
theorem emb6 (t : Fin cfg0.N) (j : S4.Idx) : ((cfg0.win 6).blk t).view.emb j = j := by
  obtain e0 := idx_zero6 t
  funext a; apply Fin.ext
  match a with
  | ⟨0, _⟩ => show win0_6.index t (0 : Fin 1) * 4 + 1 * (j 0).val = (j 0).val; omega

/-- Window 6: its block is its array. -/
theorem iblk6_eq (c : Dev nD) (t : Fin cfg0.N) : iblk m c 6 t = V m c main_arg6 := by
  funext j; show V m c main_arg6 (((cfg0.win 6).blk t).view.emb j) = V m c main_arg6 j; rw [emb6]

/-- Window 7: its block index is zero on every axis. -/
theorem idx_zero7 : ∀ t : Fin cfg0.N, win0_7.index t (0 : Fin 1) = 0 := (by decide +kernel : ∀ t : Fin grid0.N, _)

/-- Window 7: an index of its block is the same index of its array. -/
theorem emb7 (t : Fin cfg0.N) (j : S4.Idx) : ((cfg0.win 7).blk t).view.emb j = j := by
  obtain e0 := idx_zero7 t
  funext a; apply Fin.ext
  match a with
  | ⟨0, _⟩ => show win0_7.index t (0 : Fin 1) * 4 + 1 * (j 0).val = (j 0).val; omega

/-- Window 7: its block is its array. -/
theorem iblk7_eq (c : Dev nD) (t : Fin cfg0.N) : iblk m c 7 t = V m c main_arg7 := by
  funext j; show V m c main_arg7 (((cfg0.win 7).blk t).view.emb j) = V m c main_arg7 j; rw [emb7]

/-- Window 8: its block index is zero on every axis. -/
theorem idx_zero8 : ∀ t : Fin cfg0.N, win0_8.index t (0 : Fin 2) = 0 ∧ win0_8.index t (1 : Fin 2) = 0 := (by decide +kernel : ∀ t : Fin grid0.N, _)

/-- Window 8: an index of its block is the same index of its array. -/
theorem emb8 (t : Fin cfg0.N) (j : S15360x4608.Idx) : ((cfg0.win 8).blk t).view.emb j = j := by
  obtain ⟨e0, e1⟩ := idx_zero8 t
  funext a; apply Fin.ext
  match a with
  | ⟨0, _⟩ => show win0_8.index t (0 : Fin 2) * 15360 + 1 * (j 0).val = (j 0).val; omega
  | ⟨1, _⟩ => show win0_8.index t (1 : Fin 2) * 4608 + 1 * (j 1).val = (j 1).val; omega

/-- Window 9: its block index is zero on every axis. -/
theorem idx_zero9 : ∀ t : Fin cfg0.N, win0_9.index t (0 : Fin 3) = 0 ∧ win0_9.index t (1 : Fin 3) = 0 ∧ win0_9.index t (2 : Fin 3) = 0 := (by decide +kernel : ∀ t : Fin grid0.N, _)

/-- Window 9: an index of its block is the same index of its array. -/
theorem emb9 (t : Fin cfg0.N) (j : S30x1x512.Idx) : ((cfg0.win 9).blk t).view.emb j = j := by
  obtain ⟨e0, e1, e2⟩ := idx_zero9 t
  funext a; apply Fin.ext
  match a with
  | ⟨0, _⟩ => show win0_9.index t (0 : Fin 3) * 30 + 1 * (j 0).val = (j 0).val; omega
  | ⟨1, _⟩ => show win0_9.index t (1 : Fin 3) * 1 + 1 * (j 1).val = (j 1).val; omega
  | ⟨2, _⟩ => show win0_9.index t (2 : Fin 3) * 512 + 1 * (j 2).val = (j 2).val; omega

/-- Window 10: its block index is zero on every axis. -/
theorem idx_zero10 : ∀ t : Fin cfg0.N, win0_10.index t (0 : Fin 2) = 0 ∧ win0_10.index t (1 : Fin 2) = 0 := (by decide +kernel : ∀ t : Fin grid0.N, _)

/-- Window 10: an index of its block is the same index of its array. -/
theorem emb10 (t : Fin cfg0.N) (j : S15360x1024.Idx) : ((cfg0.win 10).blk t).view.emb j = j := by
  obtain ⟨e0, e1⟩ := idx_zero10 t
  funext a; apply Fin.ext
  match a with
  | ⟨0, _⟩ => show win0_10.index t (0 : Fin 2) * 15360 + 1 * (j 0).val = (j 0).val; omega
  | ⟨1, _⟩ => show win0_10.index t (1 : Fin 2) * 1024 + 1 * (j 1).val = (j 1).val; omega

/-- Window 11: its block index is zero on every axis. -/
theorem idx_zero11 : ∀ t : Fin cfg0.N, win0_11.index t (0 : Fin 2) = 0 ∧ win0_11.index t (1 : Fin 2) = 0 := (by decide +kernel : ∀ t : Fin grid0.N, _)

/-- Window 11: an index of its block is the same index of its array. -/
theorem emb11 (t : Fin cfg0.N) (j : S15360x512.Idx) : ((cfg0.win 11).blk t).view.emb j = j := by
  obtain ⟨e0, e1⟩ := idx_zero11 t
  funext a; apply Fin.ext
  match a with
  | ⟨0, _⟩ => show win0_11.index t (0 : Fin 2) * 15360 + 1 * (j 0).val = (j 0).val; omega
  | ⟨1, _⟩ => show win0_11.index t (1 : Fin 2) * 512 + 1 * (j 1).val = (j 1).val; omega

/-- Window 12: its block index is zero on every axis. -/
theorem idx_zero12 : ∀ t : Fin cfg0.N, win0_12.index t (0 : Fin 2) = 0 ∧ win0_12.index t (1 : Fin 2) = 0 := (by decide +kernel : ∀ t : Fin grid0.N, _)

/-- Window 12: an index of its block is the same index of its array. -/
theorem emb12 (t : Fin cfg0.N) (j : S15360x512.Idx) : ((cfg0.win 12).blk t).view.emb j = j := by
  obtain ⟨e0, e1⟩ := idx_zero12 t
  funext a; apply Fin.ext
  match a with
  | ⟨0, _⟩ => show win0_12.index t (0 : Fin 2) * 15360 + 1 * (j 0).val = (j 0).val; omega
  | ⟨1, _⟩ => show win0_12.index t (1 : Fin 2) * 512 + 1 * (j 1).val = (j 1).val; omega

/-- Result array 0 after the run. -/
theorem final8 (c : Dev nD) : (dats m 0 c).arrAt 8 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (R0 (V m c main_arg0) (V m c main_arg1) (V m c main_arg2) (V m c main_arg3) (V m c main_arg4) (V m c main_arg5) (V m c main_arg6) (V m c main_arg7))
    (fun t _ => by
      show (cfg0.win 8).cut (grid0.coords t) ((dats m 0 c).after 8 t) = _
      rw [after0_8, out8_eq, iblk0_eq, iblk1_eq, iblk2_eq, iblk3_eq, iblk4_eq, iblk5_eq, iblk6_eq, iblk7_eq]
      funext j
      show R0 (V m c main_arg0) (V m c main_arg1) (V m c main_arg2) (V m c main_arg3) (V m c main_arg4) (V m c main_arg5) (V m c main_arg6) (V m c main_arg7) j = R0 (V m c main_arg0) (V m c main_arg1) (V m c main_arg2) (V m c main_arg3) (V m c main_arg4) (V m c main_arg5) (V m c main_arg6) (V m c main_arg7) (((cfg0.win 8).blk t).view.emb j)
      rw [emb8])
    (fun i => ⟨(⟨0, by decide⟩ : Fin cfg0.N), flush0_8 _, by
      have h := ((cfg0.win 8).blk (⟨0, by decide⟩ : Fin cfg0.N)).view.emb_mem_set i; rwa [emb8] at h⟩)).trans
    (by rw [V_main_arg0, V_main_arg1, V_main_arg2, V_main_arg3, V_main_arg4, V_main_arg5, V_main_arg6, V_main_arg7])

/-- Result array 1 after the run. -/
theorem final9 (c : Dev nD) : (dats m 0 c).arrAt 9 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (R1 (V m c main_arg0) (V m c main_arg1) (V m c main_arg2) (V m c main_arg3) (V m c main_arg4) (V m c main_arg5) (V m c main_arg6) (V m c main_arg7))
    (fun t _ => by
      show (cfg0.win 9).cut (grid0.coords t) ((dats m 0 c).after 9 t) = _
      rw [after0_9, out9_eq, iblk0_eq, iblk1_eq, iblk2_eq, iblk3_eq, iblk4_eq, iblk5_eq, iblk6_eq, iblk7_eq]
      funext j
      show R1 (V m c main_arg0) (V m c main_arg1) (V m c main_arg2) (V m c main_arg3) (V m c main_arg4) (V m c main_arg5) (V m c main_arg6) (V m c main_arg7) j = R1 (V m c main_arg0) (V m c main_arg1) (V m c main_arg2) (V m c main_arg3) (V m c main_arg4) (V m c main_arg5) (V m c main_arg6) (V m c main_arg7) (((cfg0.win 9).blk t).view.emb j)
      rw [emb9])
    (fun i => ⟨(⟨0, by decide⟩ : Fin cfg0.N), flush0_9 _, by
      have h := ((cfg0.win 9).blk (⟨0, by decide⟩ : Fin cfg0.N)).view.emb_mem_set i; rwa [emb9] at h⟩)).trans
    (by rw [V_main_arg0, V_main_arg1, V_main_arg2, V_main_arg3, V_main_arg4, V_main_arg5, V_main_arg6, V_main_arg7])

/-- Result array 2 after the run. -/
theorem final10 (c : Dev nD) : (dats m 0 c).arrAt 10 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (R2 (V m c main_arg0) (V m c main_arg1) (V m c main_arg2) (V m c main_arg3) (V m c main_arg4) (V m c main_arg5) (V m c main_arg6) (V m c main_arg7))
    (fun t _ => by
      show (cfg0.win 10).cut (grid0.coords t) ((dats m 0 c).after 10 t) = _
      rw [after0_10, out10_eq, iblk0_eq, iblk1_eq, iblk2_eq, iblk3_eq, iblk4_eq, iblk5_eq, iblk6_eq, iblk7_eq]
      funext j
      show R2 (V m c main_arg0) (V m c main_arg1) (V m c main_arg2) (V m c main_arg3) (V m c main_arg4) (V m c main_arg5) (V m c main_arg6) (V m c main_arg7) j = R2 (V m c main_arg0) (V m c main_arg1) (V m c main_arg2) (V m c main_arg3) (V m c main_arg4) (V m c main_arg5) (V m c main_arg6) (V m c main_arg7) (((cfg0.win 10).blk t).view.emb j)
      rw [emb10])
    (fun i => ⟨(⟨0, by decide⟩ : Fin cfg0.N), flush0_10 _, by
      have h := ((cfg0.win 10).blk (⟨0, by decide⟩ : Fin cfg0.N)).view.emb_mem_set i; rwa [emb10] at h⟩)).trans
    (by rw [V_main_arg0, V_main_arg1, V_main_arg2, V_main_arg3, V_main_arg4, V_main_arg5, V_main_arg6, V_main_arg7])

/-- Result array 3 after the run. -/
theorem final11 (c : Dev nD) : (dats m 0 c).arrAt 11 cfg0.N = R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (R3 (V m c main_arg0) (V m c main_arg1) (V m c main_arg2) (V m c main_arg3) (V m c main_arg4) (V m c main_arg5) (V m c main_arg6) (V m c main_arg7))
    (fun t _ => by
      show (cfg0.win 11).cut (grid0.coords t) ((dats m 0 c).after 11 t) = _
      rw [after0_11, out11_eq, iblk0_eq, iblk1_eq, iblk2_eq, iblk3_eq, iblk4_eq, iblk5_eq, iblk6_eq, iblk7_eq]
      funext j
      show R3 (V m c main_arg0) (V m c main_arg1) (V m c main_arg2) (V m c main_arg3) (V m c main_arg4) (V m c main_arg5) (V m c main_arg6) (V m c main_arg7) j = R3 (V m c main_arg0) (V m c main_arg1) (V m c main_arg2) (V m c main_arg3) (V m c main_arg4) (V m c main_arg5) (V m c main_arg6) (V m c main_arg7) (((cfg0.win 11).blk t).view.emb j)
      rw [emb11])
    (fun i => ⟨(⟨0, by decide⟩ : Fin cfg0.N), flush0_11 _, by
      have h := ((cfg0.win 11).blk (⟨0, by decide⟩ : Fin cfg0.N)).view.emb_mem_set i; rwa [emb11] at h⟩)).trans
    (by rw [V_main_arg0, V_main_arg1, V_main_arg2, V_main_arg3, V_main_arg4, V_main_arg5, V_main_arg6, V_main_arg7])

/-- Result array 4 after the run. -/
theorem final12 (c : Dev nD) : (dats m 0 c).arrAt 12 cfg0.N = R4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 12 (R4 (V m c main_arg0) (V m c main_arg1) (V m c main_arg2) (V m c main_arg3) (V m c main_arg4) (V m c main_arg5) (V m c main_arg6) (V m c main_arg7))
    (fun t _ => by
      show (cfg0.win 12).cut (grid0.coords t) ((dats m 0 c).after 12 t) = _
      rw [after0_12, out12_eq, iblk0_eq, iblk1_eq, iblk2_eq, iblk3_eq, iblk4_eq, iblk5_eq, iblk6_eq, iblk7_eq]
      funext j
      show R4 (V m c main_arg0) (V m c main_arg1) (V m c main_arg2) (V m c main_arg3) (V m c main_arg4) (V m c main_arg5) (V m c main_arg6) (V m c main_arg7) j = R4 (V m c main_arg0) (V m c main_arg1) (V m c main_arg2) (V m c main_arg3) (V m c main_arg4) (V m c main_arg5) (V m c main_arg6) (V m c main_arg7) (((cfg0.win 12).blk t).view.emb j)
      rw [emb12])
    (fun i => ⟨(⟨0, by decide⟩ : Fin cfg0.N), flush0_12 _, by
      have h := ((cfg0.win 12).blk (⟨0, by decide⟩ : Fin cfg0.N)).view.emb_mem_set i; rwa [emb12] at h⟩)).trans
    (by rw [V_main_arg0, V_main_arg1, V_main_arg2, V_main_arg3, V_main_arg4, V_main_arg5, V_main_arg6, V_main_arg7])

/-- Every run ends with the result arrays at these functions of the arguments. -/
theorem run_values : θ_run defs (onTc (τ := τ) (main (F := F))) ⟨m, fun _ => 0, ρ⟩ fun r => ∀ c : Dev nD,
      r.2.mem ((c : Thread nD τ).loc main_v0_0) = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = R3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_4) = R4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (θ_run defs _ _).mono (fun _ h c => ⟨((h c).1 8).trans (final8 m c), ((h c).1 9).trans (final9 m c), ((h c).1 10).trans (final10 m c), ((h c).1 11).trans (final11 m c), ((h c).1 12).trans (final12 m c)⟩) (run_main m ρ)

end Cert.QkvRefIdeal.Gen

end
-- ==== Proof.RopeMath.lean ====
/-
  The scalar mathematics of eight-bit codes that stay floating-point numbers, and of a rotation of a head's two halves.
-/
module

public import proofs.«01_k».proof.Proof.QuantMath
public import proofs.«01_k».proof.Proof.UnitMath

@[expose] public section

noncomputable section

namespace Cert.Math

open Idealize.ShloMosaic

section Scalars
variable {F : FTy → Type} [FloatOps F]

/-- A code as the floating-point number it is before the conversion to eight bits. -/
def codeFlt (x : F .f32) : F .f32 :=
  FloatOps.minimumf (FloatOps.ofBits .f32 0x42FE0000#32) (FloatOps.maximumf (FloatOps.ofBits .f32 0xC2FE0000#32) (FloatOps.roundeven x))

/-- An element of a cache: divided by the cache's scale, clipped to the format's range and rounded to it. -/
def cacheCode (y s : F .f32) : F .fp8e4m3 :=
  FloatOps.truncf .fp8e4m3 (by decide) (FloatOps.minimumf (FloatOps.ofBits .f32 0x43E00000#32)
    (FloatOps.maximumf (FloatOps.ofBits .f32 0xC3E00000#32) (FloatOps.divf y s)))

/-- A query element: scaled and rounded to bfloat16. -/
def queryOf (y : F .f32) : F .bf16 := FloatOps.truncf .bf16 (by decide) (FloatOps.mulf y (FloatOps.ofBits .f32 0x3DAAAAAB#32))

/-- An element of the first half of a rotated head, from the two halves' elements `a` and `b`, the cosine and the sine. -/
def ropeLo (a b c s : F .f32) : F .f32 := FloatOps.subf (FloatOps.mulf a c) (FloatOps.mulf b s)

/-- The same with the sine's sign changed first. -/
def ropeLo' (a b c s : F .f32) : F .f32 := FloatOps.addf (FloatOps.mulf a c) (FloatOps.mulf b (FloatOps.subf (FloatOps.ofBits .f32 0x00000000#32) s))

/-- An element of the second half of a rotated head. -/
def ropeHi (a b c s : F .f32) : F .f32 := FloatOps.addf (FloatOps.mulf b c) (FloatOps.mulf a s)

end Scalars

/-- The word `0xC2FE0000` is `-127`. -/
theorem ofBits_neg127 : Ideal.ofBits .f32 0xC2FE0000#32 = ((-127 : ℝ) : EReal) := by
  simp [Ideal.ofBits, Ideal.ieee, -EReal.coe_mul, -EReal.coe_neg]; norm_num

/-- A code that is still a floating-point number is an integer from -127 to 127. -/
theorem codeFlt_int (x : Ideal .f32) : ∃ n : ℤ, -127 ≤ n ∧ n ≤ 127 ∧ codeFlt (F := Ideal) x = (((n : ℝ) : EReal) : Ideal .f32) := by
  have e : codeFlt (F := Ideal) x = (min ((127 : ℝ) : EReal) (max ((-127 : ℝ) : EReal) (Ideal.liftRound Ideal.roundHalfEven x)) : EReal) := by
    rw [← ofBits_127, ← ofBits_neg127]
    rfl
  rw [e]
  induction x using EReal.rec with
  | bot =>
    refine ⟨-127, by norm_num, by norm_num, ?_⟩
    rw [Ideal.liftRound_bot, max_eq_left bot_le, min_eq_right (EReal.coe_le_coe_iff.mpr (by norm_num))]
    norm_num
  | top =>
    refine ⟨127, by norm_num, by norm_num, ?_⟩
    rw [Ideal.liftRound_top, max_eq_right le_top, min_eq_left le_top]
    norm_num
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- Converting such a code to eight bits and back loses nothing. -/
theorem sitofp_toCode (x : Ideal .f32) : (FloatOps.sitofp (F := Ideal) .bf16 (toCode (F := Ideal) x) : EReal) = codeFlt (F := Ideal) x := by
  obtain ⟨n, h1, h2, e⟩ := codeFlt_int x
  have hc : toCode (F := Ideal) x = BitVec.ofInt 8 n := by
    show Ideal.fptosi 8 (codeFlt (F := Ideal) x) = _
    rw [e]
    unfold Ideal.fptosi
    have h : Ideal.toIntClamped (-(2 ^ (8 - 1) : Nat)) ((2 ^ (8 - 1) : Nat) - 1) ((n : ℝ) : EReal) = n := by
      show max (-(2 ^ (8 - 1) : Nat) : Int) (min ((2 ^ (8 - 1) : Nat) - 1 : Int) (if 0 ≤ (n : ℝ) then ⌊(n : ℝ)⌋ else ⌈(n : ℝ)⌉)) = n
      rw [Int.floor_intCast, Int.ceil_intCast, ite_self]
      norm_num
      omega
    rw [h]
  rw [hc, e]
  show (((BitVec.ofInt 8 n).toInt : ℝ) : EReal) = ((n : ℝ) : EReal)
  rw [BitVec.toInt_ofInt, Int.bmod_eq_of_le (by norm_num; omega) (by norm_num; omega)]

/-- A code reached by the reciprocal of a scale that is not zero, still a floating-point number, is the code reached by division. -/
theorem codeFlt_mul_eq (y s : Ideal .f32) (hs : (s : EReal) ≠ 0) :
    (codeFlt (F := Ideal) (FloatOps.mulf y (FloatOps.divf (FloatOps.ofBits .f32 0x3F800000#32) s)) : EReal) = FloatOps.sitofp (F := Ideal) .bf16 (codeDiv (F := Ideal) y s) := by
  rw [← codeMul_eq y s hs]
  exact (sitofp_toCode _).symm

/-- Changing the sine's sign first gives the same rotation. -/
theorem ropeLo_eq (a b c s : Ideal .f32) : ropeLo' (F := Ideal) a b c s = ropeLo a b c s := by
  show (a : EReal) * c + (b : EReal) * (Ideal.ofBits .f32 0x00000000#32 - s) = (a : EReal) * c - (b : EReal) * s
  rw [Ideal.ofBits_zero_f32, zero_sub, mul_neg, sub_eq_add_neg]

/-! ## A head's halves -/

/-- Lane `j` of the first half. -/
def lo (j : Fin 64) : Fin 128 := ⟨j.val, by omega⟩

/-- Lane `j` of the second half. -/
def hi (j : Fin 64) : Fin 128 := ⟨64 + j.val, by omega⟩

/-- Every lane is in one of the halves. -/
theorem lane_cases (l : Fin 128) : ∃ j : Fin 64, l = lo j ∨ l = hi j := by
  by_cases h : l.val < 64
  · exact ⟨⟨l.val, h⟩, .inl (Fin.ext rfl)⟩
  · exact ⟨⟨l.val - 64, by omega⟩, .inr (Fin.ext (by show l.val = 64 + (l.val - 64); omega))⟩

/-- Lane `l` of head `h` of the sixteen heads side by side. -/
def colW (h : Fin 16) (l : Fin 128) : Fin 2048 := ⟨128 * h.val + l.val, by omega⟩

/-- Lane `l` of head `h` of the eight query heads side by side. -/
def col8 (h : Fin 8) (l : Fin 128) : Fin 1024 := ⟨128 * h.val + l.val, by omega⟩

/-- Lane `l` of head `h` of the four key or value heads side by side. -/
def col4 (h : Fin 4) (l : Fin 128) : Fin 512 := ⟨128 * h.val + l.val, by omega⟩

/-- Query head `h` among the sixteen. -/
def qh (h : Fin 8) : Fin 16 := ⟨h.val, by omega⟩

/-- Key head `h` among the sixteen. -/
def kh (h : Fin 4) : Fin 16 := ⟨8 + h.val, by omega⟩

/-- Value head `h` among the sixteen. -/
def vh (h : Fin 4) : Fin 16 := ⟨12 + h.val, by omega⟩

/-- A rotated head, from the head's lanes, the cosines and the sines. -/
def ropeAt {F : FTy → Type} [FloatOps F] (f : Fin 128 → F .f32) (c s : Fin 64 → F .f32) (l : Fin 128) : F .f32 :=
  if h : l.val < 64 then ropeLo (f (lo ⟨l.val, h⟩)) (f (hi ⟨l.val, h⟩)) (c ⟨l.val, h⟩) (s ⟨l.val, h⟩)
  else ropeHi (f (lo ⟨l.val - 64, by omega⟩)) (f (hi ⟨l.val - 64, by omega⟩)) (c ⟨l.val - 64, by omega⟩) (s ⟨l.val - 64, by omega⟩)

/-- It in the first half, -/
theorem ropeAt_lo {F : FTy → Type} [FloatOps F] (f : Fin 128 → F .f32) (c s : Fin 64 → F .f32) (j : Fin 64) :
    ropeAt f c s (lo j) = ropeLo (f (lo j)) (f (hi j)) (c j) (s j) := by
  unfold ropeAt
  rw [dif_pos (show (lo j).val < 64 from j.isLt)]
  rfl

/-- and in the second. -/
theorem ropeAt_hi {F : FTy → Type} [FloatOps F] (f : Fin 128 → F .f32) (c s : Fin 64 → F .f32) (j : Fin 64) :
    ropeAt f c s (hi j) = ropeHi (f (lo j)) (f (hi j)) (c j) (s j) := by
  have e : (⟨(hi j).val - 64, by have := (hi j).isLt; omega⟩ : Fin 64) = j := Fin.ext (by show 64 + j.val - 64 = j.val; omega)
  unfold ropeAt
  rw [dif_neg (show ¬ (hi j).val < 64 by show ¬ 64 + j.val < 64; omega)]
  rw [e]

end Cert.Math

end
-- ==== Proof.QkvRead.lean ====
/-
  What the payloads of the query/key/value step's two loops are at an index, over any float instance.
-/
module

public import proofs.«01_k».proof.Proof.QuantMath
public import proofs.«01_k».proof.Proof.UnitMath
public import proofs.«01_k».proof.Proof.RopeMath
public import proofs.«01_k».proof.Proof.QkvFrame
public import Idealize.ShloMosaic.Lib.Pointwise

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

variable {F : FTy → Type} [FloatOps F]

/-- A value per row, read along the row of a chunk. -/
theorem col_apply {α : Type} (s : S16x1.Idx → α) (r : Fin 16) (n : Fin 4608) :
    broadcastTo S16x4608 s broadcasts_S16x1_S16x4608 (ix2 r n) = s (ix2 r 0) := by
  pointwise

/-- A value per row, read in every lane. -/
theorem lane_apply {α : Type} (s : S16x1.Idx → α) (r : Fin 16) (l : Fin 128) :
    broadcastTo S16x128 s broadcasts_S16x1_S16x128 (ix2 r l) = s (ix2 r 0) := by
  pointwise

/-- A value per column, read down the column of a chunk. -/
theorem row_apply {α : Type} (s : S1x4608.Idx → α) (r : Fin 16) (n : Fin 4608) :
    broadcastTo S16x4608 s broadcasts_S1x4608_S16x4608 (ix2 r n) = s (ix2 0 n) := by
  pointwise

/-- A value per row of a chunk, as a column. -/
theorem cast_apply {α : Type} (s : S16.Idx → α) (r : Fin 16) :
    shapeCast S16x1 s shapeCasts_S16_S16x1 (ix2 r 0) = s (ix1 r) := by
  pointwise

/-- A chunk of the layer's input as 32-bit values. -/
def x16 (x : Vec F S16x4608 .bf16) : FVec F S16x4608 .f32 := extf .f32 x bitsLt_bf16_f32

/-- The sums of squares of a chunk's rows. -/
def sq16 (f : FVec F S16x4608 .f32) : FVec F S16 .f32 :=
  multiReduction .add [1] S16 (mulf f f) 0x00000000#32 reduces_S16x4608_S16 (.inl rfl) rfl

/-- A normalised chunk at an index. -/
theorem nrm_apply (x : Vec F S16x4608 .bf16) (g : Vec F S1x4608 .f32) (r : Fin 16) (n : Fin 4608) :
    k0_pay2 x g (ix2 r n) = unitMul (x16 x (ix2 r n)) (sq16 (x16 x) (ix1 r)) (g (ix2 0 n)) := by
  have e1 := col_apply (divf (broadcast S16x1 (Scalar.ofBits .f32 0x3F800000#32)) (sqrt (addf (divf (shapeCast S16x1 (sq16 (x16 x)) shapeCasts_S16_S16x1) (broadcast S16x1 (Scalar.ofBits .f32 0x45900000#32)))
    (broadcast S16x1 (Scalar.ofBits .f32 0x358637BD#32))))) r n
  have e2 := row_apply (addf (broadcast S1x4608 (Scalar.ofBits .f32 0x3F800000#32)) g) r n
  rw [← cast_apply (sq16 (x16 x)) r]
  unfold k0_pay2
  rw [shapeCast_self]
  exact congrArg₂ (fun a b => FloatOps.mulf (FloatOps.mulf (x16 x (ix2 r n)) a) b) e1 e2

/-- A row's scale. -/
theorem scale_apply (x : Vec F S16x4608 .bf16) (g : Vec F S1x4608 .f32) (r : Fin 16) :
    k0_pay3 x g (ix2 r 0) = scaleOf (multiReduction .maximumf [1] S16 (absf (k0_pay2 x g)) 0xFF800000#32 reduces_S16x4608_S16 (.inl rfl) rfl (ix1 r)) := by
  rw [← cast_apply (multiReduction .maximumf [1] S16 (absf (k0_pay2 x g)) 0xFF800000#32 reduces_S16x4608_S16 (.inl rfl) rfl) r]
  rfl

/-- A code, before the conversion to eight bits. -/
theorem code_apply (x : Vec F S16x4608 .bf16) (g : Vec F S1x4608 .f32) (r : Fin 16) (n : Fin 4608) :
    k0_pay6 (Scalar.ofBits .f32 0x42FE0000#32) (k0_pay4 x g) (ix2 r n)
      = FloatOps.truncf .bf16 (by decide) (codeFlt (FloatOps.mulf (k0_pay2 x g (ix2 r n)) (FloatOps.divf (FloatOps.ofBits .f32 0x3F800000#32) (k0_pay3 x g (ix2 r 0))))) := by
  have e := col_apply (divf (broadcast S16x1 (Scalar.ofBits .f32 0x3F800000#32)) (k0_pay3 x g)) r n
  unfold k0_pay6
  rw [shapeCast_self]
  exact congrArg (fun a => FloatOps.truncf .bf16 (by decide) (codeFlt (FloatOps.mulf (k0_pay2 x g (ix2 r n)) a))) e

/-- A row's scale, in every lane. -/
theorem lanes_apply (s : FVec F S16x1 .f32) (r : Fin 16) (l : Fin 128) : k0_pay7 s (ix2 r l) = s (ix2 r 0) := by
  unfold k0_pay7
  rw [shapeCast_self, shapeCast_self]
  exact lane_apply _ r l

/-- The first lane of the row scales. -/
theorem col0_apply (sc : Vec F S512x128 .f32) (r : Fin 512) : col0 sc (ix2 r 0) = sc (ix2 r 0) := by
  unfold col0 VecWindow.window
  congr 1
  funext a
  apply Fin.ext
  fin_cases a
  · show 0 + 1 * r.val = r.val
    omega
  · rfl

/-- A block's column of scales as a row. -/
theorem back_apply (v : Vec F S512x1 .f32) (r : Fin 512) : k0_pay9 v (ix3 0 0 r) = v (ix2 r 0) := by
  unfold k0_pay9
  rw [shapeCast_self]
  pointwise

/-- Row `q` of chunk `k` of a block. -/
def row512 (k : Fin 32) (q : Fin 16) : Fin 512 := ⟨16 * k.val + q.val, by omega⟩

/-- A row of a chunk, as the loop computes it, is that row. -/
theorem row512_eq (k : Fin 32) (q : Fin 16) : (⟨(16 * k.val + q.val) % 512, Nat.mod_lt _ (by decide)⟩ : Fin 512) = row512 k q :=
  Fin.ext (by show (16 * k.val + q.val) % 512 = 16 * k.val + q.val; omega)

/-- An element of a chunk of rows. -/
theorem rows16_apply {e : EltTy} (d : Vec F S512x4608 e) (k : Fin 32) (q : Fin 16) (n : Fin 4608) : rows16 d k.val (ix2 q n) = d (ix2 (row512 k q) n) := by
  rw [← row512_eq]; rfl

/-- Chunk `k` holds rows `16 k` on, and within it row `q`. -/
theorem chunk_eq (k : Fin 32) (q : Fin 16) : (row512 k q).val / 16 = k.val ∧ (⟨(row512 k q).val % 16, Nat.mod_lt _ (by omega)⟩ : Fin 16) = q := by
  have hk := k.isLt
  have hq := q.isLt
  refine ⟨by show (16 * k.val + q.val) / 16 = k.val; omega, Fin.ext (by show (16 * k.val + q.val) % 16 = q.val; omega)⟩

/-- The converted weight at an index. -/
theorem wV_apply (w : Vec F S4608x2048 .i8) (k : Fin 4608) (n : Fin 2048) : wV w (ix2 k n) = FloatOps.sitofp .bf16 (w (ix2 k n)) := by
  have e : (⟨(256 * (k.val / 256) + k.val % 256) % 4608, Nat.mod_lt _ (by decide)⟩ : Fin 4608) = k := Fin.ext (by show (256 * (k.val / 256) + k.val % 256) % 4608 = k.val; omega)
  show k0_pay5 (rows256 w (k.val / 256)) (ix2 (⟨k.val % 256, _⟩ : Fin 256) n) = _
  unfold k0_pay5
  rw [shapeCast_self]
  exact congrArg (fun k => FloatOps.sitofp .bf16 (w (ix2 k n))) e

section Block
variable (x0 : Vec F S512x4608 .bf16) (x1 : Vec F S1x4608 .f32)

/-- A block's codes, before the conversion to eight bits, at an index. -/
theorem cV_apply (k : Fin 32) (q : Fin 16) (n : Fin 4608) : cV x0 x1 (ix2 (row512 k q) n)
    = FloatOps.truncf .bf16 (by decide) (codeFlt (FloatOps.mulf (k0_pay2 (rows16 x0 k.val) x1 (ix2 q n))
        (FloatOps.divf (FloatOps.ofBits .f32 0x3F800000#32) (k0_pay3 (rows16 x0 k.val) x1 (ix2 q 0))))) := by
  obtain ⟨e1, e2⟩ := chunk_eq k q
  rw [← code_apply]
  show cC x0 x1 ((row512 k q).val / 16) (ix2 (⟨(row512 k q).val % 16, _⟩ : Fin 16) n) = _
  rw [e1, e2]
  rfl

/-- A block's row scales at an index. -/
theorem rS_apply (k : Fin 32) (q : Fin 16) : rS x0 x1 (ix2 (row512 k q) 0) = k0_pay3 (rows16 x0 k.val) x1 (ix2 q 0) := by
  obtain ⟨e1, e2⟩ := chunk_eq k q
  unfold rS
  rw [col0_apply, ← lanes_apply (k0_pay3 (rows16 x0 k.val) x1) q 0]
  show sC x0 x1 ((row512 k q).val / 16) (ix2 (⟨(row512 k q).val % 16, _⟩ : Fin 16) (0 : Fin 128)) = _
  rw [e1, e2]
  rfl

/-- A block's codes. -/
theorem fC_apply (r : Fin 512) (n : Fin 4608) : fC x0 x1 (ix2 r n) = FloatOps.fptosi 8 (cV x0 x1 (ix2 r n)) := rfl

/-- A block's row scales as the kernel stores them. -/
theorem fS_apply (r : Fin 512) : fS x0 x1 (ix3 0 0 r) = rS x0 x1 (ix2 r 0) := back_apply _ r

end Block

end Cert.QkvIdeal.Gen

end
-- ==== Proof.QkvHeads.lean ====
/-
  The heads of the query/key/value step at an index: each of the sixteen is the same function of its columns of the product.
-/
module

public import proofs.«01_k».proof.Proof.QuantMath
public import proofs.«01_k».proof.Proof.UnitMath
public import proofs.«01_k».proof.Proof.RopeMath
public import proofs.«01_k».proof.Proof.QkvFrame
public import Idealize.ShloMosaic.Lib.Pointwise
public import Idealize.ShloMosaic.Lib.KernelVsHost

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

variable {F : FTy → Type} [FloatOps F]

/-! ## Layout -/

/-- A value per row, read along the row of a head. -/
theorem hcol_apply {α : Type} (s : S512x1.Idx → α) (r : Fin 512) (l : Fin 128) :
    broadcastTo S512x128 s broadcasts_S512x1_S512x128 (ix2 r l) = s (ix2 r 0) := by
  pointwise

/-- A value per column, read down the column of a head. -/
theorem hrow_apply {α : Type} (s : S1x128.Idx → α) (r : Fin 512) (l : Fin 128) :
    broadcastTo S512x128 s broadcasts_S1x128_S512x128 (ix2 r l) = s (ix2 0 l) := by
  pointwise

/-- Two halves side by side, in the first -/
theorem catLo_apply {α : Type} (a b : S512x64.Idx → α) (r : Fin 512) (j : Fin 64) :
    concatenate S512x128 1 [⟨S512x64, a⟩, ⟨S512x64, b⟩] concatenates_S512x64_S512x64_S512x128_d1 (ix2 r (lo j)) = a (ix2 r j) := by
  refine concatenate_pair_apply_left 1 a b _ (ix2 r (lo j)) rfl (ix2 r j) fun a => ?_
  match a with
  | ⟨0, _⟩ => rfl
  | ⟨1, _⟩ => rfl

/-- and in the second. -/
theorem catHi_apply {α : Type} (a b : S512x64.Idx → α) (r : Fin 512) (j : Fin 64) :
    concatenate S512x128 1 [⟨S512x64, a⟩, ⟨S512x64, b⟩] concatenates_S512x64_S512x64_S512x128_d1 (ix2 r (hi j)) = b (ix2 r j) := by
  refine concatenate_pair_apply_right 1 a b _ (ix2 r (hi j)) rfl rfl (ix2 r j) (fun a ha => ?_) (by show j.val + 64 = 64 + j.val; omega)
  match a, ha with
  | ⟨0, _⟩, _ => rfl
  | ⟨1, _⟩, ha => exact absurd rfl ha

/-- A rotation by half a head, in the first half -/
theorem rotLo_apply {α : Type} (y : S512x128.Idx → α) (r : Fin 512) (j : Fin 64) :
    dynamicRotate 1 64#32 none y rotates_S512x128_d1 (ix2 r (lo j)) = y (ix2 r (hi j)) := by
  refine dynamicRotate_apply 1 64#32 y _ (ix2 r (lo j)) (ix2 r (hi j)) fun b => ?_
  match b with
  | ⟨0, _⟩ => exact (if_neg (fun h => absurd (congrArg Fin.val h) Nat.zero_ne_one)).symm
  | ⟨1, _⟩ =>
    refine Eq.trans ?_ (if_pos rfl).symm
    show 64 + j.val = (j.val + 128 - 64) % 128
    omega

/-- and in the second. -/
theorem rotHi_apply {α : Type} (y : S512x128.Idx → α) (r : Fin 512) (j : Fin 64) :
    dynamicRotate 1 64#32 none y rotates_S512x128_d1 (ix2 r (hi j)) = y (ix2 r (lo j)) := by
  refine dynamicRotate_apply 1 64#32 y _ (ix2 r (hi j)) (ix2 r (lo j)) fun b => ?_
  match b with
  | ⟨0, _⟩ => exact (if_neg (fun h => absurd (congrArg Fin.val h) Nat.zero_ne_one)).symm
  | ⟨1, _⟩ =>
    refine Eq.trans ?_ (if_pos rfl).symm
    show j.val = (64 + j.val + 128 - 64) % 128
    omega

/-- A window of 512 columns of the converted weight. -/
theorem wcWin_apply (w : Vec F S4608x2048 .bf16) (o : ℕ) (inb) (k : Fin 4608) (n : Fin 512) (N : Fin 2048) (h : N.val = o + n.val) :
    VecWindow.window w ![0, o] S4608x512.size inb (ix2 k n) = w (ix2 k N) := by
  unfold VecWindow.window
  congr 1
  funext a
  apply Fin.ext
  fin_cases a
  · show 0 + 1 * k.val = k.val
    omega
  · show o + 1 * n.val = N.val
    omega

/-- A window of 128 columns of the weight's scales. -/
theorem wsWin_apply (w : Vec F S1x2048 .f32) (o : ℕ) (inb) (l : Fin 128) (N : Fin 2048) (h : N.val = o + l.val) :
    VecWindow.window w ![0, o] S1x128.size inb (ix2 0 l) = w (ix2 0 N) := by
  unfold VecWindow.window
  congr 1
  funext a
  apply Fin.ext
  fin_cases a
  · rfl
  · show o + 1 * l.val = N.val
    omega

/-- A window of 128 columns of the cache scales. -/
theorem kvWin_apply (w : Vec F S1x512 .f32) (o : ℕ) (inb) (l : Fin 128) (N : Fin 512) (h : N.val = o + l.val) :
    VecWindow.window w ![0, o] S1x128.size inb (ix2 0 l) = w (ix2 0 N) := by
  unfold VecWindow.window
  congr 1
  funext a
  apply Fin.ext
  fin_cases a
  · rfl
  · show o + 1 * l.val = N.val
    omega

/-! ## One head -/

/-- A head of the product brought back to values. -/
def yH (a : FVec F S512x128 .f32) (s : Vec F S512x1 .f32) (ws : Vec F S1x128 .f32) : FVec F S512x128 .f32 :=
  mulf a (mulf (broadcastTo S512x128 s broadcasts_S512x1_S512x128) (broadcastTo S512x128 (shapeCast S1x128 ws shapeCasts_S1x128_S1x128) broadcasts_S1x128_S512x128))

/-- It at an index. -/
theorem yH_apply (a : FVec F S512x128 .f32) (s : Vec F S512x1 .f32) (ws : Vec F S1x128 .f32) (r : Fin 512) (l : Fin 128) :
    yH a s ws (ix2 r l) = dequant (a (ix2 r l)) (s (ix2 r 0)) (ws (ix2 0 l)) := by
  unfold yH
  rw [shapeCast_self, ← hcol_apply s r l, ← hrow_apply ws r l]
  rfl

/-- A head rotated. -/
def ropeK (c s : FVec F S512x128 .f32) (y : FVec F S512x128 .f32) : FVec F S512x128 .f32 :=
  addf (mulf y c) (mulf (dynamicRotate 1 64#32 none y rotates_S512x128_d1) s)

/-- A head's queries. -/
def qOutK (y : FVec F S512x128 .f32) : FVec F S512x128 .bf16 :=
  truncf .bf16 (mulf y (broadcast S512x128 (Scalar.ofBits .f32 0x3DAAAAAB#32))) bitsLt_bf16_f32

/-- A head's cache codes. -/
def cOutK (y : FVec F S512x128 .f32) (ks : Vec F S1x128 .f32) : FVec F S512x128 .fp8e4m3 :=
  truncf .fp8e4m3 (minimumf (broadcast S512x128 (Scalar.ofBits .f32 0x43E00000#32)) (maximumf (broadcast S512x128 (Scalar.ofBits .f32 0xC3E00000#32))
    (divf y (broadcastTo S512x128 (shapeCast S1x128 ks shapeCasts_S1x128_S1x128) broadcasts_S1x128_S512x128)))) bitsLt_fp8e4m3_f32

/-- A head's cache codes at an index. -/
theorem cOutK_apply (y : FVec F S512x128 .f32) (ks : Vec F S1x128 .f32) (r : Fin 512) (l : Fin 128) :
    cOutK y ks (ix2 r l) = cacheCode (y (ix2 r l)) (ks (ix2 0 l)) := by
  unfold cOutK
  rw [shapeCast_self, ← hrow_apply ks r l]
  rfl

/-- A rotated head over the extended reals. -/
theorem ropeK_apply (c s : Vec Ideal S512x64 .f32) (y : FVec Ideal S512x128 .f32) (f : Fin 128 → Ideal .f32) (r : Fin 512) (l : Fin 128) (hy : ∀ l, y (ix2 r l) = f l) :
    ropeK (F := Ideal) (k0_pay10 c) (k0_pay11 s) y (ix2 r l) = ropeAt (F := Ideal) f (fun j => c (ix2 r j)) (fun j => s (ix2 r j)) l := by
  obtain ⟨j, rfl | rfl⟩ := lane_cases l
  · rw [ropeAt_lo, ← ropeLo_eq, ← hy, ← hy]
    beta_reduce
    have e1 := catLo_apply c c r j
    have e2 := catLo_apply (subf (F := Ideal) (φ := .f32) (broadcast S512x64 (Scalar.ofBits .f32 0x00000000#32)) s) s r j
    have e3 := rotLo_apply y r j
    exact congrArg₂ (FloatOps.addf (F := Ideal) (φ := .f32)) (congrArg (FloatOps.mulf (F := Ideal) (φ := .f32) (y (ix2 r (lo j)))) e1)
      (congrArg₂ (FloatOps.mulf (F := Ideal) (φ := .f32)) e3 e2)
  · rw [ropeAt_hi, ← hy, ← hy]
    beta_reduce
    have e1 := catHi_apply c c r j
    have e2 := catHi_apply (subf (F := Ideal) (φ := .f32) (broadcast S512x64 (Scalar.ofBits .f32 0x00000000#32)) s) s r j
    have e3 := rotHi_apply y r j
    exact congrArg₂ (FloatOps.addf (F := Ideal) (φ := .f32)) (congrArg (FloatOps.mulf (F := Ideal) (φ := .f32) (y (ix2 r (hi j)))) e1)
      (congrArg₂ (FloatOps.mulf (F := Ideal) (φ := .f32)) e3 e2)

/-! ## The product -/

/-- The product of a block's codes with a column of the converted weight. -/
def accAt (cw : Vec Ideal S512x4608 .bf16) (w : Vec Ideal S4608x2048 .bf16) (r : Fin 512) (n : Fin 2048) : Ideal .f32 :=
  (∑ k : Fin 4608, (cw (ix2 r k) : EReal) * w (ix2 k n) : EReal)

/-- A product with 512 columns, as a sum. -/
theorem mm_apply (cw : FVec Ideal S512x4608 .bf16) (w : FVec Ideal S4608x512 .bf16) (r : Fin 512) (n : Fin 512) :
    matmul dot_S512x4608_S4608x512_S512x512_1_0_0_1_n_n none cw w (constant S512x512 .f32 0x00000000#32) (ix2 r n)
      = ∑ k : Fin 4608, (cw (ix2 r k) : EReal) * w (ix2 k n) := by
  pointwise

/-- Head 0 of four of a product. -/
def ex0 (m : FVec F S512x512 .f32) : FVec F S512x128 .f32 := extractStridedSlice S512x128 ![0, 0] m slices_S512x512_o0_0_S512x128

/-- It at an index. -/
theorem ex0_apply (m : FVec F S512x512 .f32) (r : Fin 512) (l : Fin 128) : ex0 m (ix2 r l) = m (ix2 r ⟨0 + l.val, by omega⟩) := by
  unfold ex0
  pointwise

/-- Head 1 of four of a product. -/
def ex1 (m : FVec F S512x512 .f32) : FVec F S512x128 .f32 := extractStridedSlice S512x128 ![0, 128] m slices_S512x512_o0_128_S512x128

/-- It at an index. -/
theorem ex1_apply (m : FVec F S512x512 .f32) (r : Fin 512) (l : Fin 128) : ex1 m (ix2 r l) = m (ix2 r ⟨128 + l.val, by omega⟩) := by
  unfold ex1
  pointwise

/-- Head 2 of four of a product. -/
def ex2 (m : FVec F S512x512 .f32) : FVec F S512x128 .f32 := extractStridedSlice S512x128 ![0, 256] m slices_S512x512_o0_256_S512x128

/-- It at an index. -/
theorem ex2_apply (m : FVec F S512x512 .f32) (r : Fin 512) (l : Fin 128) : ex2 m (ix2 r l) = m (ix2 r ⟨256 + l.val, by omega⟩) := by
  unfold ex2
  pointwise

/-- Head 3 of four of a product. -/
def ex3 (m : FVec F S512x512 .f32) : FVec F S512x128 .f32 := extractStridedSlice S512x128 ![0, 384] m slices_S512x512_o0_384_S512x128

/-- It at an index. -/
theorem ex3_apply (m : FVec F S512x512 .f32) (r : Fin 512) (l : Fin 128) : ex3 m (ix2 r l) = m (ix2 r ⟨384 + l.val, by omega⟩) := by
  unfold ex3
  pointwise

section Heads
variable (cw : Vec Ideal S512x4608 .bf16) (sc : Vec Ideal S512x1 .f32) (w : Vec Ideal S4608x2048 .bf16) (x3 : Vec Ideal S1x2048 .f32)

/-- The values of a head, as the claims of every head spell them. -/
def yAt (r : Fin 512) (h : Fin 16) (l : Fin 128) : Ideal .f32 :=
  dequant (F := Ideal) (accAt cw w r (colW h l)) (sc (ix2 r 0)) (x3 (ix2 0 (colW h l)))

/-- One head, whichever it is: its columns of the product, of the weight and of the scales are those of the claims. -/
theorem head_of (ex : FVec Ideal S512x512 .f32 → FVec Ideal S512x128 .f32) (wc : Vec Ideal S4608x512 .bf16) (wsh : Vec Ideal S1x128 .f32) (h : Fin 16) (c : Fin 128 → Fin 512)
    (e1 : ∀ m r l, ex m (ix2 r l) = m (ix2 r (c l))) (e2 : ∀ k l, wc (ix2 k (c l)) = w (ix2 k (colW h l))) (e3 : ∀ l, wsh (ix2 0 l) = x3 (ix2 0 (colW h l)))
    (r : Fin 512) (l : Fin 128) : yH (F := Ideal) (ex (k0_pay12 cw wc)) sc wsh (ix2 r l) = yAt cw sc w x3 r h l := by
  rw [yH_apply, e1, e3]
  unfold k0_pay12 yAt accAt
  rw [mm_apply]
  refine congrArg (fun a : EReal => dequant (F := Ideal) a (sc (ix2 r 0)) (x3 (ix2 0 (colW h l)))) (Finset.sum_congr rfl fun k _ => ?_)
  rw [e2]

/-- Head 0. -/
theorem head0 (r : Fin 512) (l : Fin 128) : yH (F := Ideal) (ex0 (k0_pay12 cw (wc0 w))) sc (ws0 x3) (ix2 r l) = yAt cw sc w x3 r 0 l :=
  head_of cw sc w x3 _ _ _ 0 _ ex0_apply (fun k l => wcWin_apply w 0 _ k _ _ (by show 128 * 0 + l.val = 0 + (0 + l.val); omega)) (fun l => wsWin_apply x3 0 _ l _ rfl) r l

/-- Head 1. -/
theorem head1 (r : Fin 512) (l : Fin 128) : yH (F := Ideal) (ex1 (k0_pay12 cw (wc0 w))) sc (ws1 x3) (ix2 r l) = yAt cw sc w x3 r 1 l :=
  head_of cw sc w x3 _ _ _ 1 _ ex1_apply (fun k l => wcWin_apply w 0 _ k _ _ (by show 128 * 1 + l.val = 0 + (128 + l.val); omega)) (fun l => wsWin_apply x3 128 _ l _ rfl) r l

/-- Head 2. -/
theorem head2 (r : Fin 512) (l : Fin 128) : yH (F := Ideal) (ex2 (k0_pay12 cw (wc0 w))) sc (ws2 x3) (ix2 r l) = yAt cw sc w x3 r 2 l :=
  head_of cw sc w x3 _ _ _ 2 _ ex2_apply (fun k l => wcWin_apply w 0 _ k _ _ (by show 128 * 2 + l.val = 0 + (256 + l.val); omega)) (fun l => wsWin_apply x3 256 _ l _ rfl) r l

/-- Head 3. -/
theorem head3 (r : Fin 512) (l : Fin 128) : yH (F := Ideal) (ex3 (k0_pay12 cw (wc0 w))) sc (ws3 x3) (ix2 r l) = yAt cw sc w x3 r 3 l :=
  head_of cw sc w x3 _ _ _ 3 _ ex3_apply (fun k l => wcWin_apply w 0 _ k _ _ (by show 128 * 3 + l.val = 0 + (384 + l.val); omega)) (fun l => wsWin_apply x3 384 _ l _ rfl) r l

/-- Head 4. -/
theorem head4 (r : Fin 512) (l : Fin 128) : yH (F := Ideal) (ex0 (k0_pay12 cw (wc1 w))) sc (ws4 x3) (ix2 r l) = yAt cw sc w x3 r 4 l :=
  head_of cw sc w x3 _ _ _ 4 _ ex0_apply (fun k l => wcWin_apply w 512 _ k _ _ (by show 128 * 4 + l.val = 512 + (0 + l.val); omega)) (fun l => wsWin_apply x3 512 _ l _ rfl) r l

/-- Head 5. -/
theorem head5 (r : Fin 512) (l : Fin 128) : yH (F := Ideal) (ex1 (k0_pay12 cw (wc1 w))) sc (ws5 x3) (ix2 r l) = yAt cw sc w x3 r 5 l :=
  head_of cw sc w x3 _ _ _ 5 _ ex1_apply (fun k l => wcWin_apply w 512 _ k _ _ (by show 128 * 5 + l.val = 512 + (128 + l.val); omega)) (fun l => wsWin_apply x3 640 _ l _ rfl) r l

/-- Head 6. -/
theorem head6 (r : Fin 512) (l : Fin 128) : yH (F := Ideal) (ex2 (k0_pay12 cw (wc1 w))) sc (ws6 x3) (ix2 r l) = yAt cw sc w x3 r 6 l :=
  head_of cw sc w x3 _ _ _ 6 _ ex2_apply (fun k l => wcWin_apply w 512 _ k _ _ (by show 128 * 6 + l.val = 512 + (256 + l.val); omega)) (fun l => wsWin_apply x3 768 _ l _ rfl) r l

/-- Head 7. -/
theorem head7 (r : Fin 512) (l : Fin 128) : yH (F := Ideal) (ex3 (k0_pay12 cw (wc1 w))) sc (ws7 x3) (ix2 r l) = yAt cw sc w x3 r 7 l :=
  head_of cw sc w x3 _ _ _ 7 _ ex3_apply (fun k l => wcWin_apply w 512 _ k _ _ (by show 128 * 7 + l.val = 512 + (384 + l.val); omega)) (fun l => wsWin_apply x3 896 _ l _ rfl) r l

/-- Head 8. -/
theorem head8 (r : Fin 512) (l : Fin 128) : yH (F := Ideal) (ex0 (k0_pay12 cw (wc2 w))) sc (ws8 x3) (ix2 r l) = yAt cw sc w x3 r 8 l :=
  head_of cw sc w x3 _ _ _ 8 _ ex0_apply (fun k l => wcWin_apply w 1024 _ k _ _ (by show 128 * 8 + l.val = 1024 + (0 + l.val); omega)) (fun l => wsWin_apply x3 1024 _ l _ rfl) r l

/-- Head 9. -/
theorem head9 (r : Fin 512) (l : Fin 128) : yH (F := Ideal) (ex1 (k0_pay12 cw (wc2 w))) sc (ws9 x3) (ix2 r l) = yAt cw sc w x3 r 9 l :=
  head_of cw sc w x3 _ _ _ 9 _ ex1_apply (fun k l => wcWin_apply w 1024 _ k _ _ (by show 128 * 9 + l.val = 1024 + (128 + l.val); omega)) (fun l => wsWin_apply x3 1152 _ l _ rfl) r l

/-- Head 10. -/
theorem head10 (r : Fin 512) (l : Fin 128) : yH (F := Ideal) (ex2 (k0_pay12 cw (wc2 w))) sc (ws10 x3) (ix2 r l) = yAt cw sc w x3 r 10 l :=
  head_of cw sc w x3 _ _ _ 10 _ ex2_apply (fun k l => wcWin_apply w 1024 _ k _ _ (by show 128 * 10 + l.val = 1024 + (256 + l.val); omega)) (fun l => wsWin_apply x3 1280 _ l _ rfl) r l

/-- Head 11. -/
theorem head11 (r : Fin 512) (l : Fin 128) : yH (F := Ideal) (ex3 (k0_pay12 cw (wc2 w))) sc (ws11 x3) (ix2 r l) = yAt cw sc w x3 r 11 l :=
  head_of cw sc w x3 _ _ _ 11 _ ex3_apply (fun k l => wcWin_apply w 1024 _ k _ _ (by show 128 * 11 + l.val = 1024 + (384 + l.val); omega)) (fun l => wsWin_apply x3 1408 _ l _ rfl) r l

/-- Head 12. -/
theorem head12 (r : Fin 512) (l : Fin 128) : yH (F := Ideal) (ex0 (k0_pay12 cw (wc3 w))) sc (ws12 x3) (ix2 r l) = yAt cw sc w x3 r 12 l :=
  head_of cw sc w x3 _ _ _ 12 _ ex0_apply (fun k l => wcWin_apply w 1536 _ k _ _ (by show 128 * 12 + l.val = 1536 + (0 + l.val); omega)) (fun l => wsWin_apply x3 1536 _ l _ rfl) r l

/-- Head 13. -/
theorem head13 (r : Fin 512) (l : Fin 128) : yH (F := Ideal) (ex1 (k0_pay12 cw (wc3 w))) sc (ws13 x3) (ix2 r l) = yAt cw sc w x3 r 13 l :=
  head_of cw sc w x3 _ _ _ 13 _ ex1_apply (fun k l => wcWin_apply w 1536 _ k _ _ (by show 128 * 13 + l.val = 1536 + (128 + l.val); omega)) (fun l => wsWin_apply x3 1664 _ l _ rfl) r l

/-- Head 14. -/
theorem head14 (r : Fin 512) (l : Fin 128) : yH (F := Ideal) (ex2 (k0_pay12 cw (wc3 w))) sc (ws14 x3) (ix2 r l) = yAt cw sc w x3 r 14 l :=
  head_of cw sc w x3 _ _ _ 14 _ ex2_apply (fun k l => wcWin_apply w 1536 _ k _ _ (by show 128 * 14 + l.val = 1536 + (256 + l.val); omega)) (fun l => wsWin_apply x3 1792 _ l _ rfl) r l

/-- Head 15. -/
theorem head15 (r : Fin 512) (l : Fin 128) : yH (F := Ideal) (ex3 (k0_pay12 cw (wc3 w))) sc (ws15 x3) (ix2 r l) = yAt cw sc w x3 r 15 l :=
  head_of cw sc w x3 _ _ _ 15 _ ex3_apply (fun k l => wcWin_apply w 1536 _ k _ _ (by show 128 * 15 + l.val = 1536 + (384 + l.val); omega)) (fun l => wsWin_apply x3 1920 _ l _ rfl) r l

end Heads

/-! ## A block's results -/

section Block
variable (x0 : Vec Ideal S512x4608 .bf16) (x1 : Vec Ideal S1x4608 .f32) (wbf : Vec Ideal S4608x2048 .bf16) (x3 : Vec Ideal S1x2048 .f32) (x4 x5 : Vec Ideal S512x64 .f32) (x6 x7 : Vec Ideal S1x512 .f32)

/-- The values of a block's head. -/
abbrev yB (r : Fin 512) (h : Fin 16) : Fin 128 → Ideal .f32 := yAt (cV x0 x1) (rS x0 x1) wbf x3 r h

/-- The queries of a block's head. -/
theorem pQ_apply (h : Fin 8) (r : Fin 512) (l : Fin 128) : pQ (F := Ideal) x0 x1 wbf x3 x4 x5 h.val (ix2 r l)
    = queryOf (F := Ideal) (ropeAt (yB x0 x1 wbf x3 r (qh h)) (fun j => x4 (ix2 r j)) (fun j => x5 (ix2 r j)) l) := by
  match h with
  | ⟨0, _⟩ => exact congrArg (queryOf (F := Ideal)) (ropeK_apply x4 x5 (yH (ex0 (k0_pay12 (cV x0 x1) (wc0 wbf))) (rS x0 x1) (ws0 x3)) _ r l (head0 _ _ _ _ r))
  | ⟨1, _⟩ => exact congrArg (queryOf (F := Ideal)) (ropeK_apply x4 x5 (yH (ex1 (k0_pay12 (cV x0 x1) (wc0 wbf))) (rS x0 x1) (ws1 x3)) _ r l (head1 _ _ _ _ r))
  | ⟨2, _⟩ => exact congrArg (queryOf (F := Ideal)) (ropeK_apply x4 x5 (yH (ex2 (k0_pay12 (cV x0 x1) (wc0 wbf))) (rS x0 x1) (ws2 x3)) _ r l (head2 _ _ _ _ r))
  | ⟨3, _⟩ => exact congrArg (queryOf (F := Ideal)) (ropeK_apply x4 x5 (yH (ex3 (k0_pay12 (cV x0 x1) (wc0 wbf))) (rS x0 x1) (ws3 x3)) _ r l (head3 _ _ _ _ r))
  | ⟨4, _⟩ => exact congrArg (queryOf (F := Ideal)) (ropeK_apply x4 x5 (yH (ex0 (k0_pay12 (cV x0 x1) (wc1 wbf))) (rS x0 x1) (ws4 x3)) _ r l (head4 _ _ _ _ r))
  | ⟨5, _⟩ => exact congrArg (queryOf (F := Ideal)) (ropeK_apply x4 x5 (yH (ex1 (k0_pay12 (cV x0 x1) (wc1 wbf))) (rS x0 x1) (ws5 x3)) _ r l (head5 _ _ _ _ r))
  | ⟨6, _⟩ => exact congrArg (queryOf (F := Ideal)) (ropeK_apply x4 x5 (yH (ex2 (k0_pay12 (cV x0 x1) (wc1 wbf))) (rS x0 x1) (ws6 x3)) _ r l (head6 _ _ _ _ r))
  | ⟨7, _⟩ => exact congrArg (queryOf (F := Ideal)) (ropeK_apply x4 x5 (yH (ex3 (k0_pay12 (cV x0 x1) (wc1 wbf))) (rS x0 x1) (ws7 x3)) _ r l (head7 _ _ _ _ r))

/-- The key codes of a block's head. -/
theorem pK_apply (h : Fin 4) (r : Fin 512) (l : Fin 128) : pK (F := Ideal) x0 x1 wbf x3 x4 x5 x6 h.val (ix2 r l)
    = cacheCode (F := Ideal) (ropeAt (yB x0 x1 wbf x3 r (kh h)) (fun j => x4 (ix2 r j)) (fun j => x5 (ix2 r j)) l) (x6 (ix2 0 (col4 h l))) := by
  match h with
  | ⟨0, _⟩ =>
    exact (cOutK_apply (F := Ideal) (ropeK (k0_pay10 x4) (k0_pay11 x5) (yH (ex0 (k0_pay12 (cV x0 x1) (wc2 wbf))) (rS x0 x1) (ws8 x3))) (kv0 x6) r l).trans
      (congrArg₂ (cacheCode (F := Ideal)) (ropeK_apply x4 x5 (yH (ex0 (k0_pay12 (cV x0 x1) (wc2 wbf))) (rS x0 x1) (ws8 x3)) _ r l (head8 _ _ _ _ r)) (kvWin_apply x6 0 _ l (col4 0 l) rfl))
  | ⟨1, _⟩ =>
    exact (cOutK_apply (F := Ideal) (ropeK (k0_pay10 x4) (k0_pay11 x5) (yH (ex1 (k0_pay12 (cV x0 x1) (wc2 wbf))) (rS x0 x1) (ws9 x3))) (kv1 x6) r l).trans
      (congrArg₂ (cacheCode (F := Ideal)) (ropeK_apply x4 x5 (yH (ex1 (k0_pay12 (cV x0 x1) (wc2 wbf))) (rS x0 x1) (ws9 x3)) _ r l (head9 _ _ _ _ r)) (kvWin_apply x6 128 _ l (col4 1 l) rfl))
  | ⟨2, _⟩ =>
    exact (cOutK_apply (F := Ideal) (ropeK (k0_pay10 x4) (k0_pay11 x5) (yH (ex2 (k0_pay12 (cV x0 x1) (wc2 wbf))) (rS x0 x1) (ws10 x3))) (kv2 x6) r l).trans
      (congrArg₂ (cacheCode (F := Ideal)) (ropeK_apply x4 x5 (yH (ex2 (k0_pay12 (cV x0 x1) (wc2 wbf))) (rS x0 x1) (ws10 x3)) _ r l (head10 _ _ _ _ r)) (kvWin_apply x6 256 _ l (col4 2 l) rfl))
  | ⟨3, _⟩ =>
    exact (cOutK_apply (F := Ideal) (ropeK (k0_pay10 x4) (k0_pay11 x5) (yH (ex3 (k0_pay12 (cV x0 x1) (wc2 wbf))) (rS x0 x1) (ws11 x3))) (kv3 x6) r l).trans
      (congrArg₂ (cacheCode (F := Ideal)) (ropeK_apply x4 x5 (yH (ex3 (k0_pay12 (cV x0 x1) (wc2 wbf))) (rS x0 x1) (ws11 x3)) _ r l (head11 _ _ _ _ r)) (kvWin_apply x6 384 _ l (col4 3 l) rfl))

/-- The value codes of a block's head. -/
theorem pV_apply (h : Fin 4) (r : Fin 512) (l : Fin 128) : pV (F := Ideal) x0 x1 wbf x3 x7 h.val (ix2 r l)
    = cacheCode (F := Ideal) (yB x0 x1 wbf x3 r (vh h) l) (x7 (ix2 0 (col4 h l))) := by
  match h with
  | ⟨0, _⟩ =>
    exact (cOutK_apply (F := Ideal) (yH (ex0 (k0_pay12 (cV x0 x1) (wc3 wbf))) (rS x0 x1) (ws12 x3)) (kv0 x7) r l).trans
      (congrArg₂ (cacheCode (F := Ideal)) (head12 _ _ _ _ r l) (kvWin_apply x7 0 _ l (col4 0 l) rfl))
  | ⟨1, _⟩ =>
    exact (cOutK_apply (F := Ideal) (yH (ex1 (k0_pay12 (cV x0 x1) (wc3 wbf))) (rS x0 x1) (ws13 x3)) (kv1 x7) r l).trans
      (congrArg₂ (cacheCode (F := Ideal)) (head13 _ _ _ _ r l) (kvWin_apply x7 128 _ l (col4 1 l) rfl))
  | ⟨2, _⟩ =>
    exact (cOutK_apply (F := Ideal) (yH (ex2 (k0_pay12 (cV x0 x1) (wc3 wbf))) (rS x0 x1) (ws14 x3)) (kv2 x7) r l).trans
      (congrArg₂ (cacheCode (F := Ideal)) (head14 _ _ _ _ r l) (kvWin_apply x7 256 _ l (col4 2 l) rfl))
  | ⟨3, _⟩ =>
    exact (cOutK_apply (F := Ideal) (yH (ex3 (k0_pay12 (cV x0 x1) (wc3 wbf))) (rS x0 x1) (ws15 x3)) (kv3 x7) r l).trans
      (congrArg₂ (cacheCode (F := Ideal)) (head15 _ _ _ _ r l) (kvWin_apply x7 384 _ l (col4 3 l) rfl))

/-- 8 heads side by side, at a lane of one. -/
theorem cols8_apply {e : EltTy} (p : ℕ → Vec Ideal S512x128 e) (r : Fin 512) (h : Fin 8) (l : Fin 128) : cols (F := Ideal) (W := 1024) p (ix2 r (col8 h l)) = p h.val (ix2 r l) := by
  have e1 : (col8 h l).val / 128 = h.val := by show (128 * h.val + l.val) / 128 = h.val; omega
  have e2 : (⟨(col8 h l).val % 128, Nat.mod_lt _ (by omega)⟩ : Fin 128) = l := Fin.ext (by show (128 * h.val + l.val) % 128 = l.val; omega)
  show p ((col8 h l).val / 128) (ix2 r (⟨(col8 h l).val % 128, _⟩ : Fin 128)) = _
  rw [e1, e2]

/-- 4 heads side by side, at a lane of one. -/
theorem cols4_apply {e : EltTy} (p : ℕ → Vec Ideal S512x128 e) (r : Fin 512) (h : Fin 4) (l : Fin 128) : cols (F := Ideal) (W := 512) p (ix2 r (col4 h l)) = p h.val (ix2 r l) := by
  have e1 : (col4 h l).val / 128 = h.val := by show (128 * h.val + l.val) / 128 = h.val; omega
  have e2 : (⟨(col4 h l).val % 128, Nat.mod_lt _ (by omega)⟩ : Fin 128) = l := Fin.ext (by show (128 * h.val + l.val) % 128 = l.val; omega)
  show p ((col4 h l).val / 128) (ix2 r (⟨(col4 h l).val % 128, _⟩ : Fin 128)) = _
  rw [e1, e2]

end Block

end Cert.QkvIdeal.Gen

end
-- ==== Proof.QkvRefRead.lean ====
/-
  What the payloads of the query/key/value step's reference are at an index, over any float instance.
-/
module

public import proofs.«01_k».proof.Proof.RopeMath
public import proofs.«01_k».proof.Proof.Gen.QkvRefIdeal.Frame
public import Idealize.ShloMosaic.Lib.Pointwise

@[expose] public section

set_option maxRecDepth 16384

noncomputable section

namespace Cert.QkvRefIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Math

variable {F : FTy → Type} [FloatOps F]

/-! ## Layout -/

/-- A value per row, read along the row. -/
theorem col_apply {α : Type} (s : S15360x1.Idx → α) (t : Fin 15360) (n : Fin 4608) :
    broadcastTo S15360x4608 s broadcasts_S15360x1_S15360x4608 (ix2 t n) = s (ix2 t 0) := by
  pointwise

/-- The same along a row of the product. -/
theorem col2_apply {α : Type} (s : S15360x1.Idx → α) (t : Fin 15360) (n : Fin 2048) :
    broadcastTo S15360x2048 s broadcasts_S15360x1_S15360x2048 (ix2 t n) = s (ix2 t 0) := by
  pointwise

/-- A vector with a value per row, as a column. -/
theorem cast_apply {α : Type} (s : S15360.Idx → α) (t : Fin 15360) :
    shapeCast S15360x1 s shapeCasts_S15360_S15360x1 (ix2 t 0) = s (ix1 t) := by
  pointwise

/-- A value per column, read down the column. -/
theorem row_apply {α : Type} (s : S4608.Idx → α) (t : Fin 15360) (n : Fin 4608) :
    broadcastTo S15360x4608 (shapeCast S1x4608 s shapeCasts_S4608_S1x4608) broadcasts_S1x4608_S15360x4608 (ix2 t n) = s (ix1 n) := by
  pointwise

/-- The same down a column of the product. -/
theorem row2_apply {α : Type} (s : S2048.Idx → α) (t : Fin 15360) (n : Fin 2048) :
    broadcastTo S15360x2048 (shapeCast S1x2048 s shapeCasts_S2048_S1x2048) broadcasts_S1x2048_S15360x2048 (ix2 t n) = s (ix1 n) := by
  pointwise

/-- The row scales by blocks of rows. -/
theorem scales_apply (v : FVec F S15360 .f32) (b : Fin 30) (r : Fin 512) :
    k0_pay14 v (ix3 b 0 r) = v (ix1 ⟨b.val * 512 + r.val, by omega⟩) := by
  unfold k0_pay14
  pointwise

/-- The query heads of the product. -/
theorem split_q {α : Type} (v : S15360x2048.Idx → α) (t : Fin 15360) (h : Fin 8) (l : Fin 128) :
    shapeCast S15360x8x128 (extractStridedSlice S15360x1024 ![0, 0] v slices_S15360x2048_o0_0_S15360x1024) shapeCasts_S15360x1024_S15360x8x128 (ix3 t h l)
      = v (ix2 t (colW (qh h) l)) := by
  have e : colW (qh h) l = ⟨0 + (h.val * 128 + l.val), by omega⟩ := Fin.ext (by show 128 * (h.val) + l.val = 0 + (h.val * 128 + l.val); omega)
  rw [e]
  pointwise

/-- The key heads of the product. -/
theorem split_k {α : Type} (v : S15360x2048.Idx → α) (t : Fin 15360) (h : Fin 4) (l : Fin 128) :
    shapeCast S15360x4x128 (extractStridedSlice S15360x512 ![0, 1024] v slices_S15360x2048_o0_1024_S15360x512) shapeCasts_S15360x512_S15360x4x128 (ix3 t h l)
      = v (ix2 t (colW (kh h) l)) := by
  have e : colW (kh h) l = ⟨1024 + (h.val * 128 + l.val), by omega⟩ := Fin.ext (by show 128 * ((8 + h.val)) + l.val = 1024 + (h.val * 128 + l.val); omega)
  rw [e]
  pointwise

/-- The value heads of the product. -/
theorem split_v {α : Type} (v : S15360x2048.Idx → α) (t : Fin 15360) (h : Fin 4) (l : Fin 128) :
    shapeCast S15360x4x128 (extractStridedSlice S15360x512 ![0, 1536] v slices_S15360x2048_o0_1536_S15360x512) shapeCasts_S15360x512_S15360x4x128 (ix3 t h l)
      = v (ix2 t (colW (vh h) l)) := by
  have e : colW (vh h) l = ⟨1536 + (h.val * 128 + l.val), by omega⟩ := Fin.ext (by show 128 * ((12 + h.val)) + l.val = 1536 + (h.val * 128 + l.val); omega)
  rw [e]
  pointwise

/-- The first halves of 8 heads, -/
theorem lo8_apply {α : Type} (v : S15360x8x128.Idx → α) (t : Fin 15360) (h : Fin 8) (j : Fin 64) :
    extractStridedSlice S15360x8x64 ![0, 0, 0] v slices_S15360x8x128_o0_0_0_S15360x8x64 (ix3 t h j) = v (ix3 t h (lo j)) := by
  have e : lo j = ⟨0 + j.val, by omega⟩ := Fin.ext (by show j.val = 0 + j.val; omega)
  rw [e]
  pointwise

/-- and the second. -/
theorem hi8_apply {α : Type} (v : S15360x8x128.Idx → α) (t : Fin 15360) (h : Fin 8) (j : Fin 64) :
    extractStridedSlice S15360x8x64 ![0, 0, 64] v slices_S15360x8x128_o0_0_64_S15360x8x64 (ix3 t h j) = v (ix3 t h (hi j)) := by
  unfold hi
  pointwise

/-- A row's cosine or sine, in every head. -/
theorem ang8_apply {α : Type} (v : S15360x64.Idx → α) (t : Fin 15360) (h : Fin 8) (j : Fin 64) :
    broadcastTo S15360x8x64 (shapeCast S15360x1x64 v shapeCasts_S15360x64_S15360x1x64) broadcasts_S15360x1x64_S15360x8x64 (ix3 t h j) = v (ix2 t j) := by
  pointwise

/-- Two halves side by side, in the first -/
theorem catLo8_apply {α : Type} (a b : S15360x8x64.Idx → α) (t : Fin 15360) (h : Fin 8) (j : Fin 64) :
    concatenate S15360x8x128 2 [⟨S15360x8x64, a⟩, ⟨S15360x8x64, b⟩] concatenates_S15360x8x64_S15360x8x64_S15360x8x128_d2 (ix3 t h (lo j)) = a (ix3 t h j) := by
  refine concatenate_pair_apply_left _ a b _ (ix3 t h (lo j)) rfl (ix3 t h j) fun a => ?_
  match a with
  | ⟨0, _⟩ => rfl
  | ⟨1, _⟩ => rfl
  | ⟨2, _⟩ => rfl

/-- and in the second. -/
theorem catHi8_apply {α : Type} (a b : S15360x8x64.Idx → α) (t : Fin 15360) (h : Fin 8) (j : Fin 64) :
    concatenate S15360x8x128 2 [⟨S15360x8x64, a⟩, ⟨S15360x8x64, b⟩] concatenates_S15360x8x64_S15360x8x64_S15360x8x128_d2 (ix3 t h (hi j)) = b (ix3 t h j) := by
  refine concatenate_pair_apply_right 2 a b _ (ix3 t h (hi j)) rfl rfl (ix3 t h j) (fun a ha => ?_) (by show j.val + 64 = 64 + j.val; omega)
  match a, ha with
  | ⟨0, _⟩, _ => rfl
  | ⟨1, _⟩, _ => rfl
  | ⟨2, _⟩, ha => exact absurd rfl ha

/-- 8 heads side by side. -/
theorem flat8_apply {α : Type} (v : S15360x8x128.Idx → α) (t : Fin 15360) (h : Fin 8) (l : Fin 128) :
    shapeCast S15360x1024 v shapeCasts_S15360x8x128_S15360x1024 (ix2 t (col8 h l)) = v (ix3 t h l) := by
  have e1 : (⟨(col8 h l).val / 128, by have := (col8 h l).isLt; omega⟩ : Fin 8) = h := Fin.ext (by show (128 * h.val + l.val) / 128 = h.val; omega)
  have e2 : (⟨(col8 h l).val % 128, by omega⟩ : Fin 128) = l := Fin.ext (by show (128 * h.val + l.val) % 128 = l.val; omega)
  have e3 : ∀ n : Fin 1024, shapeCast S15360x1024 v shapeCasts_S15360x8x128_S15360x1024 (ix2 t n) = v (ix3 t ⟨n.val / 128, by omega⟩ ⟨n.val % 128, by omega⟩) := by
    intro n
    pointwise
  exact (e3 _).trans (congrArg₂ (fun a b => v (ix3 t a b)) e1 e2)

/-- The first halves of 4 heads, -/
theorem lo4_apply {α : Type} (v : S15360x4x128.Idx → α) (t : Fin 15360) (h : Fin 4) (j : Fin 64) :
    extractStridedSlice S15360x4x64 ![0, 0, 0] v slices_S15360x4x128_o0_0_0_S15360x4x64 (ix3 t h j) = v (ix3 t h (lo j)) := by
  have e : lo j = ⟨0 + j.val, by omega⟩ := Fin.ext (by show j.val = 0 + j.val; omega)
  rw [e]
  pointwise

/-- and the second. -/
theorem hi4_apply {α : Type} (v : S15360x4x128.Idx → α) (t : Fin 15360) (h : Fin 4) (j : Fin 64) :
    extractStridedSlice S15360x4x64 ![0, 0, 64] v slices_S15360x4x128_o0_0_64_S15360x4x64 (ix3 t h j) = v (ix3 t h (hi j)) := by
  unfold hi
  pointwise

/-- A row's cosine or sine, in every head. -/
theorem ang4_apply {α : Type} (v : S15360x64.Idx → α) (t : Fin 15360) (h : Fin 4) (j : Fin 64) :
    broadcastTo S15360x4x64 (shapeCast S15360x1x64 v shapeCasts_S15360x64_S15360x1x64) broadcasts_S15360x1x64_S15360x4x64 (ix3 t h j) = v (ix2 t j) := by
  pointwise

/-- Two halves side by side, in the first -/
theorem catLo4_apply {α : Type} (a b : S15360x4x64.Idx → α) (t : Fin 15360) (h : Fin 4) (j : Fin 64) :
    concatenate S15360x4x128 2 [⟨S15360x4x64, a⟩, ⟨S15360x4x64, b⟩] concatenates_S15360x4x64_S15360x4x64_S15360x4x128_d2 (ix3 t h (lo j)) = a (ix3 t h j) := by
  refine concatenate_pair_apply_left _ a b _ (ix3 t h (lo j)) rfl (ix3 t h j) fun a => ?_
  match a with
  | ⟨0, _⟩ => rfl
  | ⟨1, _⟩ => rfl
  | ⟨2, _⟩ => rfl

/-- and in the second. -/
theorem catHi4_apply {α : Type} (a b : S15360x4x64.Idx → α) (t : Fin 15360) (h : Fin 4) (j : Fin 64) :
    concatenate S15360x4x128 2 [⟨S15360x4x64, a⟩, ⟨S15360x4x64, b⟩] concatenates_S15360x4x64_S15360x4x64_S15360x4x128_d2 (ix3 t h (hi j)) = b (ix3 t h j) := by
  refine concatenate_pair_apply_right 2 a b _ (ix3 t h (hi j)) rfl rfl (ix3 t h j) (fun a ha => ?_) (by show j.val + 64 = 64 + j.val; omega)
  match a, ha with
  | ⟨0, _⟩, _ => rfl
  | ⟨1, _⟩, _ => rfl
  | ⟨2, _⟩, ha => exact absurd rfl ha

/-- 4 heads side by side. -/
theorem flat4_apply {α : Type} (v : S15360x4x128.Idx → α) (t : Fin 15360) (h : Fin 4) (l : Fin 128) :
    shapeCast S15360x512 v shapeCasts_S15360x4x128_S15360x512 (ix2 t (col4 h l)) = v (ix3 t h l) := by
  have e1 : (⟨(col4 h l).val / 128, by have := (col4 h l).isLt; omega⟩ : Fin 4) = h := Fin.ext (by show (128 * h.val + l.val) / 128 = h.val; omega)
  have e2 : (⟨(col4 h l).val % 128, by omega⟩ : Fin 128) = l := Fin.ext (by show (128 * h.val + l.val) % 128 = l.val; omega)
  have e3 : ∀ n : Fin 512, shapeCast S15360x512 v shapeCasts_S15360x4x128_S15360x512 (ix2 t n) = v (ix3 t ⟨n.val / 128, by omega⟩ ⟨n.val % 128, by omega⟩) := by
    intro n
    pointwise
  exact (e3 _).trans (congrArg₂ (fun a b => v (ix3 t a b)) e1 e2)

/-- A value per head, in every row and lane. -/
theorem head_apply {α : Type} (v : S4.Idx → α) (t : Fin 15360) (h : Fin 4) (l : Fin 128) :
    broadcastTo S15360x4x128 (shapeCast S1x4x1 v shapeCasts_S4_S1x4x1) broadcasts_S1x4x1_S15360x4x128 (ix3 t h l) = v (ix1 h) := by
  pointwise

/-! ## The codes -/

/-- The layer's input as 32-bit values. -/
def xF (x : Vec F S15360x4608 .bf16) : FVec F S15360x4608 .f32 := extf .f32 x bitsLt_bf16_f32

/-- The sums of squares of the rows. -/
def sqSum (f : FVec F S15360x4608 .f32) : FVec F S15360 .f32 :=
  multiReduction .add [1] S15360 (mulf f f) 0x00000000#32 reduces_S15360x4608_S15360 (.inl rfl) rfl

/-- The root mean squares of the rows, as a column. -/
def rmsCol (f : FVec F S15360x4608 .f32) : FVec F S15360x1 .f32 :=
  sqrt (addf (divf (shapeCast S15360x1 (sqSum f)
    shapeCasts_S15360_S15360x1) (broadcast S15360x1 (Scalar.ofBits .f32 0x45900000#32))) (broadcast S15360x1 (Scalar.ofBits .f32 0x358637BD#32)))

/-- The root mean square of row `t`. -/
theorem rmsCol_apply (f : FVec F S15360x4608 .f32) (t : Fin 15360) : rmsCol f (ix2 t 0) = rms (sqSum f (ix1 t)) := by
  rw [← cast_apply (sqSum f) t]
  rfl

/-- The normalised rows at row `t` and column `n`. -/
theorem nrm_apply (x : Vec F S15360x4608 .bf16) (g : Vec F S4608 .f32) (t : Fin 15360) (n : Fin 4608) :
    k0_pay4 x g (ix2 t n) = unitDiv (xF x (ix2 t n)) (sqSum (xF x) (ix1 t)) (g (ix1 n)) := by
  have e1 := rmsCol_apply (xF x) t
  have e2 := col_apply (rmsCol (xF x)) t n
  have e3 := row_apply (addf (broadcast S4608 (Scalar.ofBits .f32 0x3F800000#32)) g) t n
  exact congrArg₂ (fun a b => FloatOps.mulf (FloatOps.divf (xF x (ix2 t n)) a) b) (e2.trans e1) e3

/-- The row scale at row `t`. -/
theorem scale_apply (x : Vec F S15360x4608 .bf16) (g : Vec F S4608 .f32) (t : Fin 15360) :
    k0_pay5 x g (ix1 t) = scaleOf (multiReduction .maximumf [1] S15360 (absf (k0_pay4 x g)) 0xFF800000#32 reduces_S15360x4608_S15360 (.inl rfl) rfl (ix1 t)) := rfl

/-- The code at row `t` and column `n`. -/
theorem code_apply (x : Vec F S15360x4608 .bf16) (g : Vec F S4608 .f32) (t : Fin 15360) (n : Fin 4608) :
    k0_pay6 x g (ix2 t n) = codeDiv (k0_pay4 x g (ix2 t n)) (k0_pay5 x g (ix1 t)) := by
  rw [← cast_apply (k0_pay5 x g) t, ← col_apply (shapeCast S15360x1 (k0_pay5 x g) shapeCasts_S15360_S15360x1) t n]
  rfl

/-! ## The heads -/

section Heads
variable (x : Vec F S15360x4608 .bf16) (g : Vec F S4608 .f32) (w : Vec F S4608x2048 .i8) (ws : Vec F S2048 .f32) (c s : Vec F S15360x64 .f32)

/-- The product brought back to values. -/
def val : FVec F S15360x2048 .f32 := k0_pay10 (k0_pay7 x g w) (k0_pay8 ws) (k0_pay9 x g)

/-- It at row `t` and column `n`. -/
theorem val_apply (t : Fin 15360) (n : Fin 2048) : val x g w ws (ix2 t n) = dequant (k0_pay7 x g w (ix2 t n)) (k0_pay5 x g (ix1 t)) (ws (ix1 n)) := by
  rw [← cast_apply (k0_pay5 x g) t, ← col2_apply (shapeCast S15360x1 (k0_pay5 x g) shapeCasts_S15360_S15360x1) t n, ← row2_apply ws t n]
  rfl

/-- The query heads. -/
def qHeads : FVec F S15360x8x128 .f32 :=
  shapeCast S15360x8x128 (extractStridedSlice S15360x1024 ![0, 0] (val x g w ws) slices_S15360x2048_o0_0_S15360x1024) shapeCasts_S15360x1024_S15360x8x128

/-- They at an index. -/
theorem qHeads_apply (t : Fin 15360) (h : Fin 8) (l : Fin 128) : qHeads x g w ws (ix3 t h l) = val x g w ws (ix2 t (colW (qh h) l)) := split_q _ t h l

/-- The rotated query heads, scaled. -/
theorem q_apply (t : Fin 15360) (h : Fin 8) (l : Fin 128) :
    k0_pay12 (k0_pay7 x g w) (k0_pay8 ws) (k0_pay9 x g) c s (ix3 t h l)
      = FloatOps.mulf (ropeAt (fun l => val x g w ws (ix2 t (colW (qh h) l))) (fun j => c (ix2 t j)) (fun j => s (ix2 t j)) l) (FloatOps.ofBits .f32 0x3DAAAAAB#32) := by
  obtain ⟨j, rfl | rfl⟩ := lane_cases l
  · rw [ropeAt_lo]
    beta_reduce
    rw [← qHeads_apply x g w ws t h (lo j), ← qHeads_apply x g w ws t h (hi j), ← lo8_apply (qHeads x g w ws) t h j, ← hi8_apply (qHeads x g w ws) t h j,
      ← ang8_apply c t h j, ← ang8_apply s t h j]
    unfold k0_pay12
    exact congrArg (fun a => FloatOps.mulf a (FloatOps.ofBits .f32 0x3DAAAAAB#32)) (catLo8_apply _ _ t h j)
  · rw [ropeAt_hi]
    beta_reduce
    rw [← qHeads_apply x g w ws t h (lo j), ← qHeads_apply x g w ws t h (hi j), ← lo8_apply (qHeads x g w ws) t h j, ← hi8_apply (qHeads x g w ws) t h j,
      ← ang8_apply c t h j, ← ang8_apply s t h j]
    unfold k0_pay12
    exact congrArg (fun a => FloatOps.mulf a (FloatOps.ofBits .f32 0x3DAAAAAB#32)) (catHi8_apply _ _ t h j)

/-- The key heads. -/
def kHeads : FVec F S15360x4x128 .f32 :=
  shapeCast S15360x4x128 (extractStridedSlice S15360x512 ![0, 1024] (val x g w ws) slices_S15360x2048_o0_1024_S15360x512) shapeCasts_S15360x512_S15360x4x128

/-- They at an index. -/
theorem kHeads_apply (t : Fin 15360) (h : Fin 4) (l : Fin 128) : kHeads x g w ws (ix3 t h l) = val x g w ws (ix2 t (colW (kh h) l)) := split_k _ t h l

/-- The rotated key heads. -/
theorem k_apply (t : Fin 15360) (h : Fin 4) (l : Fin 128) :
    k0_pay13 (k0_pay7 x g w) (k0_pay8 ws) (k0_pay9 x g) c s (ix3 t h l)
      = ropeAt (fun l => val x g w ws (ix2 t (colW (kh h) l))) (fun j => c (ix2 t j)) (fun j => s (ix2 t j)) l := by
  obtain ⟨j, rfl | rfl⟩ := lane_cases l
  · rw [ropeAt_lo]
    beta_reduce
    rw [← kHeads_apply x g w ws t h (lo j), ← kHeads_apply x g w ws t h (hi j), ← lo4_apply (kHeads x g w ws) t h j, ← hi4_apply (kHeads x g w ws) t h j,
      ← ang4_apply c t h j, ← ang4_apply s t h j]
    unfold k0_pay13
    exact catLo4_apply _ _ t h j
  · rw [ropeAt_hi]
    beta_reduce
    rw [← kHeads_apply x g w ws t h (lo j), ← kHeads_apply x g w ws t h (hi j), ← lo4_apply (kHeads x g w ws) t h j, ← hi4_apply (kHeads x g w ws) t h j,
      ← ang4_apply c t h j, ← ang4_apply s t h j]
    unfold k0_pay13
    exact catHi4_apply _ _ t h j

/-- The value heads. -/
theorem v_apply (t : Fin 15360) (h : Fin 4) (l : Fin 128) :
    k0_pay11 (k0_pay7 x g w) (k0_pay8 ws) (k0_pay9 x g) (ix3 t h l) = val x g w ws (ix2 t (colW (vh h) l)) := split_v (val x g w ws) t h l

/-- The queries. -/
theorem qOut_apply (y : FVec F S15360x8x128 .f32) (t : Fin 15360) (h : Fin 8) (l : Fin 128) :
    k0_pay1 y (ix2 t (col8 h l)) = FloatOps.truncf .bf16 (by decide) (y (ix3 t h l)) := by
  unfold k0_pay1
  exact (flat8_apply _ t h l).trans rfl

/-- The key codes. -/
theorem kOut_apply (y : FVec F S15360x4x128 .f32) (ks : Vec F S4 .f32) (t : Fin 15360) (h : Fin 4) (l : Fin 128) :
    k0_pay2 y ks (ix2 t (col4 h l)) = cacheCode (y (ix3 t h l)) (ks (ix1 h)) := by
  rw [← head_apply ks t h l]
  unfold k0_pay2
  exact (flat4_apply _ t h l).trans rfl

/-- The value codes. -/
theorem vOut_apply (y : FVec F S15360x4x128 .f32) (vs : Vec F S4 .f32) (t : Fin 15360) (h : Fin 4) (l : Fin 128) :
    k0_pay3 y vs (ix2 t (col4 h l)) = cacheCode (y (ix3 t h l)) (vs (ix1 h)) := by
  rw [← head_apply vs t h l]
  unfold k0_pay3
  exact (flat4_apply _ t h l).trans rfl
end Heads

end Cert.QkvRefIdeal.Gen

end
-- ==== Proof.QkvMath.lean ====
/-
  The query/key/value step and its reference are one function over the extended reals: the normalised rows, the scales, the codes,
  the products, the rotated heads and the cache codes agree index by index.
-/
module

public import proofs.«01_k».proof.Proof.QkvRead
public import proofs.«01_k».proof.Proof.QkvHeads
public import proofs.«01_k».proof.Proof.QkvRefRead
public import proofs.«01_k».proof.Proof.QkvRefResult
public import Idealize.ShloMosaic.Lib.Pointwise

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Math

/-- Row `r` of block `b`. -/
def rowOf (b : Fin 30) (r : Fin 512) : Fin 15360 := ⟨b.val * 512 + r.val, by omega⟩

/-- A row of a block, as the windows compute it, is that row. -/
theorem rowOf_eq (b : Fin 30) (r : Fin 512) : (⟨(512 * b.val + r.val) % 15360, Nat.mod_lt _ (by decide)⟩ : Fin 15360) = rowOf b r :=
  Fin.ext (by show (512 * b.val + r.val) % 15360 = b.val * 512 + r.val; omega)

/-- An element of a block of the layer's input. -/
theorem bX0_apply (A : Vec Ideal S15360x4608 .bf16) (b : Fin 30) (r : Fin 512) (k : Fin 4608) : bX0 A b.val (ix2 r k) = A (ix2 (rowOf b r) k) := by
  rw [← rowOf_eq]; rfl

/-- An element of a block of the cosines or sines. -/
theorem bX4_apply (A : Vec Ideal S15360x64 .f32) (b : Fin 30) (r : Fin 512) (j : Fin 64) : bX4 A b.val (ix2 r j) = A (ix2 (rowOf b r) j) := by
  rw [← rowOf_eq]; rfl

/-! ## The values -/

section Values
variable (x : Vec Ideal S15360x4608 .bf16) (g : Vec Ideal S4608 .f32) (W : Vec Ideal S4608x2048 .i8) (ws : Vec Ideal S2048 .f32)
  (c s : Vec Ideal S15360x64 .f32) (ks vs : Vec Ideal S4 .f32)

/-- The layer's input as a 32-bit value at row `t` and column `n`. -/
def xAt (t : Fin 15360) (n : Fin 4608) : Ideal .f32 := FloatOps.extf (F := Ideal) .f32 bitsLt_bf16_f32 (x (ix2 t n))

/-- The sum of squares of a row of values. -/
def sqOf (f : Fin 4608 → Ideal .f32) : Ideal .f32 := (∑ n : Fin 4608, (f n : EReal) * f n : EReal)

/-- It is at least zero. -/
theorem sqOf_nonneg (f : Fin 4608 → Ideal .f32) : (0 : EReal) ≤ sqOf f := Finset.sum_nonneg fun n _ => sq_nonneg _

/-- The normalised input at row `t` and column `n`. -/
def nAt (t : Fin 15360) (n : Fin 4608) : Ideal .f32 := unitDiv (F := Ideal) (xAt x t n) (sqOf (xAt x t)) (g (ix1 n))

/-- The quantiser's scale of row `t`. -/
def scAt (t : Fin 15360) : Ideal .f32 :=
  scaleOf (F := Ideal) (Finset.univ.fold max (⊥ : EReal) (fun n => (FloatOps.absf (nAt x g t n) : EReal)))

/-- The product of the codes at row `t` with the weight's codes at column `n`. -/
def dotAt (t : Fin 15360) (n : Fin 2048) : Ideal .f32 :=
  (∑ k : Fin 4608, (FloatOps.sitofp (F := Ideal) .bf16 (codeDiv (nAt x g t k) (scAt x g t)) : EReal) * FloatOps.sitofp (F := Ideal) .bf16 (W (ix2 k n)) : EReal)

/-- The product brought back to values. -/
def valAt (t : Fin 15360) (n : Fin 2048) : Ideal .f32 := dequant (F := Ideal) (dotAt x g W t n) (scAt x g t) (ws (ix1 n))

/-! ## The reference -/

/-- The reference's row sums of squares. -/
theorem ref_sq (t : Fin 15360) : Cert.QkvRefIdeal.Gen.sqSum (F := Ideal) (Cert.QkvRefIdeal.Gen.xF x) (ix1 t) = sqOf (xAt x t) := by
  unfold Cert.QkvRefIdeal.Gen.sqSum
  exact rowSum_apply (mulf (Cert.QkvRefIdeal.Gen.xF (F := Ideal) x) (Cert.QkvRefIdeal.Gen.xF x)) _ _ _ t

/-- The reference's normalised input. -/
theorem ref_n (t : Fin 15360) (n : Fin 4608) : Cert.QkvRefIdeal.Gen.k0_pay4 (F := Ideal) x g (ix2 t n) = nAt x g t n := by
  rw [Cert.QkvRefIdeal.Gen.nrm_apply, ref_sq]
  rfl

/-- The reference's scales. -/
theorem ref_sc (t : Fin 15360) : Cert.QkvRefIdeal.Gen.k0_pay5 (F := Ideal) x g (ix1 t) = scAt x g t := by
  rw [Cert.QkvRefIdeal.Gen.scale_apply]
  unfold scAt
  refine congrArg (scaleOf (F := Ideal)) ((rowMax_apply _ _ _ _ t).trans ?_)
  congr 1
  funext n
  exact congrArg (FloatOps.absf (F := Ideal) (φ := .f32)) (ref_n x g t n)

/-- The reference's codes. -/
theorem ref_c (t : Fin 15360) (n : Fin 4608) : Cert.QkvRefIdeal.Gen.k0_pay6 (F := Ideal) x g (ix2 t n) = codeDiv (F := Ideal) (nAt x g t n) (scAt x g t) := by
  rw [Cert.QkvRefIdeal.Gen.code_apply, ref_n, ref_sc]

/-- A product of codes, as a sum. -/
theorem ref_mm (X : Vec Ideal S15360x4608 .i8) (t : Fin 15360) (n : Fin 2048) :
    matmul Cert.QkvRefIdeal.dot_S15360x4608_S4608x2048_S15360x2048_1_0_0_1_n_n none (sitofp (F := Ideal) .bf16 X) (sitofp (F := Ideal) .bf16 W)
      (constant Cert.QkvRefIdeal.S15360x2048 .f32 0x00000000#32) (ix2 t n)
      = ∑ k : Fin 4608, (FloatOps.sitofp (F := Ideal) .bf16 (X (ix2 t k)) : EReal) * FloatOps.sitofp (F := Ideal) .bf16 (W (ix2 k n)) := by
  pointwise

/-- The reference's product. -/
theorem ref_dot (t : Fin 15360) (n : Fin 2048) : Cert.QkvRefIdeal.Gen.k0_pay7 (F := Ideal) x g W (ix2 t n) = dotAt x g W t n := by
  unfold Cert.QkvRefIdeal.Gen.k0_pay7 dotAt
  refine (ref_mm W (Cert.QkvRefIdeal.Gen.k0_pay6 (F := Ideal) x g) t n).trans ?_
  refine Finset.sum_congr rfl fun k _ => ?_
  rw [ref_c]

/-- The reference's values. -/
theorem ref_val (t : Fin 15360) (n : Fin 2048) : Cert.QkvRefIdeal.Gen.val (F := Ideal) x g W ws (ix2 t n) = valAt x g W ws t n := by
  rw [Cert.QkvRefIdeal.Gen.val_apply, ref_dot, ref_sc]
  rfl

/-! ## The kernel -/

/-- A row of 4608 values as the kernel reads it. -/
abbrev rowB (s : Vec Ideal S4608 .f32) : Vec Ideal S1x4608 .f32 := shapeCast S1x4608 s shapeCasts_S4608_S1x4608

/-- A row of 2048 values as the kernel reads it. -/
abbrev rowW (s : Vec Ideal S2048 .f32) : Vec Ideal S1x2048 .f32 := shapeCast S1x2048 s shapeCasts_S2048_S1x2048

/-- A row's value at column `n`. -/
theorem rowB_apply (s : Vec Ideal S4608 .f32) (n : Fin 4608) : rowB s (ix2 0 n) = s (ix1 n) := by
  unfold rowB
  pointwise

/-- A row's value at column `n`. -/
theorem rowW_apply (s : Vec Ideal S2048 .f32) (n : Fin 2048) : rowW s (ix2 0 n) = s (ix1 n) := by
  unfold rowW
  pointwise

/-- A cache scale repeated over its head. -/
theorem rep4_apply (v : Vec Ideal S4 .f32) (h : Fin 4) (l : Fin 128) : rep4 v (ix2 0 (col4 h l)) = v (ix1 h) := by
  have e1 : (⟨(col4 h l).val / 128, by have := (col4 h l).isLt; omega⟩ : Fin 4) = h := Fin.ext (by show (128 * h.val + l.val) / 128 = h.val; omega)
  have e2 : ∀ n : Fin 512, rep4 v (ix2 0 n) = v (ix1 ⟨n.val / 128, by omega⟩) := by
    intro n
    unfold rep4
    pointwise
  exact (e2 _).trans (congrArg (fun h => v (ix1 h)) e1)

/-- The input of a chunk. -/
theorem ker_x (b : Fin 30) (k : Fin 32) (q : Fin 16) (n : Fin 4608) : x16 (F := Ideal) (rows16 (bX0 x b.val) k.val) (ix2 q n) = xAt x (rowOf b (row512 k q)) n := by
  show FloatOps.extf (F := Ideal) .f32 _ (rows16 (bX0 x b.val) k.val (ix2 q n)) = _
  rw [rows16_apply, bX0_apply]
  rfl

/-- The kernel's row sums of squares of a chunk. -/
theorem ker_sq (b : Fin 30) (k : Fin 32) (q : Fin 16) : sq16 (F := Ideal) (x16 (rows16 (bX0 x b.val) k.val)) (ix1 q) = sqOf (xAt x (rowOf b (row512 k q))) := by
  unfold sq16
  refine (rowSum_apply (mulf (x16 (F := Ideal) (rows16 (bX0 x b.val) k.val)) (x16 (rows16 (bX0 x b.val) k.val))) _ _ _ q).trans ?_
  refine Finset.sum_congr rfl fun n _ => ?_
  exact congrArg₂ (fun a b : EReal => a * b) (ker_x x b k q n) (ker_x x b k q n)

/-- The kernel's normalised input. -/
theorem ker_n (b : Fin 30) (k : Fin 32) (q : Fin 16) (n : Fin 4608) : k0_pay2 (F := Ideal) (rows16 (bX0 x b.val) k.val) (rowB g) (ix2 q n) = nAt x g (rowOf b (row512 k q)) n := by
  rw [nrm_apply, ker_x, ker_sq, rowB_apply, unitMul_eq _ _ _ (sqOf_nonneg _)]
  rfl

/-- The kernel's scales. -/
theorem ker_sc16 (b : Fin 30) (k : Fin 32) (q : Fin 16) : k0_pay3 (F := Ideal) (rows16 (bX0 x b.val) k.val) (rowB g) (ix2 q 0) = scAt x g (rowOf b (row512 k q)) := by
  rw [scale_apply]
  unfold scAt
  refine congrArg (scaleOf (F := Ideal)) ((rowMax_apply _ _ _ _ q).trans ?_)
  congr 1
  funext n
  exact congrArg (FloatOps.absf (F := Ideal) (φ := .f32)) (ker_n x g b k q n)

/-- Every row of a block is a row of a chunk. -/
theorem exists_row (r : Fin 512) : ∃ (k : Fin 32) (q : Fin 16), r = row512 k q :=
  ⟨⟨r.val / 16, by omega⟩, ⟨r.val % 16, by omega⟩, Fin.ext (by show r.val = 16 * (r.val / 16) + r.val % 16; omega)⟩

/-- The kernel's codes before the conversion to eight bits. -/
theorem ker_flt (b : Fin 30) (r : Fin 512) (n : Fin 4608) : cV (F := Ideal) (bX0 x b.val) (rowB g) (ix2 r n)
    = codeFlt (F := Ideal) (FloatOps.mulf (nAt x g (rowOf b r) n) (FloatOps.divf (FloatOps.ofBits .f32 0x3F800000#32) (scAt x g (rowOf b r)))) := by
  obtain ⟨k, q, rfl⟩ := exists_row r
  rw [cV_apply, ker_n, ker_sc16]
  rfl

/-- The kernel's scale of a row. -/
theorem ker_sc (b : Fin 30) (r : Fin 512) : rS (F := Ideal) (bX0 x b.val) (rowB g) (ix2 r 0) = scAt x g (rowOf b r) := by
  obtain ⟨k, q, rfl⟩ := exists_row r
  rw [rS_apply, ker_sc16]

/-- The kernel's codes in bfloat16 are the reference's codes converted. -/
theorem ker_c (b : Fin 30) (r : Fin 512) (n : Fin 4608) : (cV (F := Ideal) (bX0 x b.val) (rowB g) (ix2 r n) : EReal)
    = FloatOps.sitofp (F := Ideal) .bf16 (codeDiv (nAt x g (rowOf b r) n) (scAt x g (rowOf b r))) :=
  (ker_flt x g b r n).trans (codeFlt_mul_eq _ _ (scaleOf_ne_zero _))

/-- The kernel's codes. -/
theorem ker_code (b : Fin 30) (r : Fin 512) (n : Fin 4608) : fC (F := Ideal) (bX0 x b.val) (rowB g) (ix2 r n) = codeDiv (F := Ideal) (nAt x g (rowOf b r) n) (scAt x g (rowOf b r)) := by
  rw [fC_apply, ker_flt]
  exact codeMul_eq _ _ (scaleOf_ne_zero _)

/-- The kernel's product. -/
theorem ker_dot (b : Fin 30) (r : Fin 512) (n : Fin 2048) : accAt (cV (bX0 x b.val) (rowB g)) (wV W) r n = dotAt x g W (rowOf b r) n := by
  unfold accAt dotAt
  refine Finset.sum_congr rfl fun k _ => ?_
  rw [ker_c, wV_apply]

/-- The kernel's values of a head. -/
theorem ker_val (b : Fin 30) (r : Fin 512) (h : Fin 16) : yB (bX0 x b.val) (rowB g) (wV W) (rowW ws) r h = fun l => valAt x g W ws (rowOf b r) (colW h l) := by
  funext l
  unfold yB yAt valAt
  rw [ker_dot, ker_sc, rowW_apply]

/-- The kernel's cosines or sines of a row. -/
theorem ker_ang (b : Fin 30) (r : Fin 512) : (fun j => bX4 c b.val (ix2 r j)) = fun j => c (ix2 (rowOf b r) j) := by
  funext j
  exact bX4_apply c b r j

/-! ## The results -/

/-- Every row is a row of a block. -/
theorem exists_rowOf (t : Fin 15360) : ∃ (b : Fin 30) (r : Fin 512), t = rowOf b r :=
  ⟨⟨t.val / 512, by omega⟩, ⟨t.val % 512, by omega⟩, Fin.ext (by show t.val = t.val / 512 * 512 + t.val % 512; omega)⟩

/-- Every query column is a lane of a head. -/
theorem exists_col8 (n : Fin 1024) : ∃ (h : Fin 8) (l : Fin 128), n = col8 h l :=
  ⟨⟨n.val / 128, by omega⟩, ⟨n.val % 128, by omega⟩, Fin.ext (by show n.val = 128 * (n.val / 128) + n.val % 128; omega)⟩

/-- Every key or value column is a lane of a head. -/
theorem exists_col4 (n : Fin 512) : ∃ (h : Fin 4) (l : Fin 128), n = col4 h l :=
  ⟨⟨n.val / 128, by omega⟩, ⟨n.val % 128, by omega⟩, Fin.ext (by show n.val = 128 * (n.val / 128) + n.val % 128; omega)⟩

/-- Where a row of a block lies. -/
theorem rowOf_split (b : Fin 30) (r : Fin 512) : (rowOf b r).val / 512 = b.val ∧ (⟨(rowOf b r).val % 512, Nat.mod_lt _ (by decide)⟩ : Fin 512) = r := by
  have hr := r.isLt
  refine ⟨by show (b.val * 512 + r.val) / 512 = b.val; omega, Fin.ext (by show (b.val * 512 + r.val) % 512 = r.val; omega)⟩

/-- The kernel's codes are the reference's. -/
theorem GC_eq : GC x (rowB g) = Cert.QkvRefIdeal.Gen.R0 (F := Ideal) x g W ws c s ks vs := by
  funext y
  obtain ⟨t, n, rfl⟩ : ∃ (t : Fin 15360) (n : Fin 4608), y = ix2 t n := ⟨y 0, y 1, (ix2_eta y).symm⟩
  obtain ⟨b, r, rfl⟩ := exists_rowOf t
  obtain ⟨e1, e2⟩ := rowOf_split b r
  unfold Cert.QkvRefIdeal.Gen.R0
  rw [ref_c]
  show oC x (rowB g) ((rowOf b r).val / 512) (ix2 (⟨(rowOf b r).val % 512, _⟩ : Fin 512) n) = _
  rw [e1, e2]
  exact ker_code x g b r n

/-- The kernel's row scales are the reference's. -/
theorem GS_eq : GS x (rowB g) = Cert.QkvRefIdeal.Gen.R1 (F := Ideal) x g W ws c s ks vs := by
  funext y
  obtain ⟨b, z, r, rfl⟩ : ∃ (b : Fin 30) (z : Fin 1) (r : Fin 512), y = ix3 b z r := ⟨y 0, y 1, y 2, (ix3_eta y).symm⟩
  obtain rfl : z = 0 := Subsingleton.elim _ _
  unfold Cert.QkvRefIdeal.Gen.R1
  rw [Cert.QkvRefIdeal.Gen.scales_apply]
  refine Eq.trans ?_ (ref_sc x g (rowOf b r)).symm
  show oS x (rowB g) b.val (ix3 (0 : Fin 1) (0 : Fin 1) r) = _
  exact (fS_apply _ _ r).trans (ker_sc x g b r)

/-- The kernel's queries are the reference's. -/
theorem GQ_eq : GQ x (rowB g) W (rowW ws) c s = Cert.QkvRefIdeal.Gen.R2 (F := Ideal) x g W ws c s ks vs := by
  funext y
  obtain ⟨t, n, rfl⟩ : ∃ (t : Fin 15360) (n : Fin 1024), y = ix2 t n := ⟨y 0, y 1, (ix2_eta y).symm⟩
  obtain ⟨b, r, rfl⟩ := exists_rowOf t
  obtain ⟨h, l, rfl⟩ := exists_col8 n
  obtain ⟨e1, e2⟩ := rowOf_split b r
  unfold Cert.QkvRefIdeal.Gen.R2
  rw [Cert.QkvRefIdeal.Gen.qOut_apply, Cert.QkvRefIdeal.Gen.q_apply]
  simp only [ref_val]
  show oQ x (rowB g) W (rowW ws) c s ((rowOf b r).val / 512) (ix2 (⟨(rowOf b r).val % 512, _⟩ : Fin 512) (col8 h l)) = _
  rw [e1, e2]
  unfold oQ fQ
  rw [cols8_apply, pQ_apply, ker_val, ker_ang, ker_ang]
  rfl

/-- The kernel's key codes are the reference's. -/
theorem GK_eq : GK x (rowB g) W (rowW ws) c s (rep4 ks) = Cert.QkvRefIdeal.Gen.R3 (F := Ideal) x g W ws c s ks vs := by
  funext y
  obtain ⟨t, n, rfl⟩ : ∃ (t : Fin 15360) (n : Fin 512), y = ix2 t n := ⟨y 0, y 1, (ix2_eta y).symm⟩
  obtain ⟨b, r, rfl⟩ := exists_rowOf t
  obtain ⟨h, l, rfl⟩ := exists_col4 n
  obtain ⟨e1, e2⟩ := rowOf_split b r
  unfold Cert.QkvRefIdeal.Gen.R3
  rw [Cert.QkvRefIdeal.Gen.kOut_apply, Cert.QkvRefIdeal.Gen.k_apply]
  simp only [ref_val]
  show oK x (rowB g) W (rowW ws) c s (rep4 ks) ((rowOf b r).val / 512) (ix2 (⟨(rowOf b r).val % 512, _⟩ : Fin 512) (col4 h l)) = _
  rw [e1, e2]
  unfold oK fK
  rw [cols4_apply, pK_apply, ker_val, ker_ang, ker_ang, rep4_apply]

/-- The kernel's value codes are the reference's. -/
theorem GV_eq : GV x (rowB g) W (rowW ws) (rep4 vs) = Cert.QkvRefIdeal.Gen.R4 (F := Ideal) x g W ws c s ks vs := by
  funext y
  obtain ⟨t, n, rfl⟩ : ∃ (t : Fin 15360) (n : Fin 512), y = ix2 t n := ⟨y 0, y 1, (ix2_eta y).symm⟩
  obtain ⟨b, r, rfl⟩ := exists_rowOf t
  obtain ⟨h, l, rfl⟩ := exists_col4 n
  obtain ⟨e1, e2⟩ := rowOf_split b r
  unfold Cert.QkvRefIdeal.Gen.R4
  rw [Cert.QkvRefIdeal.Gen.vOut_apply, Cert.QkvRefIdeal.Gen.v_apply, ref_val]
  show oV x (rowB g) W (rowW ws) (rep4 vs) ((rowOf b r).val / 512) (ix2 (⟨(rowOf b r).val % 512, _⟩ : Fin 512) (col4 h l)) = _
  rw [e1, e2]
  unfold oV fV
  rw [cols4_apply, pV_apply, ker_val, rep4_apply]

end Values

end Cert.QkvIdeal.Gen

end
-- ==== Proof.QkvClaim.lean ====
/-
  The algebraic claim of the query/key/value step.
-/
module

public import proofs.«01_k».proof.Defs
public import proofs.«01_k».proof.Proof.QkvFrame
public import proofs.«01_k».proof.Proof.QkvRefResult
public import proofs.«01_k».proof.Proof.QkvMath

@[expose] public section

noncomputable section

namespace Cert.QkvIdeal

open Idealize.ShloMosaic Idealize.SL.Sem

/-- From any memories that agree on the arguments, the kernel and its reference run, leave their arguments unchanged, and
    end with equal results. -/
theorem algebraic : Cert.algebraic_QkvIdeal_QkvRefIdeal (hQkvIdeal := Cert.QkvIdeal.Gen.facts) (hQkvRefIdeal := Cert.QkvRefIdeal.Gen.facts) := by
  intro m g m' g' _ hargs
  refine ⟨fun c => Cert.QkvRefIdeal.Gen.R0 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), fun c => Cert.QkvRefIdeal.Gen.R1 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), fun c => Cert.QkvRefIdeal.Gen.R2 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), fun c => Cert.QkvRefIdeal.Gen.R3 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), fun c => Cert.QkvRefIdeal.Gen.R4 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)), ?_, ?_⟩
  · refine (θ_run (Cert.QkvIdeal.defs (F := Ideal)) _ _).mono (fun r h c => ?_) (θ_run_and (Cert.QkvIdeal.Gen.run_values (F := Ideal) m g) (Cert.QkvIdeal.Gen.unchanged (F := Ideal) m g))
    refine ⟨(h.1 c).1.trans ?_, (h.1 c).2.1.trans ?_, (h.1 c).2.2.1.trans ?_, (h.1 c).2.2.2.1.trans ?_, (h.1 c).2.2.2.2.trans ?_, h.2 c⟩
    · rw [Cert.QkvIdeal.Gen.V_main_arg0, Cert.QkvIdeal.Gen.V_main_v0]
      exact Cert.QkvIdeal.Gen.GC_eq _ _ _ _ _ _ _ _
    · rw [Cert.QkvIdeal.Gen.V_main_arg0, Cert.QkvIdeal.Gen.V_main_v0]
      exact Cert.QkvIdeal.Gen.GS_eq _ _ _ _ _ _ _ _
    · rw [Cert.QkvIdeal.Gen.V_main_arg0, Cert.QkvIdeal.Gen.V_main_v0, Cert.QkvIdeal.Gen.V_main_arg2, Cert.QkvIdeal.Gen.V_main_v1, Cert.QkvIdeal.Gen.V_main_arg4, Cert.QkvIdeal.Gen.V_main_arg5]
      exact Cert.QkvIdeal.Gen.GQ_eq _ _ _ _ _ _ _ _
    · rw [Cert.QkvIdeal.Gen.V_main_arg0, Cert.QkvIdeal.Gen.V_main_v0, Cert.QkvIdeal.Gen.V_main_arg2, Cert.QkvIdeal.Gen.V_main_v1, Cert.QkvIdeal.Gen.V_main_arg4, Cert.QkvIdeal.Gen.V_main_arg5, Cert.QkvIdeal.Gen.V_main_v4]
      exact Cert.QkvIdeal.Gen.GK_eq _ _ _ _ _ _ _ _
    · rw [Cert.QkvIdeal.Gen.V_main_arg0, Cert.QkvIdeal.Gen.V_main_v0, Cert.QkvIdeal.Gen.V_main_arg2, Cert.QkvIdeal.Gen.V_main_v1, Cert.QkvIdeal.Gen.V_main_v7]
      exact Cert.QkvIdeal.Gen.GV_eq _ _ _ _ _ _ _ _
  · refine (θ_run (Cert.QkvRefIdeal.defs (F := Ideal)) _ _).mono (fun r h c => ?_) (θ_run_and (Cert.QkvRefIdeal.Gen.run_values (F := Ideal) m' g') (Cert.QkvRefIdeal.Gen.unchanged (F := Ideal) m' g'))
    obtain ⟨h0, h1, h2, h3, h4, h5, h6, h7⟩ := hargs c
    refine ⟨(h.1 c).1.trans ?_, (h.1 c).2.1.trans ?_, (h.1 c).2.2.1.trans ?_, (h.1 c).2.2.2.1.trans ?_, (h.1 c).2.2.2.2.trans ?_, h.2 c⟩
    · rw [h0, h1, h2, h3, h4, h5, h6, h7]
    · rw [h0, h1, h2, h3, h4, h5, h6, h7]
    · rw [h0, h1, h2, h3, h4, h5, h6, h7]
    · rw [h0, h1, h2, h3, h4, h5, h6, h7]
    · rw [h0, h1, h2, h3, h4, h5, h6, h7]

end Cert.QkvIdeal

end
-- ==== Proof.lean ====
/-
  The certificate's one theorem: it collects the frames and the algebraic claims that the modules of this proof establish.
-/
module

public import proofs.«01_k».proof.Defs
public import proofs.«01_k».proof.Proof.Gen.GateUp
public import proofs.«01_k».proof.Proof.Gen.GateUpIdeal
public import proofs.«01_k».proof.Proof.Gen.GateUpIdeal.Frame
public import proofs.«01_k».proof.Proof.Gen.GateUpRefIdeal
public import proofs.«01_k».proof.Proof.Gen.GateUpRefIdeal.Frame
public import proofs.«01_k».proof.Proof.Gen.Down
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Frame
public import proofs.«01_k».proof.Proof.DownResult
public import proofs.«01_k».proof.Proof.DownBits
public import proofs.«01_k».proof.Proof.DownClaim
public import proofs.«01_k».proof.Proof.GateUpResult
public import proofs.«01_k».proof.Proof.GateUpBits
public import proofs.«01_k».proof.Proof.GateUpClaim
public import proofs.«01_k».proof.Proof.Gen.Oproj
public import proofs.«01_k».proof.Proof.Gen.OprojIdeal
public import proofs.«01_k».proof.Proof.Gen.OprojRefIdeal
public import proofs.«01_k».proof.Proof.Gen.OprojRefIdeal.Frame
public import proofs.«01_k».proof.Proof.OprojFrame
public import proofs.«01_k».proof.Proof.OprojBits
public import proofs.«01_k».proof.Proof.OprojClaim
public import proofs.«01_k».proof.Proof.Gen.Qkv
public import proofs.«01_k».proof.Proof.Gen.QkvIdeal
public import proofs.«01_k».proof.Proof.Gen.QkvRefIdeal
public import proofs.«01_k».proof.Proof.Gen.QkvRefIdeal.Frame
public import proofs.«01_k».proof.Proof.QkvFrame
public import proofs.«01_k».proof.Proof.QkvBits
public import proofs.«01_k».proof.Proof.QkvClaim
public import Idealize.ShloMosaic.Adequacy
public import Idealize.ShloMosaic.Init

@[expose] public section

noncomputable section

namespace Cert.Proof

open Idealize.ShloMosaic Idealize.SL.Sem

/-- Every claim of this certificate: each program terminates without fault with its arguments unchanged, the ideal
    kernel is the kernel, and the ideal kernel computes what the reference computes. -/
theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  Cert.GateUp.quiescent, fun m g _ => Cert.GateUpIdeal.Gen.frame m g, fun m g _ => Cert.GateUpRefIdeal.Gen.frame m g,
  Cert.Down.quiescent, fun m g _ => Cert.DownIdeal.Gen.frame m g, fun m g _ => Cert.DownRefIdeal.Gen.frame m g,
  Cert.Oproj.quiescent, fun m g _ => Cert.OprojIdeal.Gen.frame m g, fun m g _ => Cert.OprojRefIdeal.Gen.frame m g,
  Cert.Qkv.quiescent, fun m g _ => Cert.QkvIdeal.Gen.frame m g, fun m g _ => Cert.QkvRefIdeal.Gen.frame m g,
  trivial, Cert.GateUpIdeal.algebraic, trivial, Cert.DownIdeal.algebraic, trivial, Cert.OprojIdeal.algebraic,
  trivial, Cert.QkvIdeal.algebraic⟩

end Cert.Proof

end
